-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerReferenceIdeal (m : (ℓ : Loc Cert.ConformerReferenceIdeal.nD Cert.ConformerReferenceIdeal.τ Cert.ConformerReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInIdeal_finite4 [hPre_finite4 : Cert.Pre_finite4.Facts] (m : (ℓ : Loc Cert.MixerInIdeal.nD Cert.MixerInIdeal.τ Cert.MixerInIdeal.sig) → Buf (Elt Ideal) ℓ) : Prop :=
  ∀ c : Dev Cert.MixerInIdeal.nD,
    (Cert.Pre_finite4.fn (F := Ideal) (m ((c.tc : Thread Cert.MixerInIdeal.nD Cert.MixerInIdeal.τ).loc Cert.MixerInIdeal.main_arg0)) (m ((c.tc : Thread Cert.MixerInIdeal.nD Cert.MixerInIdeal.τ).loc Cert.MixerInIdeal.main_arg1)) (m ((c.tc : Thread Cert.MixerInIdeal.nD Cert.MixerInIdeal.τ).loc Cert.MixerInIdeal.main_arg2)) (m ((c.tc : Thread Cert.MixerInIdeal.nD Cert.MixerInIdeal.τ).loc Cert.MixerInIdeal.main_arg3)) (m ((c.tc : Thread Cert.MixerInIdeal.nD Cert.MixerInIdeal.τ).loc Cert.MixerInIdeal.main_arg4)) (m ((c.tc : Thread Cert.MixerInIdeal.nD Cert.MixerInIdeal.τ).loc Cert.MixerInIdeal.main_arg5)) (m ((c.tc : Thread Cert.MixerInIdeal.nD Cert.MixerInIdeal.τ).loc Cert.MixerInIdeal.main_arg6)) (m ((c.tc : Thread Cert.MixerInIdeal.nD Cert.MixerInIdeal.τ).loc Cert.MixerInIdeal.main_arg7)) (m ((c.tc : Thread Cert.MixerInIdeal.nD Cert.MixerInIdeal.τ).loc Cert.MixerInIdeal.main_arg8)) (m ((c.tc : Thread Cert.MixerInIdeal.nD Cert.MixerInIdeal.τ).loc Cert.MixerInIdeal.main_arg9)) (m ((c.tc : Thread Cert.MixerInIdeal.nD Cert.MixerInIdeal.τ).loc Cert.MixerInIdeal.main_arg10))) = (fun _ => 1#1)

def Pre_MixerInReferenceIdeal (m : (ℓ : Loc Cert.MixerInReferenceIdeal.nD Cert.MixerInReferenceIdeal.τ Cert.MixerInReferenceIdeal.sig) → Buf (Elt Ideal) ℓ) : Prop :=
  True

def Pre_MixerInReferenceIdeal_finite4 [hPre_finite4 : Cert.Pre_finite4.Facts] (m : (ℓ : Loc Cert.MixerInReferenceIdeal.nD Cert.MixerInReferenceIdeal.τ Cert.MixerInReferenceIdeal.sig) → Buf (Elt Ideal) ℓ) : Prop :=
  ∀ c : Dev Cert.MixerInReferenceIdeal.nD,
    (Cert.Pre_finite4.fn (F := Ideal) (m ((c.tc : Thread Cert.MixerInReferenceIdeal.nD Cert.MixerInReferenceIdeal.τ).loc Cert.MixerInReferenceIdeal.main_arg0)) (m ((c.tc : Thread Cert.MixerInReferenceIdeal.nD Cert.MixerInReferenceIdeal.τ).loc Cert.MixerInReferenceIdeal.main_arg1)) (m ((c.tc : Thread Cert.MixerInReferenceIdeal.nD Cert.MixerInReferenceIdeal.τ).loc Cert.MixerInReferenceIdeal.main_arg2)) (m ((c.tc : Thread Cert.MixerInReferenceIdeal.nD Cert.MixerInReferenceIdeal.τ).loc Cert.MixerInReferenceIdeal.main_arg3)) (m ((c.tc : Thread Cert.MixerInReferenceIdeal.nD Cert.MixerInReferenceIdeal.τ).loc Cert.MixerInReferenceIdeal.main_arg4)) (m ((c.tc : Thread Cert.MixerInReferenceIdeal.nD Cert.MixerInReferenceIdeal.τ).loc Cert.MixerInReferenceIdeal.main_arg5)) (m ((c.tc : Thread Cert.MixerInReferenceIdeal.nD Cert.MixerInReferenceIdeal.τ).loc Cert.MixerInReferenceIdeal.main_arg6)) (m ((c.tc : Thread Cert.MixerInReferenceIdeal.nD Cert.MixerInReferenceIdeal.τ).loc Cert.MixerInReferenceIdeal.main_arg7)) (m ((c.tc : Thread Cert.MixerInReferenceIdeal.nD Cert.MixerInReferenceIdeal.τ).loc Cert.MixerInReferenceIdeal.main_arg8)) (m ((c.tc : Thread Cert.MixerInReferenceIdeal.nD Cert.MixerInReferenceIdeal.τ).loc Cert.MixerInReferenceIdeal.main_arg9)) (m ((c.tc : Thread Cert.MixerInReferenceIdeal.nD Cert.MixerInReferenceIdeal.τ).loc Cert.MixerInReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4)
      ∧ r.2.mem ((c.tc : Thread Cert.Conformer.nD Cert.Conformer.τ).loc Cert.Conformer.main_arg5) = m ((c.tc : Thread Cert.Conformer.nD Cert.Conformer.τ).loc Cert.Conformer.main_arg5)
      ∧ r.2.mem ((c.tc : Thread Cert.Conformer.nD Cert.Conformer.τ).loc Cert.Conformer.main_arg6) = m ((c.tc : Thread Cert.Conformer.nD Cert.Conformer.τ).loc Cert.Conformer.main_arg6)
      ∧ r.2.mem ((c.tc : Thread Cert.Conformer.nD Cert.Conformer.τ).loc Cert.Conformer.main_arg7) = m ((c.tc : Thread Cert.Conformer.nD Cert.Conformer.τ).loc Cert.Conformer.main_arg7)
      ∧ r.2.mem ((c.tc : Thread Cert.Conformer.nD Cert.Conformer.τ).loc Cert.Conformer.main_arg8) = m ((c.tc : Thread Cert.Conformer.nD Cert.Conformer.τ).loc Cert.Conformer.main_arg8))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
      ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5)
      ∧ r.2.mem ((c.tc : Thread Cert.ConformerIdeal.nD Cert.ConformerIdeal.τ).loc Cert.ConformerIdeal.main_arg6) = m ((c.tc : Thread Cert.ConformerIdeal.nD Cert.ConformerIdeal.τ).loc Cert.ConformerIdeal.main_arg6)
      ∧ r.2.mem ((c.tc : Thread Cert.ConformerIdeal.nD Cert.ConformerIdeal.τ).loc Cert.ConformerIdeal.main_arg7) = m ((c.tc : Thread Cert.ConformerIdeal.nD Cert.ConformerIdeal.τ).loc Cert.ConformerIdeal.main_arg7)
      ∧ r.2.mem ((c.tc : Thread Cert.ConformerIdeal.nD Cert.ConformerIdeal.τ).loc Cert.ConformerIdeal.main_arg8) = m ((c.tc : Thread Cert.ConformerIdeal.nD Cert.ConformerIdeal.τ).loc Cert.ConformerIdeal.main_arg8))
      ∧ r.2.sem = fun _ => 0)

def quiescent_ConformerReferenceIdeal [hConformerReferenceIdeal : Cert.ConformerReferenceIdeal.Facts] : Prop :=
  ∀ (m : (ℓ : Loc Cert.ConformerReferenceIdeal.nD Cert.ConformerReferenceIdeal.τ Cert.ConformerReferenceIdeal.sig) → Buf (Elt Ideal) ℓ) (g : Dev Cert.ConformerReferenceIdeal.nD → PrngReg), Pre_ConformerReferenceIdeal m →
    θ_run (Cert.ConformerReferenceIdeal.defs (F := Ideal)) (onTc (τ := Cert.ConformerReferenceIdeal.τ) (Cert.ConformerReferenceIdeal.main (F := Ideal))) ⟨m, fun _ => 0, g⟩ (fun r => (∀ c : Dev Cert.ConformerReferenceIdeal.nD,
      r.2.mem ((c.tc : Thread Cert.ConformerReferenceIdeal.nD Cert.ConformerReferenceIdeal.τ).loc Cert.ConformerReferenceIdeal.main_arg0) = m ((c.tc : Thread Cert.ConformerReferenceIdeal.nD Cert.ConformerReferenceIdeal.τ).loc Cert.ConformerReferenceIdeal.main_arg0)
      ∧ r.2.mem ((c.tc : Thread Cert.ConformerReferenceIdeal.nD Cert.ConformerReferenceIdeal.τ).loc Cert.ConformerReferenceIdeal.main_arg1) = m ((c.tc : Thread Cert.ConformerReferenceIdeal.nD Cert.ConformerReferenceIdeal.τ).loc Cert.ConformerReferenceIdeal.main_arg1)
      ∧ r.2.mem ((c.tc : Thread Cert.ConformerReferenceIdeal.nD Cert.ConformerReferenceIdeal.τ).loc Cert.ConformerReferenceIdeal.main_arg2) = m ((c.tc : Thread Cert.ConformerReferenceIdeal.nD Cert.ConformerReferenceIdeal.τ).loc Cert.ConformerReferenceIdeal.main_arg2)
      ∧ r.2.mem ((c.tc : Thread Cert.ConformerReferenceIdeal.nD Cert.ConformerReferenceIdeal.τ).loc Cert.ConformerReferenceIdeal.main_arg3) = m ((c.tc : Thread Cert.ConformerReferenceIdeal.nD Cert.ConformerReferenceIdeal.τ).loc Cert.ConformerReferenceIdeal.main_arg3)
      ∧ r.2.mem ((c.tc : Thread Cert.ConformerReferenceIdeal.nD Cert.ConformerReferenceIdeal.τ).loc Cert.ConformerReferenceIdeal.main_arg4) = m ((c.tc : Thread Cert.ConformerReferenceIdeal.nD Cert.ConformerReferenceIdeal.τ).loc Cert.ConformerReferenceIdeal.main_arg4)
      ∧ r.2.mem ((c.tc : Thread Cert.ConformerReferenceIdeal.nD Cert.ConformerReferenceIdeal.τ).loc Cert.ConformerReferenceIdeal.main_arg5) = m ((c.tc : Thread Cert.ConformerReferenceIdeal.nD Cert.ConformerReferenceIdeal.τ).loc Cert.ConformerReferenceIdeal.main_arg5)
      ∧ r.2.mem ((c.tc : Thread Cert.ConformerReferenceIdeal.nD Cert.ConformerReferenceIdeal.τ).loc Cert.ConformerReferenceIdeal.main_arg6) = m ((c.tc : Thread Cert.ConformerReferenceIdeal.nD Cert.ConformerReferenceIdeal.τ).loc Cert.ConformerReferenceIdeal.main_arg6)
      ∧ r.2.mem ((c.tc : Thread Cert.ConformerReferenceIdeal.nD Cert.ConformerReferenceIdeal.τ).loc Cert.ConformerReferenceIdeal.main_arg7) = m ((c.tc : Thread Cert.ConformerReferenceIdeal.nD Cert.ConformerReferenceIdeal.τ).loc Cert.ConformerReferenceIdeal.main_arg7)
      ∧ r.2.mem ((c.tc : Thread Cert.ConformerReferenceIdeal.nD Cert.ConformerReferenceIdeal.τ).loc Cert.ConformerReferenceIdeal.main_arg8) = m ((c.tc : Thread Cert.ConformerReferenceIdeal.nD Cert.ConformerReferenceIdeal.τ).loc Cert.ConformerReferenceIdeal.main_arg8))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2)
      ∧ r.2.mem ((c.tc : Thread Cert.MixerOutReferenceIdeal.nD Cert.MixerOutReferenceIdeal.τ).loc Cert.MixerOutReferenceIdeal.main_arg3) = m ((c.tc : Thread Cert.MixerOutReferenceIdeal.nD Cert.MixerOutReferenceIdeal.τ).loc Cert.MixerOutReferenceIdeal.main_arg3)
      ∧ r.2.mem ((c.tc : Thread Cert.MixerOutReferenceIdeal.nD Cert.MixerOutReferenceIdeal.τ).loc Cert.MixerOutReferenceIdeal.main_arg4) = m ((c.tc : Thread Cert.MixerOutReferenceIdeal.nD Cert.MixerOutReferenceIdeal.τ).loc Cert.MixerOutReferenceIdeal.main_arg4)
      ∧ r.2.mem ((c.tc : Thread Cert.MixerOutReferenceIdeal.nD Cert.MixerOutReferenceIdeal.τ).loc Cert.MixerOutReferenceIdeal.main_arg5) = m ((c.tc : Thread Cert.MixerOutReferenceIdeal.nD Cert.MixerOutReferenceIdeal.τ).loc Cert.MixerOutReferenceIdeal.main_arg5)
      ∧ r.2.mem ((c.tc : Thread Cert.MixerOutReferenceIdeal.nD Cert.MixerOutReferenceIdeal.τ).loc Cert.MixerOutReferenceIdeal.main_arg6) = m ((c.tc : Thread Cert.MixerOutReferenceIdeal.nD Cert.MixerOutReferenceIdeal.τ).loc Cert.MixerOutReferenceIdeal.main_arg6))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4)
      ∧ r.2.mem ((c.tc : Thread Cert.MixerIn.nD Cert.MixerIn.τ).loc Cert.MixerIn.main_arg5) = m ((c.tc : Thread Cert.MixerIn.nD Cert.MixerIn.τ).loc Cert.MixerIn.main_arg5)
      ∧ r.2.mem ((c.tc : Thread Cert.MixerIn.nD Cert.MixerIn.τ).loc Cert.MixerIn.main_arg6) = m ((c.tc : Thread Cert.MixerIn.nD Cert.MixerIn.τ).loc Cert.MixerIn.main_arg6)
      ∧ r.2.mem ((c.tc : Thread Cert.MixerIn.nD Cert.MixerIn.τ).loc Cert.MixerIn.main_arg7) = m ((c.tc : Thread Cert.MixerIn.nD Cert.MixerIn.τ).loc Cert.MixerIn.main_arg7)
      ∧ r.2.mem ((c.tc : Thread Cert.MixerIn.nD Cert.MixerIn.τ).loc Cert.MixerIn.main_arg8) = m ((c.tc : Thread Cert.MixerIn.nD Cert.MixerIn.τ).loc Cert.MixerIn.main_arg8)
      ∧ r.2.mem ((c.tc : Thread Cert.MixerIn.nD Cert.MixerIn.τ).loc Cert.MixerIn.main_arg9) = m ((c.tc : Thread Cert.MixerIn.nD Cert.MixerIn.τ).loc Cert.MixerIn.main_arg9)
      ∧ r.2.mem ((c.tc : Thread Cert.MixerIn.nD Cert.MixerIn.τ).loc Cert.MixerIn.main_arg10) = m ((c.tc : Thread Cert.MixerIn.nD Cert.MixerIn.τ).loc Cert.MixerIn.main_arg10))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
      ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
      ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
      ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
      ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
      ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9)
      ∧ r.2.mem ((c.tc : Thread Cert.MixerInIdeal.nD Cert.MixerInIdeal.τ).loc Cert.MixerInIdeal.main_arg10) = m ((c.tc : Thread Cert.MixerInIdeal.nD Cert.MixerInIdeal.τ).loc Cert.MixerInIdeal.main_arg10))
      ∧ r.2.sem = fun _ => 0)

def quiescent_MixerInIdeal_pre_finite4 [hMixerInIdeal : Cert.MixerInIdeal.Facts] [hPre_finite4 : Cert.Pre_finite4.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal_finite4 m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
      ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
      ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
      ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
      ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
      ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9)
      ∧ r.2.mem ((c.tc : Thread Cert.MixerInIdeal.nD Cert.MixerInIdeal.τ).loc Cert.MixerInIdeal.main_arg10) = m ((c.tc : Thread Cert.MixerInIdeal.nD Cert.MixerInIdeal.τ).loc Cert.MixerInIdeal.main_arg10))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2)
      ∧ r.2.mem ((c.tc : Thread Cert.MixerInReferenceIdeal.nD Cert.MixerInReferenceIdeal.τ).loc Cert.MixerInReferenceIdeal.main_arg3) = m ((c.tc : Thread Cert.MixerInReferenceIdeal.nD Cert.MixerInReferenceIdeal.τ).loc Cert.MixerInReferenceIdeal.main_arg3)
      ∧ r.2.mem ((c.tc : Thread Cert.MixerInReferenceIdeal.nD Cert.MixerInReferenceIdeal.τ).loc Cert.MixerInReferenceIdeal.main_arg4) = m ((c.tc : Thread Cert.MixerInReferenceIdeal.nD Cert.MixerInReferenceIdeal.τ).loc Cert.MixerInReferenceIdeal.main_arg4)
      ∧ r.2.mem ((c.tc : Thread Cert.MixerInReferenceIdeal.nD Cert.MixerInReferenceIdeal.τ).loc Cert.MixerInReferenceIdeal.main_arg5) = m ((c.tc : Thread Cert.MixerInReferenceIdeal.nD Cert.MixerInReferenceIdeal.τ).loc Cert.MixerInReferenceIdeal.main_arg5)
      ∧ r.2.mem ((c.tc : Thread Cert.MixerInReferenceIdeal.nD Cert.MixerInReferenceIdeal.τ).loc Cert.MixerInReferenceIdeal.main_arg6) = m ((c.tc : Thread Cert.MixerInReferenceIdeal.nD Cert.MixerInReferenceIdeal.τ).loc Cert.MixerInReferenceIdeal.main_arg6)
      ∧ r.2.mem ((c.tc : Thread Cert.MixerInReferenceIdeal.nD Cert.MixerInReferenceIdeal.τ).loc Cert.MixerInReferenceIdeal.main_arg7) = m ((c.tc : Thread Cert.MixerInReferenceIdeal.nD Cert.MixerInReferenceIdeal.τ).loc Cert.MixerInReferenceIdeal.main_arg7)
      ∧ r.2.mem ((c.tc : Thread Cert.MixerInReferenceIdeal.nD Cert.MixerInReferenceIdeal.τ).loc Cert.MixerInReferenceIdeal.main_arg8) = m ((c.tc : Thread Cert.MixerInReferenceIdeal.nD Cert.MixerInReferenceIdeal.τ).loc Cert.MixerInReferenceIdeal.main_arg8)
      ∧ r.2.mem ((c.tc : Thread Cert.MixerInReferenceIdeal.nD Cert.MixerInReferenceIdeal.τ).loc Cert.MixerInReferenceIdeal.main_arg9) = m ((c.tc : Thread Cert.MixerInReferenceIdeal.nD Cert.MixerInReferenceIdeal.τ).loc Cert.MixerInReferenceIdeal.main_arg9)
      ∧ r.2.mem ((c.tc : Thread Cert.MixerInReferenceIdeal.nD Cert.MixerInReferenceIdeal.τ).loc Cert.MixerInReferenceIdeal.main_arg10) = m ((c.tc : Thread Cert.MixerInReferenceIdeal.nD Cert.MixerInReferenceIdeal.τ).loc Cert.MixerInReferenceIdeal.main_arg10))
      ∧ r.2.sem = fun _ => 0)

def quiescent_MixerInReferenceIdeal_pre_finite4 [hMixerInReferenceIdeal : Cert.MixerInReferenceIdeal.Facts] [hPre_finite4 : Cert.Pre_finite4.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal_finite4 m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2)
      ∧ r.2.mem ((c.tc : Thread Cert.MixerInReferenceIdeal.nD Cert.MixerInReferenceIdeal.τ).loc Cert.MixerInReferenceIdeal.main_arg3) = m ((c.tc : Thread Cert.MixerInReferenceIdeal.nD Cert.MixerInReferenceIdeal.τ).loc Cert.MixerInReferenceIdeal.main_arg3)
      ∧ r.2.mem ((c.tc : Thread Cert.MixerInReferenceIdeal.nD Cert.MixerInReferenceIdeal.τ).loc Cert.MixerInReferenceIdeal.main_arg4) = m ((c.tc : Thread Cert.MixerInReferenceIdeal.nD Cert.MixerInReferenceIdeal.τ).loc Cert.MixerInReferenceIdeal.main_arg4)
      ∧ r.2.mem ((c.tc : Thread Cert.MixerInReferenceIdeal.nD Cert.MixerInReferenceIdeal.τ).loc Cert.MixerInReferenceIdeal.main_arg5) = m ((c.tc : Thread Cert.MixerInReferenceIdeal.nD Cert.MixerInReferenceIdeal.τ).loc Cert.MixerInReferenceIdeal.main_arg5)
      ∧ r.2.mem ((c.tc : Thread Cert.MixerInReferenceIdeal.nD Cert.MixerInReferenceIdeal.τ).loc Cert.MixerInReferenceIdeal.main_arg6) = m ((c.tc : Thread Cert.MixerInReferenceIdeal.nD Cert.MixerInReferenceIdeal.τ).loc Cert.MixerInReferenceIdeal.main_arg6)
      ∧ r.2.mem ((c.tc : Thread Cert.MixerInReferenceIdeal.nD Cert.MixerInReferenceIdeal.τ).loc Cert.MixerInReferenceIdeal.main_arg7) = m ((c.tc : Thread Cert.MixerInReferenceIdeal.nD Cert.MixerInReferenceIdeal.τ).loc Cert.MixerInReferenceIdeal.main_arg7)
      ∧ r.2.mem ((c.tc : Thread Cert.MixerInReferenceIdeal.nD Cert.MixerInReferenceIdeal.τ).loc Cert.MixerInReferenceIdeal.main_arg8) = m ((c.tc : Thread Cert.MixerInReferenceIdeal.nD Cert.MixerInReferenceIdeal.τ).loc Cert.MixerInReferenceIdeal.main_arg8)
      ∧ r.2.mem ((c.tc : Thread Cert.MixerInReferenceIdeal.nD Cert.MixerInReferenceIdeal.τ).loc Cert.MixerInReferenceIdeal.main_arg9) = m ((c.tc : Thread Cert.MixerInReferenceIdeal.nD Cert.MixerInReferenceIdeal.τ).loc Cert.MixerInReferenceIdeal.main_arg9)
      ∧ r.2.mem ((c.tc : Thread Cert.MixerInReferenceIdeal.nD Cert.MixerInReferenceIdeal.τ).loc Cert.MixerInReferenceIdeal.main_arg10) = m ((c.tc : Thread Cert.MixerInReferenceIdeal.nD Cert.MixerInReferenceIdeal.τ).loc Cert.MixerInReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Conformer_ConformerIdeal : Prop :=
  True

def algebraic_ConformerIdeal_ConformerReferenceIdeal [hConformerIdeal : Cert.ConformerIdeal.Facts] [hConformerReferenceIdeal : Cert.ConformerReferenceIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerReferenceIdeal.nD Cert.ConformerReferenceIdeal.τ Cert.ConformerReferenceIdeal.sig) → Buf (Elt Ideal) ℓ) (g' : Dev Cert.ConformerReferenceIdeal.nD → PrngReg), Pre_ConformerIdeal m →
    (∀ c : Dev Cert.ConformerIdeal.nD,
      m' ((c.tc : Thread Cert.ConformerReferenceIdeal.nD Cert.ConformerReferenceIdeal.τ).loc Cert.ConformerReferenceIdeal.main_arg0) = m ((c.tc : Thread Cert.ConformerIdeal.nD Cert.ConformerIdeal.τ).loc Cert.ConformerIdeal.main_arg0)
      ∧ m' ((c.tc : Thread Cert.ConformerReferenceIdeal.nD Cert.ConformerReferenceIdeal.τ).loc Cert.ConformerReferenceIdeal.main_arg1) = m ((c.tc : Thread Cert.ConformerIdeal.nD Cert.ConformerIdeal.τ).loc Cert.ConformerIdeal.main_arg1)
      ∧ m' ((c.tc : Thread Cert.ConformerReferenceIdeal.nD Cert.ConformerReferenceIdeal.τ).loc Cert.ConformerReferenceIdeal.main_arg2) = m ((c.tc : Thread Cert.ConformerIdeal.nD Cert.ConformerIdeal.τ).loc Cert.ConformerIdeal.main_arg2)
      ∧ m' ((c.tc : Thread Cert.ConformerReferenceIdeal.nD Cert.ConformerReferenceIdeal.τ).loc Cert.ConformerReferenceIdeal.main_arg3) = m ((c.tc : Thread Cert.ConformerIdeal.nD Cert.ConformerIdeal.τ).loc Cert.ConformerIdeal.main_arg3)
      ∧ m' ((c.tc : Thread Cert.ConformerReferenceIdeal.nD Cert.ConformerReferenceIdeal.τ).loc Cert.ConformerReferenceIdeal.main_arg4) = m ((c.tc : Thread Cert.ConformerIdeal.nD Cert.ConformerIdeal.τ).loc Cert.ConformerIdeal.main_arg4)
      ∧ m' ((c.tc : Thread Cert.ConformerReferenceIdeal.nD Cert.ConformerReferenceIdeal.τ).loc Cert.ConformerReferenceIdeal.main_arg5) = m ((c.tc : Thread Cert.ConformerIdeal.nD Cert.ConformerIdeal.τ).loc Cert.ConformerIdeal.main_arg5)
      ∧ m' ((c.tc : Thread Cert.ConformerReferenceIdeal.nD Cert.ConformerReferenceIdeal.τ).loc Cert.ConformerReferenceIdeal.main_arg6) = m ((c.tc : Thread Cert.ConformerIdeal.nD Cert.ConformerIdeal.τ).loc Cert.ConformerIdeal.main_arg6)
      ∧ m' ((c.tc : Thread Cert.ConformerReferenceIdeal.nD Cert.ConformerReferenceIdeal.τ).loc Cert.ConformerReferenceIdeal.main_arg7) = m ((c.tc : Thread Cert.ConformerIdeal.nD Cert.ConformerIdeal.τ).loc Cert.ConformerIdeal.main_arg7)
      ∧ m' ((c.tc : Thread Cert.ConformerReferenceIdeal.nD Cert.ConformerReferenceIdeal.τ).loc Cert.ConformerReferenceIdeal.main_arg8) = m ((c.tc : Thread Cert.ConformerIdeal.nD Cert.ConformerIdeal.τ).loc Cert.ConformerIdeal.main_arg8)) →
    ∃ (v0 : (c : Dev Cert.ConformerIdeal.nD) → Buf (Elt Ideal) ((c.tc : Thread Cert.ConformerIdeal.nD Cert.ConformerIdeal.τ).loc Cert.ConformerIdeal.main_v8)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v8) = v0 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4)
          ∧ r.2.mem ((c.tc : Thread Cert.ConformerIdeal.nD Cert.ConformerIdeal.τ).loc Cert.ConformerIdeal.main_arg5) = m ((c.tc : Thread Cert.ConformerIdeal.nD Cert.ConformerIdeal.τ).loc Cert.ConformerIdeal.main_arg5)
          ∧ r.2.mem ((c.tc : Thread Cert.ConformerIdeal.nD Cert.ConformerIdeal.τ).loc Cert.ConformerIdeal.main_arg6) = m ((c.tc : Thread Cert.ConformerIdeal.nD Cert.ConformerIdeal.τ).loc Cert.ConformerIdeal.main_arg6)
          ∧ r.2.mem ((c.tc : Thread Cert.ConformerIdeal.nD Cert.ConformerIdeal.τ).loc Cert.ConformerIdeal.main_arg7) = m ((c.tc : Thread Cert.ConformerIdeal.nD Cert.ConformerIdeal.τ).loc Cert.ConformerIdeal.main_arg7)
          ∧ r.2.mem ((c.tc : Thread Cert.ConformerIdeal.nD Cert.ConformerIdeal.τ).loc Cert.ConformerIdeal.main_arg8) = m ((c.tc : Thread Cert.ConformerIdeal.nD Cert.ConformerIdeal.τ).loc Cert.ConformerIdeal.main_arg8))
      ∧ θ_run (Cert.ConformerReferenceIdeal.defs (F := Ideal)) (onTc (τ := Cert.ConformerReferenceIdeal.τ) (Cert.ConformerReferenceIdeal.main (F := Ideal))) ⟨m', fun _ => 0, g'⟩ (fun r => ∀ c : Dev Cert.ConformerReferenceIdeal.nD,
          r.2.mem ((c.tc : Thread Cert.ConformerReferenceIdeal.nD Cert.ConformerReferenceIdeal.τ).loc Cert.ConformerReferenceIdeal.main_v267) = v0 c
          ∧ r.2.mem ((c.tc : Thread Cert.ConformerReferenceIdeal.nD Cert.ConformerReferenceIdeal.τ).loc Cert.ConformerReferenceIdeal.main_arg0) = m' ((c.tc : Thread Cert.ConformerReferenceIdeal.nD Cert.ConformerReferenceIdeal.τ).loc Cert.ConformerReferenceIdeal.main_arg0)
          ∧ r.2.mem ((c.tc : Thread Cert.ConformerReferenceIdeal.nD Cert.ConformerReferenceIdeal.τ).loc Cert.ConformerReferenceIdeal.main_arg1) = m' ((c.tc : Thread Cert.ConformerReferenceIdeal.nD Cert.ConformerReferenceIdeal.τ).loc Cert.ConformerReferenceIdeal.main_arg1)
          ∧ r.2.mem ((c.tc : Thread Cert.ConformerReferenceIdeal.nD Cert.ConformerReferenceIdeal.τ).loc Cert.ConformerReferenceIdeal.main_arg2) = m' ((c.tc : Thread Cert.ConformerReferenceIdeal.nD Cert.ConformerReferenceIdeal.τ).loc Cert.ConformerReferenceIdeal.main_arg2)
          ∧ r.2.mem ((c.tc : Thread Cert.ConformerReferenceIdeal.nD Cert.ConformerReferenceIdeal.τ).loc Cert.ConformerReferenceIdeal.main_arg3) = m' ((c.tc : Thread Cert.ConformerReferenceIdeal.nD Cert.ConformerReferenceIdeal.τ).loc Cert.ConformerReferenceIdeal.main_arg3)
          ∧ r.2.mem ((c.tc : Thread Cert.ConformerReferenceIdeal.nD Cert.ConformerReferenceIdeal.τ).loc Cert.ConformerReferenceIdeal.main_arg4) = m' ((c.tc : Thread Cert.ConformerReferenceIdeal.nD Cert.ConformerReferenceIdeal.τ).loc Cert.ConformerReferenceIdeal.main_arg4)
          ∧ r.2.mem ((c.tc : Thread Cert.ConformerReferenceIdeal.nD Cert.ConformerReferenceIdeal.τ).loc Cert.ConformerReferenceIdeal.main_arg5) = m' ((c.tc : Thread Cert.ConformerReferenceIdeal.nD Cert.ConformerReferenceIdeal.τ).loc Cert.ConformerReferenceIdeal.main_arg5)
          ∧ r.2.mem ((c.tc : Thread Cert.ConformerReferenceIdeal.nD Cert.ConformerReferenceIdeal.τ).loc Cert.ConformerReferenceIdeal.main_arg6) = m' ((c.tc : Thread Cert.ConformerReferenceIdeal.nD Cert.ConformerReferenceIdeal.τ).loc Cert.ConformerReferenceIdeal.main_arg6)
          ∧ r.2.mem ((c.tc : Thread Cert.ConformerReferenceIdeal.nD Cert.ConformerReferenceIdeal.τ).loc Cert.ConformerReferenceIdeal.main_arg7) = m' ((c.tc : Thread Cert.ConformerReferenceIdeal.nD Cert.ConformerReferenceIdeal.τ).loc Cert.ConformerReferenceIdeal.main_arg7)
          ∧ r.2.mem ((c.tc : Thread Cert.ConformerReferenceIdeal.nD Cert.ConformerReferenceIdeal.τ).loc Cert.ConformerReferenceIdeal.main_arg8) = m' ((c.tc : Thread Cert.ConformerReferenceIdeal.nD Cert.ConformerReferenceIdeal.τ).loc Cert.ConformerReferenceIdeal.main_arg8))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)
      ∧ m' ((c.tc : Thread Cert.MixerOutReferenceIdeal.nD Cert.MixerOutReferenceIdeal.τ).loc Cert.MixerOutReferenceIdeal.main_arg3) = m ((c.tc : Thread Cert.MixerOutIdeal.nD Cert.MixerOutIdeal.τ).loc Cert.MixerOutIdeal.main_arg3)
      ∧ m' ((c.tc : Thread Cert.MixerOutReferenceIdeal.nD Cert.MixerOutReferenceIdeal.τ).loc Cert.MixerOutReferenceIdeal.main_arg4) = m ((c.tc : Thread Cert.MixerOutIdeal.nD Cert.MixerOutIdeal.τ).loc Cert.MixerOutIdeal.main_arg4)
      ∧ m' ((c.tc : Thread Cert.MixerOutReferenceIdeal.nD Cert.MixerOutReferenceIdeal.τ).loc Cert.MixerOutReferenceIdeal.main_arg5) = m ((c.tc : Thread Cert.MixerOutIdeal.nD Cert.MixerOutIdeal.τ).loc Cert.MixerOutIdeal.main_arg5)
      ∧ m' ((c.tc : Thread Cert.MixerOutReferenceIdeal.nD Cert.MixerOutReferenceIdeal.τ).loc Cert.MixerOutReferenceIdeal.main_arg6) = m ((c.tc : Thread Cert.MixerOutIdeal.nD Cert.MixerOutIdeal.τ).loc Cert.MixerOutIdeal.main_arg6)) →
    ∃ (v0 : (c : Dev Cert.MixerOutIdeal.nD) → Buf (Elt Ideal) ((c.tc : Thread Cert.MixerOutIdeal.nD Cert.MixerOutIdeal.τ).loc Cert.MixerOutIdeal.main_v22)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v22) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v17) = v0 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2)
          ∧ r.2.mem ((c.tc : Thread Cert.MixerOutReferenceIdeal.nD Cert.MixerOutReferenceIdeal.τ).loc Cert.MixerOutReferenceIdeal.main_arg3) = m' ((c.tc : Thread Cert.MixerOutReferenceIdeal.nD Cert.MixerOutReferenceIdeal.τ).loc Cert.MixerOutReferenceIdeal.main_arg3)
          ∧ r.2.mem ((c.tc : Thread Cert.MixerOutReferenceIdeal.nD Cert.MixerOutReferenceIdeal.τ).loc Cert.MixerOutReferenceIdeal.main_arg4) = m' ((c.tc : Thread Cert.MixerOutReferenceIdeal.nD Cert.MixerOutReferenceIdeal.τ).loc Cert.MixerOutReferenceIdeal.main_arg4)
          ∧ r.2.mem ((c.tc : Thread Cert.MixerOutReferenceIdeal.nD Cert.MixerOutReferenceIdeal.τ).loc Cert.MixerOutReferenceIdeal.main_arg5) = m' ((c.tc : Thread Cert.MixerOutReferenceIdeal.nD Cert.MixerOutReferenceIdeal.τ).loc Cert.MixerOutReferenceIdeal.main_arg5)
          ∧ r.2.mem ((c.tc : Thread Cert.MixerOutReferenceIdeal.nD Cert.MixerOutReferenceIdeal.τ).loc Cert.MixerOutReferenceIdeal.main_arg6) = m' ((c.tc : Thread Cert.MixerOutReferenceIdeal.nD Cert.MixerOutReferenceIdeal.τ).loc Cert.MixerOutReferenceIdeal.main_arg6))

def preserves_MixerIn_MixerInIdeal : Prop :=
  IdealRules.named_const.Statement Cert.MixerInIdeal.κ "gelu_cubic" .f32 0x3D122279#32 ((80338380498831 / 2251799813685248 : ℝ) : EReal)
  ∧ IdealRules.named_const.Statement Cert.MixerInIdeal.κ "inv_qk_dim" .f32 0x3C2AAAAB#32 ((1 / 96 : ℝ) : EReal)

def algebraic_MixerInIdeal_MixerInReferenceIdeal_pre_finite4 [hMixerInIdeal : Cert.MixerInIdeal.Facts] [hMixerInReferenceIdeal : Cert.MixerInReferenceIdeal.Facts] [hPre_finite4 : Cert.Pre_finite4.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal_finite4 m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)
      ∧ m' ((c.tc : Thread Cert.MixerInReferenceIdeal.nD Cert.MixerInReferenceIdeal.τ).loc Cert.MixerInReferenceIdeal.main_arg2) = m ((c.tc : Thread Cert.MixerInIdeal.nD Cert.MixerInIdeal.τ).loc Cert.MixerInIdeal.main_arg2)
      ∧ m' ((c.tc : Thread Cert.MixerInReferenceIdeal.nD Cert.MixerInReferenceIdeal.τ).loc Cert.MixerInReferenceIdeal.main_arg3) = m ((c.tc : Thread Cert.MixerInIdeal.nD Cert.MixerInIdeal.τ).loc Cert.MixerInIdeal.main_arg3)
      ∧ m' ((c.tc : Thread Cert.MixerInReferenceIdeal.nD Cert.MixerInReferenceIdeal.τ).loc Cert.MixerInReferenceIdeal.main_arg4) = m ((c.tc : Thread Cert.MixerInIdeal.nD Cert.MixerInIdeal.τ).loc Cert.MixerInIdeal.main_arg4)
      ∧ m' ((c.tc : Thread Cert.MixerInReferenceIdeal.nD Cert.MixerInReferenceIdeal.τ).loc Cert.MixerInReferenceIdeal.main_arg5) = m ((c.tc : Thread Cert.MixerInIdeal.nD Cert.MixerInIdeal.τ).loc Cert.MixerInIdeal.main_arg5)
      ∧ m' ((c.tc : Thread Cert.MixerInReferenceIdeal.nD Cert.MixerInReferenceIdeal.τ).loc Cert.MixerInReferenceIdeal.main_arg6) = m ((c.tc : Thread Cert.MixerInIdeal.nD Cert.MixerInIdeal.τ).loc Cert.MixerInIdeal.main_arg6)
      ∧ m' ((c.tc : Thread Cert.MixerInReferenceIdeal.nD Cert.MixerInReferenceIdeal.τ).loc Cert.MixerInReferenceIdeal.main_arg7) = m ((c.tc : Thread Cert.MixerInIdeal.nD Cert.MixerInIdeal.τ).loc Cert.MixerInIdeal.main_arg7)
      ∧ m' ((c.tc : Thread Cert.MixerInReferenceIdeal.nD Cert.MixerInReferenceIdeal.τ).loc Cert.MixerInReferenceIdeal.main_arg8) = m ((c.tc : Thread Cert.MixerInIdeal.nD Cert.MixerInIdeal.τ).loc Cert.MixerInIdeal.main_arg8)
      ∧ m' ((c.tc : Thread Cert.MixerInReferenceIdeal.nD Cert.MixerInReferenceIdeal.τ).loc Cert.MixerInReferenceIdeal.main_arg9) = m ((c.tc : Thread Cert.MixerInIdeal.nD Cert.MixerInIdeal.τ).loc Cert.MixerInIdeal.main_arg9)
      ∧ m' ((c.tc : Thread Cert.MixerInReferenceIdeal.nD Cert.MixerInReferenceIdeal.τ).loc Cert.MixerInReferenceIdeal.main_arg10) = m ((c.tc : Thread Cert.MixerInIdeal.nD Cert.MixerInIdeal.τ).loc Cert.MixerInIdeal.main_arg10)) →
    ∃ (v0 : (c : Dev Cert.MixerInIdeal.nD) → Buf (Elt Ideal) ((c.tc : Thread Cert.MixerInIdeal.nD Cert.MixerInIdeal.τ).loc Cert.MixerInIdeal.main_v131_0)) (v1 : (c : Dev Cert.MixerInIdeal.nD) → Buf (Elt Ideal) ((c.tc : Thread Cert.MixerInIdeal.nD Cert.MixerInIdeal.τ).loc Cert.MixerInIdeal.main_v131_1)) (v2 : (c : Dev Cert.MixerInIdeal.nD) → Buf (Elt Ideal) ((c.tc : Thread Cert.MixerInIdeal.nD Cert.MixerInIdeal.τ).loc Cert.MixerInIdeal.main_v131_2)) (v3 : (c : Dev Cert.MixerInIdeal.nD) → Buf (Elt Ideal) ((c.tc : Thread Cert.MixerInIdeal.nD Cert.MixerInIdeal.τ).loc Cert.MixerInIdeal.main_v131_3)) (v4 : (c : Dev Cert.MixerInIdeal.nD) → Buf (Elt Ideal) ((c.tc : Thread Cert.MixerInIdeal.nD Cert.MixerInIdeal.τ).loc Cert.MixerInIdeal.main_v131_4)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v131_0) = v0 c
          ∧ r.2.mem ((c.tc : Thread Cert.MixerInIdeal.nD Cert.MixerInIdeal.τ).loc Cert.MixerInIdeal.main_v131_1) = v1 c
          ∧ r.2.mem ((c.tc : Thread Cert.MixerInIdeal.nD Cert.MixerInIdeal.τ).loc Cert.MixerInIdeal.main_v131_2) = v2 c
          ∧ r.2.mem ((c.tc : Thread Cert.MixerInIdeal.nD Cert.MixerInIdeal.τ).loc Cert.MixerInIdeal.main_v131_3) = v3 c
          ∧ r.2.mem ((c.tc : Thread Cert.MixerInIdeal.nD Cert.MixerInIdeal.τ).loc Cert.MixerInIdeal.main_v131_4) = v4 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
          ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
          ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
          ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
          ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
          ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
          ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8)
          ∧ r.2.mem ((c.tc : Thread Cert.MixerInIdeal.nD Cert.MixerInIdeal.τ).loc Cert.MixerInIdeal.main_arg9) = m ((c.tc : Thread Cert.MixerInIdeal.nD Cert.MixerInIdeal.τ).loc Cert.MixerInIdeal.main_arg9)
          ∧ r.2.mem ((c.tc : Thread Cert.MixerInIdeal.nD Cert.MixerInIdeal.τ).loc Cert.MixerInIdeal.main_arg10) = m ((c.tc : Thread Cert.MixerInIdeal.nD Cert.MixerInIdeal.τ).loc Cert.MixerInIdeal.main_arg10))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v184) = v0 c
          ∧ r.2.mem ((c.tc : Thread Cert.MixerInReferenceIdeal.nD Cert.MixerInReferenceIdeal.τ).loc Cert.MixerInReferenceIdeal.main_v186) = v1 c
          ∧ r.2.mem ((c.tc : Thread Cert.MixerInReferenceIdeal.nD Cert.MixerInReferenceIdeal.τ).loc Cert.MixerInReferenceIdeal.main_v191) = v2 c
          ∧ r.2.mem ((c.tc : Thread Cert.MixerInReferenceIdeal.nD Cert.MixerInReferenceIdeal.τ).loc Cert.MixerInReferenceIdeal.main_v194) = v3 c
          ∧ r.2.mem ((c.tc : Thread Cert.MixerInReferenceIdeal.nD Cert.MixerInReferenceIdeal.τ).loc Cert.MixerInReferenceIdeal.main_v197) = v4 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1)
          ∧ r.2.mem ((c.tc : Thread Cert.MixerInReferenceIdeal.nD Cert.MixerInReferenceIdeal.τ).loc Cert.MixerInReferenceIdeal.main_arg2) = m' ((c.tc : Thread Cert.MixerInReferenceIdeal.nD Cert.MixerInReferenceIdeal.τ).loc Cert.MixerInReferenceIdeal.main_arg2)
          ∧ r.2.mem ((c.tc : Thread Cert.MixerInReferenceIdeal.nD Cert.MixerInReferenceIdeal.τ).loc Cert.MixerInReferenceIdeal.main_arg3) = m' ((c.tc : Thread Cert.MixerInReferenceIdeal.nD Cert.MixerInReferenceIdeal.τ).loc Cert.MixerInReferenceIdeal.main_arg3)
          ∧ r.2.mem ((c.tc : Thread Cert.MixerInReferenceIdeal.nD Cert.MixerInReferenceIdeal.τ).loc Cert.MixerInReferenceIdeal.main_arg4) = m' ((c.tc : Thread Cert.MixerInReferenceIdeal.nD Cert.MixerInReferenceIdeal.τ).loc Cert.MixerInReferenceIdeal.main_arg4)
          ∧ r.2.mem ((c.tc : Thread Cert.MixerInReferenceIdeal.nD Cert.MixerInReferenceIdeal.τ).loc Cert.MixerInReferenceIdeal.main_arg5) = m' ((c.tc : Thread Cert.MixerInReferenceIdeal.nD Cert.MixerInReferenceIdeal.τ).loc Cert.MixerInReferenceIdeal.main_arg5)
          ∧ r.2.mem ((c.tc : Thread Cert.MixerInReferenceIdeal.nD Cert.MixerInReferenceIdeal.τ).loc Cert.MixerInReferenceIdeal.main_arg6) = m' ((c.tc : Thread Cert.MixerInReferenceIdeal.nD Cert.MixerInReferenceIdeal.τ).loc Cert.MixerInReferenceIdeal.main_arg6)
          ∧ r.2.mem ((c.tc : Thread Cert.MixerInReferenceIdeal.nD Cert.MixerInReferenceIdeal.τ).loc Cert.MixerInReferenceIdeal.main_arg7) = m' ((c.tc : Thread Cert.MixerInReferenceIdeal.nD Cert.MixerInReferenceIdeal.τ).loc Cert.MixerInReferenceIdeal.main_arg7)
          ∧ r.2.mem ((c.tc : Thread Cert.MixerInReferenceIdeal.nD Cert.MixerInReferenceIdeal.τ).loc Cert.MixerInReferenceIdeal.main_arg8) = m' ((c.tc : Thread Cert.MixerInReferenceIdeal.nD Cert.MixerInReferenceIdeal.τ).loc Cert.MixerInReferenceIdeal.main_arg8)
          ∧ r.2.mem ((c.tc : Thread Cert.MixerInReferenceIdeal.nD Cert.MixerInReferenceIdeal.τ).loc Cert.MixerInReferenceIdeal.main_arg9) = m' ((c.tc : Thread Cert.MixerInReferenceIdeal.nD Cert.MixerInReferenceIdeal.τ).loc Cert.MixerInReferenceIdeal.main_arg9)
          ∧ r.2.mem ((c.tc : Thread Cert.MixerInReferenceIdeal.nD Cert.MixerInReferenceIdeal.τ).loc Cert.MixerInReferenceIdeal.main_arg10) = m' ((c.tc : Thread Cert.MixerInReferenceIdeal.nD Cert.MixerInReferenceIdeal.τ).loc Cert.MixerInReferenceIdeal.main_arg10))

def Claim : Prop :=
  ∃ (hKernel : Cert.Kernel.Facts) (hKernelIdeal : Cert.KernelIdeal.Facts) (hReferenceIdeal : Cert.ReferenceIdeal.Facts) (hConformer : Cert.Conformer.Facts) (hConformerIdeal : Cert.ConformerIdeal.Facts) (hConformerReferenceIdeal : Cert.ConformerReferenceIdeal.Facts) (hMixerOut : Cert.MixerOut.Facts) (hMixerOutIdeal : Cert.MixerOutIdeal.Facts) (hMixerOutReferenceIdeal : Cert.MixerOutReferenceIdeal.Facts) (hMixerIn : Cert.MixerIn.Facts) (hMixerInIdeal : Cert.MixerInIdeal.Facts) (hMixerInReferenceIdeal : Cert.MixerInReferenceIdeal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Conformer (hConformer := hConformer)
    ∧ quiescent_ConformerIdeal (hConformerIdeal := hConformerIdeal)
    ∧ quiescent_ConformerReferenceIdeal (hConformerReferenceIdeal := hConformerReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_MixerIn (hMixerIn := hMixerIn)
    ∧ quiescent_MixerInIdeal (hMixerInIdeal := hMixerInIdeal)
    ∧ quiescent_MixerInIdeal_pre_finite4 (hMixerInIdeal := hMixerInIdeal) (hPre_finite4 := hPre_finite4)
    ∧ quiescent_MixerInReferenceIdeal (hMixerInReferenceIdeal := hMixerInReferenceIdeal)
    ∧ quiescent_MixerInReferenceIdeal_pre_finite4 (hMixerInReferenceIdeal := hMixerInReferenceIdeal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Conformer_ConformerIdeal
    ∧ algebraic_ConformerIdeal_ConformerReferenceIdeal (hConformerIdeal := hConformerIdeal) (hConformerReferenceIdeal := hConformerReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_MixerIn_MixerInIdeal
    ∧ algebraic_MixerInIdeal_MixerInReferenceIdeal_pre_finite4 (hMixerInIdeal := hMixerInIdeal) (hMixerInReferenceIdeal := hMixerInReferenceIdeal) (hPre_finite4 := hPre_finite4)
-- ==== Pre_finite.lean ====
abbrev S32x2048x8x96 : Shape := ⟨4, ![32, 2048, 8, 96]⟩
abbrev S32x2048x8x64 : Shape := ⟨4, ![32, 2048, 8, 64]⟩
abbrev S_ : Shape := ⟨0, ![]⟩

class Facts : Prop where
  bcast_S_S32x2048x8x96 : S_.BroadcastsInDim S32x2048x8x96 (![] : Fin 0 → Fin S32x2048x8x96.rank)

variable [Facts]

def fn {F : FTy → Type} [FloatOps F] (main_arg0 : FVec F S32x2048x8x96 .f32) (main_arg1 : FVec F S32x2048x8x96 .f32) (main_arg2 : FVec F S32x2048x8x64 .f32) : IVec S32x2048x8x96 1 :=
  let main_v0 : FVec F S32x2048x8x96 .f32 := Host.absf main_arg0
  let main_cst : FVec F S_ .f32 := constant S_ .f32 0x7F800000#32
  let main_v1 : FVec F S32x2048x8x96 .f32 := broadcastInDim S32x2048x8x96 ![] bcast_S_S32x2048x8x96 main_cst
  let main_v2 : IVec S32x2048x8x96 1 := cmpf .olt main_v0 main_v1
  let main_v3 : FVec F S32x2048x8x96 .f32 := Host.absf main_arg1
  let main_cst_0 : FVec F S_ .f32 := constant S_ .f32 0x7F800000#32
  let main_v4 : FVec F S32x2048x8x96 .f32 := broadcastInDim S32x2048x8x96 ![] bcast_S_S32x2048x8x96 main_cst_0
  let main_v5 : IVec S32x2048x8x96 1 := cmpf .olt main_v3 main_v4
  let main_v6 : IVec S32x2048x8x96 1 := andi main_v2 main_v5
  main_v6
-- ==== Pre_finite4.lean ====
abbrev S32x2048x1024 : Shape := ⟨3, ![32, 2048, 1024]⟩
abbrev S32x2048 : Shape := ⟨2, ![32, 2048]⟩
abbrev S1024 : Shape := ⟨1, ![1024]⟩
abbrev S1024x1696 : Shape := ⟨2, ![1024, 1696]⟩
abbrev S8x64 : Shape := ⟨2, ![8, 64]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1696 : S_.BroadcastsInDim S1024x1696 (![] : Fin 0 → Fin S1024x1696.rank)
  reducesTo_S1024x1696_S_d0_1 : S1024x1696.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg7 : FVec F S256 .f32) (main_arg8 : FVec F S256x1024 .f32) (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg8
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S32x2048x1024 .f32) (main_arg1 : IVec S32x2048 32) (main_arg2 : FVec F S1024 .f32) (main_arg3 : FVec F S1024x1696 .f32) (main_arg4 : FVec F S8x64 .f32) (main_arg5 : FVec F S384 .f32) (main_arg6 : FVec F S384x768 .f32) (main_arg7 : FVec F S256 .f32) (main_arg8 : FVec F S256x1024 .f32) (main_arg9 : FVec F S96 .f32) (main_arg10 : FVec F S96 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1696 .f32 := Host.absf main_arg3
  let main_cst_0 : FVec F S_ .f32 := constant S_ .f32 0x7F800000#32
  let main_v5 : FVec F S1024x1696 .f32 := broadcastInDim S1024x1696 ![] bcast_S_S1024x1696 main_cst_0
  let main_v6 : IVec S1024x1696 1 := cmpf .olt main_v4 main_v5
  let main_c_1 : IVec S_ 1 := constantI S_ 1 1#1
  let main_v7 : IVec S_ 1 := (fun x v => Host.reduce IntOp.andi x v reducesTo_S1024x1696_S_d0_1 h_S_) main_v6 main_c_1
  let main_v8 : IVec S_ 1 := andi main_v3 main_v7
  let main_v9 : FVec F S384 .f32 := Host.absf main_arg5
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x768 .f32 := Host.absf main_arg6
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_arg7 main_arg8 main_v13 main_v16
-- ==== Kernel.lean ====
abbrev S32x2048x8x96 : Shape := ⟨4, ![32, 2048, 8, 96]⟩
abbrev S32x2048x8x64 : Shape := ⟨4, ![32, 2048, 8, 64]⟩
abbrev S_ : Shape := ⟨0, ![]⟩
abbrev S32x2048x8x128 : Shape := ⟨4, ![32, 2048, 8, 128]⟩
abbrev S65536x1024 : Shape := ⟨2, ![65536, 1024]⟩
abbrev S65536x512 : Shape := ⟨2, ![65536, 512]⟩
abbrev S512x256 : Shape := ⟨2, ![512, 256]⟩
abbrev S2048x256 : Shape := ⟨2, ![2048, 256]⟩
abbrev S2048x128 : Shape := ⟨2, ![2048, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 19
  | .vmem => 8
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S_, .f32⟩
  | .hbm, ⟨4, _⟩ => ⟨S32x2048x8x96, .f32⟩
  | .hbm, ⟨5, _⟩ => ⟨S32x2048x8x96, .f32⟩
  | .hbm, ⟨6, _⟩ => ⟨S_, .i32⟩
  | .hbm, ⟨7, _⟩ => ⟨S_, .f32⟩
  | .hbm, ⟨8, _⟩ => ⟨S32x2048x8x128, .f32⟩
  | .hbm, ⟨9, _⟩ => ⟨S65536x1024, .f32⟩
  | .hbm, ⟨10, _⟩ => ⟨S65536x1024, .bf16⟩
  | .hbm, ⟨11, _⟩ => ⟨S_, .i32⟩
  | .hbm, ⟨12, _⟩ => ⟨S_, .f32⟩
  | .hbm, ⟨13, _⟩ => ⟨S32x2048x8x128, .f32⟩
  | .hbm, ⟨14, _⟩ => ⟨S65536x1024, .f32⟩
  | .hbm, ⟨15, _⟩ => ⟨S65536x1024, .bf16⟩
  | .hbm, ⟨16, _⟩ => ⟨S65536x512, .f32⟩
  | .hbm, ⟨17, _⟩ => ⟨S65536x512, .bf16⟩
  | .hbm, ⟨18, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | _, _ => ⟨S32x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 4], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  ⟨c0_i32, v12, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_23 : BitVec 32 := 512#32
  let v83 : BitVec 32 := Scalar.muli arg7 c512_i32_23
  v83
def k0_off1 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c512_i32_23 : BitVec 32 := 512#32
  let v83 : BitVec 32 := Scalar.muli arg7 c512_i32_23
  let v84 : BitVec 32 := v83
  let v85 : Index := Scalar.indexCast v84
  let c0_24 : Index := 0#32
  ![v85.toNat, 0]
def k0_mult2 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_25 : BitVec 32 := 512#32
  let v88 : BitVec 32 := Scalar.muli arg7 c512_i32_25
  v88
def k0_off2 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c512_i32_25 : BitVec 32 := 512#32
  let v88 : BitVec 32 := Scalar.muli arg7 c512_i32_25
  let v89 : BitVec 32 := v88
  let v90 : Index := Scalar.indexCast v89
  let c0_26 : Index := 0#32
  ![v90.toNat, 0]
def k0_mult3 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_31 : BitVec 32 := 512#32
  let v111 : BitVec 32 := Scalar.muli arg7 c512_i32_31
  v111
def k0_off3 (i : grid0.Coords) (k0_t1 : Fin (k0_t1_loop i).trips) : Fin 2 → Nat :=
  let c0_i32 : BitVec 32 := 0#32
  let c1_i32_4 : BitVec 32 := 1#32
  let arg7 : BitVec 32 := Scf.iv c0_i32 c1_i32_4 k0_t1
  let c512_i32_31 : BitVec 32 := 512#32
  let v111 : BitVec 32 := Scalar.muli arg7 c512_i32_31
  let v112 : BitVec 32 := v111
  let v113 : Index := Scalar.indexCast v112
  let c128_32 : Index := 128#32
  ![v113.toNat, 128]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_5 : BitVec 32 := 1#32
  ⟨v12, v9, c1_i32_5⟩
def k0_mult4 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_23 : BitVec 32 := 512#32
  let v83 : BitVec 32 := Scalar.muli arg7 c512_i32_23
  v83
def k0_off4 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_23 : BitVec 32 := 512#32
  let v83 : BitVec 32 := Scalar.muli arg7 c512_i32_23
  let v84 : BitVec 32 := v83
  let v85 : Index := Scalar.indexCast v84
  let c0_24 : Index := 0#32
  ![v85.toNat, 0]
def k0_mult5 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_25 : BitVec 32 := 512#32
  let v88 : BitVec 32 := Scalar.muli arg7 c512_i32_25
  v88
def k0_off5 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_25 : BitVec 32 := 512#32
  let v88 : BitVec 32 := Scalar.muli arg7 c512_i32_25
  let v89 : BitVec 32 := v88
  let v90 : Index := Scalar.indexCast v89
  let c0_26 : Index := 0#32
  ![v90.toNat, 0]
def k0_mult6 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_31 : BitVec 32 := 512#32
  let v111 : BitVec 32 := Scalar.muli arg7 c512_i32_31
  v111
def k0_off6 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c512_i32_31 : BitVec 32 := 512#32
  let v111 : BitVec 32 := Scalar.muli arg7 c512_i32_31
  let v112 : BitVec 32 := v111
  let v113 : Index := Scalar.indexCast v112
  let c128_32 : Index := 128#32
  ![v113.toNat, 128]
def k0_mult7 (i : grid0.Coords) : BitVec 32 :=
  let arg2 : BitVec 32 := BitVec.ofNat 32 (i 2).val
  let c512_i32 : BitVec 32 := 512#32
  let v17 : BitVec 32 := Scalar.muli arg2 c512_i32
  v17
def k0_off7 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_6 : Index := 0#32
  ![v19.toNat, 0]
def k0_mult8 (i : grid0.Coords) : BitVec 32 :=
  let arg2 : BitVec 32 := BitVec.ofNat 32 (i 2).val
  let c512_i32_7 : BitVec 32 := 512#32
  let v23 : BitVec 32 := Scalar.muli arg2 c512_i32_7
  v23
def k0_off8 (i : grid0.Coords) : Fin 2 → Nat :=
  let arg2 : BitVec 32 := BitVec.ofNat 32 (i 2).val
  let c512_i32_7 : BitVec 32 := 512#32
  let v23 : BitVec 32 := Scalar.muli arg2 c512_i32_7
  let v24 : BitVec 32 := v23
  let v25 : Index := Scalar.indexCast v24
  let c0_8 : Index := 0#32
  ![v25.toNat, 0]
def k0_mult9 (i : grid0.Coords) : BitVec 32 :=
  let arg2 : BitVec 32 := BitVec.ofNat 32 (i 2).val
  let c512_i32_14 : BitVec 32 := 512#32
  let v51 : BitVec 32 := Scalar.muli arg2 c512_i32_14
  v51
def k0_off9 (i : grid0.Coords) : Fin 2 → Nat :=
  let arg2 : BitVec 32 := BitVec.ofNat 32 (i 2).val
  let c512_i32_14 : BitVec 32 := 512#32
  let v51 : BitVec 32 := Scalar.muli arg2 c512_i32_14
  let v52 : BitVec 32 := v51
  let v53 : Index := Scalar.indexCast v52
  let c128_15 : Index := 128#32
  ![v53.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32x2048x8x96 : Shape := ⟨4, ![32, 2048, 8, 96]⟩
abbrev S32x2048x8x64 : Shape := ⟨4, ![32, 2048, 8, 64]⟩
abbrev S32x8x2048x2048 : Shape := ⟨4, ![32, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S65536x512 : Shape := ⟨2, ![65536, 512]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S32x8x2048x2048, .f32⟩
  | .hbm, ⟨4, _⟩ => ⟨S_, .f32⟩
  | .hbm, ⟨5, _⟩ => ⟨S32x8x2048x2048, .f32⟩
  | .hbm, ⟨6, _⟩ => ⟨S32x8x2048x2048, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S32x8x2048x2048, .i1⟩
  | .hbm, ⟨17, _⟩ => ⟨S32x8x2048x2048, .f32⟩
  | .hbm, ⟨18, _⟩ => ⟨S32x8x2048x2048, .f32⟩
  | .hbm, ⟨19, _⟩ => ⟨S_, .f32⟩
  | .hbm, ⟨20, _⟩ => ⟨S32x8x2048, .f32⟩
  | .hbm, ⟨21, _⟩ => ⟨S_, .f32⟩
  | .hbm, ⟨22, _⟩ => ⟨S32x8x2048, .f32⟩
  | .hbm, ⟨23, _⟩ => ⟨S32x8x2048, .f32⟩
  | .hbm, ⟨24, _⟩ => ⟨S32x8x2048x1, .f32⟩
  | .hbm, ⟨25, _⟩ => ⟨S32x8x2048x2048, .f32⟩
  | .hbm, ⟨26, _⟩ => ⟨S32x8x2048x2048, .f32⟩
  | .hbm, ⟨27, _⟩ => ⟨S32x8x2048x2048, .f32⟩
  | .hbm, ⟨28, _⟩ => ⟨S_, .f32⟩
  | .hbm, ⟨29, _⟩ => ⟨S32x8x2048, .f32⟩
  | .hbm, ⟨30, _⟩ => ⟨S32x8x2048x1, .f32⟩
  | .hbm, ⟨31, _⟩ => ⟨S32x8x2048x2048, .f32⟩
  | .hbm, ⟨32, _⟩ => ⟨S32x8x2048x2048, .f32⟩
  | .hbm, ⟨33, _⟩ => ⟨S32x8x64x2048, .f32⟩
  | .hbm, ⟨34, _⟩ => ⟨S32x2048x8x64, .f32⟩
  | .hbm, ⟨35, _⟩ => ⟨S65536x512, .f32⟩
  | .hbm, ⟨36, _⟩ => ⟨S65536x512, .bf16⟩
  | _, _ => ⟨S32x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

def κ : String → Option EReal := fun
  | "mask" => some ⊥
  | _ => none
-- ==== Conformer.lean ====
abbrev S32x2048x1024 : Shape := ⟨3, ![32, 2048, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S65536x1024 : Shape := ⟨2, ![65536, 1024]⟩
abbrev S1x1024 : Shape := ⟨2, ![1, 1024]⟩
abbrev S1x2048 : Shape := ⟨2, ![1, 2048]⟩
abbrev S256x1024 : Shape := ⟨2, ![256, 1024]⟩
abbrev S296x1024 : Shape := ⟨2, ![296, 1024]⟩
abbrev S8x288x128 : Shape := ⟨3, ![8, 288, 128]⟩
abbrev S32x1024 : Shape := ⟨2, ![32, 1024]⟩
abbrev S8x1024 : Shape := ⟨2, ![8, 1024]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S288x128 : Shape := ⟨2, ![288, 128]⟩
abbrev S1x288x128 : Shape := ⟨3, ![1, 288, 128]⟩
abbrev S1x256x128 : Shape := ⟨3, ![1, 256, 128]⟩
abbrev S1x128 : Shape := ⟨2, ![1, 128]⟩

abbrev nBuf : Space → Nat
  | .hbm => 18
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S65536x1024, .f32⟩
  | .hbm, ⟨10, _⟩ => ⟨S1x1024, .f32⟩
  | .hbm, ⟨11, _⟩ => ⟨S1024x2048, .bf16⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S296x1024, .f32⟩
  | .local _ .vmem, ⟨13, _⟩ => ⟨S8x288x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConformerReferenceIdeal.lean ====
abbrev S32x2048x1024 : Shape := ⟨3, ![32, 2048, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S1x1x2048 : Shape := ⟨3, ![1, 1, 2048]⟩
abbrev S32x2078x1024 : Shape := ⟨3, ![32, 2078, 1024]⟩
abbrev S1x1024 : Shape := ⟨2, ![1, 1024]⟩
abbrev S65536x1024 : Shape := ⟨2, ![65536, 1024]⟩

abbrev nBuf : Space → Nat
  | .hbm => 296
  | .vmem => 0
  | .smem => 0
  | _ => 0

abbrev hbmTy0_0 (i : Nat) : BufTy := match i % 128 with
  | 0 => ⟨S32x2048x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024x1024, .f32⟩
  | 8 => ⟨S1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S32x2048x2048, .f32⟩
  | 26 => ⟨S1x1x2048, .f32⟩
  | 27 => ⟨S32x2048x2048, .f32⟩
  | 28 => ⟨S32x2048x2048, .f32⟩
  | 29 => ⟨S32x2048x1024, .f32⟩
  | 30 => ⟨S32x2048x1024, .f32⟩
  | 31 => ⟨S32x2048x1024, .f32⟩
  | 32 => ⟨S32x2048x1024, .f32⟩
  | 33 => ⟨S_, .f32⟩
  | 34 => ⟨S32x2048x1024, .f32⟩
  | 35 => ⟨S32x2048x1024, .f32⟩
  | 36 => ⟨S_, .f32⟩
  | 37 => ⟨S32x2048x1024, .f32⟩
  | 38 => ⟨S32x2048x1024, .f32⟩
  | 39 => ⟨S32x2048x1024, .f32⟩
  | 40 => ⟨S_, .i32⟩
  | 41 => ⟨S_, .f32⟩
  | 42 => ⟨S32x2078x1024, .f32⟩
  | 43 => ⟨S32x2048x1024, .f32⟩
  | 44 => ⟨S1x1024, .f32⟩
  | 45 => ⟨S1024, .f32⟩
  | 46 => ⟨S1x1x1024, .f32⟩
  | 47 => ⟨S32x2048x1024, .f32⟩
  | 48 => ⟨S32x2048x1024, .f32⟩
  | 49 => ⟨S_, .f32⟩
  | 50 => ⟨S32x2048x1024, .f32⟩
  | 51 => ⟨S32x2048x1024, .f32⟩
  | 52 => ⟨S32x2048x1024, .f32⟩
  | 53 => ⟨S1x1024, .f32⟩
  | 54 => ⟨S1024, .f32⟩
  | 55 => ⟨S1x1x1024, .f32⟩
  | 56 => ⟨S32x2048x1024, .f32⟩
  | 57 => ⟨S32x2048x1024, .f32⟩
  | 58 => ⟨S32x2048x1024, .f32⟩
  | 59 => ⟨S32x2048x1024, .f32⟩
  | 60 => ⟨S1x1024, .f32⟩
  | 61 => ⟨S1024, .f32⟩
  | 62 => ⟨S1x1x1024, .f32⟩
  | 63 => ⟨S32x2048x1024, .f32⟩
  | 64 => ⟨S32x2048x1024, .f32⟩
  | 65 => ⟨S32x2048x1024, .f32⟩
  | 66 => ⟨S32x2048x1024, .f32⟩
  | 67 => ⟨S1x1024, .f32⟩
  | 68 => ⟨S1024, .f32⟩
  | 69 => ⟨S1x1x1024, .f32⟩
  | 70 => ⟨S32x2048x1024, .f32⟩
  | 71 => ⟨S32x2048x1024, .f32⟩
  | 72 => ⟨S32x2048x1024, .f32⟩
  | 73 => ⟨S32x2048x1024, .f32⟩
  | 74 => ⟨S1x1024, .f32⟩
  | 75 => ⟨S1024, .f32⟩
  | 76 => ⟨S1x1x1024, .f32⟩
  | 77 => ⟨S32x2048x1024, .f32⟩
  | 78 => ⟨S32x2048x1024, .f32⟩
  | 79 => ⟨S32x2048x1024, .f32⟩
  | 80 => ⟨S32x2048x1024, .f32⟩
  | 81 => ⟨S1x1024, .f32⟩
  | 82 => ⟨S1024, .f32⟩
  | 83 => ⟨S1x1x1024, .f32⟩
  | 84 => ⟨S32x2048x1024, .f32⟩
  | 85 => ⟨S32x2048x1024, .f32⟩
  | 86 => ⟨S32x2048x1024, .f32⟩
  | 87 => ⟨S32x2048x1024, .f32⟩
  | 88 => ⟨S1x1024, .f32⟩
  | 89 => ⟨S1024, .f32⟩
  | 90 => ⟨S1x1x1024, .f32⟩
  | 91 => ⟨S32x2048x1024, .f32⟩
  | 92 => ⟨S32x2048x1024, .f32⟩
  | 93 => ⟨S32x2048x1024, .f32⟩
  | 94 => ⟨S32x2048x1024, .f32⟩
  | 95 => ⟨S1x1024, .f32⟩
  | 96 => ⟨S1024, .f32⟩
  | 97 => ⟨S1x1x1024, .f32⟩
  | 98 => ⟨S32x2048x1024, .f32⟩
  | 99 => ⟨S32x2048x1024, .f32⟩
  | 100 => ⟨S32x2048x1024, .f32⟩
  | 101 => ⟨S32x2048x1024, .f32⟩
  | 102 => ⟨S1x1024, .f32⟩
  | 103 => ⟨S1024, .f32⟩
  | 104 => ⟨S1x1x1024, .f32⟩
  | 105 => ⟨S32x2048x1024, .f32⟩
  | 106 => ⟨S32x2048x1024, .f32⟩
  | 107 => ⟨S32x2048x1024, .f32⟩
  | 108 => ⟨S32x2048x1024, .f32⟩
  | 109 => ⟨S1x1024, .f32⟩
  | 110 => ⟨S1024, .f32⟩
  | 111 => ⟨S1x1x1024, .f32⟩
  | 112 => ⟨S32x2048x1024, .f32⟩
  | 113 => ⟨S32x2048x1024, .f32⟩
  | 114 => ⟨S32x2048x1024, .f32⟩
  | 115 => ⟨S32x2048x1024, .f32⟩
  | 116 => ⟨S1x1024, .f32⟩
  | 117 => ⟨S1024, .f32⟩
  | 118 => ⟨S1x1x1024, .f32⟩
  | 119 => ⟨S32x2048x1024, .f32⟩
  | 120 => ⟨S32x2048x1024, .f32⟩
  | 121 => ⟨S32x2048x1024, .f32⟩
  | 122 => ⟨S32x2048x1024, .f32⟩
  | 123 => ⟨S1x1024, .f32⟩
  | 124 => ⟨S1024, .f32⟩
  | 125 => ⟨S1x1x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S1x1024, .f32⟩
  | 3 => ⟨S1024, .f32⟩
  | 4 => ⟨S1x1x1024, .f32⟩
  | 5 => ⟨S32x2048x1024, .f32⟩
  | 6 => ⟨S32x2048x1024, .f32⟩
  | 7 => ⟨S32x2048x1024, .f32⟩
  | 8 => ⟨S32x2048x1024, .f32⟩
  | 9 => ⟨S1x1024, .f32⟩
  | 10 => ⟨S1024, .f32⟩
  | 11 => ⟨S1x1x1024, .f32⟩
  | 12 => ⟨S32x2048x1024, .f32⟩
  | 13 => ⟨S32x2048x1024, .f32⟩
  | 14 => ⟨S32x2048x1024, .f32⟩
  | 15 => ⟨S32x2048x1024, .f32⟩
  | 16 => ⟨S1x1024, .f32⟩
  | 17 => ⟨S1024, .f32⟩
  | 18 => ⟨S1x1x1024, .f32⟩
  | 19 => ⟨S32x2048x1024, .f32⟩
  | 20 => ⟨S32x2048x1024, .f32⟩
  | 21 => ⟨S32x2048x1024, .f32⟩
  | 22 => ⟨S32x2048x1024, .f32⟩
  | 23 => ⟨S1x1024, .f32⟩
  | 24 => ⟨S1024, .f32⟩
  | 25 => ⟨S1x1x1024, .f32⟩
  | 26 => ⟨S32x2048x1024, .f32⟩
  | 27 => ⟨S32x2048x1024, .f32⟩
  | 28 => ⟨S32x2048x1024, .f32⟩
  | 29 => ⟨S32x2048x1024, .f32⟩
  | 30 => ⟨S1x1024, .f32⟩
  | 31 => ⟨S1024, .f32⟩
  | 32 => ⟨S1x1x1024, .f32⟩
  | 33 => ⟨S32x2048x1024, .f32⟩
  | 34 => ⟨S32x2048x1024, .f32⟩
  | 35 => ⟨S32x2048x1024, .f32⟩
  | 36 => ⟨S32x2048x1024, .f32⟩
  | 37 => ⟨S1x1024, .f32⟩
  | 38 => ⟨S1024, .f32⟩
  | 39 => ⟨S1x1x1024, .f32⟩
  | 40 => ⟨S32x2048x1024, .f32⟩
  | 41 => ⟨S32x2048x1024, .f32⟩
  | 42 => ⟨S32x2048x1024, .f32⟩
  | 43 => ⟨S32x2048x1024, .f32⟩
  | 44 => ⟨S1x1024, .f32⟩
  | 45 => ⟨S1024, .f32⟩
  | 46 => ⟨S1x1x1024, .f32⟩
  | 47 => ⟨S32x2048x1024, .f32⟩
  | 48 => ⟨S32x2048x1024, .f32⟩
  | 49 => ⟨S32x2048x1024, .f32⟩
  | 50 => ⟨S32x2048x1024, .f32⟩
  | 51 => ⟨S1x1024, .f32⟩
  | 52 => ⟨S1024, .f32⟩
  | 53 => ⟨S1x1x1024, .f32⟩
  | 54 => ⟨S32x2048x1024, .f32⟩
  | 55 => ⟨S32x2048x1024, .f32⟩
  | 56 => ⟨S32x2048x1024, .f32⟩
  | 57 => ⟨S32x2048x1024, .f32⟩
  | 58 => ⟨S1x1024, .f32⟩
  | 59 => ⟨S1024, .f32⟩
  | 60 => ⟨S1x1x1024, .f32⟩
  | 61 => ⟨S32x2048x1024, .f32⟩
  | 62 => ⟨S32x2048x1024, .f32⟩
  | 63 => ⟨S32x2048x1024, .f32⟩
  | 64 => ⟨S32x2048x1024, .f32⟩
  | 65 => ⟨S1x1024, .f32⟩
  | 66 => ⟨S1024, .f32⟩
  | 67 => ⟨S1x1x1024, .f32⟩
  | 68 => ⟨S32x2048x1024, .f32⟩
  | 69 => ⟨S32x2048x1024, .f32⟩
  | 70 => ⟨S32x2048x1024, .f32⟩
  | 71 => ⟨S32x2048x1024, .f32⟩
  | 72 => ⟨S1x1024, .f32⟩
  | 73 => ⟨S1024, .f32⟩
  | 74 => ⟨S1x1x1024, .f32⟩
  | 75 => ⟨S32x2048x1024, .f32⟩
  | 76 => ⟨S32x2048x1024, .f32⟩
  | 77 => ⟨S32x2048x1024, .f32⟩
  | 78 => ⟨S32x2048x1024, .f32⟩
  | 79 => ⟨S1x1024, .f32⟩
  | 80 => ⟨S1024, .f32⟩
  | 81 => ⟨S1x1x1024, .f32⟩
  | 82 => ⟨S32x2048x1024, .f32⟩
  | 83 => ⟨S32x2048x1024, .f32⟩
  | 84 => ⟨S32x2048x1024, .f32⟩
  | 85 => ⟨S32x2048x1024, .f32⟩
  | 86 => ⟨S1x1024, .f32⟩
  | 87 => ⟨S1024, .f32⟩
  | 88 => ⟨S1x1x1024, .f32⟩
  | 89 => ⟨S32x2048x1024, .f32⟩
  | 90 => ⟨S32x2048x1024, .f32⟩
  | 91 => ⟨S32x2048x1024, .f32⟩
  | 92 => ⟨S32x2048x1024, .f32⟩
  | 93 => ⟨S1x1024, .f32⟩
  | 94 => ⟨S1024, .f32⟩
  | 95 => ⟨S1x1x1024, .f32⟩
  | 96 => ⟨S32x2048x1024, .f32⟩
  | 97 => ⟨S32x2048x1024, .f32⟩
  | 98 => ⟨S32x2048x1024, .f32⟩
  | 99 => ⟨S32x2048x1024, .f32⟩
  | 100 => ⟨S1x1024, .f32⟩
  | 101 => ⟨S1024, .f32⟩
  | 102 => ⟨S1x1x1024, .f32⟩
  | 103 => ⟨S32x2048x1024, .f32⟩
  | 104 => ⟨S32x2048x1024, .f32⟩
  | 105 => ⟨S32x2048x1024, .f32⟩
  | 106 => ⟨S32x2048x1024, .f32⟩
  | 107 => ⟨S1x1024, .f32⟩
  | 108 => ⟨S1024, .f32⟩
  | 109 => ⟨S1x1x1024, .f32⟩
  | 110 => ⟨S32x2048x1024, .f32⟩
  | 111 => ⟨S32x2048x1024, .f32⟩
  | 112 => ⟨S32x2048x1024, .f32⟩
  | 113 => ⟨S32x2048x1024, .f32⟩
  | 114 => ⟨S1x1024, .f32⟩
  | 115 => ⟨S1024, .f32⟩
  | 116 => ⟨S1x1x1024, .f32⟩
  | 117 => ⟨S32x2048x1024, .f32⟩
  | 118 => ⟨S32x2048x1024, .f32⟩
  | 119 => ⟨S32x2048x1024, .f32⟩
  | 120 => ⟨S32x2048x1024, .f32⟩
  | 121 => ⟨S1x1024, .f32⟩
  | 122 => ⟨S1024, .f32⟩
  | 123 => ⟨S1x1x1024, .f32⟩
  | 124 => ⟨S32x2048x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S32x2048x1024, .f32⟩
  | 4 => ⟨S32x2048x1024, .f32⟩
  | 5 => ⟨S32x2048x1024, .f32⟩
  | 6 => ⟨S1x1x1024, .f32⟩
  | 7 => ⟨S32x2048x1024, .f32⟩
  | 8 => ⟨S32x2048x1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S32x2048x1024, .f32⟩
  | 26 => ⟨S32x2048x1024, .f32⟩
  | 27 => ⟨S_, .f32⟩
  | 28 => ⟨S32x2048x1024, .f32⟩
  | 29 => ⟨S32x2048x1024, .f32⟩
  | 30 => ⟨S_, .f32⟩
  | 31 => ⟨S32x2048x1024, .f32⟩
  | 32 => ⟨S32x2048x1024, .f32⟩
  | 33 => ⟨S32x2048x1024, .f32⟩
  | 34 => ⟨S32x2048x1024, .f32⟩
  | 35 => ⟨S1x1x1024, .f32⟩
  | 36 => ⟨S32x2048x1024, .f32⟩
  | 37 => ⟨S32x2048x1024, .f32⟩
  | 38 => ⟨S32x2048x1024, .f32⟩
  | 39 => ⟨S65536x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_cst_5 : Ref sig .tc := ⟨.hbm, 266, rfl⟩
abbrev main_v249 : Ref sig .tc := ⟨.hbm, 267, rfl⟩
abbrev main_v250 : Ref sig .tc := ⟨.hbm, 268, rfl⟩
abbrev main_cst_6 : Ref sig .tc := ⟨.hbm, 269, rfl⟩
abbrev main_v251 : Ref sig .tc := ⟨.hbm, 270, rfl⟩
abbrev main_v252 : Ref sig .tc := ⟨.hbm, 271, rfl⟩
abbrev main_cst_7 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_call1_v0 : Ref sig .tc := ⟨.hbm, 281, rfl⟩
abbrev main_call1_v1 : Ref sig .tc := ⟨.hbm, 282, rfl⟩
abbrev main_call1_cst : Ref sig .tc := ⟨.hbm, 283, rfl⟩
abbrev main_call1_v2 : Ref sig .tc := ⟨.hbm, 284, rfl⟩
abbrev main_call1_v3 : Ref sig .tc := ⟨.hbm, 285, rfl⟩
abbrev main_call1_cst_0 : Ref sig .tc := ⟨.hbm, 286, rfl⟩
abbrev main_call1_v4 : Ref sig .tc := ⟨.hbm, 287, rfl⟩
abbrev main_call1_v5 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩

abbrev nD : Nat := 1
abbrev τ : Topo := Topo.v7x

variable {F : FTy → Type} [FloatOps F]
-- ==== MixerOut.lean ====
abbrev S32x2048x8x64 : Shape := ⟨4, ![32, 2048, 8, 64]⟩
abbrev S32x2048x512 : Shape := ⟨3, ![32, 2048, 512]⟩
abbrev S32x2048x1024 : Shape := ⟨3, ![32, 2048, 1024]⟩
abbrev S8x128x128 : Shape := ⟨3, ![8, 128, 128]⟩
abbrev S8x128 : Shape := ⟨2, ![8, 128]⟩
abbrev S1024x1024 : Shape := ⟨2, ![1024, 1024]⟩
abbrev S65536x512 : Shape := ⟨2, ![65536, 512]⟩
abbrev S65536x1024 : Shape := ⟨2, ![65536, 1024]⟩
abbrev S_ : Shape := ⟨0, ![]⟩
abbrev S128x128 : Shape := ⟨2, ![128, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S512x1024 : Shape := ⟨2, ![512, 1024]⟩
abbrev S512x512 : Shape := ⟨2, ![512, 512]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 43
  | .vmem => 15
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x512, .f32⟩
  | .hbm, ⟨3, _⟩ => ⟨S32x2048x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S65536x512, .f32⟩
  | .hbm, ⟨8, _⟩ => ⟨S65536x512, .bf16⟩
  | .hbm, ⟨9, _⟩ => ⟨S65536x512, .f32⟩
  | .hbm, ⟨10, _⟩ => ⟨S65536x512, .bf16⟩
  | .hbm, ⟨11, _⟩ => ⟨S65536x512, .f32⟩
  | .hbm, ⟨12, _⟩ => ⟨S65536x512, .bf16⟩
  | .hbm, ⟨13, _⟩ => ⟨S65536x1024, .f32⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S1x128x128, .i1⟩
  | .hbm, ⟨26, _⟩ => ⟨S_, .f32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S4x2x128x128, .f32⟩
  | .hbm, ⟨32, _⟩ => ⟨S4x128x2x128, .f32⟩
  | .hbm, ⟨33, _⟩ => ⟨S4x128x256, .f32⟩
  | .hbm, ⟨34, _⟩ => ⟨S4x128x256, .bf16⟩
  | .hbm, ⟨35, _⟩ => ⟨S128x8, .f32⟩
  | .hbm, ⟨36, _⟩ => ⟨S128x8x64, .f32⟩
  | .hbm, ⟨37, _⟩ => ⟨S128x512, .f32⟩
  | .hbm, ⟨38, _⟩ => ⟨S512x1024, .f32⟩
  | .hbm, ⟨39, _⟩ => ⟨S512x1024, .bf16⟩
  | .hbm, ⟨40, _⟩ => ⟨S512x1024, .f32⟩
  | .hbm, ⟨41, _⟩ => ⟨S512x1024, .bf16⟩
  | .hbm, ⟨42, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S4x128x256, .bf16⟩
  | .local _ .vmem, ⟨9, _⟩ => ⟨S128x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixerOutReferenceIdeal.lean ====
abbrev S32x2048x8x64 : Shape := ⟨4, ![32, 2048, 8, 64]⟩
abbrev S32x2048x512 : Shape := ⟨3, ![32, 2048, 512]⟩
abbrev S32x2048x1024 : Shape := ⟨3, ![32, 2048, 1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S128x128 : Shape := ⟨2, ![128, 128]⟩
abbrev S1x128x128 : Shape := ⟨3, ![1, 128, 128]⟩
abbrev S32x16x128x8x64 : Shape := ⟨5, ![32, 16, 128, 8, 64]⟩
abbrev S8x32x16x64x128 : Shape := ⟨5, ![8, 32, 16, 64, 128]⟩
abbrev S128x8 : Shape := ⟨2, ![128, 8]⟩
abbrev S1x1x128x8x1 : Shape := ⟨5, ![1, 1, 128, 8, 1]⟩
abbrev S65536x1024 : Shape := ⟨2, ![65536, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x512, .f32⟩
  | .hbm, ⟨3, _⟩ => ⟨S32x2048x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S32x16x128x8x64, .f32⟩
  | .hbm, ⟨25, _⟩ => ⟨S8x32x16x64x128, .f32⟩
  | .hbm, ⟨26, _⟩ => ⟨S32x16x128x8x64, .f32⟩
  | .hbm, ⟨27, _⟩ => ⟨S128x8, .f32⟩
  | .hbm, ⟨28, _⟩ => ⟨S1x1x128x8x1, .f32⟩
  | .hbm, ⟨29, _⟩ => ⟨S32x16x128x8x64, .f32⟩
  | .hbm, ⟨30, _⟩ => ⟨S32x16x128x8x64, .f32⟩
  | .hbm, ⟨31, _⟩ => ⟨S32x2048x8x64, .f32⟩
  | .hbm, ⟨32, _⟩ => ⟨S32x2048x8x64, .f32⟩
  | .hbm, ⟨33, _⟩ => ⟨S32x2048x512, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S65536x1024, .f32⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== MixerIn.lean ====
abbrev S32x2048x1024 : Shape := ⟨3, ![32, 2048, 1024]⟩
abbrev S32x2048 : Shape := ⟨2, ![32, 2048]⟩
abbrev S1024 : Shape := ⟨1, ![1024]⟩
abbrev S1024x1696 : Shape := ⟨2, ![1024, 1696]⟩
abbrev S8x64 : Shape := ⟨2, ![8, 64]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S65536x1024 : Shape := ⟨2, ![65536, 1024]⟩
abbrev S65536x1 : Shape := ⟨2, ![65536, 1]⟩
abbrev S_ : Shape := ⟨0, ![]⟩
abbrev S1024x1792 : Shape := ⟨2, ![1024, 1792]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x512 : Shape := ⟨2, ![1, 512]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S32 : Shape := ⟨1, ![32]⟩
abbrev S128x8x128 : Shape := ⟨3, ![128, 8, 128]⟩
abbrev S32x1 : Shape := ⟨2, ![32, 1]⟩
abbrev S32x2 : Shape := ⟨2, ![32, 2]⟩
abbrev S32x8 : Shape := ⟨2, ![32, 8]⟩
abbrev S128x1024 : Shape := ⟨2, ![128, 1024]⟩
abbrev S16 : Shape := ⟨1, ![16]⟩
abbrev S16x1 : Shape := ⟨2, ![16, 1]⟩
abbrev S16x2 : Shape := ⟨2, ![16, 2]⟩
abbrev S1x1024 : Shape := ⟨2, ![1, 1024]⟩
abbrev S1x384 : Shape := ⟨2, ![1, 384]⟩
abbrev S1x256 : Shape := ⟨2, ![1, 256]⟩
abbrev S65536x512 : Shape := ⟨2, ![65536, 512]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩
abbrev S512x1792 : Shape := ⟨2, ![512, 1792]⟩
abbrev S512x384 : Shape := ⟨2, ![512, 384]⟩
abbrev S512x256 : Shape := ⟨2, ![512, 256]⟩
abbrev S512x128 : Shape := ⟨2, ![512, 128]⟩

abbrev nBuf : Space → Nat
  | .hbm => 225
  | .vmem => 29
  | .smem => 0
  | _ => 0

abbrev hbmTy0_0 (i : Nat) : BufTy := match i % 128 with
  | 0 => ⟨S32x2048x1024, .f32⟩
  | 1 => ⟨S32x2048, .i32⟩
  | 2 => ⟨S1024, .f32⟩
  | 3 => ⟨S1024x1696, .f32⟩
  | 4 => ⟨S8x64, .f32⟩
  | 5 => ⟨S384, .f32⟩
  | 6 => ⟨S384x768, .f32⟩
  | 7 => ⟨S256, .f32⟩
  | 8 => ⟨S256x1024, .f32⟩
  | 9 => ⟨S96, .f32⟩
  | 10 => ⟨S96, .f32⟩
  | 11 => ⟨S65536x1024, .f32⟩
  | 12 => ⟨S65536x1, .i32⟩
  | 13 => ⟨S_, .i32⟩
  | 14 => ⟨S_, .f32⟩
  | 15 => ⟨S1024x1792, .f32⟩
  | 16 => ⟨S1024x1792, .bf16⟩
  | 17 => ⟨S128, .i32⟩
  | 18 => ⟨S128x1, .i32⟩
  | 19 => ⟨S_, .i32⟩
  | 20 => ⟨S_, .i32⟩
  | 21 => ⟨S128x1, .i32⟩
  | 22 => ⟨S128x1, .i32⟩
  | 23 => ⟨S128x1, .i32⟩
  | 24 => ⟨S_, .i32⟩
  | 25 => ⟨S128x1, .i32⟩
  | 26 => ⟨S128x1, .i1⟩
  | 27 => ⟨S128x1, .i32⟩
  | 28 => ⟨S128x1, .i32⟩
  | 29 => ⟨S_, .i32⟩
  | 30 => ⟨S128x1, .i32⟩
  | 31 => ⟨S128x1, .i1⟩
  | 32 => ⟨S128x1, .i1⟩
  | 33 => ⟨S_, .i32⟩
  | 34 => ⟨S128x1, .i32⟩
  | 35 => ⟨S128x1, .i32⟩
  | 36 => ⟨S128x1, .i32⟩
  | 37 => ⟨S1x128, .i32⟩
  | 38 => ⟨S_, .i32⟩
  | 39 => ⟨S_, .i32⟩
  | 40 => ⟨S1x128, .i32⟩
  | 41 => ⟨S1x128, .i32⟩
  | 42 => ⟨S1x128, .i32⟩
  | 43 => ⟨S_, .i32⟩
  | 44 => ⟨S1x128, .i32⟩
  | 45 => ⟨S1x128, .i1⟩
  | 46 => ⟨S1x128, .i32⟩
  | 47 => ⟨S1x128, .i32⟩
  | 48 => ⟨S_, .i32⟩
  | 49 => ⟨S1x128, .i32⟩
  | 50 => ⟨S1x128, .i1⟩
  | 51 => ⟨S1x128, .i1⟩
  | 52 => ⟨S_, .i32⟩
  | 53 => ⟨S1x128, .i32⟩
  | 54 => ⟨S1x128, .i32⟩
  | 55 => ⟨S1x128, .i32⟩
  | 56 => ⟨S128x128, .i32⟩
  | 57 => ⟨S128x128, .i32⟩
  | 58 => ⟨S128x128, .i1⟩
  | 59 => ⟨S128x128, .f32⟩
  | 60 => ⟨S128x128, .bf16⟩
  | 61 => ⟨S_, .f32⟩
  | 62 => ⟨S128x128, .f32⟩
  | 63 => ⟨S128x128, .bf16⟩
  | 64 => ⟨S1x512, .f32⟩
  | 65 => ⟨S384x8x96, .f32⟩
  | 66 => ⟨S_, .i32⟩
  | 67 => ⟨S_, .f32⟩
  | 68 => ⟨S384x8x128, .f32⟩
  | 69 => ⟨S384x1024, .f32⟩
  | 70 => ⟨S384x1024, .bf16⟩
  | 71 => ⟨S256x8x128, .f32⟩
  | 72 => ⟨S256x8x64, .f32⟩
  | 73 => ⟨S_, .i32⟩
  | 74 => ⟨S_, .f32⟩
  | 75 => ⟨S256x8x128, .f32⟩
  | 76 => ⟨S256x1024, .f32⟩
  | 77 => ⟨S256x1024, .bf16⟩
  | 78 => ⟨S256x8x64, .f32⟩
  | 79 => ⟨S256x512, .f32⟩
  | 80 => ⟨S256x512, .bf16⟩
  | 81 => ⟨S32, .i32⟩
  | 82 => ⟨S_, .f32⟩
  | 83 => ⟨S128x8x128, .f32⟩
  | 84 => ⟨S_, .i32⟩
  | 85 => ⟨S32, .i32⟩
  | 86 => ⟨S32, .i32⟩
  | 87 => ⟨S_, .i32⟩
  | 88 => ⟨S32, .i32⟩
  | 89 => ⟨S32, .i1⟩
  | 90 => ⟨S_, .i32⟩
  | 91 => ⟨S32, .i32⟩
  | 92 => ⟨S32, .i32⟩
  | 93 => ⟨S32, .i32⟩
  | 94 => ⟨S_, .i32⟩
  | 95 => ⟨S32, .i32⟩
  | 96 => ⟨S32, .i1⟩
  | 97 => ⟨S_, .i32⟩
  | 98 => ⟨S32, .i32⟩
  | 99 => ⟨S32, .i32⟩
  | 100 => ⟨S32, .i32⟩
  | 101 => ⟨S32x1, .i32⟩
  | 102 => ⟨S32x1, .i32⟩
  | 103 => ⟨S32x2, .i32⟩
  | 104 => ⟨S_, .f32⟩
  | 105 => ⟨S32x8, .f32⟩
  | 106 => ⟨S128x8x128, .f32⟩
  | 107 => ⟨S128x1024, .f32⟩
  | 108 => ⟨S128x1024, .bf16⟩
  | 109 => ⟨S16, .i32⟩
  | 110 => ⟨S_, .f32⟩
  | 111 => ⟨S128x128, .f32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i1⟩
  | 121 => ⟨S_, .i32⟩
  | 122 => ⟨S16, .i32⟩
  | 123 => ⟨S16, .i32⟩
  | 124 => ⟨S16, .i32⟩
  | 125 => ⟨S_, .i32⟩
  | 126 => ⟨S16, .i32⟩
  | 127 => ⟨S16, .i1⟩
  | _ => ⟨S32x2048x1024, .f32⟩

abbrev hbmTy0_1 (i : Nat) : BufTy := match i % 128 with
  | 0 => ⟨S_, .i32⟩
  | 1 => ⟨S16, .i32⟩
  | 2 => ⟨S16, .i32⟩
  | 3 => ⟨S16, .i32⟩
  | 4 => ⟨S16x1, .i32⟩
  | 5 => ⟨S16x1, .i32⟩
  | 6 => ⟨S16x2, .i32⟩
  | 7 => ⟨S_, .f32⟩
  | 8 => ⟨S16, .f32⟩
  | 9 => ⟨S128x128, .f32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i1⟩
  | 19 => ⟨S_, .i32⟩
  | 20 => ⟨S16, .i32⟩
  | 21 => ⟨S16, .i32⟩
  | 22 => ⟨S16, .i32⟩
  | 23 => ⟨S_, .i32⟩
  | 24 => ⟨S16, .i32⟩
  | 25 => ⟨S16, .i1⟩
  | 26 => ⟨S_, .i32⟩
  | 27 => ⟨S16, .i32⟩
  | 28 => ⟨S16, .i32⟩
  | 29 => ⟨S16, .i32⟩
  | 30 => ⟨S16x1, .i32⟩
  | 31 => ⟨S16x1, .i32⟩
  | 32 => ⟨S16x2, .i32⟩
  | 33 => ⟨S_, .f32⟩
  | 34 => ⟨S16, .f32⟩
  | 35 => ⟨S128x128, .f32⟩
  | 36 => ⟨S128x128, .bf16⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S1x128, .f32⟩
  | 47 => ⟨S_, .i32⟩
  | 48 => ⟨S16, .i32⟩
  | 49 => ⟨S16, .i32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S_, .i32⟩
  | 58 => ⟨S16, .i32⟩
  | 59 => ⟨S16, .i32⟩
  | 60 => ⟨S16x1, .i32⟩
  | 61 => ⟨S16x1, .i32⟩
  | 62 => ⟨S16x2, .i32⟩
  | 63 => ⟨S1x128, .f32⟩
  | 64 => ⟨S_, .i32⟩
  | 65 => ⟨S16, .i32⟩
  | 66 => ⟨S16, .i32⟩
  | 67 => ⟨S_, .i32⟩
  | 68 => ⟨S16, .i32⟩
  | 69 => ⟨S16, .i1⟩
  | 70 => ⟨S_, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S16x1, .i32⟩
  | 78 => ⟨S16x1, .i32⟩
  | 79 => ⟨S16x2, .i32⟩
  | 80 => ⟨S1x128, .f32⟩
  | 81 => ⟨S_, .i32⟩
  | 82 => ⟨S_, .f32⟩
  | 83 => ⟨S128, .f32⟩
  | 84 => ⟨S1x128, .f32⟩
  | 85 => ⟨S_, .i32⟩
  | 86 => ⟨S_, .f32⟩
  | 87 => ⟨S128, .f32⟩
  | 88 => ⟨S1x128, .f32⟩
  | 89 => ⟨S1x1024, .f32⟩
  | 90 => ⟨S1x384, .f32⟩
  | 91 => ⟨S1x256, .f32⟩
  | 92 => ⟨S65536x512, .bf16⟩
  | 93 => ⟨S65536x512, .bf16⟩
  | 94 => ⟨S65536x1024, .bf16⟩
  | 95 => ⟨S65536x1024, .bf16⟩
  | 96 => ⟨S65536x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x1792, .bf16⟩
  | .local _ .vmem, ⟨6, _⟩ => ⟨S128x128, .bf16⟩
  | .local _ .vmem, ⟨7, _⟩ => ⟨S1x512, .f32⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S256x512, .bf16⟩
  | .local _ .vmem, ⟨13, _⟩ => ⟨S128x1024, .bf16⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v6 : Ref sig .tc := ⟨.hbm, 36, rfl⟩
abbrev main_v7 : Ref sig .tc := ⟨.hbm, 37, rfl⟩
abbrev main_c_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_2 : Ref sig .tc := ⟨.hbm, 66, rfl⟩
abbrev main_call3_v0 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_c_3 : Ref sig .tc := ⟨.hbm, 73, rfl⟩
abbrev main_call4_v0 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_c_5 : Ref sig .tc := ⟨.hbm, 84, rfl⟩
abbrev main_v31 : Ref sig .tc := ⟨.hbm, 85, rfl⟩
abbrev main_v32 : Ref sig .tc := ⟨.hbm, 86, rfl⟩
abbrev main_c_6 : Ref sig .tc := ⟨.hbm, 87, rfl⟩
abbrev main_v33 : Ref sig .tc := ⟨.hbm, 88, rfl⟩
abbrev main_v34 : Ref sig .tc := ⟨.hbm, 89, rfl⟩
abbrev main_c_7 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_8 : Ref sig .tc := ⟨.hbm, 94, rfl⟩
abbrev main_v38 : Ref sig .tc := ⟨.hbm, 95, rfl⟩
abbrev main_v39 : Ref sig .tc := ⟨.hbm, 96, rfl⟩
abbrev main_c_9 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_10 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_cst_11 : Ref sig .tc := ⟨.hbm, 110, rfl⟩
abbrev main_v51 : Ref sig .tc := ⟨.hbm, 111, rfl⟩
abbrev main_c_12 : Ref sig .tc := ⟨.hbm, 112, rfl⟩
abbrev main_v52 : Ref sig .tc := ⟨.hbm, 113, rfl⟩
abbrev main_v53 : Ref sig .tc := ⟨.hbm, 114, rfl⟩
abbrev main_c_13 : Ref sig .tc := ⟨.hbm, 115, rfl⟩
abbrev main_v54 : Ref sig .tc := ⟨.hbm, 116, rfl⟩
abbrev main_v55 : Ref sig .tc := ⟨.hbm, 117, rfl⟩
abbrev main_c_14 : Ref sig .tc := ⟨.hbm, 118, rfl⟩
abbrev main_v56 : Ref sig .tc := ⟨.hbm, 119, rfl⟩
abbrev main_v57 : Ref sig .tc := ⟨.hbm, 120, rfl⟩
abbrev main_c_15 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_16 : Ref sig .tc := ⟨.hbm, 125, rfl⟩
abbrev main_v61 : Ref sig .tc := ⟨.hbm, 126, rfl⟩
abbrev main_v62 : Ref sig .tc := ⟨.hbm, 127, rfl⟩
abbrev main_c_17 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_18 : Ref sig .tc := ⟨.hbm, 135, rfl⟩
abbrev main_v69 : Ref sig .tc := ⟨.hbm, 136, rfl⟩
abbrev main_v70 : Ref sig .tc := ⟨.hbm, 137, rfl⟩
abbrev main_c_19 : Ref sig .tc := ⟨.hbm, 138, rfl⟩
abbrev main_v71 : Ref sig .tc := ⟨.hbm, 139, rfl⟩
abbrev main_v72 : Ref sig .tc := ⟨.hbm, 140, rfl⟩
abbrev main_c_20 : Ref sig .tc := ⟨.hbm, 141, rfl⟩
abbrev main_v73 : Ref sig .tc := ⟨.hbm, 142, rfl⟩
abbrev main_v74 : Ref sig .tc := ⟨.hbm, 143, rfl⟩
abbrev main_c_21 : Ref sig .tc := ⟨.hbm, 144, rfl⟩
abbrev main_v75 : Ref sig .tc := ⟨.hbm, 145, rfl⟩
abbrev main_v76 : Ref sig .tc := ⟨.hbm, 146, rfl⟩
abbrev main_c_22 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_c_23 : Ref sig .tc := ⟨.hbm, 151, rfl⟩
abbrev main_v80 : Ref sig .tc := ⟨.hbm, 152, rfl⟩
abbrev main_v81 : Ref sig .tc := ⟨.hbm, 153, rfl⟩
abbrev main_c_24 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_25 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_26 : Ref sig .tc := ⟨.hbm, 167, rfl⟩
abbrev main_v93 : Ref sig .tc := ⟨.hbm, 168, rfl⟩
abbrev main_v94 : Ref sig .tc := ⟨.hbm, 169, rfl⟩
abbrev main_cst_27 : Ref sig .tc := ⟨.hbm, 170, rfl⟩
abbrev main_v95 : Ref sig .tc := ⟨.hbm, 171, rfl⟩
abbrev main_v96 : Ref sig .tc := ⟨.hbm, 172, rfl⟩
abbrev main_cst_28 : Ref sig .tc := ⟨.hbm, 173, rfl⟩
abbrev main_v97 : Ref sig .tc := ⟨.hbm, 174, rfl⟩
abbrev main_c_29 : Ref sig .tc := ⟨.hbm, 175, rfl⟩
abbrev main_v98 : Ref sig .tc := ⟨.hbm, 176, rfl⟩
abbrev main_v99 : Ref sig .tc := ⟨.hbm, 177, rfl⟩
abbrev main_c_30 : Ref sig .tc := ⟨.hbm, 178, rfl⟩
abbrev main_v100 : Ref sig .tc := ⟨.hbm, 179, rfl⟩
abbrev main_v101 : Ref sig .tc := ⟨.hbm, 180, rfl⟩
abbrev main_c_31 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_c_32 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_c_33 : Ref sig .tc := ⟨.hbm, 192, rfl⟩
abbrev main_v111 : Ref sig .tc := ⟨.hbm, 193, rfl⟩
abbrev main_v112 : Ref sig .tc := ⟨.hbm, 194, rfl⟩
abbrev main_c_34 : Ref sig .tc := ⟨.hbm, 195, rfl⟩
abbrev main_v113 : Ref sig .tc := ⟨.hbm, 196, rfl⟩
abbrev main_v114 : Ref sig .tc := ⟨.hbm, 197, rfl⟩
abbrev main_c_35 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_c_36 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_c_37 : Ref sig .tc := ⟨.hbm, 209, rfl⟩
abbrev main_call5_v0 : Ref sig .tc := ⟨.hbm, 210, rfl⟩
abbrev main_v124 : Ref sig .tc := ⟨.hbm, 211, rfl⟩
abbrev main_v125 : Ref sig .tc := ⟨.hbm, 212, rfl⟩
abbrev main_c_38 : Ref sig .tc := ⟨.hbm, 213, rfl⟩
abbrev main_call6_v0 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131_0 : Ref sig .tc := ⟨.hbm, 220, rfl⟩
abbrev main_v131_1 : Ref sig .tc := ⟨.hbm, 221, rfl⟩
abbrev main_v131_2 : Ref sig .tc := ⟨.hbm, 222, rfl⟩
abbrev main_v131_3 : Ref sig .tc := ⟨.hbm, 223, rfl⟩
abbrev main_v131_4 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixerInIdeal.lean ====
variable {F : FTy → Type} [FloatOps F] [Named F]
def κ : String → Option EReal := fun
  | "gelu_cubic" => some ((80338380498831 / 2251799813685248 : ℝ) : EReal)
  | "inv_qk_dim" => some ((1 / 96 : ℝ) : EReal)
  | _ => none
-- ==== MixerInReferenceIdeal.lean ====
abbrev S32x2048x1024 : Shape := ⟨3, ![32, 2048, 1024]⟩
abbrev S32x2048 : Shape := ⟨2, ![32, 2048]⟩
abbrev S1024 : Shape := ⟨1, ![1024]⟩
abbrev S1024x1696 : Shape := ⟨2, ![1024, 1696]⟩
abbrev S8x64 : Shape := ⟨2, ![8, 64]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S_ : Shape := ⟨0, ![]⟩
abbrev S32x2048x1 : Shape := ⟨3, ![32, 2048, 1]⟩
abbrev S1x1x1024 : Shape := ⟨3, ![1, 1, 1024]⟩
abbrev S32x2048x1696 : Shape := ⟨3, ![32, 2048, 1696]⟩
abbrev S32x2048x512 : Shape := ⟨3, ![32, 2048, 512]⟩
abbrev S32x2048x384 : Shape := ⟨3, ![32, 2048, 384]⟩
abbrev S32x2048x256 : Shape := ⟨3, ![32, 2048, 256]⟩
abbrev S32x2048x32 : Shape := ⟨3, ![32, 2048, 32]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x8x64 : Shape := ⟨4, ![1, 1, 8, 64]⟩
abbrev S1x1x384 : Shape := ⟨3, ![1, 1, 384]⟩
abbrev S32x2048x768 : Shape := ⟨3, ![32, 2048, 768]⟩
abbrev S32x2048x8x96 : Shape := ⟨4, ![32, 2048, 8, 96]⟩
abbrev S1x1x256 : Shape := ⟨3, ![1, 1, 256]⟩
abbrev S32x2048x8x128 : Shape := ⟨4, ![32, 2048, 8, 128]⟩
abbrev S32x2048x1x32 : Shape := ⟨4, ![32, 2048, 1, 32]⟩
abbrev S32x2048x8x32 : Shape := ⟨4, ![32, 2048, 8, 32]⟩
abbrev S1x1x1x96 : Shape := ⟨4, ![1, 1, 1, 96]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x8x16 : Shape := ⟨4, ![32, 2048, 8, 16]⟩
abbrev S65536x512 : Shape := ⟨2, ![65536, 512]⟩
abbrev S65536x1024 : Shape := ⟨2, ![65536, 1024]⟩

abbrev nBuf : Space → Nat
  | .hbm => 244
  | .vmem => 0
  | .smem => 0
  | _ => 0

abbrev hbmTy0_0 (i : Nat) : BufTy := match i % 128 with
  | 0 => ⟨S32x2048x1024, .f32⟩
  | 1 => ⟨S32x2048, .i32⟩
  | 2 => ⟨S1024, .f32⟩
  | 3 => ⟨S1024x1696, .f32⟩
  | 4 => ⟨S8x64, .f32⟩
  | 5 => ⟨S384, .f32⟩
  | 6 => ⟨S384x768, .f32⟩
  | 7 => ⟨S256, .f32⟩
  | 8 => ⟨S256x1024, .f32⟩
  | 9 => ⟨S96, .f32⟩
  | 10 => ⟨S96, .f32⟩
  | 11 => ⟨S32x2048x1024, .f32⟩
  | 12 => ⟨S_, .f32⟩
  | 13 => ⟨S32x2048, .f32⟩
  | 14 => ⟨S32x2048x1, .f32⟩
  | 15 => ⟨S_, .f32⟩
  | 16 => ⟨S32x2048x1, .f32⟩
  | 17 => ⟨S32x2048x1, .f32⟩
  | 18 => ⟨S_, .f32⟩
  | 19 => ⟨S32x2048x1, .f32⟩
  | 20 => ⟨S32x2048x1, .f32⟩
  | 21 => ⟨S32x2048x1, .f32⟩
  | 22 => ⟨S32x2048x1024, .f32⟩
  | 23 => ⟨S32x2048x1024, .f32⟩
  | 24 => ⟨S1x1x1024, .f32⟩
  | 25 => ⟨S32x2048x1024, .f32⟩
  | 26 => ⟨S32x2048x1024, .f32⟩
  | 27 => ⟨S32x2048x1696, .f32⟩
  | 28 => ⟨S32x2048x512, .f32⟩
  | 29 => ⟨S32x2048x512, .f32⟩
  | 30 => ⟨S32x2048x384, .f32⟩
  | 31 => ⟨S32x2048x256, .f32⟩
  | 32 => ⟨S32x2048x32, .f32⟩
  | 33 => ⟨S32x2048x512, .f32⟩
  | 34 => ⟨S32x2048x512, .f32⟩
  | 35 => ⟨S_, .f32⟩
  | 36 => ⟨S32x2048x512, .f32⟩
  | 37 => ⟨S32x2048x512, .f32⟩
  | 38 => ⟨S32x2048x512, .f32⟩
  | 39 => ⟨S_, .f32⟩
  | 40 => ⟨S32x2048x512, .f32⟩
  | 41 => ⟨S32x2048x512, .f32⟩
  | 42 => ⟨S32x2048x512, .f32⟩
  | 43 => ⟨S_, .f32⟩
  | 44 => ⟨S32x2048x512, .f32⟩
  | 45 => ⟨S32x2048x512, .f32⟩
  | 46 => ⟨S_, .f32⟩
  | 47 => ⟨S32x2048x512, .f32⟩
  | 48 => ⟨S32x2048x512, .f32⟩
  | 49 => ⟨S32x2048x512, .f32⟩
  | 50 => ⟨S32x2048x8x64, .f32⟩
  | 51 => ⟨S32x2048x8x64, .f32⟩
  | 52 => ⟨S_, .f32⟩
  | 53 => ⟨S32x2048x8, .f32⟩
  | 54 => ⟨S32x2048x8x1, .f32⟩
  | 55 => ⟨S_, .f32⟩
  | 56 => ⟨S32x2048x8x1, .f32⟩
  | 57 => ⟨S32x2048x8x1, .f32⟩
  | 58 => ⟨S_, .f32⟩
  | 59 => ⟨S32x2048x8x1, .f32⟩
  | 60 => ⟨S32x2048x8x1, .f32⟩
  | 61 => ⟨S32x2048x8x1, .f32⟩
  | 62 => ⟨S32x2048x8x64, .f32⟩
  | 63 => ⟨S32x2048x8x64, .f32⟩
  | 64 => ⟨S1x1x8x64, .f32⟩
  | 65 => ⟨S32x2048x8x64, .f32⟩
  | 66 => ⟨S32x2048x8x64, .f32⟩
  | 67 => ⟨S32x2048x384, .f32⟩
  | 68 => ⟨S_, .f32⟩
  | 69 => ⟨S32x2048, .f32⟩
  | 70 => ⟨S32x2048x1, .f32⟩
  | 71 => ⟨S_, .f32⟩
  | 72 => ⟨S32x2048x1, .f32⟩
  | 73 => ⟨S32x2048x1, .f32⟩
  | 74 => ⟨S_, .f32⟩
  | 75 => ⟨S32x2048x1, .f32⟩
  | 76 => ⟨S32x2048x1, .f32⟩
  | 77 => ⟨S32x2048x1, .f32⟩
  | 78 => ⟨S32x2048x384, .f32⟩
  | 79 => ⟨S32x2048x384, .f32⟩
  | 80 => ⟨S1x1x384, .f32⟩
  | 81 => ⟨S32x2048x384, .f32⟩
  | 82 => ⟨S32x2048x384, .f32⟩
  | 83 => ⟨S32x2048x768, .f32⟩
  | 84 => ⟨S32x2048x8x96, .f32⟩
  | 85 => ⟨S32x2048x256, .f32⟩
  | 86 => ⟨S_, .f32⟩
  | 87 => ⟨S32x2048, .f32⟩
  | 88 => ⟨S32x2048x1, .f32⟩
  | 89 => ⟨S_, .f32⟩
  | 90 => ⟨S32x2048x1, .f32⟩
  | 91 => ⟨S32x2048x1, .f32⟩
  | 92 => ⟨S_, .f32⟩
  | 93 => ⟨S32x2048x1, .f32⟩
  | 94 => ⟨S32x2048x1, .f32⟩
  | 95 => ⟨S32x2048x1, .f32⟩
  | 96 => ⟨S32x2048x256, .f32⟩
  | 97 => ⟨S32x2048x256, .f32⟩
  | 98 => ⟨S1x1x256, .f32⟩
  | 99 => ⟨S32x2048x256, .f32⟩
  | 100 => ⟨S32x2048x256, .f32⟩
  | 101 => ⟨S32x2048x1024, .f32⟩
  | 102 => ⟨S32x2048x8x128, .f32⟩
  | 103 => ⟨S32x2048x1x32, .f32⟩
  | 104 => ⟨S32x2048x8x32, .f32⟩
  | 105 => ⟨S32x2048x8x64, .f32⟩
  | 106 => ⟨S32x2048x8x96, .f32⟩
  | 107 => ⟨S32x2048x8x96, .f32⟩
  | 108 => ⟨S_, .f32⟩
  | 109 => ⟨S32x2048x8, .f32⟩
  | 110 => ⟨S32x2048x8x1, .f32⟩
  | 111 => ⟨S_, .f32⟩
  | 112 => ⟨S32x2048x8x1, .f32⟩
  | 113 => ⟨S32x2048x8x1, .f32⟩
  | 114 => ⟨S_, .f32⟩
  | 115 => ⟨S32x2048x8x1, .f32⟩
  | 116 => ⟨S32x2048x8x1, .f32⟩
  | 117 => ⟨S32x2048x8x1, .f32⟩
  | 118 => ⟨S32x2048x8x96, .f32⟩
  | 119 => ⟨S32x2048x8x96, .f32⟩
  | 120 => ⟨S1x1x1x96, .f32⟩
  | 121 => ⟨S32x2048x8x96, .f32⟩
  | 122 => ⟨S32x2048x8x96, .f32⟩
  | 123 => ⟨S32x2048x8x96, .f32⟩
  | 124 => ⟨S_, .f32⟩
  | 125 => ⟨S32x2048x8, .f32⟩
  | 126 => ⟨S32x2048x8x1, .f32⟩
  | 127 => ⟨S_, .f32⟩
  | _ => ⟨S32x2048x1024, .f32⟩

abbrev hbmTy0_1 (i : Nat) : BufTy := match i % 128 with
  | 0 => ⟨S32x2048x8x1, .f32⟩
  | 1 => ⟨S32x2048x8x1, .f32⟩
  | 2 => ⟨S_, .f32⟩
  | 3 => ⟨S32x2048x8x1, .f32⟩
  | 4 => ⟨S32x2048x8x1, .f32⟩
  | 5 => ⟨S32x2048x8x1, .f32⟩
  | 6 => ⟨S32x2048x8x96, .f32⟩
  | 7 => ⟨S32x2048x8x96, .f32⟩
  | 8 => ⟨S1x1x1x96, .f32⟩
  | 9 => ⟨S32x2048x8x96, .f32⟩
  | 10 => ⟨S32x2048x8x96, .f32⟩
  | 11 => ⟨S32x2048x8x64, .f32⟩
  | 12 => ⟨S32x2048x8x32, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S32x2048, .f32⟩
  | 22 => ⟨S32x2048x1, .f32⟩
  | 23 => ⟨S1x1x16, .f32⟩
  | 24 => ⟨S32x2048x16, .f32⟩
  | 25 => ⟨S32x2048x16, .f32⟩
  | 26 => ⟨S32x2048x16, .f32⟩
  | 27 => ⟨S32x2048x16, .f32⟩
  | 28 => ⟨S32x2048x1x16, .f32⟩
  | 29 => ⟨S32x2048x16, .f32⟩
  | 30 => ⟨S32x2048x1x16, .f32⟩
  | 31 => ⟨S32x2048x8x16, .f32⟩
  | 32 => ⟨S32x2048x8x16, .f32⟩
  | 33 => ⟨S32x2048x8x16, .f32⟩
  | 34 => ⟨S32x2048x8x16, .f32⟩
  | 35 => ⟨S32x2048x8x16, .f32⟩
  | 36 => ⟨S32x2048x8x16, .f32⟩
  | 37 => ⟨S32x2048x8x16, .f32⟩
  | 38 => ⟨S32x2048x8x16, .f32⟩
  | 39 => ⟨S32x2048x8x16, .f32⟩
  | 40 => ⟨S32x2048x8x16, .f32⟩
  | 41 => ⟨S32x2048x8x16, .f32⟩
  | 42 => ⟨S32x2048x8x16, .f32⟩
  | 43 => ⟨S32x2048x8x32, .f32⟩
  | 44 => ⟨S32x2048x8x96, .f32⟩
  | 45 => ⟨S32x2048x8x64, .f32⟩
  | 46 => ⟨S32x2048x8x32, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S32x2048, .f32⟩
  | 56 => ⟨S32x2048x1, .f32⟩
  | 57 => ⟨S1x1x16, .f32⟩
  | 58 => ⟨S32x2048x16, .f32⟩
  | 59 => ⟨S32x2048x16, .f32⟩
  | 60 => ⟨S32x2048x16, .f32⟩
  | 61 => ⟨S32x2048x16, .f32⟩
  | 62 => ⟨S32x2048x1x16, .f32⟩
  | 63 => ⟨S32x2048x16, .f32⟩
  | 64 => ⟨S32x2048x1x16, .f32⟩
  | 65 => ⟨S32x2048x8x16, .f32⟩
  | 66 => ⟨S32x2048x8x16, .f32⟩
  | 67 => ⟨S32x2048x8x16, .f32⟩
  | 68 => ⟨S32x2048x8x16, .f32⟩
  | 69 => ⟨S32x2048x8x16, .f32⟩
  | 70 => ⟨S32x2048x8x16, .f32⟩
  | 71 => ⟨S32x2048x8x16, .f32⟩
  | 72 => ⟨S32x2048x8x16, .f32⟩
  | 73 => ⟨S32x2048x8x16, .f32⟩
  | 74 => ⟨S32x2048x8x16, .f32⟩
  | 75 => ⟨S32x2048x8x16, .f32⟩
  | 76 => ⟨S32x2048x8x16, .f32⟩
  | 77 => ⟨S32x2048x8x32, .f32⟩
  | 78 => ⟨S32x2048x8x96, .f32⟩
  | 79 => ⟨S32x2048x512, .f32⟩
  | 80 => ⟨S32x2048x512, .f32⟩
  | 81 => ⟨S_, .f32⟩
  | 82 => ⟨S32x2048x512, .f32⟩
  | 83 => ⟨S32x2048x512, .f32⟩
  | 84 => ⟨S32x2048x512, .f32⟩
  | 85 => ⟨S_, .f32⟩
  | 86 => ⟨S32x2048x512, .f32⟩
  | 87 => ⟨S32x2048x512, .f32⟩
  | 88 => ⟨S32x2048x512, .f32⟩
  | 89 => ⟨S_, .f32⟩
  | 90 => ⟨S32x2048x512, .f32⟩
  | 91 => ⟨S32x2048x512, .f32⟩
  | 92 => ⟨S_, .f32⟩
  | 93 => ⟨S32x2048x512, .f32⟩
  | 94 => ⟨S32x2048x512, .f32⟩
  | 95 => ⟨S32x2048x512, .f32⟩
  | 96 => ⟨S65536x512, .f32⟩
  | 97 => ⟨S65536x512, .bf16⟩
  | 98 => ⟨S65536x512, .f32⟩
  | 99 => ⟨S65536x512, .bf16⟩
  | 100 => ⟨S_, .f32⟩
  | 101 => ⟨S32x2048x8x96, .f32⟩
  | 102 => ⟨S32x2048x8x96, .f32⟩
  | 103 => ⟨S_, .i32⟩
  | 104 => ⟨S_, .f32⟩
  | 105 => ⟨S32x2048x8x128, .f32⟩
  | 106 => ⟨S65536x1024, .f32⟩
  | 107 => ⟨S65536x1024, .bf16⟩
  | 108 => ⟨S_, .i32⟩
  | 109 => ⟨S_, .f32⟩
  | 110 => ⟨S32x2048x8x128, .f32⟩
  | 111 => ⟨S65536x1024, .f32⟩
  | 112 => ⟨S65536x1024, .bf16⟩
  | 113 => ⟨S32x2048x8x64, .f32⟩
  | 114 => ⟨S65536x512, .f32⟩
  | 115 => ⟨S65536x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_cst_22 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_23 : Ref sig .tc := ⟨.hbm, 177, rfl⟩
abbrev main_v142 : Ref sig .tc := ⟨.hbm, 178, rfl⟩
abbrev main_v143 : Ref sig .tc := ⟨.hbm, 179, rfl⟩
abbrev main_cst_24 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_25 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_26 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_27 : Ref sig .tc := ⟨.hbm, 217, rfl⟩
abbrev main_v178 : Ref sig .tc := ⟨.hbm, 218, rfl⟩
abbrev main_v179 : Ref sig .tc := ⟨.hbm, 219, rfl⟩
abbrev main_cst_28 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_29 : Ref sig .tc := ⟨.hbm, 228, rfl⟩
abbrev main_v187 : Ref sig .tc := ⟨.hbm, 229, rfl⟩
abbrev main_v188 : Ref sig .tc := ⟨.hbm, 230, rfl⟩
abbrev main_c : Ref sig .tc := ⟨.hbm, 231, rfl⟩
abbrev main_call0_v0 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_c_30 : Ref sig .tc := ⟨.hbm, 236, rfl⟩
abbrev main_call1_v0 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩

abbrev nD : Nat := 1
abbrev τ : Topo := Topo.v7x

variable {F : FTy → Type} [FloatOps F]

def κ : String → Option EReal := fun
  | "gelu_cubic" => some ((80338380498831 / 2251799813685248 : ℝ) : EReal)
  | "inv_qk_dim" => some ((1 / 96 : ℝ) : EReal)
  | _ => none
-- ==== Proof.Online.lean ====
/- Hand-written, untrusted: THE RUNNING SOFTMAX over the extended reals. A row has scores `S κ` (a masked key's is `⊥`) and
   values `W κ`. After its first `n` keys the kernel holds the greatest score `top S n`, the sum `weight S W n` of the values
   under the weights `exp (S κ - top S n)`, and the same sum with every value one. `weight_step`: rescaling by
   `exp (old top - new top)` and adding a block's own sum gives the same quantities after the block. `weight_div`: the
   quotient of the two sums is the softmax-weighted sum, keys that are masked (read or not) adding nothing. -/
module

public import Idealize.ShloMosaic.PureOps.Ideal
public import Mathlib.Data.EReal.Operations
public import Mathlib.Algebra.BigOperators.Intervals

@[expose] public section

noncomputable section

namespace Cert.Attention

open Idealize.ShloMosaic Finset

/-- The greatest of the first `n` scores (`⊥` of none). -/
def top (S : ℕ → EReal) (n : ℕ) : EReal := (range n).sup S

/-- The first `n` values, each under the exponential of its score's distance below the greatest of the `n`. -/
def weight (S W : ℕ → EReal) (n : ℕ) : EReal := ∑ κ ∈ range n, Ideal.exp (S κ - top S n) * W κ

variable {S W : ℕ → EReal}

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {x y : EReal} (hx : x ≠ ⊤) (h : x ≤ y) : x - y ≠ ⊤ := by
  induction x with
  | bot => simp
  | top => exact absurd rfl hx
  | coe r =>
    induction y with
    | bot => exact absurd h (by simp)
    | top => simp
    | coe s => rw [← EReal.coe_sub]; exact EReal.coe_ne_top _

/-- Rescaling a weight from one maximum to a greater one. -/
theorem exp_rescale {x a b : EReal} (hb : b ≠ ⊤) (hxa : x ≤ a) (hab : a ≤ b) :
    Ideal.exp (x - a) * Ideal.exp (a - b) = Ideal.exp (x - b) := by
  induction x with
  | bot => simp
  | top =>
    rw [top_le_iff.1 hxa, top_le_iff] at hab
    exact absurd hab hb
  | coe r =>
    induction b with
    | top => exact absurd rfl hb
    | bot => exact absurd (hxa.trans hab) (by simp)
    | coe s =>
      induction a with
      | top => exact absurd hab (by simp)
      | bot => exact absurd hxa (by simp)
      | coe u =>
        simp only [← EReal.coe_sub, Ideal.exp_coe, ← EReal.coe_mul, ← Real.exp_add]
        congr 2; ring

/-- A finite factor that is not negative passes through a sum, whatever the terms. -/
theorem sum_mul_of_nonneg {ι : Type} (s : Finset ι) (f : ι → EReal) {c : EReal} (h0 : 0 ≤ c) (hc : c ≠ ⊤) :
    (∑ i ∈ s, f i) * c = ∑ i ∈ s, f i * c := by
  classical
  induction s using Finset.induction_on with
  | empty => simp
  | insert a s ha ih =>
    rw [sum_insert ha, sum_insert ha, EReal.right_distrib_of_nonneg_of_ne_top h0 hc, ih]

theorem top_le_top {n m : ℕ} (h : n ≤ m) : top S n ≤ top S m := sup_mono (range_subset_range.2 h)

theorem le_top' {n κ : ℕ} (h : κ < n) : S κ ≤ top S n := le_sup (f := S) (mem_range.2 h)

theorem top_ne_top (hS : ∀ κ, S κ ≠ ⊤) (n : ℕ) : top S n ≠ ⊤ := by
  induction n with
  | zero => simp [top]
  | succ n ih =>
    unfold top at *
    rw [range_add_one, sup_insert]
    rcases max_choice (S n) ((range n).sup S) with h | h <;> rw [h]
    exacts [hS n, ih]

/-- The maximum after a block is the greater of the maximum before it and the block's own. -/
theorem top_add (n b : ℕ) : top S (n + b) = max (top S n) ((range b).sup fun j => S (n + j)) := by
  induction b with
  | zero => simp [top]
  | succ b ih =>
    rw [← add_assoc, top, range_add_one, sup_insert, range_add_one (n := b), sup_insert]
    show max (S (n + b)) (top S (n + b)) = max (top S n) (max (S (n + b)) _)
    rw [ih, max_left_comm]

/-- ONE BLOCK: the sum so far rescaled to the new maximum, and the block's own terms. -/
theorem weight_step (hS : ∀ κ, S κ ≠ ⊤) (n b : ℕ) :
    weight S W n * Ideal.exp (top S n - top S (n + b))
        + ∑ j ∈ range b, Ideal.exp (S (n + j) - top S (n + b)) * W (n + j) = weight S W (n + b) := by
  have hle : top S n ≤ top S (n + b) := top_le_top (Nat.le_add_right n b)
  unfold weight
  rw [sum_range_add, sum_mul_of_nonneg _ _ (exp_nonneg _) (exp_ne_top (sub_ne_top (top_ne_top hS n) hle))]
  congr 1
  refine sum_congr rfl fun κ hκ => ?_
  rw [mul_right_comm, exp_rescale (top_ne_top hS _) (le_top' (mem_range.1 hκ)) hle]

/-- THE QUOTIENT, after `n` keys of `N` of which the rest are masked and one of the `n` is not. -/
theorem weight_div (hS : ∀ κ, S κ ≠ ⊤) {n N : ℕ} (hn : n ≤ N) (hmask : ∀ κ, n ≤ κ → S κ = ⊥) {κ₀ : ℕ} (h₀ : κ₀ < n)
    (hreal : S κ₀ ≠ ⊥) :
    Ideal.div (weight S W n) (weight S (fun _ => 1) n)
      = ∑ κ ∈ range N, Ideal.div (Ideal.exp (S κ - top S N)) (∑ κ' ∈ range N, Ideal.exp (S κ' - top S N)) * W κ := by
  obtain ⟨d, rfl⟩ := Nat.exists_eq_add_of_le hn
  have htop : top S (n + d) = top S n := by
    rw [top_add]
    refine max_eq_left (Finset.sup_le fun j _ => ?_)
    rw [hmask _ (Nat.le_add_right n j)]; exact bot_le
  have hz : ∀ j, Ideal.exp (S (n + j) - top S n) = 0 := fun j => by
    rw [hmask _ (Nat.le_add_right n j)]; simp
  have hl : ∑ κ ∈ range (n + d), Ideal.exp (S κ - top S (n + d)) = weight S (fun _ => 1) n := by
    rw [htop, sum_range_add]; simp only [hz, sum_const_zero, add_zero, weight, mul_one]
  -- the sum of the weights is a positive real
  obtain ⟨M, hM⟩ : ∃ M : ℝ, top S n = M := by
    have h1 := top_ne_top hS n
    have h2 : top S n ≠ ⊥ := fun h => hreal (le_bot_iff.1 (h ▸ le_top' h₀))
    exact ⟨_, (EReal.coe_toReal h1 h2).symm⟩
  have hpos : ∃ y : ℝ, 0 < y ∧ weight S (fun _ => 1) n = y := by
    have hterm : ∀ κ, ∃ e : ℝ, 0 ≤ e ∧ Ideal.exp (S κ - top S n) = e ∧ (S κ ≠ ⊥ → 0 < e) := fun κ => by
      rw [hM]
      have := hS κ
      generalize S κ = x at this ⊢
      induction x with
      | top => exact absurd rfl this
      | bot => exact ⟨0, le_rfl, by simp, fun h => absurd rfl h⟩
      | coe r =>
        exact ⟨Real.exp (r - M), (Real.exp_pos _).le, by rw [← EReal.coe_sub, Ideal.exp_coe], fun _ => Real.exp_pos _⟩
    choose e he0 he hep using hterm
    refine ⟨∑ κ ∈ range n, e κ, ?_, ?_⟩
    · exact lt_of_lt_of_le (hep κ₀ hreal) (single_le_sum (fun κ _ => he0 κ) (mem_range.2 h₀))
    · simp only [weight, mul_one, he]
      exact (map_sum (⟨⟨Real.toEReal, EReal.coe_zero⟩, EReal.coe_add⟩ : ℝ →+ EReal) e (range n)).symm
  obtain ⟨y, hy, hly⟩ := hpos
  rw [hl, htop, hly, Ideal.div_coe hy.ne']
  have h0 : (0 : EReal) ≤ ((1 / y : ℝ) : EReal) := by exact_mod_cast (one_div_pos.2 hy).le
  rw [weight, sum_mul_of_nonneg _ _ h0 (EReal.coe_ne_top _), sum_range_add]
  simp only [hz, Ideal.div_coe hy.ne', zero_mul, sum_const_zero, add_zero]
  exact sum_congr rfl fun κ _ => mul_right_comm _ _ _

end Cert.Attention

end
-- ==== Proof.Block.lean ====
/- Hand-written, untrusted: WHAT ONE BLOCK OF THE ATTENTION KERNEL COMPUTES. A grid point holds 512 query rows `x0` (two heads of
   128 lanes side by side), all 2048 key rows `x1` of its sequence, and the value rows `x2` (two heads of 64 lanes). Row `r`'s
   scores under head `h` are `rowS`; the counted loop keeps each head's running softmax (`Held`) over the first `512 k` keys
   (`loop_held`), the diagonal block adds the last 512 under the causal mask, and the block stored is, lane by lane, the
   quotient of the two running sums (`out_apply`). -/
module

public import proofs.«01_k».proof.Proof.Gen.KernelIdeal.Frame
public import proofs.«01_k».proof.Proof.Online
public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.WordCmp
public import Idealize.ShloMosaic.Lib.Tactic

@[expose] public section

set_option maxRecDepth 16384

noncomputable section

namespace Cert.Attention

open Idealize.ShloMosaic Cert.KernelIdeal Cert.KernelIdeal.Gen Idealize.ShloMosaic.TcCoe Idealize.SL.Sem

/-! ## One block of keys -/

theorem mask_eq : Named.named (F := Ideal) (φ := .f32) κ "mask" 0xF149F2CA#32 = (⊥ : EReal) :=
  IdealRules.named_const.ideal_named_scalar _ _ _ _ rfl

theorem negInf_eq : Ideal.ofBits .f32 0xFF800000#32 = (⊥ : EReal) := by simp [Ideal.ofBits, Ideal.ieee]

/-- A block's own greatest score. -/
theorem fold_max (S : ℕ → EReal) (n b : ℕ) (σ : Fin b → EReal) (h : ∀ j : Fin b, σ j = S (n + j)) :
    Finset.fold max (Ideal.ofBits .f32 0xFF800000#32) σ Finset.univ = (Finset.range b).sup fun j => S (n + j) := by
  rw [negInf_eq, show Finset.range b = (Finset.univ : Finset (Fin b)).map Fin.valEmbedding by ext k; simp [Fin.exists_iff, and_comm], Finset.sup_map]
  exact Finset.sup_congr rfl fun j _ => h j

variable (S : Fin 512 → ℕ → EReal) (W : Fin 128 → ℕ → EReal)

/-- The running softmax of 512 rows after `n` keys: each row's maximum, its sum of weights, its weighted sum of values. -/
structure Held (n : ℕ) (m l : FVec Ideal S512x1 .f32) (a : FVec Ideal S512x128 .f32) : Prop where
  hi : ∀ r, m (ix2 r 0) = top (S r) n
  den : ∀ r, l (ix2 r 0) = weight (S r) (fun _ => 1) n
  num : ∀ r c, a (ix2 r c) = weight (S r) (W c) n

variable {S W}

/-- A block of 512 keys with scores `s` and values `v`. -/
theorem Held.step {n : ℕ} {m l m' l' : FVec Ideal S512x1 .f32} {a a' : FVec Ideal S512x128 .f32} (H : Held S W n m l a)
    (s : FVec Ideal S512x512 .f32) (v : FVec Ideal S512x128 .bf16)
    (hS : ∀ r κ, S r κ ≠ ⊤) (hs : ∀ r j, s (ix2 r j) = S r (n + j)) (hv : ∀ j c, v (ix2 j c) = W c (n + j))
    (hm : ∀ r, m' (ix2 r 0) = max (m (ix2 r 0))
      (Finset.fold max (Ideal.ofBits .f32 0xFF800000#32) (fun j => s (ix2 r j)) Finset.univ))
    (hl : ∀ r, l' (ix2 r 0) = l (ix2 r 0) * Ideal.exp (m (ix2 r 0) - m' (ix2 r 0))
      + ∑ j : Fin 512, Ideal.exp (s (ix2 r j) - m' (ix2 r 0)))
    (ha : ∀ r c, a' (ix2 r c) = a (ix2 r c) * Ideal.exp (m (ix2 r 0) - m' (ix2 r 0))
      + ∑ j : Fin 512, Ideal.exp (s (ix2 r j) - m' (ix2 r 0)) * v (ix2 j c)) :
    Held S W (n + 512) m' l' a' := by
  have hmax : ∀ r, m' (ix2 r 0) = top (S r) (n + 512) := fun r => by
    rw [hm, H.hi, fold_max (S r) n 512 _ (fun j => hs r j), top_add]
  refine ⟨hmax, fun r => ?_, fun r c => ?_⟩
  · rw [hl, H.hi, H.den, hmax, ← weight_step (hS r) n 512, ← Fin.sum_univ_eq_sum_range
      (fun j => Ideal.exp (S r (n + j) - top (S r) (n + 512)) * 1)]
    exact congrArg _ (Finset.sum_congr rfl fun j _ => by rw [hs, mul_one])
  · rw [ha, H.hi, H.num, hmax, ← weight_step (hS r) n 512, ← Fin.sum_univ_eq_sum_range
      (fun j => Ideal.exp (S r (n + j) - top (S r) (n + 512)) * W c (n + j))]
    exact congrArg _ (Finset.sum_congr rfl fun j _ => by rw [hs, hv])

theorem Held.congr {n : ℕ} {m l : FVec Ideal S512x1 .f32} {a : FVec Ideal S512x128 .f32} (H : Held S W n m l a)
    {S' : Fin 512 → ℕ → EReal} (h : ∀ r κ, κ < n → S r κ = S' r κ) : Held S' W n m l a := by
  have ht : ∀ r, top (S r) n = top (S' r) n := fun r => Finset.sup_congr rfl fun κ hκ => h r κ (Finset.mem_range.1 hκ)
  refine ⟨fun r => (H.hi r).trans (ht r), fun r => (H.den r).trans ?_, fun r c => (H.num r c).trans ?_⟩ <;>
    exact Finset.sum_congr rfl fun κ hκ => by rw [ht, h r κ (Finset.mem_range.1 hκ)]

/-! ## The rows of a grid point -/

/-- The score of query row `r` against key row `κ` under head `h` of the pair: 128 products. -/
def score (x0 : Vec Ideal S512x256 .bf16) (x1 : Vec Ideal S2048x256 .bf16) (h : Fin 2) (r : Fin 512) (κ : Fin 2048) : EReal :=
  ∑ d : Fin 128, (x0 (ix2 r ⟨128 * h + d, by omega⟩) : EReal) * x1 (ix2 κ ⟨128 * h + d, by omega⟩)

/-- Row `r`'s scores: the keys up to its own position `o + r`, the later ones masked. -/
def rowS (x0 : Vec Ideal S512x256 .bf16) (x1 : Vec Ideal S2048x256 .bf16) (o : ℕ) (h : Fin 2) (r : Fin 512) (κ : ℕ) : EReal :=
  if hκ : κ ≤ o + r ∧ κ < 2048 then score x0 x1 h r ⟨κ, hκ.2⟩ else ⊥

/-- The values' lane `c`, key by key. -/
def rowW (x2 : Vec Ideal S2048x128 .bf16) (c : Fin 128) (κ : ℕ) : EReal :=
  if hκ : κ < 2048 then x2 (ix2 ⟨κ, hκ⟩ c) else 0

/-- Head `h`'s 128 query lanes, as the body loads them. -/
abbrev qh (x0 : Vec Ideal S512x256 .bf16) : Fin 2 → Vec Ideal S512x128 .bf16
  | 0 => View.ld x0 (Rect.unit (s := S512x256) ![0, 0] S512x128.size inb_S512x256_S512x128_0_0)
  | 1 => View.ld x0 (Rect.unit (s := S512x256) ![0, 128] S512x128.size inb_S512x256_S512x128_0_128)

theorem qh_apply (x0 : Vec Ideal S512x256 .bf16) (h : Fin 2) (r : Fin 512) (d : Fin 128) :
    qh x0 h (ix2 r d) = x0 (ix2 r ⟨128 * h + d, by omega⟩) := by
  match h with
  | 0 => exact View.ld_unit_apply_of _ _ _ _ _ _ (fun a => by match a with | ⟨0, _⟩ => simp | ⟨1, _⟩ => simp)
  | 1 => exact View.ld_unit_apply_of _ _ _ _ _ _ (fun a => by match a with | ⟨0, _⟩ => simp | ⟨1, _⟩ => simp)

/-- A load of 512 key rows from row `n`, of head `h`'s lanes. -/
theorem key_apply (x1 : Vec Ideal S2048x256 .bf16) (h : Fin 2) (n : ℕ) (off : Fin 2 → ℕ) (ho : off = ![n, 128 * h.val])
    (inb : ∀ a, off a + S512x128.size a ≤ S2048x256.size a) (j : Fin 512) (d : Fin 128) (hn : n + j < 2048) :
    View.ld x1 (Rect.unit (s := S2048x256) off S512x128.size inb) (ix2 j d) = x1 (ix2 ⟨n + j, hn⟩ ⟨128 * h + d, by omega⟩) := by
  subst ho
  exact View.ld_unit_apply_of _ _ _ _ _ _ (fun a => by match a with | ⟨0, _⟩ => simp | ⟨1, _⟩ => simp)

/-- A load of 512 value rows from row `n`. -/
theorem value_apply (x2 : Vec Ideal S2048x128 .bf16) (n : ℕ) (off : Fin 2 → ℕ) (ho : off = ![n, 0])
    (inb : ∀ a, off a + S512x128.size a ≤ S2048x128.size a) (j : Fin 512) (c : Fin 128) (hn : n + j < 2048) :
    View.ld x2 (Rect.unit (s := S2048x128) off S512x128.size inb) (ix2 j c) = rowW x2 c (n + j) := by
  subst ho
  rw [rowW, dif_pos hn]
  exact View.ld_unit_apply_of _ _ _ _ _ _ (fun a => by match a with | ⟨0, _⟩ => simp | ⟨1, _⟩ => simp)

/-- The products of a query row with a loaded key row are that key's score. -/
theorem score_eq (x0 : Vec Ideal S512x256 .bf16) (x1 : Vec Ideal S2048x256 .bf16) (h : Fin 2) (n : ℕ) (off : Fin 2 → ℕ)
    (ho : off = ![n, 128 * h.val]) (inb : ∀ a, off a + S512x128.size a ≤ S2048x256.size a) (r j : Fin 512) (hn : n + j < 2048) :
    ∑ d : Fin 128, (qh x0 h (ix2 r d) : EReal)
        * View.ld x1 (Rect.unit (s := S2048x256) off S512x128.size inb) (ix2 j d)
      = score x0 x1 h r ⟨n + j, hn⟩ :=
  Finset.sum_congr rfl fun d _ => by rw [qh_apply, key_apply x1 h n off ho inb j d hn]

/-! ## The counted loop -/

abbrev State : Type := FVec Ideal S512x1 .f32 × FVec Ideal S512x1 .f32 × FVec Ideal S512x128 .f32 × FVec Ideal S512x1 .f32
  × FVec Ideal S512x1 .f32 × FVec Ideal S512x128 .f32

section
variable (c : Dev nD) (i : grid0.Coords) (arg3 : Memref sig .tc .vmem S512x256 .bf16) (h3 : arg3.IsWhole)
  (arg4 : Memref sig .tc .vmem S2048x256 .bf16) (h4 : arg4.IsWhole) (arg5 : Memref sig .tc .vmem S2048x128 .bf16)
  (h5 : arg5.IsWhole) (arg6 : Memref sig .tc .vmem S512x128 .bf16) (h6 : arg6.IsWhole)
  (x0 : Vec Ideal S512x256 .bf16) (x1 : Vec Ideal S2048x256 .bf16) (x2 : Vec Ideal S2048x128 .bf16)

/-- One trip's new state, in the body's payloads. -/
theorem trip_eq (v1 v3 : Vec Ideal S512x128 .bf16) (k : Fin (k0_t1_loop i).trips) (st : State) (K0 K1 V : Vec Ideal S512x128 .bf16)
    (hK0 : View.ld x1 (Rect.unit (s := S2048x256) (k0_off2 i k) S512x128.size (k0_off2_inb i k)) = K0)
    (hK1 : View.ld x1 (Rect.unit (s := S2048x256) (k0_off3 i k) S512x128.size (k0_off3_inb i k)) = K1)
    (hV : View.ld x2 (Rect.unit (s := S2048x128) (k0_off1 i k) S512x128.size (k0_off1_inb i k)) = V) :
    tripR_k0_t1 (F := Ideal) Variants.none c none i arg3 h3 arg4 h4 arg5 h5 arg6 h6 v1 v3 (h4.unread x1) (h5.unread x2) k st
      = (k0_pay4 (k0_pay28 v1) st.1 K0, k0_pay8 (k0_pay28 v1) st.1 st.2.1 K0, k0_pay7 (k0_pay28 v1) st.1 st.2.2.1 V K0,
        k0_pay10 (k0_pay29 v3) st.2.2.2.1 K1,
        k0_pay34 st.2.2.2.2.1 (k0_pay11 (k0_pay29 v3) st.2.2.2.1 K1) (k0_pay12 (k0_pay29 v3) st.2.2.2.1 K1),
        k0_pay33 (k0_pay13 (k0_pay29 v3) st.2.2.2.1 st.2.2.2.2.2 K1) (k0_pay14 (k0_pay29 v3) st.2.2.2.1 V K1)) := by
  subst hK0 hK1 hV
  unfold tripR_k0_t1 trip_k0_t1
  dsimp only
  sl_unfold_words
  simp only [View.readAt_eq_ld, h4.read_unread, h5.read_unread]
  rfl

/-- The loop's state before trip `k`. -/
abbrev st (k : ℕ) : State :=
  st_k0_t1 (F := Ideal) Variants.none c none i arg3 h3 arg4 h4 arg5 h5 arg6 h6 (qh x0 0) (qh x0 1) (h4.unread x1) (h5.unread x2)
    (k0_pay30, k0_pay31, k0_pay32, k0_pay30, k0_pay31, k0_pay32) k

/-- The loop takes one trip per block of keys before the point's own. -/
theorem trips_eq : (k0_t1_loop i).trips = (i 2).val :=
  (by decide +kernel : ∀ n : Fin 4, Scf.trips (0#32) (Scalar.addi (0#32)
    (Scalar.muli (Scalar.divsi (Scalar.subi (BitVec.ofNat 32 n.val) 0#32) 1#32) 1#32)) 1#32 = n.val) (i 2)

theorem held_zero (S : Fin 512 → ℕ → EReal) (W : Fin 128 → ℕ → EReal) : Held S W 0 k0_pay30 k0_pay31 k0_pay32 := by
  refine ⟨fun r => ?_, fun r => ?_, fun r c => ?_⟩
  · pointwise [k0_pay30]; rw [mask_eq]; rfl
  · pointwise [k0_pay31]; simp [weight]
  · pointwise [k0_pay32]; simp [weight]

/-- Both heads' running softmax before trip `k`. -/
theorem loop_held (hS : ∀ o h r κ, rowS x0 x1 o h r κ ≠ ⊤) (k : ℕ) (hk : k ≤ (i 2).val) :
    let s := st c i arg3 h3 arg4 h4 arg5 h5 arg6 h6 x0 x1 x2 k
    Held (rowS x0 x1 (512 * (i 2).val) 0) (rowW x2) (512 * k) s.1 s.2.1 s.2.2.1
      ∧ Held (rowS x0 x1 (512 * (i 2).val) 1) (rowW x2) (512 * k) s.2.2.2.1 s.2.2.2.2.1 s.2.2.2.2.2 := by
  induction k with
  | zero => exact ⟨held_zero _ _, held_zero _ _⟩
  | succ k ih =>
    have h2 : (i 2).val < 4 := (i 2).isLt
    have hkt : k < (k0_t1_loop i).trips := by rw [trips_eq]; omega
    obtain ⟨ih0, ih1⟩ := ih (by omega)
    have hin : ∀ j : Fin 512, 512 * k + j.val < 2048 := fun j => by omega
    have hle : ∀ r j : Fin 512, 512 * k + j.val ≤ 512 * (i 2).val + r.val := fun r j => by omega
    have e := st_k0_t1_succ (F := Ideal) Variants.none c none i arg3 h3 arg4 h4 arg5 h5 arg6 h6 (qh x0 0) (qh x0 1)
      (h4.unread x1) (h5.unread x2) (k0_pay30, k0_pay31, k0_pay32, k0_pay30, k0_pay31, k0_pay32) ⟨k, hkt⟩
    rw [trip_eq c i arg3 h3 arg4 h4 arg5 h5 arg6 h6 x1 x2 _ _ ⟨k, hkt⟩ _ _ _ _ rfl rfl rfl] at e
    intro s
    rw [show s = _ from e]
    clear e ih s
    have hrow : ∀ (h : Fin 2) (r j : Fin 512), rowS x0 x1 (512 * (i 2).val) h r (512 * k + j) = score x0 x1 h r ⟨512 * k + j, hin j⟩ :=
      fun h r j => dif_pos ⟨hle r j, hin j⟩
    refine ⟨?_, ?_⟩
    · refine ih0.step (k0_pay3 (k0_pay28 (qh x0 0)) (View.ld x1 (Rect.unit (s := S2048x256) (k0_off2 i ⟨k, hkt⟩) S512x128.size (k0_off2_inb i ⟨k, hkt⟩))))
        (View.ld x2 (Rect.unit (s := S2048x128) (k0_off1 i ⟨k, hkt⟩) S512x128.size (k0_off1_inb i ⟨k, hkt⟩))) (hS _ 0)
        (fun r j => ?_) (fun j c => value_apply x2 _ _ (k0_off1_eq i ⟨k, hkt⟩) _ j c (hin j)) (fun r => ?_) (fun r => ?_) (fun r c => ?_)
      · rw [hrow, ← score_eq x0 x1 0 _ _ (k0_off2_eq i ⟨k, hkt⟩) (k0_off2_inb i ⟨k, hkt⟩) r j (hin j)]
        pointwise [k0_pay3, k0_pay28]
      · pointwise [k0_pay4]
      · pointwise [k0_pay8, k0_pay5, k0_pay6]
      · pointwise [k0_pay7, k0_pay5, k0_pay6, k0_pay2]
    · refine ih1.step (k0_pay9 (k0_pay29 (qh x0 1)) (View.ld x1 (Rect.unit (s := S2048x256) (k0_off3 i ⟨k, hkt⟩) S512x128.size (k0_off3_inb i ⟨k, hkt⟩))))
        (View.ld x2 (Rect.unit (s := S2048x128) (k0_off1 i ⟨k, hkt⟩) S512x128.size (k0_off1_inb i ⟨k, hkt⟩))) (hS _ 1)
        (fun r j => ?_) (fun j c => value_apply x2 _ _ (k0_off1_eq i ⟨k, hkt⟩) _ j c (hin j)) (fun r => ?_) (fun r => ?_) (fun r c => ?_)
      · rw [hrow, ← score_eq x0 x1 1 _ _ (k0_off3_eq i ⟨k, hkt⟩) (k0_off3_inb i ⟨k, hkt⟩) r j (hin j)]
        pointwise [k0_pay9, k0_pay29]
      · pointwise [k0_pay10, k0_pay9]
      · pointwise [k0_pay34, k0_pay11, k0_pay12]
      · pointwise [k0_pay33, k0_pay13, k0_pay14, k0_pay11, k0_pay12, k0_pay2]

/-! ## The diagonal block -/

/-- The diagonal block's scores: the causal mask keeps a key at or before the row. -/
theorem diag_score (o : ℕ) (h : Fin 2) (off : Fin 2 → ℕ) (ho : off = ![o, 128 * h.val])
    (inb : ∀ a, off a + S512x128.size a ≤ S2048x256.size a) (r j : Fin 512) (hn : o + j < 2048) :
    k0_pay38 (qh x0 h) (View.ld x1 (Rect.unit (s := S2048x256) off S512x128.size inb)) (ix2 r j) = rowS x0 x1 o h r (o + j) := by
  have e : k0_pay38 (qh x0 h) (View.ld x1 (Rect.unit (s := S2048x256) off S512x128.size inb)) (ix2 r j)
      = Scalar.select (IntOp.cmpi .sge (BitVec.ofNat 32 r.val) (BitVec.ofNat 32 j.val))
          (∑ d : Fin 128, (qh x0 h (ix2 r d) : EReal) * View.ld x1 (Rect.unit (s := S2048x256) off S512x128.size inb) (ix2 j d))
          (Named.named (F := Ideal) (φ := .f32) κ "mask" 0xF149F2CA#32) := by
    pointwise [k0_pay38, k0_pay28]
  rw [e, mask_eq, score_eq x0 x1 h o off ho inb r j hn, WordCmp.cmpi_sge_ofNat (a := r.val) (b := j.val) (by omega) (by omega), WordCmp.select_ofBool, rowS]
  by_cases hj : j.val ≤ r.val
  · rw [if_pos (by simpa using hj), dif_pos ⟨by omega, hn⟩]
  · rw [if_neg (by simpa using hj), dif_neg (by omega)]

/-- The running softmax after the diagonal block. -/
theorem diag_held (hS : ∀ o h r κ, rowS x0 x1 o h r κ ≠ ⊤) (o : ℕ) (ho : o + 512 ≤ 2048) (h : Fin 2) (K V : Vec Ideal S512x128 .bf16)
    (hK : ∀ r j, k0_pay38 (qh x0 h) K (ix2 r j) = rowS x0 x1 o h r (o + j)) (hV : ∀ j c, V (ix2 j c) = rowW x2 c (o + j))
    {m l : FVec Ideal S512x1 .f32} {a : FVec Ideal S512x128 .f32} (H : Held (rowS x0 x1 o h) (rowW x2) o m l a) :
    Held (rowS x0 x1 o h) (rowW x2) (o + 512) (k0_pay39 (qh x0 h) m K)
      (fun i => l (ix2 (i 0) 0) * k0_pay40 (qh x0 h) m K (ix2 (i 0) 0) + ∑ j : Fin 512, k0_pay41 (qh x0 h) m K (ix2 (i 0) j))
      (fun i => a (ix2 (i 0) (i 1)) * k0_pay40 (qh x0 h) m K (ix2 (i 0) 0)
        + ∑ j : Fin 512, k0_pay41 (qh x0 h) m K (ix2 (i 0) j) * V (ix2 j (i 1))) := by
  have e40 : ∀ r, k0_pay40 (qh x0 h) m K (ix2 r 0) = Ideal.exp (m (ix2 r 0) - k0_pay39 (qh x0 h) m K (ix2 r 0)) := fun r => by
    pointwise [k0_pay40]
  have e41 : ∀ r j, k0_pay41 (qh x0 h) m K (ix2 r j)
      = Ideal.exp (k0_pay38 (qh x0 h) K (ix2 r j) - k0_pay39 (qh x0 h) m K (ix2 r 0)) := fun r j => by
    pointwise [k0_pay41]
  refine H.step (k0_pay38 (qh x0 h) K) V (hS o h) hK hV (fun r => ?_) (fun r => ?_) (fun r c => ?_)
  · pointwise [k0_pay39]
  · show l (ix2 r 0) * k0_pay40 (qh x0 h) m K (ix2 r 0) + ∑ j : Fin 512, k0_pay41 (qh x0 h) m K (ix2 r j) = _
    rw [e40]
    exact congrArg _ (Finset.sum_congr rfl fun j _ => e41 r j)
  · show a (ix2 r c) * k0_pay40 (qh x0 h) m K (ix2 r 0) + ∑ j : Fin 512, k0_pay41 (qh x0 h) m K (ix2 r j) * V (ix2 j c) = _
    rw [e40]
    exact congrArg _ (Finset.sum_congr rfl fun j _ => congrArg (· * V (ix2 j c)) (e41 r j))

/-- The block stored, over the loop's final state. -/
theorem out_eq :
    out0_A_3 c i arg3 h3 arg4 h4 arg5 h5 arg6 h6 x0 x1 x2
      = let s := st c i arg3 h3 arg4 h4 arg5 h5 arg6 h6 x0 x1 x2 (i 2).val
        let K0 := View.ld x1 (Rect.unit (s := S2048x256) (k0_off8 i) S512x128.size (k0_off8_inb i))
        k0_pay1 (iota .tc S512x128 32 [1] iota_S512x128_d1_w32) (k0_pay29 (qh x0 1)) s.2.1 s.2.2.1 s.2.2.2.1 s.2.2.2.2.1 s.2.2.2.2.2
          (iota .tc S512x512 32 [0] iota_S512x512_d0_w32) (iota .tc S512x512 32 [1] iota_S512x512_d1_w32)
          (k0_pay37 (View.ld x2 (Rect.unit (s := S2048x128) (k0_off7 i) S512x128.size (k0_off7_inb i))))
          (k0_pay40 (qh x0 0) s.1 K0) (k0_pay41 (qh x0 0) s.1 K0)
          (View.ld x1 (Rect.unit (s := S2048x256) (k0_off9 i) S512x128.size (k0_off9_inb i))) := by
  have hz : (![0, 0] : Fin 2 → Nat) = fun _ => 0 := funext fun a => by fin_cases a <;> rfl
  have t2 : (k0_t2_loop i).trips = 0 := Nat.le_zero.1 (k0_t2_abs i).2.1
  have key : ∀ n, n = 0 → ∀ b s, st_k0_t2 (F := Ideal) Variants.none c none i arg3 h3 arg4 h4 arg5 h5 arg6 h6 (qh x0 0) (qh x0 1)
      b (h4.unread x1) (h5.unread x2) s n = s := fun n hn b s => by subst hn; rfl
  rw [← trips_eq i]
  unfold out0_A_3
  rw [View.read_writes_eq_canon _ _ _ (cover0_A_3 c i arg3 h3 arg4 h4 arg5 h5 arg6 h6 x0 x1 x2)]
  unfold kernelRun0_A
  dsimp only
  rw [View.canon_unit_zero hz]
  sl_unfold_words
  simp only [View.readAt_eq_ld, h3.read_unread, h4.read_unread, h5.read_unread]
  erw [key _ t2]

/-- The head a lane of the block belongs to. -/
def laneHead (l : Fin 128) : Fin 2 := if l.val < 64 then 0 else 1

/-- The block stored: each lane is its head's weighted sum over its sum of weights. -/
theorem out_apply (hS : ∀ o h r κ, rowS x0 x1 o h r κ ≠ ⊤) (r : Fin 512) (l : Fin 128) :
    out0_A_3 c i arg3 h3 arg4 h4 arg5 h5 arg6 h6 x0 x1 x2 (ix2 r l)
      = Ideal.div (weight (rowS x0 x1 (512 * (i 2).val) (laneHead l) r) (rowW x2 l) (512 * (i 2).val + 512))
          (weight (rowS x0 x1 (512 * (i 2).val) (laneHead l) r) (fun _ => 1) (512 * (i 2).val + 512)) := by
  have h2 : (i 2).val < 4 := (i 2).isLt
  obtain ⟨H0, H1⟩ := loop_held c i arg3 h3 arg4 h4 arg5 h5 arg6 h6 x0 x1 x2 hS (i 2).val le_rfl
  have D0 := diag_held x0 x1 x2 hS (512 * (i 2).val) (by omega) 0 _ _
    (fun r j => diag_score x0 x1 _ 0 _ (k0_off8_eq i) (k0_off8_inb i) r j (by omega))
    (fun j l => value_apply x2 _ _ (k0_off7_eq i) (k0_off7_inb i) j l (by omega)) H0
  have D1 := diag_held x0 x1 x2 hS (512 * (i 2).val) (by omega) 1 _ _
    (fun r j => diag_score x0 x1 _ 1 _ (k0_off9_eq i) (k0_off9_inb i) r j (by omega))
    (fun j l => value_apply x2 _ _ (k0_off7_eq i) (k0_off7_inb i) j l (by omega)) H1
  have sel : ∀ x y : EReal, Scalar.select (IntOp.cmpi .slt (BitVec.ofNat 32 l.val) 64#32) x y = if laneHead l = 0 then x else y := fun x y => by
    rw [WordCmp.cmpi_slt_ofNat (a := l.val) (b := 64) (by omega) (by omega), WordCmp.select_ofBool]
    by_cases hl : l.val < 64 <;> simp [laneHead, hl]
  rw [out_eq]
  dsimp only
  generalize st c i arg3 h3 arg4 h4 arg5 h5 arg6 h6 x0 x1 x2 (i 2).val = s at *
  generalize View.ld x1 (Rect.unit (s := S2048x256) (k0_off8 i) S512x128.size (k0_off8_inb i)) = K0 at *
  generalize View.ld x1 (Rect.unit (s := S2048x256) (k0_off9 i) S512x128.size (k0_off9_inb i)) = K1 at *
  generalize View.ld x2 (Rect.unit (s := S2048x128) (k0_off7 i) S512x128.size (k0_off7_inb i)) = V at *
  clear h2 H0 H1 hS
  pointwise [k0_pay1, k0_pay29, k0_pay37]
  rw [sel]
  split
  case isTrue h => rw [h, ← D0.den r, ← D0.num r l]; rfl
  case isFalse h =>
    rw [show laneHead l = 1 by omega, ← D1.den r, ← D1.num r l]
    show _ = Ideal.div (s.2.2.2.2.2 (ix2 r l) * k0_pay40 (qh x0 1) s.2.2.2.1 K1 (ix2 r 0)
        + ∑ j : Fin 512, k0_pay41 (qh x0 1) s.2.2.2.1 K1 (ix2 r j) * V (ix2 j l))
      (s.2.2.2.2.1 (ix2 r 0) * k0_pay40 (qh x0 1) s.2.2.2.1 K1 (ix2 r 0) + ∑ j : Fin 512, k0_pay41 (qh x0 1) s.2.2.2.1 K1 (ix2 r j))
    pointwise [k0_pay40, k0_pay41, k0_pay39, k0_pay38, k0_pay28]

end

end Cert.Attention

end
-- ==== Proof.Array.lean ====
/- Hand-written, untrusted: WHERE THE ATTENTION KERNEL READS AND WRITES. The host lays out the queries (scaled) and keys as 65536
   rows of eight heads padded to 128 lanes, the values as rows of eight heads of 64 lanes (`query_apply`, `key_row`, `value_row`);
   grid point `t = (b, hp, i)` reads block rows `512 (4 b + i)` of the queries, sequence `b` of the keys and values, head pair `hp`
   (`block0`, `block1`, `block2`), and writes the block of the result at the same place (`array_eq`). -/
module

public import proofs.«01_k».proof.Proof.Gen.KernelIdeal.Value
public import Idealize.ShloMosaic.Lib.Pointwise
public import Idealize.ShloMosaic.Lib.IdealHost
public import Idealize.ShloMosaic.Lib.WordCmp
public import Idealize.ShloMosaic.Lib.Tactic

@[expose] public section

set_option maxRecDepth 16384

noncomputable section

namespace Cert.Attention

open Idealize.ShloMosaic Cert.KernelIdeal Cert.KernelIdeal.Gen Idealize.ShloMosaic.TcCoe Idealize.SL.Sem

variable (m : (ℓ : Loc nD τ sig) → Buf (Elt Ideal) ℓ) (c : Dev nD)

/-! ## The host's layout -/

/-- Rows of eight heads of 96 lanes, each head padded with zeros to 128. -/
def padded (x : Vec Ideal S32x2048x8x96 .f32) : Vec Ideal S65536x1024 .bf16 :=
  truncf (F := Ideal) .bf16 (shapeCast S65536x1024 (pad S32x2048x8x128 ![0, 0, 0, 0] ![0, 0, 0, 32] ![0, 0, 0, 0] x
    (sitofp .f32 (constantI S_ 32 0#32)) pads_S32x2048x8x96_S32x2048x8x128_000_000_000_0320 h_S_) shapeCasts_S32x2048x8x128_S65536x1024)
    bitsLt_bf16_f32

theorem padded_apply (x : Vec Ideal S32x2048x8x96 .f32) (R : Fin 65536) (C : Fin 1024) :
    padded x (ix2 R C) = if h : C.val % 128 < 96 then
      x (ix4 ⟨R / 2048, by omega⟩ ⟨R % 2048, by omega⟩ ⟨C / 128, by omega⟩ ⟨C % 128, h⟩) else (0 : EReal) := by
  have e : padded x (ix2 R C) = if h : R.val / 2048 < 32 ∧ R.val % 2048 < 2048 ∧ C.val / 128 < 8 ∧ C.val % 128 < 96 then
      x (ix4 ⟨R / 2048, h.1⟩ ⟨R % 2048, h.2.1⟩ ⟨C / 128, h.2.2.1⟩ ⟨C % 128, h.2.2.2⟩) else FloatOps.sitofp (F := Ideal) .f32 0#32 := by
    pointwise [padded]
  rw [e]
  by_cases h : C.val % 128 < 96
  · rw [dif_pos ⟨by omega, by omega, by omega, h⟩, dif_pos h]
  · rw [dif_neg (fun k => h k.2.2.2), dif_neg h]
    show ((((0#32).toInt : ℤ) : ℝ) : EReal) = 0
    simp

/-- The queries, scaled. -/
def scaled (x : Vec Ideal S32x2048x8x96 .f32) : Vec Ideal S32x2048x8x96 .f32 :=
  mulf (F := Ideal) (φ := .f32) x (broadcastInDim S32x2048x8x96 ![] bcast_S_S32x2048x8x96 (constant S_ .f32 0x3DD105EC#32))

theorem scaled_apply (x : Vec Ideal S32x2048x8x96 .f32) (b : Fin 32) (q : Fin 2048) (h : Fin 8) (d : Fin 96) :
    scaled x (ix4 b q h d) = x (ix4 b q h d) * Ideal.ofBits .f32 0x3DD105EC#32 := by
  pointwise [scaled]

theorem V_query : V m c main_v4 = padded (scaled (m ((c : Thread nD τ).loc main_arg0))) := by
  unfold V
  simp only [hostOps0, hostOps0_1, hostOps0_2, hostOps0_3, hostOps0_4, List.flatten_cons, List.flatten_nil, List.append_nil,
    List.cons_append, List.nil_append]
  after_results
  rfl

theorem V_key : V m c main_v7 = padded (m ((c : Thread nD τ).loc main_arg1)) := by
  unfold V
  simp only [hostOps0, hostOps0_1, hostOps0_2, hostOps0_3, hostOps0_4, List.flatten_cons, List.flatten_nil, List.append_nil,
    List.cons_append, List.nil_append]
  after_results
  rfl

/-- Rows of eight heads of 64 lanes. -/
def rows (x : Vec Ideal S32x2048x8x64 .f32) : Vec Ideal S65536x512 .bf16 :=
  truncf (F := Ideal) .bf16 (shapeCast S65536x512 x shapeCasts_S32x2048x8x64_S65536x512) bitsLt_bf16_f32

theorem rows_apply (x : Vec Ideal S32x2048x8x64 .f32) (R : Fin 65536) (C : Fin 512) :
    rows x (ix2 R C) = x (ix4 ⟨R / 2048, by omega⟩ ⟨R % 2048, by omega⟩ ⟨C / 64, by omega⟩ ⟨C % 64, by omega⟩) := by
  pointwise [rows]

theorem V_value : V m c main_v9 = rows (m ((c : Thread nD τ).loc main_arg2)) := by
  unfold V
  simp only [hostOps0, hostOps0_1, hostOps0_2, hostOps0_3, hostOps0_4, List.flatten_cons, List.flatten_nil, List.append_nil,
    List.cons_append, List.nil_append]
  after_results
  rfl

/-! ## The blocks -/

/-- The grid point's sequence, head pair and block of queries. -/
abbrev seqOf (t : Fin cfg0.N) : Fin 32 := grid0.coords t 0
abbrev pairOf (t : Fin cfg0.N) : Fin 4 := grid0.coords t 1
abbrev blockOf (t : Fin cfg0.N) : Fin 4 := grid0.coords t 2

theorem index0 : ∀ t : Fin cfg0.N, win0_0.index t 0 = 4 * (seqOf t).val + (blockOf t).val ∧ win0_0.index t 1 = (pairOf t).val := by
  decide +kernel

theorem index1 : ∀ t : Fin cfg0.N, win0_1.index t 0 = (seqOf t).val ∧ win0_1.index t 1 = (pairOf t).val := by
  decide +kernel

theorem index2 : ∀ t : Fin cfg0.N, win0_2.index t 0 = (seqOf t).val ∧ win0_2.index t 1 = (pairOf t).val := by
  decide +kernel

theorem index3 : ∀ t : Fin cfg0.N, win0_3.index t 0 = 4 * (seqOf t).val + (blockOf t).val ∧ win0_3.index t 1 = (pairOf t).val := by
  decide +kernel

theorem block0 (t : Fin cfg0.N) (r : Fin 512) (j : Fin 256) :
    (iblk m c 0 t : Vec Ideal S512x256 .bf16) (ix2 r j)
      = padded (scaled (m ((c : Thread nD τ).loc main_arg0)))
          (ix2 ⟨512 * (4 * (seqOf t).val + (blockOf t).val) + r, by omega⟩ ⟨256 * (pairOf t).val + j, by omega⟩) := by
  unfold iblk
  rw [View.read_apply, ← V_query]
  show V m c main_v4 _ = _
  congr 1
  funext a
  apply Fin.ext
  match a with
  | ⟨0, _⟩ => show win0_0.index t 0 * 512 + 1 * r.val = _; rw [(index0 t).1]; simp; omega
  | ⟨1, _⟩ => show win0_0.index t 1 * 256 + 1 * j.val = _; rw [(index0 t).2]; simp; omega

theorem block1 (t : Fin cfg0.N) (κ : Fin 2048) (j : Fin 256) :
    (iblk m c 1 t : Vec Ideal S2048x256 .bf16) (ix2 κ j)
      = padded (m ((c : Thread nD τ).loc main_arg1)) (ix2 ⟨2048 * (seqOf t).val + κ, by omega⟩ ⟨256 * (pairOf t).val + j, by omega⟩) := by
  unfold iblk
  rw [View.read_apply, ← V_key]
  show V m c main_v7 _ = _
  congr 1
  funext a
  apply Fin.ext
  match a with
  | ⟨0, _⟩ => show win0_1.index t 0 * 2048 + 1 * κ.val = _; rw [(index1 t).1]; simp; omega
  | ⟨1, _⟩ => show win0_1.index t 1 * 256 + 1 * j.val = _; rw [(index1 t).2]; simp; omega

theorem block2 (t : Fin cfg0.N) (κ : Fin 2048) (j : Fin 128) :
    (iblk m c 2 t : Vec Ideal S2048x128 .bf16) (ix2 κ j)
      = rows (m ((c : Thread nD τ).loc main_arg2)) (ix2 ⟨2048 * (seqOf t).val + κ, by omega⟩ ⟨128 * (pairOf t).val + j, by omega⟩) := by
  unfold iblk
  rw [View.read_apply, ← V_value]
  show V m c main_v9 _ = _
  congr 1
  funext a
  apply Fin.ext
  match a with
  | ⟨0, _⟩ => show win0_2.index t 0 * 2048 + 1 * κ.val = _; rw [(index2 t).1]; simp; omega
  | ⟨1, _⟩ => show win0_2.index t 1 * 128 + 1 * j.val = _; rw [(index2 t).2]; simp; omega

/-- The point that writes an element of the result. -/
def pointOf (i : S65536x512.Idx) : Fin cfg0.N :=
  ⟨16 * ((i 0).val / 2048) + 4 * ((i 1).val / 128) + (i 0).val / 512 % 4, by
    have h0 : (i 0).val < 65536 := (i 0).isLt
    have h1 : (i 1).val < 512 := (i 1).isLt
    show _ < 512
    omega⟩

theorem coords_val : ∀ t : Fin cfg0.N, (seqOf t).val = t.val / 16 ∧ (pairOf t).val = t.val / 4 % 4 ∧ (blockOf t).val = t.val % 4 := by
  decide +kernel

/-- The result array is `G`, when each point writes `G`'s block. -/
theorem array_eq (G : Vec Ideal S65536x512 .bf16)
    (h : ∀ (t : Fin cfg0.N) (r : Fin 512) (l : Fin 128),
      out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix2 r l)
        = G (ix2 ⟨512 * (4 * (seqOf t).val + (blockOf t).val) + r, by omega⟩ ⟨128 * (pairOf t).val + l, by omega⟩)) :
    (dats m 0 c).arrAt 3 cfg0.N = G := by
  refine (dats m 0 c).arrAt_eq_of_cover 3 G (fun t _ => ?_) fun i => ⟨pointOf i, flush0_3 _, ?_⟩
  · rw [Value.flushed3_A]
    funext j
    rw [View.read_apply]
    show out0_A_3 c (grid0.coords t) (ms0_0 t) (hs0_0 t) (ms0_1 t) (hs0_1 t) (ms0_2 t) (hs0_2 t) (ms0_3 t) (hs0_3 t)
        (iblk m c 0 t) (iblk m c 1 t) (iblk m c 2 t) j = G _
    have hj : (show S512x128.Idx from j) = (ix2 (show Fin 512 from j 0) (show Fin 128 from j 1) : S512x128.Idx) :=
      funext fun a => by match a with | ⟨0, _⟩ => rfl | ⟨1, _⟩ => rfl
    refine (congrArg _ hj).trans ((h t (j 0) (j 1)).trans (congrArg G ?_))
    funext a
    apply Fin.ext
    match a with
    | ⟨0, _⟩ => show _ = win0_3.index t 0 * 512 + 1 * (j 0).val; rw [(index3 t).1]; simp; omega
    | ⟨1, _⟩ => show _ = win0_3.index t 1 * 128 + 1 * (j 1).val; rw [(index3 t).2]; simp; omega
  · show i ∈ ((View.whole main_v10).slice (win0_3.rect (pointOf i))).set
    rw [View.set_slice_whole, Rect.mem_set_unit]
    intro a
    have h0 : (i 0 : Nat) < 65536 := (i 0).isLt
    have h1 : (i 1 : Nat) < 512 := (i 1).isLt
    obtain ⟨e0, e1⟩ := index3 (pointOf i)
    obtain ⟨c0, c1, c2⟩ := coords_val (pointOf i)
    have hp : (pointOf i).val = 16 * ((i 0).val / 2048) + 4 * ((i 1).val / 128) + (i 0).val / 512 % 4 := rfl
    match a with
    | ⟨0, _⟩ =>
      show win0_3.index (pointOf i) 0 * 512 ≤ (i 0 : Nat) ∧ (i 0 : Nat) < win0_3.index (pointOf i) 0 * 512 + 512
      omega
    | ⟨1, _⟩ =>
      show win0_3.index (pointOf i) 1 * 128 ≤ (i 1 : Nat) ∧ (i 1 : Nat) < win0_3.index (pointOf i) 1 * 128 + 128
      omega

end Cert.Attention

end
-- ==== Proof.Ref.lean ====
/- Hand-written, untrusted: THE ATTENTION REFERENCE READ AT AN INDEX. Its masked scores (`score_apply`), their row maximum, the
   row's sum of exponentials, and the result's element: the values weighted by the softmax of the row (`result_apply`). -/
module

public import proofs.«01_k».proof.Proof.Gen.ReferenceIdeal.Read
public import proofs.«01_k».proof.Proof.Online
public import Idealize.ShloMosaic.Lib.Pointwise
public import Idealize.ShloMosaic.Lib.IdealHost
public import Idealize.ShloMosaic.Lib.WordCmp

@[expose] public section
set_option maxRecDepth 16384
noncomputable section
namespace Cert.Attention.Ref

open Idealize.ShloMosaic Cert.ReferenceIdeal Cert.ReferenceIdeal.Gen Cert.ReferenceIdeal.Read

theorem max_apply (x0 x1 : (⟨S32x2048x8x96, .f32⟩ : BufTy).Contents (Elt Ideal)) (b : Fin 32) (h : Fin 8) (q : Fin 2048) :
    val_main_v11 (F := Ideal) x0 x1 (ix3 b h q)
      = Finset.fold max (Ideal.ofBits .f32 0xFF800000#32) (fun κ => val_main_v10 (F := Ideal) x0 x1 (ix4 b h q κ)) Finset.univ := by
  unfold val_main_v11
  generalize val_main_v10 (F := Ideal) x0 x1 = y
  pointwise [val_main_cst_1]

theorem shift_apply (x0 x1 : (⟨S32x2048x8x96, .f32⟩ : BufTy).Contents (Elt Ideal)) (b : Fin 32) (h : Fin 8) (q κ : Fin 2048) :
    val_main_v15 (F := Ideal) x0 x1 (ix4 b h q κ) = max (Ideal.ofBits .f32 0xFF800000#32) (val_main_v11 (F := Ideal) x0 x1 (ix3 b h q)) := by
  rw [val_main_v15_apply, val_main_v14_apply, val_main_v13_apply, val_main_v12_apply, val_main_cst_2_apply]
  exact congrArg (fun j => max (Ideal.ofBits .f32 0xFF800000#32) (val_main_v11 (F := Ideal) x0 x1 j))
    (funext fun a => by match a with | ⟨0, _⟩ => rfl | ⟨1, _⟩ => rfl | ⟨2, _⟩ => rfl)

theorem total_apply (x0 x1 : (⟨S32x2048x8x96, .f32⟩ : BufTy).Contents (Elt Ideal)) (b : Fin 32) (h : Fin 8) (q κ : Fin 2048) :
    val_main_v20 (F := Ideal) x0 x1 (ix4 b h q κ) = ∑ κ, val_main_v17 (F := Ideal) x0 x1 (ix4 b h q κ) := by
  rw [val_main_v20_apply, val_main_v19_apply, val_main_v18_apply, val_main_cst_3_apply]
  refine (congrArg (· + _) (by simp [Ideal.ofBits, Ideal.ieee] : (Ideal.ofBits .f32 0#32 : EReal) = 0)).trans ((zero_add _).trans ?_)
  exact Finset.sum_congr rfl fun k _ => congrArg (val_main_v17 (F := Ideal) x0 x1)
    (funext fun a => by match a with | ⟨0, _⟩ => rfl | ⟨1, _⟩ => rfl | ⟨2, _⟩ => rfl | ⟨3, _⟩ => rfl)

theorem score_apply (x0 x1 : (⟨S32x2048x8x96, .f32⟩ : BufTy).Contents (Elt Ideal)) (b : Fin 32) (h : Fin 8) (q κ : Fin 2048) :
    val_main_v10 (F := Ideal) x0 x1 (ix4 b h q κ)
      = if κ.val ≤ q.val then (∑ d : Fin 96, x0 (ix4 b q h d) * x1 (ix4 b κ h d)) * Ideal.ofBits .f32 0x3DD105EC#32 else ⊥ := by
  have e : val_main_v10 (F := Ideal) x0 x1 (ix4 b h q κ)
      = Scalar.select (IntOp.cmpi .sge (BitVec.ofNat 32 q.val) (BitVec.ofNat 32 κ.val))
        ((∑ d : Fin 96, x0 (ix4 b q h d) * x1 (ix4 b κ h d)) * Ideal.ofBits .f32 0x3DD105EC#32) (Ideal.ofBits .f32 0xFF800000#32) := by
    pointwise [val_main_v10, val_main_v0, val_main_v1, val_main_v2, val_main_v3, val_main_v4, val_main_v5, val_main_v6, val_main_v7,
      val_main_v8, val_main_v9, val_main_cst, val_main_cst_0, val_main_call0_v0, val_main_call0_v1, val_main_call0_v2]
    rfl
  rw [e, WordCmp.cmpi_sge_ofNat (a := q.val) (b := κ.val) (by omega) (by omega), WordCmp.select_ofBool,
    show (Ideal.ofBits .f32 0xFF800000#32 : EReal) = ⊥ by simp [Ideal.ofBits, Ideal.ieee]]
  simp only [decide_eq_true_eq]

theorem values_apply (x0 x1 : (⟨S32x2048x8x96, .f32⟩ : BufTy).Contents (Elt Ideal)) x2 (R : Fin 65536) (C : Fin 512) :
    val_main_v25 (F := Ideal) x0 x1 x2 (ix2 R C)
      = ∑ κ, x2 (ix4 ⟨R / 2048, by omega⟩ κ ⟨C / 64, by omega⟩ ⟨C % 64, by omega⟩)
          * val_main_v21 (F := Ideal) x0 x1 (ix4 ⟨R / 2048, by omega⟩ ⟨C / 64, by omega⟩ ⟨R % 2048, by omega⟩ κ) := by
  unfold val_main_v25 val_main_v24 val_main_v23 val_main_v22
  generalize val_main_v21 (F := Ideal) x0 x1 = y
  pointwise []

theorem result_apply (x0 x1 : (⟨S32x2048x8x96, .f32⟩ : BufTy).Contents (Elt Ideal)) (x2 : (⟨S32x2048x8x64, .f32⟩ : BufTy).Contents (Elt Ideal))
    (R : Fin 65536) (C : Fin 512) (S : ℕ → EReal) (W : ℕ → EReal)
    (hS : ∀ κ : Fin 2048, S κ = val_main_v10 (F := Ideal) x0 x1 (ix4 ⟨R / 2048, by omega⟩ ⟨C / 64, by omega⟩ ⟨R % 2048, by omega⟩ κ))
    (hW : ∀ κ : Fin 2048, W κ = x2 (ix4 ⟨R / 2048, by omega⟩ κ ⟨C / 64, by omega⟩ ⟨C % 64, by omega⟩)) :
    val_main_v25 (F := Ideal) x0 x1 x2 (ix2 R C)
      = ∑ κ ∈ Finset.range 2048, Ideal.div (Ideal.exp (S κ - top S 2048))
          (∑ κ' ∈ Finset.range 2048, Ideal.exp (S κ' - top S 2048)) * W κ := by
  have hbot : (Ideal.ofBits .f32 0xFF800000#32 : EReal) = ⊥ := by simp [Ideal.ofBits, Ideal.ieee]
  have htop : ∀ κ, val_main_v15 (F := Ideal) x0 x1 (ix4 ⟨R / 2048, by omega⟩ ⟨C / 64, by omega⟩ ⟨R % 2048, by omega⟩ κ) = top S 2048 := fun κ => by
    rw [shift_apply, max_apply, hbot, show top S 2048 = (Finset.range 2048).sup S from rfl,
      show Finset.range 2048 = (Finset.univ : Finset (Fin 2048)).map Fin.valEmbedding by ext k; simp [Fin.exists_iff, and_comm], Finset.sup_map]
    exact (max_eq_right bot_le).trans (Finset.sup_congr rfl fun j _ => (hS j).symm)
  have hexp : ∀ κ : Fin 2048, val_main_v17 (F := Ideal) x0 x1 (ix4 ⟨R / 2048, by omega⟩ ⟨C / 64, by omega⟩ ⟨R % 2048, by omega⟩ κ)
      = Ideal.exp (S κ - top S 2048) := fun κ => by
    rw [val_main_v17_apply, val_main_v16_apply, htop, ← hS]; rfl
  rw [values_apply, ← Fin.sum_univ_eq_sum_range (fun κ => Ideal.div (Ideal.exp (S κ - top S 2048))
          (∑ κ' ∈ Finset.range 2048, Ideal.exp (S κ' - top S 2048)) * W κ)]
  refine Finset.sum_congr rfl fun κ _ => ?_
  rw [val_main_v21_apply, total_apply, hexp, ← hW, mul_comm, ← Fin.sum_univ_eq_sum_range (fun κ' => Ideal.exp (S κ' - top S 2048))]
  exact congrArg (Ideal.div _ · * W κ) (Finset.sum_congr rfl fun κ' _ => hexp κ')

end Cert.Attention.Ref

end
-- ==== Proof.Equation.lean ====
/- Hand-written, untrusted: THE ATTENTION KERNEL'S RESULT IS THE REFERENCE'S, at finite queries and keys. A point's row of scores is the
   reference's row of scores (`row_eq`: the scale is nonnegative and moves out of the products' sum, the padded lanes give 0),
   and the quotient the kernel stores is the softmax-weighted sum of the values (`weight_div`). -/
module

public import proofs.«01_k».proof.Proof.Block
public import proofs.«01_k».proof.Proof.Array
public import proofs.«01_k».proof.Proof.Ref

@[expose] public section

set_option maxRecDepth 16384

noncomputable section

namespace Cert.Attention

open Idealize.ShloMosaic Cert.KernelIdeal Cert.KernelIdeal.Gen Idealize.ShloMosaic.TcCoe Idealize.SL.Sem

/-! ## Finite numbers -/

/-- A finite number. -/
def IsReal (x : EReal) : Prop := ∃ r : ℝ, (r : EReal) = x

theorem IsReal.mul {x y : EReal} : IsReal x → IsReal y → IsReal (x * y)
  | ⟨a, ha⟩, ⟨b, hb⟩ => ⟨a * b, by rw [EReal.coe_mul, ha, hb]⟩

theorem IsReal.sum {ι : Type} (s : Finset ι) (f : ι → EReal) (h : ∀ i, IsReal (f i)) : IsReal (∑ i ∈ s, f i) :=
  Finset.sum_induction f IsReal (fun _ _ ⟨a, ha⟩ ⟨b, hb⟩ => ⟨a + b, by rw [EReal.coe_add, ha, hb]⟩) ⟨0, rfl⟩ fun i _ => h i

theorem IsReal.ne_top {x : EReal} : IsReal x → x ≠ ⊤
  | ⟨a, ha⟩ => ha ▸ EReal.coe_ne_top a

theorem IsReal.ne_bot {x : EReal} : IsReal x → x ≠ ⊥
  | ⟨a, ha⟩ => ha ▸ EReal.coe_ne_bot a

theorem scale_real : ∃ s : ℝ, 0 ≤ s ∧ (s : EReal) = Ideal.ofBits .f32 0x3DD105EC#32 := by
  refine ⟨_, ?_, by simp [Ideal.ofBits, Ideal.ieee]; rfl⟩
  positivity

/-! ## A row of scores -/

/-- 128 lanes of which the last 32 give 0. -/
theorem sum_padded (f : Fin 128 → EReal) (g : Fin 96 → EReal) (h0 : ∀ d : Fin 128, 96 ≤ d.val → f d = 0)
    (h1 : ∀ d : Fin 96, f ⟨d, by omega⟩ = g d) : ∑ d, f d = ∑ d, g d := by
  refine (Fin.sum_univ_add (a := 96) (b := 32) f).trans ?_
  rw [Finset.sum_eq_zero (f := fun i : Fin 32 => f (Fin.natAdd 96 i)) fun i _ => h0 _ (by simp), add_zero]
  exact Finset.sum_congr rfl fun d _ => h1 d

section
variable (m : (ℓ : Loc nD τ sig) → Buf (Elt Ideal) ℓ) (c : Dev nD)
variable (hq : ∀ i, IsReal (m ((c : Thread nD τ).loc main_arg0) i)) (hk : ∀ i, IsReal (m ((c : Thread nD τ).loc main_arg1) i))

/-- The queries and the keys. -/
abbrev query : S32x2048x8x96.Idx → EReal := m ((c : Thread nD τ).loc main_arg0)
abbrev key : S32x2048x8x96.Idx → EReal := m ((c : Thread nD τ).loc main_arg1)

/-- The head of the reference that a head of the point's pair is. -/
abbrev headOf (t : Fin cfg0.N) (h : Fin 2) : Fin 8 := ⟨2 * (pairOf t).val + h, by omega⟩

/-- A point's score is the reference's: the scaled products of 96 lanes. -/
theorem score_ref (t : Fin cfg0.N) (h : Fin 2) (r : Fin 512) (κ : Fin 2048) :
    score (iblk m c 0 t) (iblk m c 1 t) h r κ
      = (∑ d : Fin 96, query m c (ix4 (seqOf t) ⟨512 * (blockOf t).val + r, by omega⟩ (headOf t h) d) * key m c (ix4 (seqOf t) κ (headOf t h) d)) * Ideal.ofBits .f32 0x3DD105EC#32 := by
  obtain ⟨s, hs, es⟩ := scale_real
  rw [← es, sum_mul_of_nonneg _ _ (by exact_mod_cast hs) (EReal.coe_ne_top s), es]
  unfold score
  have hs2 : ∀ d : Fin 128, d.val < 96 → (256 * (pairOf t).val + (128 * h.val + d.val)) % 128 = d.val := fun d _ => by omega
  refine sum_padded _ _ (fun d hd => ?_) (fun d => ?_)
  · rw [block0, padded_apply, dif_neg (by simp only []; omega), zero_mul]
  · rw [block0, block1, padded_apply, padded_apply, dif_pos (by simp only []; omega), dif_pos (by simp only []; omega), mul_right_comm,
      ← scaled_apply]
    congr 1
    · congr 1; funext a; apply Fin.ext
      match a with
      | ⟨0, _⟩ => simp; omega
      | ⟨1, _⟩ => simp; omega
      | ⟨2, _⟩ => simp; omega
      | ⟨3, _⟩ => simp; omega
    · congr 1; funext a; apply Fin.ext
      match a with
      | ⟨0, _⟩ => simp <;> omega
      | ⟨1, _⟩ => simp <;> omega
      | ⟨2, _⟩ => simp; omega
      | ⟨3, _⟩ => simp; omega

include hq hk in
theorem score_real (t : Fin cfg0.N) (h : Fin 2) (r : Fin 512) (κ : Fin 2048) : IsReal (score (iblk m c 0 t) (iblk m c 1 t) h r κ) := by
  obtain ⟨s, -, es⟩ := scale_real
  rw [score_ref]
  exact (IsReal.sum _ _ fun d => (hq _).mul (hk _)).mul ⟨s, es⟩

include hq hk in
/-- The kernel's result array is the reference's. -/
theorem result_eq : (dats m 0 c).arrAt 3 cfg0.N
    = Cert.ReferenceIdeal.Read.val_main_v25 (F := Ideal) (m ((c : Thread nD τ).loc main_arg0)) (m ((c : Thread nD τ).loc main_arg1))
        (m ((c : Thread nD τ).loc main_arg2)) := by
  refine array_eq m c _ fun t r l => ?_
  have hS : ∀ o h r κ, rowS (iblk m c 0 t) (iblk m c 1 t) o h r κ ≠ ⊤ := fun o h r κ => by
    unfold rowS
    split
    · exact (score_real m c hq hk t h r _).ne_top
    · exact bot_ne_top
  refine (out_apply _ _ _ _ _ _ _ _ _ _ _ _ _ hS r l).trans ?_
  show Ideal.div (weight (rowS _ _ (512 * (blockOf t).val) _ _) _ (512 * (blockOf t).val + 512)) (weight (rowS _ _ (512 * (blockOf t).val) _ _) _ (512 * (blockOf t).val + 512)) = _
  rw [weight_div (hS _ _ r) (N := 2048) (by omega)
    (fun κ hκ => by unfold rowS; rw [dif_neg (by omega)]) (κ₀ := 512 * (blockOf t).val + r) (by omega)
    (by unfold rowS; rw [dif_pos ⟨by omega, by omega⟩]; exact (score_real m c hq hk t _ r _).ne_bot)]
  refine (Ref.result_apply _ _ _ _ _ _ _ (fun κ => ?_) (fun κ => ?_)).symm
  · have hh : (⟨(128 * (pairOf t).val + l.val) / 64, by omega⟩ : Fin 8) = headOf t (laneHead l) := by
      apply Fin.ext
      unfold laneHead
      split <;> simp <;> omega
    rw [Ref.score_apply]
    by_cases hc : κ.val ≤ 512 * (blockOf t).val + r.val
    · rw [rowS, dif_pos ⟨hc, κ.isLt⟩, if_pos (by simp only []; omega), score_ref, ← hh]
      congr 1
      refine Finset.sum_congr rfl fun d _ => ?_
      refine congrArg₂ (· * ·) (show query m c _ = query m c _ from ?_) (show key m c _ = key m c _ from ?_)
      all_goals
        congr 1; funext a; apply Fin.ext
        match a with
        | ⟨0, _⟩ => simp <;> omega
        | ⟨1, _⟩ => simp <;> omega
        | ⟨2, _⟩ => simp <;> omega
        | ⟨3, _⟩ => simp
    · rw [rowS, dif_neg fun h => hc h.1, if_neg (by simp only []; omega)]
  · rw [rowW, dif_pos κ.isLt, block2, rows_apply]
    congr 1; funext a; apply Fin.ext
    match a with
    | ⟨0, _⟩ => simp; omega
    | ⟨1, _⟩ => simp <;> omega
    | ⟨2, _⟩ => simp
    | ⟨3, _⟩ => simp

end

end Cert.Attention

end
-- ==== Proof.AttentionClaim.lean ====
/- Hand-written, untrusted: THE CLAIMS ABOUT THE ATTENTION. The frames of its programs, the preservation of the kernel under its named
   mask, and the equation of the two results at finite queries and keys. -/
module

public import proofs.«01_k».proof.Defs
public import proofs.«01_k».proof.Proof.Equation
public import proofs.«01_k».proof.Proof.Gen.Kernel.Frame
public import proofs.«01_k».proof.Proof.Gen.Pre_finite
public import proofs.«01_k».proof.Proof.Gen.KernelIdeal.Frame
public import Idealize.ShloMosaic.Adequacy
public import Idealize.ShloMosaic.Init

@[expose] public section

noncomputable section

namespace Cert.Attention

open Idealize.ShloMosaic Idealize.SL.Sem

/-- Where the absolute value is below ⊤, the number is finite. -/
theorem real_of_abs_lt {x : EReal} (h : max x (-x) < ⊤) : IsReal x := by
  induction x with
  | bot => simp at h
  | coe r => exact ⟨r, rfl⟩
  | top => simp at h

/-- What the precondition says of one entry of the queries and of the keys. -/
theorem real_of_finite (q k : FVec Ideal Cert.Pre_finite.S32x2048x8x96 .f32) (v : FVec Ideal Cert.Pre_finite.S32x2048x8x64 .f32)
    (h : Cert.Pre_finite.fn (F := Ideal) q k v = fun _ => 1#1) (i : Cert.Pre_finite.S32x2048x8x96.Idx) :
    IsReal (q i) ∧ IsReal (k i) := by
  have below : ∀ x : EReal, (FloatOps.cmpf (F := Ideal) (φ := .f32) .olt (max x (-x)) (Ideal.ofBits .f32 0x7F800000#32) : BitVec 1) = 1#1
      → IsReal x := fun x hx => by
    rw [show Ideal.ofBits .f32 0x7F800000#32 = (⊤ : EReal) by simp [Ideal.ofBits, Ideal.ieee]] at hx
    refine real_of_abs_lt (lt_of_not_ge fun hn => ?_)
    have : BitVec.ofBool (decide (max x (-x) < ⊤)) = 1#1 := hx
    rw [decide_eq_false (not_lt.mpr hn)] at this
    exact absurd this (by decide)
  have both : ∀ a b : BitVec 1, IntOp.andi a b = 1#1 → a = 1#1 ∧ b = 1#1 := by decide
  obtain ⟨hq, hk⟩ := both _ _ (congrFun h i)
  exact ⟨below _ hq, below _ hk⟩

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m g m' g' hpre hm
  refine ⟨fun c => (Cert.KernelIdeal.Gen.dats m 0 c).arrAt 3 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  obtain ⟨h0, h1, h2⟩ := hm c
  have hr := real_of_finite _ _ _ (hpre c)
  refine Eq.trans ?_ (result_eq m c (fun i => (hr i).1) fun i => (hr i).2).symm
  rw [Cert.ReferenceIdeal.Read.val_main_v25_eq, h0, h1, h2]

end Cert.Attention

end
-- ==== Proof.ConfTaps.lean ====
/- Hand-written, untrusted: THE TAPS OF THE CONFORMER'S DEPTHWISE CONVOLUTION. A grid point holds 296 rows: the 32 before its
   tile, the tile's 256, and 8 unused. Each of the eight blocks of 128 channels copies the rows eight times, one row further each time,
   and adds the 31 weighted rows from those copies; the sum is `taps`, whatever the order. -/
module

public import proofs.«01_k».proof.Proof.Gen.ConformerIdeal.Frame
public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.WritesUnit
public import Idealize.ShloMosaic.Lib.Tactic

@[expose] public section

set_option maxRecDepth 16384

noncomputable section

namespace Cert.Conf

open Idealize.ShloMosaic Cert.ConformerIdeal Cert.ConformerIdeal.Gen Idealize.ShloMosaic.TcCoe Idealize.SL.Sem

/-- Entry `(i, k)` of a matrix, 0 outside it. -/
def at2 {m n : ℕ} (X : (⟨2, ![m, n]⟩ : Shape).Idx → EReal) (i k : ℕ) : EReal :=
  if h : i < m ∧ k < n then X (ix2 ⟨i, h.1⟩ ⟨k, h.2⟩) else 0

theorem at2_eq {m n : ℕ} (X : (⟨2, ![m, n]⟩ : Shape).Idx → EReal) (i : Fin m) (k : Fin n) : at2 X i k = X (ix2 i k) :=
  dif_pos ⟨i.2, k.2⟩

/-- A load of 256 rows from row `o` of a plane just written reads the plane's payload. -/
theorem tap_read (v : View sig .tc .vmem S8x288x128 .f32) (r o : ℕ)
    (inb : ∀ a, (![r, 0, 0] : Fin 3 → ℕ) a + (![1, 288, 128] : Fin 3 → ℕ) a ≤ S8x288x128.size a)
    (inb' : ∀ a, (![r, o, 0] : Fin 3 → ℕ) a + (![1, 256, 128] : Fin 3 → ℕ) a ≤ S8x288x128.size a) (w : FVec Ideal S1x288x128 .f32)
    (L : List (View.Piece (Elt Ideal) S8x288x128 .f32)) (j : Fin 256) (l : Fin 128) :
    v.readCov ((⟨Rect.unit (s := S8x288x128) ![r, 0, 0] ![1, 288, 128] inb, w⟩ : View.Piece (Elt Ideal) S8x288x128 .f32) :: L)
        (Rect.unit (s := S8x288x128) ![r, o, 0] ![1, 256, 128] inb').toLoadRect (ix3 (0 : Fin 1) j l : S1x256x128.Idx)
      = w (ix3 (0 : Fin 1) ⟨o + j, by have h := inb' 1; change o + 256 ≤ 288 at h; omega⟩ l : S1x288x128.Idx) := by
  have h := inb' 1
  change o + 256 ≤ 288 at h
  refine View.read_writes_cons_unit_of_mem v v.junk (off := ![r, 0, 0]) (off' := ![r, 0, 0]) (size := ![1, 288, 128]) inb w L
    ((Rect.unit (s := S8x288x128) ![r, o, 0] ![1, 256, 128] inb').toLoadRect.idx (ix3 (0 : Fin 1) j l : S1x256x128.Idx))
    (ix3 (0 : Fin 1) ⟨o + j, by omega⟩ l : S1x288x128.Idx) rfl ?_
  intro a
  match a with
  | ⟨0, _⟩ => show r + 1 * 0 = r + 0; omega
  | ⟨1, _⟩ => show o + 1 * j.val = 0 + (o + j.val); omega
  | ⟨2, _⟩ => show 0 + 1 * l.val = 0 + l.val; omega

/-- A load of 288 rows and 128 lanes of the held rows. -/
theorem row_at (v : View sig .tc .vmem S296x1024 .f32) (f : v.ty.Contents (Elt Ideal)) (r o : ℕ)
    (inb : ∀ a, (![r, o] : Fin 2 → ℕ) a + (![288, 128] : Fin 2 → ℕ) a ≤ S296x1024.size a) (j : Fin 288) (l : Fin 128) :
    View.readAt (Elt Ideal) v (Rect.unit (s := S296x1024) ![r, o] ![288, 128] inb).toLoadRect f (ix2 j l : S288x128.Idx)
      = at2 (v.read (Elt Ideal) f) (r + j) (o + l) := by
  have h0 := inb 0
  have h1 := inb 1
  simp at h0 h1
  rw [at2, dif_pos ⟨by omega, by omega⟩]
  show v.read (Elt Ideal) f _ = _
  congr 1
  funext a
  apply Fin.ext
  match a with
  | ⟨0, _⟩ => show r + 1 * j.val = r + j.val; omega
  | ⟨1, _⟩ => show o + 1 * l.val = o + l.val; omega

/-- The same, of rows all stored by the grid point itself. -/
theorem row_cov (v : View sig .tc .vmem S296x1024 .f32) (L : List (View.Piece (Elt Ideal) S296x1024 .f32)) (r o : ℕ)
    (inb : ∀ a, (![r, o] : Fin 2 → ℕ) a + (![288, 128] : Fin 2 → ℕ) a ≤ S296x1024.size a) (j : Fin 288) (l : Fin 128) :
    v.readCov L (Rect.unit (s := S296x1024) ![r, o] ![288, 128] inb).toLoadRect (ix2 j l : S288x128.Idx)
      = at2 (v.read (Elt Ideal) (v.writes (Elt Ideal) v.junk L)) (r + j) (o + l) :=
  row_at v _ r o inb j l

/-- A load of 128 lanes of one tap's weights. -/
theorem weight_at (v : View sig .tc .vmem S31x1024 .f32) (f : v.ty.Contents (Elt Ideal)) (k o : ℕ)
    (inb : ∀ a, (![k, o] : Fin 2 → ℕ) a + (![1, 128] : Fin 2 → ℕ) a ≤ S31x1024.size a) (l : Fin 128) :
    View.readAt (Elt Ideal) v (Rect.unit (s := S31x1024) ![k, o] ![1, 128] inb).toLoadRect f (ix2 (0 : Fin 1) l : S1x128.Idx)
      = at2 (v.read (Elt Ideal) f) k (o + l) := by
  have h0 := inb 0
  have h1 := inb 1
  simp at h0 h1
  rw [at2, dif_pos ⟨by omega, by omega⟩]
  show v.read (Elt Ideal) f _ = _
  congr 1
  funext a
  apply Fin.ext
  match a with
  | ⟨0, _⟩ => show k + 1 * 0 = k; omega
  | ⟨1, _⟩ => show o + 1 * l.val = o + l.val; omega

/-- The 31 taps of a row: the row's own and the 30 before it, each by its weight. -/
def taps (Z : (⟨2, ![296, 1024]⟩ : Shape).Idx → EReal) (x4 : Vec Ideal S31x1024 .f32) (j ch : ℕ) : EReal :=
  ∑ k ∈ Finset.range 31, at2 Z (2 + k + j) ch * at2 x4 k ch

section
variable (c : Dev nD) (arg2 : Memref sig .tc .vmem S256x1024 .f32) (h2 : arg2.IsWhole) (arg3 : Memref sig .tc .vmem S1x1024 .f32) (h3 : arg3.IsWhole)
  (arg4 : Memref sig .tc .vmem S1024x2048 .bf16) (h4 : arg4.IsWhole) (arg5 : Memref sig .tc .vmem S1x2048 .f32) (h5 : arg5.IsWhole)
  (arg6 : Memref sig .tc .vmem S31x1024 .f32) (h6 : arg6.IsWhole) (arg12 : Memref sig .tc .vmem S296x1024 .f32)
  (arg13 : Memref sig .tc .vmem S8x288x128 .f32)
  (x0 : Vec Ideal S256x1024 .f32) (x1 : Vec Ideal S1x1024 .f32) (x2 : Vec Ideal S1024x2048 .bf16) (x3 : Vec Ideal S1x2048 .f32)
  (x4 : Vec Ideal S31x1024 .f32)

/-- The rows held at a sequence's first tile, after the tile's own are stored. -/
def heldA : Vec Ideal S296x1024 .f32 :=
  arg12.view.read (Elt Ideal) (arg12.view.writes (Elt Ideal) arg12.view.junk (kernelRun0_A.sl.HS0_3 c arg2 h2 arg3 h3 arg4 h4 arg5 h5 x0 x1 x2 x3))

set_option maxHeartbeats 4000000 in
/-- The taps of channels 0 to 127. -/
theorem colA_0 (j : Fin 256) (l : Fin 128) :
    kernelRun0_A.sl.r_11 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j l := by
  unfold kernelRun0_A.sl.r_11 kernelRun0_A.sl.r_10 kernelRun0_A.sl.r_9 kernelRun0_A.sl.r_8 kernelRun0_A.sl.r_7 kernelRun0_A.sl.r_6 kernelRun0_A.sl.r_5
    kernelRun0_A.sl.r_4 kernelRun0_A.sl.r_3 kernelRun0_A.sl.r_2 kernelRun0_A.sl.r_1
  pointwise [k0_pay6, k0_pay8, k0_pay11, k0_pay12, k0_pay14, k0_pay16, k0_pay17, k0_pay19, k0_pay21, k0_pay22, k0_pay24]
  simp only [kernelRun0_A.sl.v39, kernelRun0_A.sl.v45, kernelRun0_A.sl.v51, kernelRun0_A.sl.v57, kernelRun0_A.sl.v67, kernelRun0_A.sl.v73, kernelRun0_A.sl.v79,
    kernelRun0_A.sl.v89, kernelRun0_A.sl.v95, kernelRun0_A.sl.v101, kernelRun0_A.sl.v107, kernelRun0_A.sl.v117, kernelRun0_A.sl.v123, kernelRun0_A.sl.v129,
    kernelRun0_A.sl.v135, kernelRun0_A.sl.v145, kernelRun0_A.sl.v151, kernelRun0_A.sl.v157, kernelRun0_A.sl.v163, kernelRun0_A.sl.v173, kernelRun0_A.sl.v179,
    kernelRun0_A.sl.v185, kernelRun0_A.sl.v191, kernelRun0_A.sl.v201, kernelRun0_A.sl.v207, kernelRun0_A.sl.v213, kernelRun0_A.sl.v219, kernelRun0_A.sl.v229,
    kernelRun0_A.sl.v235, kernelRun0_A.sl.v241, kernelRun0_A.sl.v247, kernelRun0_A.sl.v35, kernelRun0_A.sl.v63, kernelRun0_A.sl.v85, kernelRun0_A.sl.v113,
    kernelRun0_A.sl.v141, kernelRun0_A.sl.v169, kernelRun0_A.sl.v197, kernelRun0_A.sl.v225, kernelRun0_A.sl.HS1_1, kernelRun0_A.sl.HS1_2, kernelRun0_A.sl.HS1_3,
    kernelRun0_A.sl.HS1_4, kernelRun0_A.sl.HS1_5, kernelRun0_A.sl.HS1_6, kernelRun0_A.sl.HS1_7, kernelRun0_A.sl.HS1_8,
    ↓tap_read, weight_at, h6.read_unread]
  pointwise [k0_pay7, k0_pay9, k0_pay10, k0_pay13, k0_pay15, k0_pay18, k0_pay20, k0_pay23]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 128 to 255. -/
theorem colA_1 (j : Fin 256) (l : Fin 128) :
    kernelRun0_A.sl.r_22 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (128 + l) := by
  unfold kernelRun0_A.sl.r_22 kernelRun0_A.sl.r_21 kernelRun0_A.sl.r_20 kernelRun0_A.sl.r_19 kernelRun0_A.sl.r_18 kernelRun0_A.sl.r_17 kernelRun0_A.sl.r_16
    kernelRun0_A.sl.r_15 kernelRun0_A.sl.r_14 kernelRun0_A.sl.r_13 kernelRun0_A.sl.r_12
  pointwise [k0_pay25, k0_pay27, k0_pay30, k0_pay32, k0_pay33, k0_pay34, k0_pay36, k0_pay38, k0_pay39, k0_pay41, k0_pay42, k0_pay44]
  simp only [kernelRun0_A.sl.v258, kernelRun0_A.sl.v264, kernelRun0_A.sl.v270, kernelRun0_A.sl.v276, kernelRun0_A.sl.v286, kernelRun0_A.sl.v292, kernelRun0_A.sl.v298,
    kernelRun0_A.sl.v308, kernelRun0_A.sl.v314, kernelRun0_A.sl.v320, kernelRun0_A.sl.v326, kernelRun0_A.sl.v336, kernelRun0_A.sl.v342, kernelRun0_A.sl.v348,
    kernelRun0_A.sl.v354, kernelRun0_A.sl.v364, kernelRun0_A.sl.v370, kernelRun0_A.sl.v376, kernelRun0_A.sl.v382, kernelRun0_A.sl.v392, kernelRun0_A.sl.v398,
    kernelRun0_A.sl.v404, kernelRun0_A.sl.v410, kernelRun0_A.sl.v420, kernelRun0_A.sl.v426, kernelRun0_A.sl.v432, kernelRun0_A.sl.v438, kernelRun0_A.sl.v448,
    kernelRun0_A.sl.v454, kernelRun0_A.sl.v460, kernelRun0_A.sl.v466, kernelRun0_A.sl.v254, kernelRun0_A.sl.v282, kernelRun0_A.sl.v304, kernelRun0_A.sl.v332,
    kernelRun0_A.sl.v360, kernelRun0_A.sl.v388, kernelRun0_A.sl.v416, kernelRun0_A.sl.v444, kernelRun0_A.sl.HS1_9, kernelRun0_A.sl.HS1_10, kernelRun0_A.sl.HS1_11,
    kernelRun0_A.sl.HS1_12, kernelRun0_A.sl.HS1_13, kernelRun0_A.sl.HS1_14, kernelRun0_A.sl.HS1_15, kernelRun0_A.sl.HS1_16,
    ↓tap_read, weight_at, h6.read_unread]
  pointwise [k0_pay26, k0_pay28, k0_pay29, k0_pay31, k0_pay35, k0_pay37, k0_pay40, k0_pay43]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 256 to 383. -/
theorem colA_2 (j : Fin 256) (l : Fin 128) :
    kernelRun0_A.sl.r_34 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (256 + l) := by
  unfold kernelRun0_A.sl.r_34 kernelRun0_A.sl.r_33 kernelRun0_A.sl.r_32 kernelRun0_A.sl.r_31 kernelRun0_A.sl.r_30 kernelRun0_A.sl.r_29 kernelRun0_A.sl.r_28
    kernelRun0_A.sl.r_27 kernelRun0_A.sl.r_26 kernelRun0_A.sl.r_25 kernelRun0_A.sl.r_24 kernelRun0_A.sl.r_23
  pointwise [k0_pay46, k0_pay49, k0_pay51, k0_pay52, k0_pay54, k0_pay56, k0_pay57, k0_pay59, k0_pay61, k0_pay62, k0_pay63]
  simp only [kernelRun0_A.sl.v477, kernelRun0_A.sl.v483, kernelRun0_A.sl.v489, kernelRun0_A.sl.v495, kernelRun0_A.sl.v505, kernelRun0_A.sl.v511, kernelRun0_A.sl.v517,
    kernelRun0_A.sl.v527, kernelRun0_A.sl.v533, kernelRun0_A.sl.v539, kernelRun0_A.sl.v545, kernelRun0_A.sl.v555, kernelRun0_A.sl.v561, kernelRun0_A.sl.v567,
    kernelRun0_A.sl.v573, kernelRun0_A.sl.v583, kernelRun0_A.sl.v589, kernelRun0_A.sl.v595, kernelRun0_A.sl.v601, kernelRun0_A.sl.v611, kernelRun0_A.sl.v617,
    kernelRun0_A.sl.v623, kernelRun0_A.sl.v629, kernelRun0_A.sl.v639, kernelRun0_A.sl.v645, kernelRun0_A.sl.v651, kernelRun0_A.sl.v657, kernelRun0_A.sl.v667,
    kernelRun0_A.sl.v673, kernelRun0_A.sl.v679, kernelRun0_A.sl.v685, kernelRun0_A.sl.v473, kernelRun0_A.sl.v501, kernelRun0_A.sl.v523, kernelRun0_A.sl.v551,
    kernelRun0_A.sl.v579, kernelRun0_A.sl.v607, kernelRun0_A.sl.v635, kernelRun0_A.sl.v663, kernelRun0_A.sl.HS1_17, kernelRun0_A.sl.HS1_18, kernelRun0_A.sl.HS1_19,
    kernelRun0_A.sl.HS1_20, kernelRun0_A.sl.HS1_21, kernelRun0_A.sl.HS1_22, kernelRun0_A.sl.HS1_23, kernelRun0_A.sl.HS1_24,
    ↓tap_read, weight_at, h6.read_unread]
  pointwise [k0_pay45, k0_pay47, k0_pay48, k0_pay50, k0_pay53, k0_pay55, k0_pay58, k0_pay60]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 384 to 511. -/
theorem colA_3 (j : Fin 256) (l : Fin 128) :
    kernelRun0_A.sl.r_48 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (384 + l) := by
  unfold kernelRun0_A.sl.r_48 kernelRun0_A.sl.r_47 kernelRun0_A.sl.r_46 kernelRun0_A.sl.r_45 kernelRun0_A.sl.r_44 kernelRun0_A.sl.r_43 kernelRun0_A.sl.r_42
    kernelRun0_A.sl.r_41 kernelRun0_A.sl.r_40 kernelRun0_A.sl.r_39 kernelRun0_A.sl.r_38 kernelRun0_A.sl.r_37 kernelRun0_A.sl.r_36 kernelRun0_A.sl.r_35
  pointwise [k0_pay65, k0_pay67, k0_pay69, k0_pay71, k0_pay73, k0_pay74, k0_pay75, k0_pay77, k0_pay79, k0_pay80, k0_pay82, k0_pay83, k0_pay84]
  simp only [kernelRun0_A.sl.v696, kernelRun0_A.sl.v702, kernelRun0_A.sl.v708, kernelRun0_A.sl.v714, kernelRun0_A.sl.v724, kernelRun0_A.sl.v730, kernelRun0_A.sl.v736,
    kernelRun0_A.sl.v746, kernelRun0_A.sl.v752, kernelRun0_A.sl.v758, kernelRun0_A.sl.v764, kernelRun0_A.sl.v774, kernelRun0_A.sl.v780, kernelRun0_A.sl.v786,
    kernelRun0_A.sl.v792, kernelRun0_A.sl.v802, kernelRun0_A.sl.v808, kernelRun0_A.sl.v814, kernelRun0_A.sl.v820, kernelRun0_A.sl.v830, kernelRun0_A.sl.v836,
    kernelRun0_A.sl.v842, kernelRun0_A.sl.v848, kernelRun0_A.sl.v858, kernelRun0_A.sl.v864, kernelRun0_A.sl.v870, kernelRun0_A.sl.v876, kernelRun0_A.sl.v886,
    kernelRun0_A.sl.v892, kernelRun0_A.sl.v898, kernelRun0_A.sl.v904, kernelRun0_A.sl.v692, kernelRun0_A.sl.v720, kernelRun0_A.sl.v742, kernelRun0_A.sl.v770,
    kernelRun0_A.sl.v798, kernelRun0_A.sl.v826, kernelRun0_A.sl.v854, kernelRun0_A.sl.v882, kernelRun0_A.sl.HS1_25, kernelRun0_A.sl.HS1_26, kernelRun0_A.sl.HS1_27,
    kernelRun0_A.sl.HS1_28, kernelRun0_A.sl.HS1_29, kernelRun0_A.sl.HS1_30, kernelRun0_A.sl.HS1_31, kernelRun0_A.sl.HS1_32,
    ↓tap_read, weight_at, h6.read_unread]
  pointwise [k0_pay64, k0_pay66, k0_pay68, k0_pay70, k0_pay72, k0_pay76, k0_pay78, k0_pay81]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 512 to 639. -/
theorem colA_4 (j : Fin 256) (l : Fin 128) :
    kernelRun0_A.sl.r_61 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (512 + l) := by
  unfold kernelRun0_A.sl.r_61 kernelRun0_A.sl.r_60 kernelRun0_A.sl.r_59 kernelRun0_A.sl.r_58 kernelRun0_A.sl.r_57 kernelRun0_A.sl.r_56 kernelRun0_A.sl.r_55
    kernelRun0_A.sl.r_54 kernelRun0_A.sl.r_53 kernelRun0_A.sl.r_52 kernelRun0_A.sl.r_51 kernelRun0_A.sl.r_50 kernelRun0_A.sl.r_49
  pointwise [k0_pay86, k0_pay87, k0_pay88, k0_pay90, k0_pay92, k0_pay94, k0_pay96, k0_pay97, k0_pay99, k0_pay101, k0_pay102, k0_pay104, k0_pay105]
  simp only [kernelRun0_A.sl.v915, kernelRun0_A.sl.v921, kernelRun0_A.sl.v927, kernelRun0_A.sl.v933, kernelRun0_A.sl.v943, kernelRun0_A.sl.v949, kernelRun0_A.sl.v955,
    kernelRun0_A.sl.v965, kernelRun0_A.sl.v971, kernelRun0_A.sl.v977, kernelRun0_A.sl.v983, kernelRun0_A.sl.v993, kernelRun0_A.sl.v999, kernelRun0_A.sl.v1005,
    kernelRun0_A.sl.v1011, kernelRun0_A.sl.v1021, kernelRun0_A.sl.v1027, kernelRun0_A.sl.v1033, kernelRun0_A.sl.v1039, kernelRun0_A.sl.v1049, kernelRun0_A.sl.v1055,
    kernelRun0_A.sl.v1061, kernelRun0_A.sl.v1067, kernelRun0_A.sl.v1077, kernelRun0_A.sl.v1083, kernelRun0_A.sl.v1089, kernelRun0_A.sl.v1095, kernelRun0_A.sl.v1105,
    kernelRun0_A.sl.v1111, kernelRun0_A.sl.v1117, kernelRun0_A.sl.v1123, kernelRun0_A.sl.v911, kernelRun0_A.sl.v939, kernelRun0_A.sl.v961, kernelRun0_A.sl.v989,
    kernelRun0_A.sl.v1017, kernelRun0_A.sl.v1045, kernelRun0_A.sl.v1073, kernelRun0_A.sl.v1101, kernelRun0_A.sl.HS1_33, kernelRun0_A.sl.HS1_34, kernelRun0_A.sl.HS1_35,
    kernelRun0_A.sl.HS1_36, kernelRun0_A.sl.HS1_37, kernelRun0_A.sl.HS1_38, kernelRun0_A.sl.HS1_39, kernelRun0_A.sl.HS1_40,
    ↓tap_read, weight_at, h6.read_unread]
  pointwise [k0_pay85, k0_pay89, k0_pay91, k0_pay93, k0_pay95, k0_pay98, k0_pay100, k0_pay103]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 640 to 767. -/
theorem colA_5 (j : Fin 256) (l : Fin 128) :
    kernelRun0_A.sl.r_75 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (640 + l) := by
  unfold kernelRun0_A.sl.r_75 kernelRun0_A.sl.r_74 kernelRun0_A.sl.r_73 kernelRun0_A.sl.r_72 kernelRun0_A.sl.r_71 kernelRun0_A.sl.r_70 kernelRun0_A.sl.r_69
    kernelRun0_A.sl.r_68 kernelRun0_A.sl.r_67 kernelRun0_A.sl.r_66 kernelRun0_A.sl.r_65 kernelRun0_A.sl.r_64 kernelRun0_A.sl.r_63 kernelRun0_A.sl.r_62
  pointwise [k0_pay107, k0_pay108, k0_pay110, k0_pay112, k0_pay114, k0_pay116, k0_pay118, k0_pay119, k0_pay120, k0_pay122, k0_pay124, k0_pay125, k0_pay126]
  simp only [kernelRun0_A.sl.v1134, kernelRun0_A.sl.v1140, kernelRun0_A.sl.v1146, kernelRun0_A.sl.v1152, kernelRun0_A.sl.v1162, kernelRun0_A.sl.v1168, kernelRun0_A.sl.v1174,
    kernelRun0_A.sl.v1184, kernelRun0_A.sl.v1190, kernelRun0_A.sl.v1196, kernelRun0_A.sl.v1202, kernelRun0_A.sl.v1212, kernelRun0_A.sl.v1218, kernelRun0_A.sl.v1224,
    kernelRun0_A.sl.v1230, kernelRun0_A.sl.v1240, kernelRun0_A.sl.v1246, kernelRun0_A.sl.v1252, kernelRun0_A.sl.v1258, kernelRun0_A.sl.v1268, kernelRun0_A.sl.v1274,
    kernelRun0_A.sl.v1280, kernelRun0_A.sl.v1286, kernelRun0_A.sl.v1296, kernelRun0_A.sl.v1302, kernelRun0_A.sl.v1308, kernelRun0_A.sl.v1314, kernelRun0_A.sl.v1324,
    kernelRun0_A.sl.v1330, kernelRun0_A.sl.v1336, kernelRun0_A.sl.v1342, kernelRun0_A.sl.v1130, kernelRun0_A.sl.v1158, kernelRun0_A.sl.v1180, kernelRun0_A.sl.v1208,
    kernelRun0_A.sl.v1236, kernelRun0_A.sl.v1264, kernelRun0_A.sl.v1292, kernelRun0_A.sl.v1320, kernelRun0_A.sl.HS1_41, kernelRun0_A.sl.HS1_42, kernelRun0_A.sl.HS1_43,
    kernelRun0_A.sl.HS1_44, kernelRun0_A.sl.HS1_45, kernelRun0_A.sl.HS1_46, kernelRun0_A.sl.HS1_47, kernelRun0_A.sl.HS1_48,
    ↓tap_read, weight_at, h6.read_unread]
  pointwise [k0_pay106, k0_pay109, k0_pay111, k0_pay113, k0_pay115, k0_pay117, k0_pay121, k0_pay123]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 768 to 895. -/
theorem colA_6 (j : Fin 256) (l : Fin 128) :
    kernelRun0_A.sl.r_87 c arg2 h2 arg3 h3 arg4 h4 arg5 h5 arg6 h6 arg12 arg13 x0 x1 x2 x3 x4 (ix2 j l)
      = taps (heldA c arg2 h2 arg3 h3 arg4 h4 arg5 h5 arg12 x0 x1 x2 x3) x4 j (768 + l) := by
  unfold kernelRun0_A.sl.r_87 kernelRun0_A.sl.r_86 kernelRun0_A.sl.r_85 kernelRun0_A.sl.r_84 kernelRun0_A.sl.r_83 kernelRun0_A.sl.r_82 kernelRun0_A.sl.r_81
    kernelRun0_A.sl.r_80 kernelRun0_A.sl.r_79 kernelRun0_A.sl.r_77 kernelRun0_A.sl.r_76
  pointwise [k0_pay128, k0_pay130, k0_pay132, k0_pay134, k0_pay136, k0_pay138, k0_pay139, k0_pay141, k0_pay143, k0_pay144, k0_pay145]
  simp only [kernelRun0_A.sl.v1353, kernelRun0_A.sl.v1359, kernelRun0_A.sl.v1365, kernelRun0_A.sl.v1371, kernelRun0_A.sl.v1381, kernelRun0_A.sl.v1387, kernelRun0_A.sl.v1393,
    kernelRun0_A.sl.v1403, kernelRun0_A.sl.v1409, kernelRun0_A.sl.v1415, kernelRun0_A.sl.v1421, kernelRun0_A.sl.v1431, kernelRun0_A.sl.v1437, kernelRun0_A.sl.v1443,
    kernelRun0_A.sl.v1449, kernelRun0_A.sl.v1459, kernelRun0_A.sl.v1465, kernelRun0_A.sl.v1471, kernelRun0_A.sl.v1477, kernelRun0_A.sl.v1487, kernelRun0_A.sl.v1493,
    kernelRun0_A.sl.v1499, kernelRun0_A.sl.v1505, kernelRun0_A.sl.v1515, kernelRun0_A.sl.v1521, kernelRun0_A.sl.v1527, kernelRun0_A.sl.v1533, kernelRun0_A.sl.v1543,
    kernelRun0_A.sl.v1549, kernelRun0_A.sl.v1555, kernelRun0_A.sl.v1561, kernelRun0_A.sl.v1349, kernelRun0_A.sl.v1377, kernelRun0_A.sl.v1399, kernelRun0_A.sl.v1427,
    kernelRun0_A.sl.v1455, kernelRun0_A.sl.v1483, kernelRun0_A.sl.v1511, kernelRun0_A.sl.v1539, kernelRun0_A.sl.HS1_49, kernelRun0_A.sl.HS1_50, kernelRun0_A.sl.HS1_51,
    kernelRun0_A.sl.HS1_52, kernelRun0_A.sl.HS1_53, kernelRun0_A.sl.HS1_54, kernelRun0_A.sl.HS1_55, kernelRun0_A.sl.HS1_56, kernelRun0_A.sl.r_78,
    ↓tap_read, weight_at, h6.read_unread]
  pointwise [k0_pay127, k0_pay129, k0_pay133, k0_pay135, k0_pay137, k0_pay140, k0_pay142, k0_pay131]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

set_option maxHeartbeats 4000000 in
/-- The taps of channels 896 to 1023. -/
theorem colA_7 (j : Fin 256) (l : Fin 128) :
    (kernelRun0_A.sl.r_98 c arg2 h2 arg3 h3 arg4 h4 arg5 h5 arg6 h6 arg12 arg13 x0 x1 x2 x3 x4 (ix2 j l) : EReal)
        + kernelRun0_A.sl.v1774 c arg2 h2 arg3 h3 arg4 h4 arg5 h5 arg12 arg13 x0 x1 x2 x3 (ix3 (0 : Fin 1) j l : S1x256x128.Idx)
          * View.readAt (Elt Ideal) arg6.view (Rect.unit (s := S31x1024) ![21, 896] S1x128.size inb_S31x1024_S1x128_21_896).toLoadRect (h6.unread x4) (ix2 (0 : Fin 1) l : S1x128.Idx)
        + kernelRun0_A.sl.v1780 c arg2 h2 arg3 h3 arg4 h4 arg5 h5 arg12 arg13 x0 x1 x2 x3 (ix3 (0 : Fin 1) j l : S1x256x128.Idx)
          * View.readAt (Elt Ideal) arg6.view (Rect.unit (s := S31x1024) ![29, 896] S1x128.size inb_S31x1024_S1x128_29_896).toLoadRect (h6.unread x4) (ix2 (0 : Fin 1) l : S1x128.Idx)
      = taps (heldA c arg2 h2 arg3 h3 arg4 h4 arg5 h5 arg12 x0 x1 x2 x3) x4 j (896 + l) := by
  unfold kernelRun0_A.sl.r_98 kernelRun0_A.sl.r_97 kernelRun0_A.sl.r_96 kernelRun0_A.sl.r_95 kernelRun0_A.sl.r_94 kernelRun0_A.sl.r_93 kernelRun0_A.sl.r_92
    kernelRun0_A.sl.r_91 kernelRun0_A.sl.r_90 kernelRun0_A.sl.r_89 kernelRun0_A.sl.r_88
  pointwise [k0_pay147, k0_pay149, k0_pay151, k0_pay153, k0_pay155, k0_pay157, k0_pay159, k0_pay160, k0_pay161, k0_pay163]
  simp only [kernelRun0_A.sl.v1572, kernelRun0_A.sl.v1578, kernelRun0_A.sl.v1584, kernelRun0_A.sl.v1590, kernelRun0_A.sl.v1600, kernelRun0_A.sl.v1606, kernelRun0_A.sl.v1612,
    kernelRun0_A.sl.v1622, kernelRun0_A.sl.v1628, kernelRun0_A.sl.v1634, kernelRun0_A.sl.v1640, kernelRun0_A.sl.v1650, kernelRun0_A.sl.v1656, kernelRun0_A.sl.v1662,
    kernelRun0_A.sl.v1668, kernelRun0_A.sl.v1678, kernelRun0_A.sl.v1684, kernelRun0_A.sl.v1690, kernelRun0_A.sl.v1696, kernelRun0_A.sl.v1706, kernelRun0_A.sl.v1712,
    kernelRun0_A.sl.v1718, kernelRun0_A.sl.v1724, kernelRun0_A.sl.v1734, kernelRun0_A.sl.v1740, kernelRun0_A.sl.v1746, kernelRun0_A.sl.v1752, kernelRun0_A.sl.v1762,
    kernelRun0_A.sl.v1768, kernelRun0_A.sl.v1774, kernelRun0_A.sl.v1780, kernelRun0_A.sl.v1568, kernelRun0_A.sl.v1596, kernelRun0_A.sl.v1618, kernelRun0_A.sl.v1646,
    kernelRun0_A.sl.v1674, kernelRun0_A.sl.v1702, kernelRun0_A.sl.v1730, kernelRun0_A.sl.v1758, kernelRun0_A.sl.HS1_57, kernelRun0_A.sl.HS1_58, kernelRun0_A.sl.HS1_59,
    kernelRun0_A.sl.HS1_60, kernelRun0_A.sl.HS1_61, kernelRun0_A.sl.HS1_62, kernelRun0_A.sl.HS1_63, kernelRun0_A.sl.HS1_64,
    ↓tap_read, weight_at, h6.read_unread]
  pointwise [k0_pay146, k0_pay148, k0_pay150, k0_pay152, k0_pay154, k0_pay156, k0_pay158, k0_pay162]
  simp only [row_cov, taps, Finset.sum_range_succ, Finset.sum_range_zero, zero_add, ← Nat.add_assoc, Nat.reduceAdd]
  rw [← heldA]
  generalize heldA c arg2 h2 arg3 h3 arg4 h4 arg5 h5 arg12 x0 x1 x2 x3 = Z
  abel

end

section
variable (c : Dev nD) (arg2 : Memref sig .tc .vmem S256x1024 .f32) (h2 : arg2.IsWhole) (arg3 : Memref sig .tc .vmem S1x1024 .f32) (h3 : arg3.IsWhole)
  (arg4 : Memref sig .tc .vmem S1024x2048 .bf16) (h4 : arg4.IsWhole) (arg5 : Memref sig .tc .vmem S1x2048 .f32) (h5 : arg5.IsWhole)
  (arg6 : Memref sig .tc .vmem S31x1024 .f32) (h6 : arg6.IsWhole) (arg12 : Memref sig .tc .vmem S296x1024 .f32) (h12 : arg12.IsWhole)
  (arg13 : Memref sig .tc .vmem S8x288x128 .f32)
  (x0 : Vec Ideal S256x1024 .f32) (x1 : Vec Ideal S1x1024 .f32) (x2 : Vec Ideal S1024x2048 .bf16) (x3 : Vec Ideal S1x2048 .f32)
  (x4 : Vec Ideal S31x1024 .f32) (xs0 : Vec Ideal S296x1024 .f32)

/-- The rows held at a later tile, after the tile's own are stored. -/
def heldB : Vec Ideal S296x1024 .f32 :=
  arg12.view.read (Elt Ideal) (arg12.view.writes (Elt Ideal) (h12.unread xs0) (kernelRun0_B.sl.HS0_1 c arg2 h2 arg3 h3 arg4 h4 arg5 h5 x0 x1 x2 x3))

set_option maxHeartbeats 4000000 in
/-- The taps of channels 0 to 127. -/
theorem colB_0 (j : Fin 256) (l : Fin 128) :
    kernelRun0_B.sl.r_11 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j l := by
  unfold kernelRun0_B.sl.r_11 kernelRun0_B.sl.r_10 kernelRun0_B.sl.r_9 kernelRun0_B.sl.r_8 kernelRun0_B.sl.r_7 kernelRun0_B.sl.r_6 kernelRun0_B.sl.r_5
    kernelRun0_B.sl.r_4 kernelRun0_B.sl.r_3 kernelRun0_B.sl.r_2 kernelRun0_B.sl.r_1
  pointwise [k0_pay6, k0_pay8, k0_pay11, k0_pay12, k0_pay14, k0_pay16, k0_pay17, k0_pay19, k0_pay21, k0_pay22, k0_pay24]
  simp only [kernelRun0_B.sl.v39, kernelRun0_B.sl.v45, kernelRun0_B.sl.v51, kernelRun0_B.sl.v57, kernelRun0_B.sl.v67, kernelRun0_B.sl.v73, kernelRun0_B.sl.v79,
    kernelRun0_B.sl.v89, kernelRun0_B.sl.v95, kernelRun0_B.sl.v101, kernelRun0_B.sl.v107, kernelRun0_B.sl.v117, kernelRun0_B.sl.v123, kernelRun0_B.sl.v129,
    kernelRun0_B.sl.v135, kernelRun0_B.sl.v145, kernelRun0_B.sl.v151, kernelRun0_B.sl.v157, kernelRun0_B.sl.v163, kernelRun0_B.sl.v173, kernelRun0_B.sl.v179,
    kernelRun0_B.sl.v185, kernelRun0_B.sl.v191, kernelRun0_B.sl.v201, kernelRun0_B.sl.v207, kernelRun0_B.sl.v213, kernelRun0_B.sl.v219, kernelRun0_B.sl.v229,
    kernelRun0_B.sl.v235, kernelRun0_B.sl.v241, kernelRun0_B.sl.v247, kernelRun0_B.sl.v35, kernelRun0_B.sl.v63, kernelRun0_B.sl.v85, kernelRun0_B.sl.v113,
    kernelRun0_B.sl.v141, kernelRun0_B.sl.v169, kernelRun0_B.sl.v197, kernelRun0_B.sl.v225, kernelRun0_B.sl.HS1_1, kernelRun0_B.sl.HS1_2, kernelRun0_B.sl.HS1_3,
    kernelRun0_B.sl.HS1_4, kernelRun0_B.sl.HS1_5, kernelRun0_B.sl.HS1_6, kernelRun0_B.sl.HS1_7, kernelRun0_B.sl.HS1_8,
    ↓tap_read, weight_at, h6.read_unread]
  pointwise [k0_pay7, k0_pay9, k0_pay10, k0_pay13, k0_pay15, k0_pay18, k0_pay20, k0_pay23]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 128 to 255. -/
theorem colB_1 (j : Fin 256) (l : Fin 128) :
    kernelRun0_B.sl.r_22 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (128 + l) := by
  unfold kernelRun0_B.sl.r_22 kernelRun0_B.sl.r_21 kernelRun0_B.sl.r_20 kernelRun0_B.sl.r_19 kernelRun0_B.sl.r_18 kernelRun0_B.sl.r_17 kernelRun0_B.sl.r_16
    kernelRun0_B.sl.r_15 kernelRun0_B.sl.r_14 kernelRun0_B.sl.r_13 kernelRun0_B.sl.r_12
  pointwise [k0_pay25, k0_pay27, k0_pay30, k0_pay32, k0_pay33, k0_pay34, k0_pay36, k0_pay38, k0_pay39, k0_pay41, k0_pay42, k0_pay44]
  simp only [kernelRun0_B.sl.v258, kernelRun0_B.sl.v264, kernelRun0_B.sl.v270, kernelRun0_B.sl.v276, kernelRun0_B.sl.v286, kernelRun0_B.sl.v292, kernelRun0_B.sl.v298,
    kernelRun0_B.sl.v308, kernelRun0_B.sl.v314, kernelRun0_B.sl.v320, kernelRun0_B.sl.v326, kernelRun0_B.sl.v336, kernelRun0_B.sl.v342, kernelRun0_B.sl.v348,
    kernelRun0_B.sl.v354, kernelRun0_B.sl.v364, kernelRun0_B.sl.v370, kernelRun0_B.sl.v376, kernelRun0_B.sl.v382, kernelRun0_B.sl.v392, kernelRun0_B.sl.v398,
    kernelRun0_B.sl.v404, kernelRun0_B.sl.v410, kernelRun0_B.sl.v420, kernelRun0_B.sl.v426, kernelRun0_B.sl.v432, kernelRun0_B.sl.v438, kernelRun0_B.sl.v448,
    kernelRun0_B.sl.v454, kernelRun0_B.sl.v460, kernelRun0_B.sl.v466, kernelRun0_B.sl.v254, kernelRun0_B.sl.v282, kernelRun0_B.sl.v304, kernelRun0_B.sl.v332,
    kernelRun0_B.sl.v360, kernelRun0_B.sl.v388, kernelRun0_B.sl.v416, kernelRun0_B.sl.v444, kernelRun0_B.sl.HS1_9, kernelRun0_B.sl.HS1_10, kernelRun0_B.sl.HS1_11,
    kernelRun0_B.sl.HS1_12, kernelRun0_B.sl.HS1_13, kernelRun0_B.sl.HS1_14, kernelRun0_B.sl.HS1_15, kernelRun0_B.sl.HS1_16,
    ↓tap_read, weight_at, h6.read_unread]
  pointwise [k0_pay26, k0_pay28, k0_pay29, k0_pay31, k0_pay35, k0_pay37, k0_pay40, k0_pay43]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 256 to 383. -/
theorem colB_2 (j : Fin 256) (l : Fin 128) :
    kernelRun0_B.sl.r_34 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (256 + l) := by
  unfold kernelRun0_B.sl.r_34 kernelRun0_B.sl.r_33 kernelRun0_B.sl.r_32 kernelRun0_B.sl.r_31 kernelRun0_B.sl.r_30 kernelRun0_B.sl.r_29 kernelRun0_B.sl.r_28
    kernelRun0_B.sl.r_27 kernelRun0_B.sl.r_26 kernelRun0_B.sl.r_25 kernelRun0_B.sl.r_24 kernelRun0_B.sl.r_23
  pointwise [k0_pay46, k0_pay49, k0_pay51, k0_pay52, k0_pay54, k0_pay56, k0_pay57, k0_pay59, k0_pay61, k0_pay62, k0_pay63]
  simp only [kernelRun0_B.sl.v477, kernelRun0_B.sl.v483, kernelRun0_B.sl.v489, kernelRun0_B.sl.v495, kernelRun0_B.sl.v505, kernelRun0_B.sl.v511, kernelRun0_B.sl.v517,
    kernelRun0_B.sl.v527, kernelRun0_B.sl.v533, kernelRun0_B.sl.v539, kernelRun0_B.sl.v545, kernelRun0_B.sl.v555, kernelRun0_B.sl.v561, kernelRun0_B.sl.v567,
    kernelRun0_B.sl.v573, kernelRun0_B.sl.v583, kernelRun0_B.sl.v589, kernelRun0_B.sl.v595, kernelRun0_B.sl.v601, kernelRun0_B.sl.v611, kernelRun0_B.sl.v617,
    kernelRun0_B.sl.v623, kernelRun0_B.sl.v629, kernelRun0_B.sl.v639, kernelRun0_B.sl.v645, kernelRun0_B.sl.v651, kernelRun0_B.sl.v657, kernelRun0_B.sl.v667,
    kernelRun0_B.sl.v673, kernelRun0_B.sl.v679, kernelRun0_B.sl.v685, kernelRun0_B.sl.v473, kernelRun0_B.sl.v501, kernelRun0_B.sl.v523, kernelRun0_B.sl.v551,
    kernelRun0_B.sl.v579, kernelRun0_B.sl.v607, kernelRun0_B.sl.v635, kernelRun0_B.sl.v663, kernelRun0_B.sl.HS1_17, kernelRun0_B.sl.HS1_18, kernelRun0_B.sl.HS1_19,
    kernelRun0_B.sl.HS1_20, kernelRun0_B.sl.HS1_21, kernelRun0_B.sl.HS1_22, kernelRun0_B.sl.HS1_23, kernelRun0_B.sl.HS1_24,
    ↓tap_read, weight_at, h6.read_unread]
  pointwise [k0_pay45, k0_pay47, k0_pay48, k0_pay50, k0_pay53, k0_pay55, k0_pay58, k0_pay60]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 384 to 511. -/
theorem colB_3 (j : Fin 256) (l : Fin 128) :
    kernelRun0_B.sl.r_48 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (384 + l) := by
  unfold kernelRun0_B.sl.r_48 kernelRun0_B.sl.r_47 kernelRun0_B.sl.r_46 kernelRun0_B.sl.r_45 kernelRun0_B.sl.r_44 kernelRun0_B.sl.r_43 kernelRun0_B.sl.r_42
    kernelRun0_B.sl.r_41 kernelRun0_B.sl.r_40 kernelRun0_B.sl.r_39 kernelRun0_B.sl.r_38 kernelRun0_B.sl.r_37 kernelRun0_B.sl.r_36 kernelRun0_B.sl.r_35
  pointwise [k0_pay65, k0_pay67, k0_pay69, k0_pay71, k0_pay73, k0_pay74, k0_pay75, k0_pay77, k0_pay79, k0_pay80, k0_pay82, k0_pay83, k0_pay84]
  simp only [kernelRun0_B.sl.v696, kernelRun0_B.sl.v702, kernelRun0_B.sl.v708, kernelRun0_B.sl.v714, kernelRun0_B.sl.v724, kernelRun0_B.sl.v730, kernelRun0_B.sl.v736,
    kernelRun0_B.sl.v746, kernelRun0_B.sl.v752, kernelRun0_B.sl.v758, kernelRun0_B.sl.v764, kernelRun0_B.sl.v774, kernelRun0_B.sl.v780, kernelRun0_B.sl.v786,
    kernelRun0_B.sl.v792, kernelRun0_B.sl.v802, kernelRun0_B.sl.v808, kernelRun0_B.sl.v814, kernelRun0_B.sl.v820, kernelRun0_B.sl.v830, kernelRun0_B.sl.v836,
    kernelRun0_B.sl.v842, kernelRun0_B.sl.v848, kernelRun0_B.sl.v858, kernelRun0_B.sl.v864, kernelRun0_B.sl.v870, kernelRun0_B.sl.v876, kernelRun0_B.sl.v886,
    kernelRun0_B.sl.v892, kernelRun0_B.sl.v898, kernelRun0_B.sl.v904, kernelRun0_B.sl.v692, kernelRun0_B.sl.v720, kernelRun0_B.sl.v742, kernelRun0_B.sl.v770,
    kernelRun0_B.sl.v798, kernelRun0_B.sl.v826, kernelRun0_B.sl.v854, kernelRun0_B.sl.v882, kernelRun0_B.sl.HS1_25, kernelRun0_B.sl.HS1_26, kernelRun0_B.sl.HS1_27,
    kernelRun0_B.sl.HS1_28, kernelRun0_B.sl.HS1_29, kernelRun0_B.sl.HS1_30, kernelRun0_B.sl.HS1_31, kernelRun0_B.sl.HS1_32,
    ↓tap_read, weight_at, h6.read_unread]
  pointwise [k0_pay64, k0_pay66, k0_pay68, k0_pay70, k0_pay72, k0_pay76, k0_pay78, k0_pay81]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 512 to 639. -/
theorem colB_4 (j : Fin 256) (l : Fin 128) :
    kernelRun0_B.sl.r_61 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (512 + l) := by
  unfold kernelRun0_B.sl.r_61 kernelRun0_B.sl.r_60 kernelRun0_B.sl.r_59 kernelRun0_B.sl.r_58 kernelRun0_B.sl.r_57 kernelRun0_B.sl.r_56 kernelRun0_B.sl.r_55
    kernelRun0_B.sl.r_54 kernelRun0_B.sl.r_53 kernelRun0_B.sl.r_52 kernelRun0_B.sl.r_51 kernelRun0_B.sl.r_50 kernelRun0_B.sl.r_49
  pointwise [k0_pay86, k0_pay87, k0_pay88, k0_pay90, k0_pay92, k0_pay94, k0_pay96, k0_pay97, k0_pay99, k0_pay101, k0_pay102, k0_pay104, k0_pay105]
  simp only [kernelRun0_B.sl.v915, kernelRun0_B.sl.v921, kernelRun0_B.sl.v927, kernelRun0_B.sl.v933, kernelRun0_B.sl.v943, kernelRun0_B.sl.v949, kernelRun0_B.sl.v955,
    kernelRun0_B.sl.v965, kernelRun0_B.sl.v971, kernelRun0_B.sl.v977, kernelRun0_B.sl.v983, kernelRun0_B.sl.v993, kernelRun0_B.sl.v999, kernelRun0_B.sl.v1005,
    kernelRun0_B.sl.v1011, kernelRun0_B.sl.v1021, kernelRun0_B.sl.v1027, kernelRun0_B.sl.v1033, kernelRun0_B.sl.v1039, kernelRun0_B.sl.v1049, kernelRun0_B.sl.v1055,
    kernelRun0_B.sl.v1061, kernelRun0_B.sl.v1067, kernelRun0_B.sl.v1077, kernelRun0_B.sl.v1083, kernelRun0_B.sl.v1089, kernelRun0_B.sl.v1095, kernelRun0_B.sl.v1105,
    kernelRun0_B.sl.v1111, kernelRun0_B.sl.v1117, kernelRun0_B.sl.v1123, kernelRun0_B.sl.v911, kernelRun0_B.sl.v939, kernelRun0_B.sl.v961, kernelRun0_B.sl.v989,
    kernelRun0_B.sl.v1017, kernelRun0_B.sl.v1045, kernelRun0_B.sl.v1073, kernelRun0_B.sl.v1101, kernelRun0_B.sl.HS1_33, kernelRun0_B.sl.HS1_34, kernelRun0_B.sl.HS1_35,
    kernelRun0_B.sl.HS1_36, kernelRun0_B.sl.HS1_37, kernelRun0_B.sl.HS1_38, kernelRun0_B.sl.HS1_39, kernelRun0_B.sl.HS1_40,
    ↓tap_read, weight_at, h6.read_unread]
  pointwise [k0_pay85, k0_pay89, k0_pay91, k0_pay93, k0_pay95, k0_pay98, k0_pay100, k0_pay103]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 640 to 767. -/
theorem colB_5 (j : Fin 256) (l : Fin 128) :
    kernelRun0_B.sl.r_75 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (640 + l) := by
  unfold kernelRun0_B.sl.r_75 kernelRun0_B.sl.r_74 kernelRun0_B.sl.r_73 kernelRun0_B.sl.r_72 kernelRun0_B.sl.r_71 kernelRun0_B.sl.r_70 kernelRun0_B.sl.r_69
    kernelRun0_B.sl.r_68 kernelRun0_B.sl.r_67 kernelRun0_B.sl.r_66 kernelRun0_B.sl.r_65 kernelRun0_B.sl.r_64 kernelRun0_B.sl.r_63 kernelRun0_B.sl.r_62
  pointwise [k0_pay107, k0_pay108, k0_pay110, k0_pay112, k0_pay114, k0_pay116, k0_pay118, k0_pay119, k0_pay120, k0_pay122, k0_pay124, k0_pay125, k0_pay126]
  simp only [kernelRun0_B.sl.v1134, kernelRun0_B.sl.v1140, kernelRun0_B.sl.v1146, kernelRun0_B.sl.v1152, kernelRun0_B.sl.v1162, kernelRun0_B.sl.v1168, kernelRun0_B.sl.v1174,
    kernelRun0_B.sl.v1184, kernelRun0_B.sl.v1190, kernelRun0_B.sl.v1196, kernelRun0_B.sl.v1202, kernelRun0_B.sl.v1212, kernelRun0_B.sl.v1218, kernelRun0_B.sl.v1224,
    kernelRun0_B.sl.v1230, kernelRun0_B.sl.v1240, kernelRun0_B.sl.v1246, kernelRun0_B.sl.v1252, kernelRun0_B.sl.v1258, kernelRun0_B.sl.v1268, kernelRun0_B.sl.v1274,
    kernelRun0_B.sl.v1280, kernelRun0_B.sl.v1286, kernelRun0_B.sl.v1296, kernelRun0_B.sl.v1302, kernelRun0_B.sl.v1308, kernelRun0_B.sl.v1314, kernelRun0_B.sl.v1324,
    kernelRun0_B.sl.v1330, kernelRun0_B.sl.v1336, kernelRun0_B.sl.v1342, kernelRun0_B.sl.v1130, kernelRun0_B.sl.v1158, kernelRun0_B.sl.v1180, kernelRun0_B.sl.v1208,
    kernelRun0_B.sl.v1236, kernelRun0_B.sl.v1264, kernelRun0_B.sl.v1292, kernelRun0_B.sl.v1320, kernelRun0_B.sl.HS1_41, kernelRun0_B.sl.HS1_42, kernelRun0_B.sl.HS1_43,
    kernelRun0_B.sl.HS1_44, kernelRun0_B.sl.HS1_45, kernelRun0_B.sl.HS1_46, kernelRun0_B.sl.HS1_47, kernelRun0_B.sl.HS1_48,
    ↓tap_read, weight_at, h6.read_unread]
  pointwise [k0_pay106, k0_pay109, k0_pay111, k0_pay113, k0_pay115, k0_pay117, k0_pay121, k0_pay123]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 768 to 895. -/
theorem colB_6 (j : Fin 256) (l : Fin 128) :
    kernelRun0_B.sl.r_87 c arg2 h2 arg3 h3 arg4 h4 arg5 h5 arg6 h6 arg12 h12 arg13 x0 x1 x2 x3 x4 xs0 (ix2 j l)
      = taps (heldB c arg2 h2 arg3 h3 arg4 h4 arg5 h5 arg12 h12 x0 x1 x2 x3 xs0) x4 j (768 + l) := by
  unfold kernelRun0_B.sl.r_87 kernelRun0_B.sl.r_86 kernelRun0_B.sl.r_85 kernelRun0_B.sl.r_84 kernelRun0_B.sl.r_83 kernelRun0_B.sl.r_82 kernelRun0_B.sl.r_81
    kernelRun0_B.sl.r_80 kernelRun0_B.sl.r_79 kernelRun0_B.sl.r_77 kernelRun0_B.sl.r_76
  pointwise [k0_pay128, k0_pay130, k0_pay132, k0_pay134, k0_pay136, k0_pay138, k0_pay139, k0_pay141, k0_pay143, k0_pay144, k0_pay145]
  simp only [kernelRun0_B.sl.v1353, kernelRun0_B.sl.v1359, kernelRun0_B.sl.v1365, kernelRun0_B.sl.v1371, kernelRun0_B.sl.v1381, kernelRun0_B.sl.v1387, kernelRun0_B.sl.v1393,
    kernelRun0_B.sl.v1403, kernelRun0_B.sl.v1409, kernelRun0_B.sl.v1415, kernelRun0_B.sl.v1421, kernelRun0_B.sl.v1431, kernelRun0_B.sl.v1437, kernelRun0_B.sl.v1443,
    kernelRun0_B.sl.v1449, kernelRun0_B.sl.v1459, kernelRun0_B.sl.v1465, kernelRun0_B.sl.v1471, kernelRun0_B.sl.v1477, kernelRun0_B.sl.v1487, kernelRun0_B.sl.v1493,
    kernelRun0_B.sl.v1499, kernelRun0_B.sl.v1505, kernelRun0_B.sl.v1515, kernelRun0_B.sl.v1521, kernelRun0_B.sl.v1527, kernelRun0_B.sl.v1533, kernelRun0_B.sl.v1543,
    kernelRun0_B.sl.v1549, kernelRun0_B.sl.v1555, kernelRun0_B.sl.v1561, kernelRun0_B.sl.v1349, kernelRun0_B.sl.v1377, kernelRun0_B.sl.v1399, kernelRun0_B.sl.v1427,
    kernelRun0_B.sl.v1455, kernelRun0_B.sl.v1483, kernelRun0_B.sl.v1511, kernelRun0_B.sl.v1539, kernelRun0_B.sl.HS1_49, kernelRun0_B.sl.HS1_50, kernelRun0_B.sl.HS1_51,
    kernelRun0_B.sl.HS1_52, kernelRun0_B.sl.HS1_53, kernelRun0_B.sl.HS1_54, kernelRun0_B.sl.HS1_55, kernelRun0_B.sl.HS1_56, kernelRun0_B.sl.r_78,
    ↓tap_read, weight_at, h6.read_unread]
  pointwise [k0_pay127, k0_pay129, k0_pay133, k0_pay135, k0_pay137, k0_pay140, k0_pay142, k0_pay131]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

set_option maxHeartbeats 4000000 in
/-- The taps of channels 896 to 1023. -/
theorem colB_7 (j : Fin 256) (l : Fin 128) :
    (kernelRun0_B.sl.r_98 c arg2 h2 arg3 h3 arg4 h4 arg5 h5 arg6 h6 arg12 h12 arg13 x0 x1 x2 x3 x4 xs0 (ix2 j l) : EReal)
        + kernelRun0_B.sl.v1774 c arg2 h2 arg3 h3 arg4 h4 arg5 h5 arg12 h12 arg13 x0 x1 x2 x3 xs0 (ix3 (0 : Fin 1) j l : S1x256x128.Idx)
          * View.readAt (Elt Ideal) arg6.view (Rect.unit (s := S31x1024) ![21, 896] S1x128.size inb_S31x1024_S1x128_21_896).toLoadRect (h6.unread x4) (ix2 (0 : Fin 1) l : S1x128.Idx)
        + kernelRun0_B.sl.v1780 c arg2 h2 arg3 h3 arg4 h4 arg5 h5 arg12 h12 arg13 x0 x1 x2 x3 xs0 (ix3 (0 : Fin 1) j l : S1x256x128.Idx)
          * View.readAt (Elt Ideal) arg6.view (Rect.unit (s := S31x1024) ![29, 896] S1x128.size inb_S31x1024_S1x128_29_896).toLoadRect (h6.unread x4) (ix2 (0 : Fin 1) l : S1x128.Idx)
      = taps (heldB c arg2 h2 arg3 h3 arg4 h4 arg5 h5 arg12 h12 x0 x1 x2 x3 xs0) x4 j (896 + l) := by
  unfold kernelRun0_B.sl.r_98 kernelRun0_B.sl.r_97 kernelRun0_B.sl.r_96 kernelRun0_B.sl.r_95 kernelRun0_B.sl.r_94 kernelRun0_B.sl.r_93 kernelRun0_B.sl.r_92
    kernelRun0_B.sl.r_91 kernelRun0_B.sl.r_90 kernelRun0_B.sl.r_89 kernelRun0_B.sl.r_88
  pointwise [k0_pay147, k0_pay149, k0_pay151, k0_pay153, k0_pay155, k0_pay157, k0_pay159, k0_pay160, k0_pay161, k0_pay163]
  simp only [kernelRun0_B.sl.v1572, kernelRun0_B.sl.v1578, kernelRun0_B.sl.v1584, kernelRun0_B.sl.v1590, kernelRun0_B.sl.v1600, kernelRun0_B.sl.v1606, kernelRun0_B.sl.v1612,
    kernelRun0_B.sl.v1622, kernelRun0_B.sl.v1628, kernelRun0_B.sl.v1634, kernelRun0_B.sl.v1640, kernelRun0_B.sl.v1650, kernelRun0_B.sl.v1656, kernelRun0_B.sl.v1662,
    kernelRun0_B.sl.v1668, kernelRun0_B.sl.v1678, kernelRun0_B.sl.v1684, kernelRun0_B.sl.v1690, kernelRun0_B.sl.v1696, kernelRun0_B.sl.v1706, kernelRun0_B.sl.v1712,
    kernelRun0_B.sl.v1718, kernelRun0_B.sl.v1724, kernelRun0_B.sl.v1734, kernelRun0_B.sl.v1740, kernelRun0_B.sl.v1746, kernelRun0_B.sl.v1752, kernelRun0_B.sl.v1762,
    kernelRun0_B.sl.v1768, kernelRun0_B.sl.v1774, kernelRun0_B.sl.v1780, kernelRun0_B.sl.v1568, kernelRun0_B.sl.v1596, kernelRun0_B.sl.v1618, kernelRun0_B.sl.v1646,
    kernelRun0_B.sl.v1674, kernelRun0_B.sl.v1702, kernelRun0_B.sl.v1730, kernelRun0_B.sl.v1758, kernelRun0_B.sl.HS1_57, kernelRun0_B.sl.HS1_58, kernelRun0_B.sl.HS1_59,
    kernelRun0_B.sl.HS1_60, kernelRun0_B.sl.HS1_61, kernelRun0_B.sl.HS1_62, kernelRun0_B.sl.HS1_63, kernelRun0_B.sl.HS1_64,
    ↓tap_read, weight_at, h6.read_unread]
  pointwise [k0_pay146, k0_pay148, k0_pay150, k0_pay152, k0_pay154, k0_pay156, k0_pay158, k0_pay162]
  simp only [row_at, taps, Finset.sum_range_succ, Finset.sum_range_zero, zero_add, ← Nat.add_assoc, Nat.reduceAdd]
  rw [← heldB]
  generalize heldB c arg2 h2 arg3 h3 arg4 h4 arg5 h5 arg12 h12 x0 x1 x2 x3 xs0 = Z
  abel

end

end Cert.Conf
-- ==== Proof.ConfBlock.lean ====
/- Hand-written, untrusted: WHAT ONE GRID POINT OF THE CONFORMER COMPUTES. The rows it holds are the gated rows of its tile after 32
   rows carried from the tile before (`heldA_old`, `heldA_new`, `heldB_old`, `heldB_new`); it writes each row of the tile plus the
   pointwise layer of the activated convolution (`outA_eq`, `outB_eq`) and carries the tile's last 32 gated rows on (`haloA`, `haloB`). -/
module

public import proofs.«01_k».proof.Proof.ConfTaps

@[expose] public section

set_option maxRecDepth 16384

noncomputable section

namespace Cert.Conf

open Idealize.ShloMosaic Cert.ConformerIdeal Cert.ConformerIdeal.Gen Idealize.ShloMosaic.TcCoe Idealize.SL.Sem

/-! ## A row -/

/-- The factor that makes a row's mean square one. -/
def norm (x : Fin 1024 → EReal) : EReal :=
  Ideal.rsqrt (Ideal.div (∑ i, x i * x i) (Ideal.ofBits .f32 0x44800000#32) + Ideal.ofBits .f32 0x358637BD#32)

/-- One output of the gated layer of a row. -/
def dense (x g : Fin 1024 → EReal) (w : Fin 1024 → Fin 2048 → EReal) (b : Fin 2048 → EReal) (ch : Fin 2048) : EReal :=
  (∑ i, x i * norm x * g i * w i ch) + b ch

/-- The gated row. -/
def gated (x g : Fin 1024 → EReal) (w : Fin 1024 → Fin 2048 → EReal) (b : Fin 2048 → EReal) (ch : Fin 1024) : EReal :=
  dense x g w b ⟨ch, by omega⟩ * Ideal.logistic (dense x g w b ⟨1024 + ch, by omega⟩)

/-- The activated convolution of a row. -/
def active (y g : Fin 1024 → EReal) (ch : Fin 1024) : EReal :=
  y ch * norm y * g ch * Ideal.logistic (y ch * norm y * g ch)

/-- The row's result. -/
def result (x y g : Fin 1024 → EReal) (w : Fin 1024 → Fin 1024 → EReal) (b : Fin 1024 → EReal) (ch : Fin 1024) : EReal :=
  x ch + (∑ i, active y g i * w i ch) + b ch

theorem pay5_apply (x0 : Vec Ideal S256x1024 .f32) (x1 : Vec Ideal S1x1024 .f32) (x2 : Vec Ideal S1024x2048 .bf16) (x3 : Vec Ideal S1x2048 .f32)
    (r : Fin 256) (ch : Fin 1024) :
    (k0_pay5 x0 x1 x2 x3 (ix2 r ch) : EReal)
      = gated (fun i => x0 (ix2 r i)) (fun i => x1 (ix2 (0 : Fin 1) i)) (fun i k => x2 (ix2 i k)) (fun k => x3 (ix2 (0 : Fin 1) k)) ch := by
  unfold gated dense norm
  pointwise [k0_pay5, k0_pay4]

theorem conv_apply (v0 v1 v2 v3 v4 v5 v6 v7 : FVec Ideal S256x128 .f32) (p q : Vec Ideal S1x256x128 .f32) (a b : Vec Ideal S1x128 .f32)
    (x5 x6 : Vec Ideal S1x1024 .f32) (Y : ℕ → ℕ → EReal) (e0 : ∀ (j : Fin 256) (l : Fin 128), (v0 (ix2 j l) : EReal) = Y j l)
    (e1 : ∀ (j : Fin 256) (l : Fin 128), (v1 (ix2 j l) : EReal) = Y j (128 + l)) (e2 : ∀ (j : Fin 256) (l : Fin 128), (v2 (ix2 j l) : EReal) = Y j (256 + l))
    (e3 : ∀ (j : Fin 256) (l : Fin 128), (v3 (ix2 j l) : EReal) = Y j (384 + l)) (e4 : ∀ (j : Fin 256) (l : Fin 128), (v4 (ix2 j l) : EReal) = Y j (512 + l))
    (e5 : ∀ (j : Fin 256) (l : Fin 128), (v5 (ix2 j l) : EReal) = Y j (640 + l)) (e6 : ∀ (j : Fin 256) (l : Fin 128), (v6 (ix2 j l) : EReal) = Y j (768 + l))
    (e7 : ∀ (j : Fin 256) (l : Fin 128), (v7 (ix2 j l) : EReal) + p (ix3 (0 : Fin 1) j l) * a (ix2 (0 : Fin 1) l)
      + q (ix3 (0 : Fin 1) j l) * b (ix2 (0 : Fin 1) l) = Y j (896 + l)) (r : Fin 256) (ch : Fin 1024) :
    (k0_pay165 v0 v1 v2 v3 v4 v5 v6 v7 p a q b x5 x6 (ix2 r ch) : EReal)
      = active (fun i => Y r i + x5 (ix2 (0 : Fin 1) i)) (fun i => x6 (ix2 (0 : Fin 1) i)) ch := by
  unfold active norm k0_pay165
  dsimp only
  generalize hZ : concatenate S256x1024 1 _ _ = Z
  have e : ∀ ch : Fin 1024, (Z (ix2 r ch) : EReal) = Y r ch := by
    intro ch
    rw [← hZ]
    pointwise []
    simp only [e0, e1, e2, e3, e4, e5, e6, e7]
    split_ifs <;> refine congrArg (Y r) ?_ <;> omega
  pointwise []
  simp only [e]

theorem last_apply (A : FVec Ideal S256x1024 .f32) (x : FVec Ideal S256x1024 .bf16) (w : Vec Ideal S1024x1024 .bf16) (b : Vec Ideal S1x1024 .f32)
    (r : Fin 256) (ch : Fin 1024) :
    (k0_pay1 (k0_pay4 A) (k0_pay167 x (k0_pay166 w)) b (ix2 r ch) : EReal)
      = A (ix2 r ch) + (∑ i, x (ix2 r i) * w (ix2 i ch)) + b (ix2 (0 : Fin 1) ch) := by
  pointwise [k0_pay1, k0_pay166, k0_pay167, k0_pay4]

theorem hz : (![0, 0] : Fin 2 → Nat) = fun _ => 0 := funext fun a => by fin_cases a <;> rfl

section
variable (c : Dev nD) (i : grid0.Coords) (arg2 : Memref sig .tc .vmem S256x1024 .f32) (h2 : arg2.IsWhole) (arg3 : Memref sig .tc .vmem S1x1024 .f32) (h3 : arg3.IsWhole)
  (arg4 : Memref sig .tc .vmem S1024x2048 .bf16) (h4 : arg4.IsWhole) (arg5 : Memref sig .tc .vmem S1x2048 .f32) (h5 : arg5.IsWhole)
  (arg6 : Memref sig .tc .vmem S31x1024 .f32) (h6 : arg6.IsWhole) (arg7 : Memref sig .tc .vmem S1x1024 .f32) (h7 : arg7.IsWhole)
  (arg8 : Memref sig .tc .vmem S1x1024 .f32) (h8 : arg8.IsWhole) (arg9 : Memref sig .tc .vmem S1024x1024 .bf16) (h9 : arg9.IsWhole)
  (arg10 : Memref sig .tc .vmem S1x1024 .f32) (h10 : arg10.IsWhole) (arg11 : Memref sig .tc .vmem S256x1024 .f32) (h11 : arg11.IsWhole)
  (arg12 : Memref sig .tc .vmem S296x1024 .f32) (h12 : arg12.IsWhole)
  (arg13 : Memref sig .tc .vmem S8x288x128 .f32) (h13 : arg13.IsWhole)
  (x0 : Vec Ideal S256x1024 .f32) (x1 : Vec Ideal S1x1024 .f32) (x2 : Vec Ideal S1024x2048 .bf16) (x3 : Vec Ideal S1x2048 .f32)
  (x4 : Vec Ideal S31x1024 .f32) (x5 x6 : Vec Ideal S1x1024 .f32) (x7 : Vec Ideal S1024x1024 .bf16) (x8 : Vec Ideal S1x1024 .f32)
  (xs0 : Vec Ideal S296x1024 .f32)

/-- The rows stored by this point, read back over anything: the gated rows of the tile. -/
theorem storedA (f : arg12.view.ty.Contents (Elt Ideal)) (y : S296x1024.Idx) (j : Fin 256) (ch : Fin 1024) (h : (y 0).val = 32 + j) (hch : (y 1).val = ch) :
    (arg12.view.read (Elt Ideal) (arg12.view.writes (Elt Ideal) f (kernelRun0_A.sl.HS0_3 c arg2 h2 arg3 h3 arg4 h4 arg5 h5 x0 x1 x2 x3)) y : EReal)
      = gated (fun i => x0 (ix2 j i)) (fun i => x1 (ix2 (0 : Fin 1) i)) (fun i k => x2 (ix2 i k)) (fun k => x3 (ix2 (0 : Fin 1) k)) ch := by
  unfold kernelRun0_A.sl.HS0_3
  refine (View.read_writes_cons_unit_of_mem arg12.view f (off := ![32, 0]) (off' := ![32, 0]) (size := ![256, 1024]) _ _ _ _
    (ix2 j ch : S256x1024.Idx) rfl ?_).trans ?_
  · intro a
    match a with
    | ⟨0, _⟩ => exact h
    | ⟨1, _⟩ => show (y 1).val = 0 + ch.val; omega
  · refine Eq.trans ?_ (pay5_apply x0 x1 x2 x3 j ch)
    simp only [View.readAt_eq_ld, h2.read_unread, h3.read_unread, h4.read_unread, h5.read_unread]
    rw [View.ld_unit_zero hz, View.ld_unit_zero hz, View.ld_unit_zero hz, View.ld_unit_zero hz]

theorem heldA_new (j : Fin 256) (ch : Fin 1024) :
    (heldA c arg2 h2 arg3 h3 arg4 h4 arg5 h5 arg12 x0 x1 x2 x3 (ix2 ⟨32 + j, by omega⟩ ch) : EReal)
      = gated (fun i => x0 (ix2 j i)) (fun i => x1 (ix2 (0 : Fin 1) i)) (fun i k => x2 (ix2 i k)) (fun k => x3 (ix2 (0 : Fin 1) k)) ch := by
  unfold heldA
  exact storedA _ _ _ _ _ _ _ _ _ _ _ _ _ _ _ _ j ch rfl rfl

theorem heldA_old (j : Fin 32) (ch : Fin 1024) :
    (heldA c arg2 h2 arg3 h3 arg4 h4 arg5 h5 arg12 x0 x1 x2 x3 (ix2 ⟨j, by omega⟩ ch) : EReal) = 0 := by
  unfold heldA kernelRun0_A.sl.HS0_3
  refine (View.read_writes_cons_unit_of_not_mem arg12.view _ (off := ![32, 0]) (off' := ![32, 0]) (size := ![256, 1024]) _ _ _ _
    rfl 0 (Or.inl j.2)).trans ?_
  refine (View.read_writes_cons_unit_of_not_mem arg12.view _ (off := ![288, 0]) (off' := ![288, 0]) (size := ![8, 1024]) _ _ _ _
    rfl 0 (Or.inl (show j.val < 288 by omega))).trans ?_
  refine (View.read_writes_cons_unit_of_mem arg12.view _ (off := ![0, 0]) (off' := ![0, 0]) (size := ![32, 1024]) _ _ _ _
    (ix2 j ch : S32x1024.Idx) rfl ?_).trans ?_
  · intro a
    match a with
    | ⟨0, _⟩ => show j.val = 0 + j.val; omega
    | ⟨1, _⟩ => show ch.val = 0 + ch.val; omega
  · pointwise [k0_pay2]

theorem haloA (hc) (j : Fin 32) (ch : Fin 1024) :
    (sout0_A_0 c i arg2 h2 arg3 h3 arg4 h4 arg5 h5 arg6 h6 arg7 h7 arg8 h8 arg9 h9 arg10 h10 arg11 h11 arg12 h12 arg13 h13 hc x0 x1 x2 x3 x4 x5 x6 x7 x8 (ix2 ⟨j, by omega⟩ ch) : EReal)
      = gated (fun i => x0 (ix2 ⟨224 + j, by omega⟩ i)) (fun i => x1 (ix2 (0 : Fin 1) i)) (fun i k => x2 (ix2 i k)) (fun k => x3 (ix2 (0 : Fin 1) k)) ch := by
  unfold sout0_A_0 kernelRun0_A
  dsimp only
  refine (View.read_writes_cons_unit_of_mem VS0_0 VS0_0.junk (off := ![0, 0]) (off' := ![0, 0]) (size := ![32, 1024]) _ _ _ _
    (ix2 j ch : S32x1024.Idx) rfl ?_).trans ?_
  · intro a
    match a with
    | ⟨0, _⟩ => show j.val = 0 + j.val; omega
    | ⟨1, _⟩ => show ch.val = 0 + ch.val; omega
  · have e : (k0_pay164 (kernelRun0_A.sl.v1791 c arg2 h2 arg3 h3 arg4 h4 arg5 h5 arg12 x0 x1 x2 x3) (ix2 j ch) : EReal)
        = kernelRun0_A.sl.v1791 c arg2 h2 arg3 h3 arg4 h4 arg5 h5 arg12 x0 x1 x2 x3 (ix2 j ch) := by pointwise [k0_pay164]
    refine e.trans ?_
    unfold kernelRun0_A.sl.v1791
    exact storedA c arg2 h2 arg3 h3 arg4 h4 arg5 h5 arg12 x0 x1 x2 x3 arg12.view.junk _ ⟨224 + j, by omega⟩ ch (by show 256 + 1 * j.val = 32 + (224 + j.val); omega) (by show 0 + 1 * ch.val = ch.val; omega)

theorem outA_eq (hc) (r : Fin 256) (ch : Fin 1024) :
    (out0_A_9 c i arg2 h2 arg3 h3 arg4 h4 arg5 h5 arg6 h6 arg7 h7 arg8 h8 arg9 h9 arg10 h10 arg11 h11 arg12 h12 arg13 h13 hc x0 x1 x2 x3 x4 x5 x6 x7 x8 (ix2 r ch) : EReal)
      = result (fun i => x0 (ix2 r i)) (fun i => taps (heldA c arg2 h2 arg3 h3 arg4 h4 arg5 h5 arg12 x0 x1 x2 x3) x4 r i + x5 (ix2 (0 : Fin 1) i)) (fun i => x6 (ix2 (0 : Fin 1) i))
          (fun i k => x7 (ix2 i k)) (fun k => x8 (ix2 (0 : Fin 1) k)) ch := by
  unfold out0_A_9
  rw [View.read_writes_eq_canon _ _ _ (cover0_A_9 c i arg2 h2 arg3 h3 arg4 h4 arg5 h5 arg6 h6 arg7 h7 arg8 h8 arg9 h9 arg10 h10 arg11 h11 arg12 h12 arg13 h13 hc x0 x1 x2 x3 x4 x5 x6 x7 x8)]
  unfold kernelRun0_A
  dsimp only
  rw [View.canon_unit_zero hz]
  unfold kernelRun0_A.sl.r kernelRun0_A.sl.r_101 kernelRun0_A.sl.r_100
  simp only [View.readAt_eq_ld, h2.read_unread, h9.read_unread, h10.read_unread]
  rw [View.ld_unit_zero hz, View.ld_unit_zero hz, View.ld_unit_zero hz]
  refine (last_apply _ _ _ _ r ch).trans ?_
  unfold result
  refine congrArg (fun z => x0 (ix2 r ch) + z + x8 (ix2 (0 : Fin 1) ch)) (Finset.sum_congr rfl fun k _ => congrArg (· * x7 (ix2 k ch)) ?_)
  unfold kernelRun0_A.sl.r_99
  refine (conv_apply _ _ _ _ _ _ _ _ _ _ _ _ _ _ (fun j ch => taps (heldA c arg2 h2 arg3 h3 arg4 h4 arg5 h5 arg12 x0 x1 x2 x3) x4 j ch)
    (colA_0 c arg2 h2 arg3 h3 arg4 h4 arg5 h5 arg6 h6 arg12 arg13 x0 x1 x2 x3 x4)
    (colA_1 c arg2 h2 arg3 h3 arg4 h4 arg5 h5 arg6 h6 arg12 arg13 x0 x1 x2 x3 x4)
    (colA_2 c arg2 h2 arg3 h3 arg4 h4 arg5 h5 arg6 h6 arg12 arg13 x0 x1 x2 x3 x4)
    (colA_3 c arg2 h2 arg3 h3 arg4 h4 arg5 h5 arg6 h6 arg12 arg13 x0 x1 x2 x3 x4)
    (colA_4 c arg2 h2 arg3 h3 arg4 h4 arg5 h5 arg6 h6 arg12 arg13 x0 x1 x2 x3 x4)
    (colA_5 c arg2 h2 arg3 h3 arg4 h4 arg5 h5 arg6 h6 arg12 arg13 x0 x1 x2 x3 x4)
    (colA_6 c arg2 h2 arg3 h3 arg4 h4 arg5 h5 arg6 h6 arg12 arg13 x0 x1 x2 x3 x4)
    (colA_7 c arg2 h2 arg3 h3 arg4 h4 arg5 h5 arg6 h6 arg12 arg13 x0 x1 x2 x3 x4)
    r k).trans ?_
  simp only [View.readAt_eq_ld, h7.read_unread, h8.read_unread]
  rw [View.ld_unit_zero hz, View.ld_unit_zero hz]

/-- The rows stored by this point, read back over anything: the gated rows of the tile. -/
theorem storedB (f : arg12.view.ty.Contents (Elt Ideal)) (y : S296x1024.Idx) (j : Fin 256) (ch : Fin 1024) (h : (y 0).val = 32 + j) (hch : (y 1).val = ch) :
    (arg12.view.read (Elt Ideal) (arg12.view.writes (Elt Ideal) f (kernelRun0_B.sl.HS0_1 c arg2 h2 arg3 h3 arg4 h4 arg5 h5 x0 x1 x2 x3)) y : EReal)
      = gated (fun i => x0 (ix2 j i)) (fun i => x1 (ix2 (0 : Fin 1) i)) (fun i k => x2 (ix2 i k)) (fun k => x3 (ix2 (0 : Fin 1) k)) ch := by
  unfold kernelRun0_B.sl.HS0_1
  refine (View.read_writes_cons_unit_of_mem arg12.view f (off := ![32, 0]) (off' := ![32, 0]) (size := ![256, 1024]) _ _ _ _
    (ix2 j ch : S256x1024.Idx) rfl ?_).trans ?_
  · intro a
    match a with
    | ⟨0, _⟩ => exact h
    | ⟨1, _⟩ => show (y 1).val = 0 + ch.val; omega
  · refine Eq.trans ?_ (pay5_apply x0 x1 x2 x3 j ch)
    simp only [View.readAt_eq_ld, h2.read_unread, h3.read_unread, h4.read_unread, h5.read_unread]
    rw [View.ld_unit_zero hz, View.ld_unit_zero hz, View.ld_unit_zero hz, View.ld_unit_zero hz]

theorem heldB_new (j : Fin 256) (ch : Fin 1024) :
    (heldB c arg2 h2 arg3 h3 arg4 h4 arg5 h5 arg12 h12 x0 x1 x2 x3 xs0 (ix2 ⟨32 + j, by omega⟩ ch) : EReal)
      = gated (fun i => x0 (ix2 j i)) (fun i => x1 (ix2 (0 : Fin 1) i)) (fun i k => x2 (ix2 i k)) (fun k => x3 (ix2 (0 : Fin 1) k)) ch := by
  unfold heldB
  exact storedB _ _ _ _ _ _ _ _ _ _ _ _ _ _ _ _ j ch rfl rfl

theorem heldB_old (j : Fin 32) (ch : Fin 1024) :
    (heldB c arg2 h2 arg3 h3 arg4 h4 arg5 h5 arg12 h12 x0 x1 x2 x3 xs0 (ix2 ⟨j, by omega⟩ ch) : EReal) = xs0 (ix2 ⟨j, by omega⟩ ch) := by
  unfold heldB kernelRun0_B.sl.HS0_1
  refine (View.read_writes_cons_unit_of_not_mem arg12.view (h12.unread xs0) (off := ![32, 0]) (off' := ![32, 0]) (size := ![256, 1024]) _ _ _ _
    rfl 0 (Or.inl j.2)).trans ?_
  show arg12.view.read (Elt Ideal) (h12.unread xs0) _ = _
  rw [h12.read_unread]

theorem haloB (hc) (j : Fin 32) (ch : Fin 1024) :
    (sout0_B_0 c i arg2 h2 arg3 h3 arg4 h4 arg5 h5 arg6 h6 arg7 h7 arg8 h8 arg9 h9 arg10 h10 arg11 h11 arg12 h12 arg13 h13 hc x0 x1 x2 x3 x4 x5 x6 x7 x8 xs0 (ix2 ⟨j, by omega⟩ ch) : EReal)
      = gated (fun i => x0 (ix2 ⟨224 + j, by omega⟩ i)) (fun i => x1 (ix2 (0 : Fin 1) i)) (fun i k => x2 (ix2 i k)) (fun k => x3 (ix2 (0 : Fin 1) k)) ch := by
  unfold sout0_B_0 kernelRun0_B
  dsimp only
  refine (View.read_writes_cons_unit_of_mem arg12.view (h12.unread xs0) (off := ![0, 0]) (off' := ![0, 0]) (size := ![32, 1024]) _ _ _ _
    (ix2 j ch : S32x1024.Idx) rfl ?_).trans ?_
  · intro a
    match a with
    | ⟨0, _⟩ => show j.val = 0 + j.val; omega
    | ⟨1, _⟩ => show ch.val = 0 + ch.val; omega
  · have e : (k0_pay164 (kernelRun0_B.sl.v1791 c arg2 h2 arg3 h3 arg4 h4 arg5 h5 arg12 x0 x1 x2 x3) (ix2 j ch) : EReal)
        = kernelRun0_B.sl.v1791 c arg2 h2 arg3 h3 arg4 h4 arg5 h5 arg12 x0 x1 x2 x3 (ix2 j ch) := by pointwise [k0_pay164]
    refine e.trans ?_
    unfold kernelRun0_B.sl.v1791
    exact storedB c arg2 h2 arg3 h3 arg4 h4 arg5 h5 arg12 x0 x1 x2 x3 arg12.view.junk _ ⟨224 + j, by omega⟩ ch (by show 256 + 1 * j.val = 32 + (224 + j.val); omega) (by show 0 + 1 * ch.val = ch.val; omega)

theorem outB_eq (hc) (r : Fin 256) (ch : Fin 1024) :
    (out0_B_9 c i arg2 h2 arg3 h3 arg4 h4 arg5 h5 arg6 h6 arg7 h7 arg8 h8 arg9 h9 arg10 h10 arg11 h11 arg12 h12 arg13 h13 hc x0 x1 x2 x3 x4 x5 x6 x7 x8 xs0 (ix2 r ch) : EReal)
      = result (fun i => x0 (ix2 r i)) (fun i => taps (heldB c arg2 h2 arg3 h3 arg4 h4 arg5 h5 arg12 h12 x0 x1 x2 x3 xs0) x4 r i + x5 (ix2 (0 : Fin 1) i)) (fun i => x6 (ix2 (0 : Fin 1) i))
          (fun i k => x7 (ix2 i k)) (fun k => x8 (ix2 (0 : Fin 1) k)) ch := by
  unfold out0_B_9
  rw [View.read_writes_eq_canon _ _ _ (cover0_B_9 c i arg2 h2 arg3 h3 arg4 h4 arg5 h5 arg6 h6 arg7 h7 arg8 h8 arg9 h9 arg10 h10 arg11 h11 arg12 h12 arg13 h13 hc x0 x1 x2 x3 x4 x5 x6 x7 x8 xs0)]
  unfold kernelRun0_B
  dsimp only
  rw [View.canon_unit_zero hz]
  unfold kernelRun0_B.sl.r kernelRun0_B.sl.r_101 kernelRun0_B.sl.r_100
  simp only [View.readAt_eq_ld, h2.read_unread, h9.read_unread, h10.read_unread]
  rw [View.ld_unit_zero hz, View.ld_unit_zero hz, View.ld_unit_zero hz]
  refine (last_apply _ _ _ _ r ch).trans ?_
  unfold result
  refine congrArg (fun z => x0 (ix2 r ch) + z + x8 (ix2 (0 : Fin 1) ch)) (Finset.sum_congr rfl fun k _ => congrArg (· * x7 (ix2 k ch)) ?_)
  unfold kernelRun0_B.sl.r_99
  refine (conv_apply _ _ _ _ _ _ _ _ _ _ _ _ _ _ (fun j ch => taps (heldB c arg2 h2 arg3 h3 arg4 h4 arg5 h5 arg12 h12 x0 x1 x2 x3 xs0) x4 j ch)
    (colB_0 c arg2 h2 arg3 h3 arg4 h4 arg5 h5 arg6 h6 arg12 h12 arg13 x0 x1 x2 x3 x4 xs0)
    (colB_1 c arg2 h2 arg3 h3 arg4 h4 arg5 h5 arg6 h6 arg12 h12 arg13 x0 x1 x2 x3 x4 xs0)
    (colB_2 c arg2 h2 arg3 h3 arg4 h4 arg5 h5 arg6 h6 arg12 h12 arg13 x0 x1 x2 x3 x4 xs0)
    (colB_3 c arg2 h2 arg3 h3 arg4 h4 arg5 h5 arg6 h6 arg12 h12 arg13 x0 x1 x2 x3 x4 xs0)
    (colB_4 c arg2 h2 arg3 h3 arg4 h4 arg5 h5 arg6 h6 arg12 h12 arg13 x0 x1 x2 x3 x4 xs0)
    (colB_5 c arg2 h2 arg3 h3 arg4 h4 arg5 h5 arg6 h6 arg12 h12 arg13 x0 x1 x2 x3 x4 xs0)
    (colB_6 c arg2 h2 arg3 h3 arg4 h4 arg5 h5 arg6 h6 arg12 h12 arg13 x0 x1 x2 x3 x4 xs0)
    (colB_7 c arg2 h2 arg3 h3 arg4 h4 arg5 h5 arg6 h6 arg12 h12 arg13 x0 x1 x2 x3 x4 xs0)
    r k).trans ?_
  simp only [View.readAt_eq_ld, h7.read_unread, h8.read_unread]
  rw [View.ld_unit_zero hz, View.ld_unit_zero hz]

end

end Cert.Conf

end
-- ==== Proof.ConfArray.lean ====
/- Hand-written, untrusted: THE CONFORMER'S ARRAY. Grid point `t` takes tile `t % 8` of sequence `t / 8`; the rows it carries to the next
   tile are the tile's last 32 gated rows (`carried`), so the rows it holds are the sequence's own, zero before its start (`tapsA_eq`,
   `tapsB_eq`), and the array is the layer's (`array_eq`). -/
module

public import proofs.«01_k».proof.Proof.ConfBlock
public import proofs.«01_k».proof.Proof.Gen.ConformerIdeal.Value

@[expose] public section

set_option maxRecDepth 16384

noncomputable section

namespace Cert.Conf

open Idealize.ShloMosaic Cert.ConformerIdeal Cert.ConformerIdeal.Gen Idealize.ShloMosaic.TcCoe Idealize.SL.Sem

/-! ## The layer -/

section
variable (a0 : Vec Ideal S32x2048x1024 .f32) (a1 : Vec Ideal S1024 .f32) (a2 : Vec Ideal S1024x2048 .f32) (a3 : Vec Ideal S2048 .f32)
  (a4 : Vec Ideal S31x1024 .f32) (a5 a6 : Vec Ideal S1024 .f32) (a7 : Vec Ideal S1024x1024 .f32) (a8 : Vec Ideal S1024 .f32)

/-- Row `s` of sequence `b`, gated. -/
def seqGated (b : Fin 32) (s : Fin 2048) (ch : Fin 1024) : EReal :=
  gated (fun i => a0 (ix3 b s i)) (fun i => a1 (ix1 i)) (fun i k => a2 (ix2 i k)) (fun k => a3 (ix1 k)) ch

/-- The gated sequence after 30 rows of zeros. -/
def past (b : Fin 32) (t : ℕ) (ch : Fin 1024) : EReal :=
  if h : 30 ≤ t ∧ t < 2078 then seqGated a0 a1 a2 a3 b ⟨t - 30, by omega⟩ ch else 0

/-- The convolution along the sequence. -/
def conv (b : Fin 32) (s : Fin 2048) (ch : Fin 1024) : EReal :=
  (∑ k ∈ Finset.range 31, past a0 a1 a2 a3 b (s + k) ch * at2 a4 k ch) + a5 (ix1 ch)

/-- The layer, at row `s` of sequence `b`. -/
def layerAt (b : Fin 32) (s : Fin 2048) (ch : Fin 1024) : EReal :=
  result (fun i => a0 (ix3 b s i)) (conv a0 a1 a2 a3 a4 a5 b s) (fun i => a6 (ix1 i)) (fun i k => a7 (ix2 i k)) (fun k => a8 (ix1 k)) ch

/-- The layer's array: the sequences' rows one after another. -/
def layer : Vec Ideal S65536x1024 .f32 := fun i =>
  layerAt a0 a1 a2 a3 a4 a5 a6 a7 a8 ⟨(i 0).val / 2048, by have h : (i 0).val < 65536 := (i 0).isLt; omega⟩ ⟨(i 0).val % 2048, by omega⟩ (i 1)

end

variable (m : (ℓ : Loc nD τ sig) → Buf (Elt Ideal) ℓ) (c : Dev nD)

/-! ## The inputs' blocks -/

/-- Argument 0. -/
abbrev argOf0 : Vec Ideal S32x2048x1024 .f32 := m ((c : Thread nD τ).loc main_arg0)
/-- Argument 1. -/
abbrev argOf1 : Vec Ideal S1024 .f32 := m ((c : Thread nD τ).loc main_arg1)
/-- Argument 2. -/
abbrev argOf2 : Vec Ideal S1024x2048 .f32 := m ((c : Thread nD τ).loc main_arg2)
/-- Argument 3. -/
abbrev argOf3 : Vec Ideal S2048 .f32 := m ((c : Thread nD τ).loc main_arg3)
/-- Argument 4. -/
abbrev argOf4 : Vec Ideal S31x1024 .f32 := m ((c : Thread nD τ).loc main_arg4)
/-- Argument 5. -/
abbrev argOf5 : Vec Ideal S1024 .f32 := m ((c : Thread nD τ).loc main_arg5)
/-- Argument 6. -/
abbrev argOf6 : Vec Ideal S1024 .f32 := m ((c : Thread nD τ).loc main_arg6)
/-- Argument 7. -/
abbrev argOf7 : Vec Ideal S1024x1024 .f32 := m ((c : Thread nD τ).loc main_arg7)
/-- Argument 8. -/
abbrev argOf8 : Vec Ideal S1024 .f32 := m ((c : Thread nD τ).loc main_arg8)

theorem V_0 : V m c main_v0 = shapeCast S65536x1024 (argOf0 m c) shapeCasts_S32x2048x1024_S65536x1024 := by
  unfold V
  simp only [hostOps0]
  after_results
  rfl

theorem V_1 : V m c main_v1 = shapeCast S1x1024 (argOf1 m c) shapeCasts_S1024_S1x1024 := by
  unfold V
  simp only [hostOps0]
  after_results
  rfl

theorem V_2 : V m c main_v2 = truncf (F := Ideal) .bf16 (argOf2 m c) bitsLt_bf16_f32 := by
  unfold V
  simp only [hostOps0]
  after_results

theorem V_3 : V m c main_v3 = shapeCast S1x2048 (argOf3 m c) shapeCasts_S2048_S1x2048 := by
  unfold V
  simp only [hostOps0]
  after_results
  rfl

theorem V_4 : V m c main_arg4 = argOf4 m c := by
  unfold V
  simp only [hostOps0]
  after_results

theorem V_5 : V m c main_v4 = shapeCast S1x1024 (argOf5 m c) shapeCasts_S1024_S1x1024 := by
  unfold V
  simp only [hostOps0]
  after_results
  rfl

theorem V_6 : V m c main_v5 = shapeCast S1x1024 (argOf6 m c) shapeCasts_S1024_S1x1024 := by
  unfold V
  simp only [hostOps0]
  after_results
  rfl

theorem V_7 : V m c main_v6 = truncf (F := Ideal) .bf16 (argOf7 m c) bitsLt_bf16_f32 := by
  unfold V
  simp only [hostOps0]
  after_results

theorem V_8 : V m c main_v7 = shapeCast S1x1024 (argOf8 m c) shapeCasts_S1024_S1x1024 := by
  unfold V
  simp only [hostOps0]
  after_results
  rfl

theorem index0 : ∀ t : Fin cfg0.N, win0_0.index t 0 = t.val ∧ win0_0.index t 1 = 0 := by
  decide +kernel

theorem index1 : ∀ t : Fin cfg0.N, win0_1.index t 0 = 0 ∧ win0_1.index t 1 = 0 := by
  decide +kernel

theorem index2 : ∀ t : Fin cfg0.N, win0_2.index t 0 = 0 ∧ win0_2.index t 1 = 0 := by
  decide +kernel

theorem index3 : ∀ t : Fin cfg0.N, win0_3.index t 0 = 0 ∧ win0_3.index t 1 = 0 := by
  decide +kernel

theorem index4 : ∀ t : Fin cfg0.N, win0_4.index t 0 = 0 ∧ win0_4.index t 1 = 0 := by
  decide +kernel

theorem index5 : ∀ t : Fin cfg0.N, win0_5.index t 0 = 0 ∧ win0_5.index t 1 = 0 := by
  decide +kernel

theorem index6 : ∀ t : Fin cfg0.N, win0_6.index t 0 = 0 ∧ win0_6.index t 1 = 0 := by
  decide +kernel

theorem index7 : ∀ t : Fin cfg0.N, win0_7.index t 0 = 0 ∧ win0_7.index t 1 = 0 := by
  decide +kernel

theorem index8 : ∀ t : Fin cfg0.N, win0_8.index t 0 = 0 ∧ win0_8.index t 1 = 0 := by
  decide +kernel

theorem index9 : ∀ t : Fin cfg0.N, win0_9.index t 0 = t.val ∧ win0_9.index t 1 = 0 := by
  decide +kernel

/-- The sequence and the row of it that a point's row `r` is. -/
abbrev seqOf (t : Fin cfg0.N) : Fin 32 := ⟨t.val / 8, by have h : t.val < 256 := t.isLt; omega⟩
abbrev posOf (t : Fin cfg0.N) (r : Fin 256) : Fin 2048 := ⟨256 * (t.val % 8) + r, by omega⟩

theorem block0 (t : Fin cfg0.N) (r : Fin 256) (i : Fin 1024) :
    ((iblk m c 0 t : Vec Ideal S256x1024 .f32) (ix2 r i) : EReal) = argOf0 m c (ix3 (seqOf t) (posOf t r) i) := by
  have ht : t.val < 256 := t.isLt
  have e : (shapeCast S65536x1024 (argOf0 m c) shapeCasts_S32x2048x1024_S65536x1024 (ix2 ⟨256 * t.val + r, by omega⟩ i : S65536x1024.Idx) : EReal)
      = argOf0 m c (ix3 (seqOf t) (posOf t r) i) := by
    generalize argOf0 m c = X
    have e : (shapeCast S65536x1024 X shapeCasts_S32x2048x1024_S65536x1024 (ix2 ⟨256 * t.val + r, by omega⟩ i : S65536x1024.Idx) : EReal)
        = X (ix3 ⟨(256 * t.val + r) / 2048, by omega⟩ ⟨(256 * t.val + r) % 2048, by omega⟩ i) := by
      pointwise []
    rw [e]
    congr 2
    · apply Fin.ext; show (256 * t.val + r.val) / 2048 = t.val / 8; omega
    · apply Fin.ext; show (256 * t.val + r.val) % 2048 = 256 * (t.val % 8) + r.val; omega
  rw [← e]
  unfold iblk
  rw [View.read_apply, ← V_0]
  show V m c main_v0 _ = _
  congr 1
  funext a
  apply Fin.ext
  match a with
  | ⟨0, _⟩ => show win0_0.index t 0 * 256 + 1 * r.val = _; rw [(index0 t).1]; simp; omega
  | ⟨1, _⟩ => show win0_0.index t 1 * 1024 + 1 * i.val = _; rw [(index0 t).2]; simp

theorem block1 (t : Fin cfg0.N) (i : Fin 1024) :
    ((iblk m c 1 t : Vec Ideal S1x1024 .f32) (ix2 (0 : Fin 1) i : S1x1024.Idx) : EReal) = argOf1 m c (ix1 i) := by
  have e : (shapeCast S1x1024 (argOf1 m c) shapeCasts_S1024_S1x1024 (ix2 (0 : Fin 1) i : S1x1024.Idx) : EReal) = argOf1 m c (ix1 i) := by
    generalize argOf1 m c = X
    pointwise []
  rw [← e]
  unfold iblk
  rw [View.read_apply, ← V_1]
  show V m c main_v1 _ = _
  congr 1
  funext a
  apply Fin.ext
  match a with
  | ⟨0, _⟩ => show win0_1.index t 0 * 1 + 1 * 0 = _; rw [(index1 t).1]; simp
  | ⟨1, _⟩ => show win0_1.index t 1 * 1024 + 1 * i.val = _; rw [(index1 t).2]; simp

theorem block2 (t : Fin cfg0.N) (j : Fin 1024) (i : Fin 2048) :
    ((iblk m c 2 t : Vec Ideal S1024x2048 .bf16) (ix2 j i : S1024x2048.Idx) : EReal) = argOf2 m c (ix2 j i) := by
  have e : (truncf (F := Ideal) .bf16 (argOf2 m c) bitsLt_bf16_f32 (ix2 j i : S1024x2048.Idx) : EReal) = argOf2 m c (ix2 j i) := rfl
  rw [← e]
  unfold iblk
  rw [View.read_apply, ← V_2]
  show V m c main_v2 _ = _
  congr 1
  funext a
  apply Fin.ext
  match a with
  | ⟨0, _⟩ => show win0_2.index t 0 * 1024 + 1 * j.val = _; rw [(index2 t).1]; simp
  | ⟨1, _⟩ => show win0_2.index t 1 * 2048 + 1 * i.val = _; rw [(index2 t).2]; simp

theorem block3 (t : Fin cfg0.N) (i : Fin 2048) :
    ((iblk m c 3 t : Vec Ideal S1x2048 .f32) (ix2 (0 : Fin 1) i : S1x2048.Idx) : EReal) = argOf3 m c (ix1 i) := by
  have e : (shapeCast S1x2048 (argOf3 m c) shapeCasts_S2048_S1x2048 (ix2 (0 : Fin 1) i : S1x2048.Idx) : EReal) = argOf3 m c (ix1 i) := by
    generalize argOf3 m c = X
    pointwise []
  rw [← e]
  unfold iblk
  rw [View.read_apply, ← V_3]
  show V m c main_v3 _ = _
  congr 1
  funext a
  apply Fin.ext
  match a with
  | ⟨0, _⟩ => show win0_3.index t 0 * 1 + 1 * 0 = _; rw [(index3 t).1]; simp
  | ⟨1, _⟩ => show win0_3.index t 1 * 2048 + 1 * i.val = _; rw [(index3 t).2]; simp

theorem block4 (t : Fin cfg0.N) (j : Fin 31) (i : Fin 1024) :
    ((iblk m c 4 t : Vec Ideal S31x1024 .f32) (ix2 j i : S31x1024.Idx) : EReal) = argOf4 m c (ix2 j i) := by
  unfold iblk
  rw [View.read_apply, ← V_4]
  show V m c main_arg4 _ = _
  congr 1
  funext a
  apply Fin.ext
  match a with
  | ⟨0, _⟩ => show win0_4.index t 0 * 31 + 1 * j.val = _; rw [(index4 t).1]; simp
  | ⟨1, _⟩ => show win0_4.index t 1 * 1024 + 1 * i.val = _; rw [(index4 t).2]; simp

theorem block5 (t : Fin cfg0.N) (i : Fin 1024) :
    ((iblk m c 5 t : Vec Ideal S1x1024 .f32) (ix2 (0 : Fin 1) i : S1x1024.Idx) : EReal) = argOf5 m c (ix1 i) := by
  have e : (shapeCast S1x1024 (argOf5 m c) shapeCasts_S1024_S1x1024 (ix2 (0 : Fin 1) i : S1x1024.Idx) : EReal) = argOf5 m c (ix1 i) := by
    generalize argOf5 m c = X
    pointwise []
  rw [← e]
  unfold iblk
  rw [View.read_apply, ← V_5]
  show V m c main_v4 _ = _
  congr 1
  funext a
  apply Fin.ext
  match a with
  | ⟨0, _⟩ => show win0_5.index t 0 * 1 + 1 * 0 = _; rw [(index5 t).1]; simp
  | ⟨1, _⟩ => show win0_5.index t 1 * 1024 + 1 * i.val = _; rw [(index5 t).2]; simp

theorem block6 (t : Fin cfg0.N) (i : Fin 1024) :
    ((iblk m c 6 t : Vec Ideal S1x1024 .f32) (ix2 (0 : Fin 1) i : S1x1024.Idx) : EReal) = argOf6 m c (ix1 i) := by
  have e : (shapeCast S1x1024 (argOf6 m c) shapeCasts_S1024_S1x1024 (ix2 (0 : Fin 1) i : S1x1024.Idx) : EReal) = argOf6 m c (ix1 i) := by
    generalize argOf6 m c = X
    pointwise []
  rw [← e]
  unfold iblk
  rw [View.read_apply, ← V_6]
  show V m c main_v5 _ = _
  congr 1
  funext a
  apply Fin.ext
  match a with
  | ⟨0, _⟩ => show win0_6.index t 0 * 1 + 1 * 0 = _; rw [(index6 t).1]; simp
  | ⟨1, _⟩ => show win0_6.index t 1 * 1024 + 1 * i.val = _; rw [(index6 t).2]; simp

theorem block7 (t : Fin cfg0.N) (j : Fin 1024) (i : Fin 1024) :
    ((iblk m c 7 t : Vec Ideal S1024x1024 .bf16) (ix2 j i : S1024x1024.Idx) : EReal) = argOf7 m c (ix2 j i) := by
  have e : (truncf (F := Ideal) .bf16 (argOf7 m c) bitsLt_bf16_f32 (ix2 j i : S1024x1024.Idx) : EReal) = argOf7 m c (ix2 j i) := rfl
  rw [← e]
  unfold iblk
  rw [View.read_apply, ← V_7]
  show V m c main_v6 _ = _
  congr 1
  funext a
  apply Fin.ext
  match a with
  | ⟨0, _⟩ => show win0_7.index t 0 * 1024 + 1 * j.val = _; rw [(index7 t).1]; simp
  | ⟨1, _⟩ => show win0_7.index t 1 * 1024 + 1 * i.val = _; rw [(index7 t).2]; simp

theorem block8 (t : Fin cfg0.N) (i : Fin 1024) :
    ((iblk m c 8 t : Vec Ideal S1x1024 .f32) (ix2 (0 : Fin 1) i : S1x1024.Idx) : EReal) = argOf8 m c (ix1 i) := by
  have e : (shapeCast S1x1024 (argOf8 m c) shapeCasts_S1024_S1x1024 (ix2 (0 : Fin 1) i : S1x1024.Idx) : EReal) = argOf8 m c (ix1 i) := by
    generalize argOf8 m c = X
    pointwise []
  rw [← e]
  unfold iblk
  rw [View.read_apply, ← V_8]
  show V m c main_v7 _ = _
  congr 1
  funext a
  apply Fin.ext
  match a with
  | ⟨0, _⟩ => show win0_8.index t 0 * 1 + 1 * 0 = _; rw [(index8 t).1]; simp
  | ⟨1, _⟩ => show win0_8.index t 1 * 1024 + 1 * i.val = _; rw [(index8 t).2]; simp

/-! ## The rows held -/

/-- A row of a point's tile, gated. -/
theorem tile_gated (t : Fin cfg0.N) (r : Fin 256) (ch : Fin 1024) :
    gated (fun i => (iblk m c 0 t : Vec Ideal S256x1024 .f32) (ix2 r i)) (fun i => (iblk m c 1 t : Vec Ideal S1x1024 .f32) (ix2 (0 : Fin 1) i))
        (fun i k => (iblk m c 2 t : Vec Ideal S1024x2048 .bf16) (ix2 i k)) (fun k => (iblk m c 3 t : Vec Ideal S1x2048 .f32) (ix2 (0 : Fin 1) k)) ch
      = seqGated (argOf0 m c) (argOf1 m c) (argOf2 m c) (argOf3 m c) (seqOf t) (posOf t r) ch := by
  unfold seqGated
  simp only [block0, block1, block2, block3]

/-- What a point carries on: the last 32 gated rows of its tile. -/
theorem carried (t : Fin cfg0.N) (j : Fin 32) (ch : Fin 1024) :
    ((outsAt0 m c t.val t.isLt).2 (ix2 ⟨j, by omega⟩ ch : S296x1024.Idx) : EReal)
      = seqGated (argOf0 m c) (argOf1 m c) (argOf2 m c) (argOf3 m c) (seqOf t) (posOf t ⟨224 + j, by omega⟩) ch := by
  by_cases h0 : t.val % 8 = 0
  · rw [outsAt0_A m c t h0]
    dsimp only
    refine (haloA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) j ch).trans (tile_gated m c t _ ch)
  · rw [outsAt0_B m c t h0]
    dsimp only
    refine (haloB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 (fun h => h0 ((hcond0_0 t).mp h)) j ch).trans (tile_gated m c t _ ch)

theorem tapsA_eq (t : Fin cfg0.N) (h0 : t.val % 8 = 0) (r : Fin 256) (ch : Fin 1024) :
    taps (heldA c (ms0_0 t) (hs0_0 t) (ms0_1 t) (hs0_1 t) (ms0_2 t) (hs0_2 t) (ms0_3 t) (hs0_3 t) scM0_0 (iblk m c 0 t) (iblk m c 1 t) (iblk m c 2 t) (iblk m c 3 t)) (iblk m c 4 t) r ch
      = ∑ k ∈ Finset.range 31, past (argOf0 m c) (argOf1 m c) (argOf2 m c) (argOf3 m c) (seqOf t) ((posOf t r).val + k) ch * at2 (argOf4 m c) k ch := by
  unfold taps
  refine Finset.sum_congr rfl fun k hk => ?_
  have hk : k < 31 := Finset.mem_range.mp hk
  have ew : at2 (iblk m c 4 t : Vec Ideal S31x1024 .f32) k ch = at2 (argOf4 m c) k ch :=
    (at2_eq _ (⟨k, hk⟩ : Fin 31) ch).trans ((block4 m c t ⟨k, hk⟩ ch).trans (at2_eq _ (⟨k, hk⟩ : Fin 31) ch).symm)
  rw [ew]
  refine congrArg (· * at2 (argOf4 m c) k ch) ?_
  refine (at2_eq _ (⟨2 + k + r, by omega⟩ : Fin 296) ch).trans ?_
  unfold past
  have hp : (posOf t r).val = 256 * (t.val % 8) + r.val := rfl
  by_cases hn : 30 ≤ k + r.val
  · rw [dif_pos ⟨by omega, by omega⟩]
    rw [show (⟨2 + k + r, by omega⟩ : Fin 296) = ⟨32 + (⟨k + r - 30, by omega⟩ : Fin 256).val, by show 32 + (k + r.val - 30) < 296; omega⟩ from
      Fin.ext (by show 2 + k + r.val = 32 + (k + r.val - 30); omega)]
    refine (heldA_new _ _ _ _ _ _ _ _ _ _ _ _ _ _ _ _).trans ((tile_gated m c t _ ch).trans ?_)
    refine congrArg (fun s => seqGated (argOf0 m c) (argOf1 m c) (argOf2 m c) (argOf3 m c) (seqOf t) s ch) (Fin.ext ?_)
    show 256 * (t.val % 8) + (k + r.val - 30) = 256 * (t.val % 8) + r.val + k - 30
    omega
  · rw [dif_neg (fun h => by omega)]
    rw [show (⟨2 + k + r, by omega⟩ : Fin 296) = ⟨(⟨2 + k + r, by omega⟩ : Fin 32).val, by show 2 + k + r.val < 296; omega⟩ from rfl]
    exact heldA_old _ _ _ _ _ _ _ _ _ _ _ _ _ _ _ _

theorem tapsB_eq (t : Fin cfg0.N) (h0 : ¬t.val % 8 = 0) (r : Fin 256) (ch : Fin 1024) :
    taps (heldB c (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (iblk m c 3 t) (outsAt0 m c (t.val - 1) (Nat.lt_of_le_of_lt (Nat.sub_le _ _) t.isLt)).2) (iblk m c 4 t) r ch
      = ∑ k ∈ Finset.range 31, past (argOf0 m c) (argOf1 m c) (argOf2 m c) (argOf3 m c) (seqOf t) ((posOf t r).val + k) ch * at2 (argOf4 m c) k ch := by
  unfold taps
  refine Finset.sum_congr rfl fun k hk => ?_
  have hk : k < 31 := Finset.mem_range.mp hk
  have ew : at2 (iblk m c 4 t : Vec Ideal S31x1024 .f32) k ch = at2 (argOf4 m c) k ch :=
    (at2_eq _ (⟨k, hk⟩ : Fin 31) ch).trans ((block4 m c t ⟨k, hk⟩ ch).trans (at2_eq _ (⟨k, hk⟩ : Fin 31) ch).symm)
  rw [ew]
  refine congrArg (· * at2 (argOf4 m c) k ch) ?_
  refine (at2_eq _ (⟨2 + k + r, by omega⟩ : Fin 296) ch).trans ?_
  unfold past
  have hp : (posOf t r).val = 256 * (t.val % 8) + r.val := rfl
  rw [dif_pos ⟨by omega, by omega⟩]
  by_cases hn : 30 ≤ k + r.val
  · rw [show (⟨2 + k + r, by omega⟩ : Fin 296) = ⟨32 + (⟨k + r - 30, by omega⟩ : Fin 256).val, by show 32 + (k + r.val - 30) < 296; omega⟩ from
      Fin.ext (by show 2 + k + r.val = 32 + (k + r.val - 30); omega)]
    refine (heldB_new _ _ _ _ _ _ _ _ _ _ _ _ _ _ _ _ _ _).trans ((tile_gated m c t _ ch).trans ?_)
    refine congrArg (fun s => seqGated (argOf0 m c) (argOf1 m c) (argOf2 m c) (argOf3 m c) (seqOf t) s ch) (Fin.ext ?_)
    show 256 * (t.val % 8) + (k + r.val - 30) = 256 * (t.val % 8) + r.val + k - 30
    omega
  · have hlt : t.val - 1 < cfg0.N := Nat.lt_of_le_of_lt (Nat.sub_le _ _) t.isLt
    rw [show (⟨2 + k + r, by omega⟩ : Fin 296) = ⟨(⟨2 + k + r, by omega⟩ : Fin 32).val, by show 2 + k + r.val < 296; omega⟩ from rfl]
    refine (heldB_old _ _ _ _ _ _ _ _ _ _ _ _ _ _ _ _ _ _).trans ((carried m c ⟨t.val - 1, hlt⟩ _ ch).trans ?_)
    refine congrArg₂ (fun b s => seqGated (argOf0 m c) (argOf1 m c) (argOf2 m c) (argOf3 m c) b s ch) (Fin.ext ?_) (Fin.ext ?_)
    · show (t.val - 1) / 8 = t.val / 8
      omega
    · show 256 * ((t.val - 1) % 8) + (224 + (2 + k + r.val)) = 256 * (t.val % 8) + r.val + k - 30
      omega

/-! ## The array -/

/-- What a point writes: the layer at the rows of its tile. -/
theorem point_eq (t : Fin cfg0.N) (r : Fin 256) (ch : Fin 1024) :
    ((outsAt0 m c t.val t.isLt).1 (ix2 r ch : S256x1024.Idx) : EReal) = layerAt (argOf0 m c) (argOf1 m c) (argOf2 m c) (argOf3 m c) (argOf4 m c) (argOf5 m c) (argOf6 m c) (argOf7 m c) (argOf8 m c) (seqOf t) (posOf t r) ch := by
  by_cases h0 : t.val % 8 = 0
  · rw [outsAt0_A m c t h0]
    dsimp only
    refine (outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) r ch).trans ?_
    simp only [tapsA_eq m c t h0, block0, block5, block6, block7, block8]
    rfl
  · rw [outsAt0_B m c t h0]
    dsimp only
    refine (outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 (fun h => h0 ((hcond0_0 t).mp h)) r ch).trans ?_
    simp only [tapsB_eq m c t h0, block0, block5, block6, block7, block8]
    rfl

/-- The point that writes an element of the result. -/
def pointOf (i : S65536x1024.Idx) : Fin cfg0.N :=
  ⟨(i 0).val / 256, by
    have h0 : (i 0).val < 65536 := (i 0).isLt
    show _ < 256
    omega⟩

/-- The result array is the layer's. -/
theorem array_eq : (dats m 0 c).arrAt 9 cfg0.N = layer (argOf0 m c) (argOf1 m c) (argOf2 m c) (argOf3 m c) (argOf4 m c) (argOf5 m c) (argOf6 m c) (argOf7 m c) (argOf8 m c) := by
  refine (dats m 0 c).arrAt_eq_of_cover 9 (layer (argOf0 m c) (argOf1 m c) (argOf2 m c) (argOf3 m c) (argOf4 m c) (argOf5 m c) (argOf6 m c) (argOf7 m c) (argOf8 m c)) (fun t _ => ?_) fun i => ⟨pointOf i, flush0_9 _, ?_⟩
  · rw [Value.flushed9]
    funext j
    rw [View.read_apply]
    show (outsAt0 m c t.val t.isLt).1 j = layer (argOf0 m c) (argOf1 m c) (argOf2 m c) (argOf3 m c) (argOf4 m c) (argOf5 m c) (argOf6 m c) (argOf7 m c) (argOf8 m c) _
    have hj : (show S256x1024.Idx from j) = (ix2 (show Fin 256 from j 0) (show Fin 1024 from j 1) : S256x1024.Idx) :=
      funext fun a => by match a with | ⟨0, _⟩ => rfl | ⟨1, _⟩ => rfl
    refine (congrArg _ hj).trans ((point_eq m c t (j 0) (j 1)).trans ?_)
    have h0 : (j 0).val < 256 := (j 0).isLt
    have e0 : (((cfg0.win 9).blk t).view.emb j 0).val = 256 * t.val + (j 0).val := by
      show win0_9.index t 0 * 256 + 1 * (j 0).val = _
      rw [(index9 t).1]
      omega
    have e1 : (((cfg0.win 9).blk t).view.emb j 1).val = (j 1).val := by
      show win0_9.index t 1 * 1024 + 1 * (j 1).val = _
      rw [(index9 t).2]
      omega
    unfold layer
    congr 1
    · apply Fin.ext
      show t.val / 8 = (((cfg0.win 9).blk t).view.emb j 0).val / 2048
      omega
    · apply Fin.ext
      show 256 * (t.val % 8) + (j 0).val = (((cfg0.win 9).blk t).view.emb j 0).val % 2048
      omega
    · apply Fin.ext
      exact e1.symm
  · show i ∈ ((View.whole main_v8).slice (win0_9.rect (pointOf i))).set
    rw [View.set_slice_whole, Rect.mem_set_unit]
    intro a
    have h0 : (i 0 : Nat) < 65536 := (i 0).isLt
    have h1 : (i 1 : Nat) < 1024 := (i 1).isLt
    obtain ⟨e0, e1⟩ := index9 (pointOf i)
    have hp : (pointOf i).val = (i 0).val / 256 := rfl
    match a with
    | ⟨0, _⟩ =>
      show win0_9.index (pointOf i) 0 * 256 ≤ (i 0 : Nat) ∧ (i 0 : Nat) < win0_9.index (pointOf i) 0 * 256 + 256
      omega
    | ⟨1, _⟩ =>
      show win0_9.index (pointOf i) 1 * 1024 ≤ (i 1 : Nat) ∧ (i 1 : Nat) < win0_9.index (pointOf i) 1 * 1024 + 1024
      omega

end Cert.Conf

end
-- ==== Proof.ConfRef.lean ====
/- Hand-written, untrusted: THE CONFORMER'S REFERENCE READ AT AN INDEX. Its gated sequence (`gated_apply`), the sequence after 30 rows of zeros
   (`past_apply`), the sum of the 31 shifted products (`conv_apply`), and the layer (`layer_apply`, `ref_eq`). -/
module

public import proofs.«01_k».proof.Proof.Gen.ConformerReferenceIdeal.Read
public import proofs.«01_k».proof.Proof.ConfArray
public import Idealize.ShloMosaic.Lib.Pointwise
public import Idealize.ShloMosaic.Lib.IdealHost

@[expose] public section

set_option maxRecDepth 16384

noncomputable section

namespace Cert.Conf.Ref

open Idealize.ShloMosaic Cert.ConformerReferenceIdeal Cert.ConformerReferenceIdeal.Gen Cert.ConformerReferenceIdeal.Read Cert.Conf

theorem zero_eq : (Ideal.ofBits .f32 0x00000000#32 : EReal) = 0 := by
  simp [Ideal.ofBits, Ideal.ieee]

variable (x0 : (⟨S32x2048x1024, .f32⟩ : BufTy).Contents (Elt Ideal)) (x1 : (⟨S1024, .f32⟩ : BufTy).Contents (Elt Ideal))
  (x2 : (⟨S1024x2048, .f32⟩ : BufTy).Contents (Elt Ideal)) (x3 : (⟨S2048, .f32⟩ : BufTy).Contents (Elt Ideal))
  (x4 : (⟨S31x1024, .f32⟩ : BufTy).Contents (Elt Ideal)) (x5 x6 : (⟨S1024, .f32⟩ : BufTy).Contents (Elt Ideal))
  (x7 : (⟨S1024x1024, .f32⟩ : BufTy).Contents (Elt Ideal)) (x8 : (⟨S1024, .f32⟩ : BufTy).Contents (Elt Ideal))

theorem gated_apply (b : Fin 32) (s : Fin 2048) (ch : Fin 1024) :
    (val_main_v25 (F := Ideal) x0 x1 x2 x3 (ix3 b s ch) : EReal) = seqGated x0 x1 x2 x3 b s ch := by
  have e : ∀ ch : Fin 2048, (val_main_v16 (F := Ideal) x0 x1 x2 x3 (ix3 b s ch) : EReal)
      = dense (fun i => x0 (ix3 b s i)) (fun i => x1 (ix1 i)) (fun i k => x2 (ix2 i k)) (fun k => x3 (ix1 k)) ch := by
    intro ch
    unfold dense norm
    pointwise [val_main_v16, val_main_v15, val_main_v14, val_main_v13, val_main_v12, val_main_v11, val_main_v10, val_main_v9, val_main_v8,
      val_main_v7, val_main_v6, val_main_v5, val_main_v4, val_main_v3, val_main_v2, val_main_v1, val_main_v0, val_main_cst, val_main_cst_0, val_main_cst_1]
  unfold val_main_v25 val_main_v24 val_main_v22 val_main_v20 val_main_v19 val_main_v18 val_main_v17
  unfold seqGated gated
  rw [← e, ← e]
  generalize val_main_v16 (F := Ideal) x0 x1 x2 x3 = Z
  unfold Ideal.logistic
  rw [← Ideal.ofBits_one_f32]
  pointwise [val_main_v23, val_main_v21, val_main_cst_2, val_main_cst_3]

theorem past_apply (b : Fin 32) (t : Fin 2078) (ch : Fin 1024) :
    (val_main_v26 (F := Ideal) x0 x1 x2 x3 (ix3 b t ch) : EReal) = past x0 x1 x2 x3 b t ch := by
  unfold past val_main_v26
  have e := gated_apply x0 x1 x2 x3 b
  generalize val_main_v25 (F := Ideal) x0 x1 x2 x3 = Z at e
  have ht := t.isLt
  pointwise [val_main_call0_v0, val_main_c]
  by_cases h : 30 ≤ t.val
  · rw [dif_pos ⟨h, by omega⟩, dif_pos h]
    exact e _ _
  · rw [dif_neg (fun k => h k.1), dif_neg h]
    show ((((0#32).toInt : ℤ) : ℝ) : EReal) = 0
    simp

theorem tap0 (b : Fin 32) (s : Fin 2048) (ch : Fin 1024) :
    (val_main_v32 (F := Ideal) x0 x1 x2 x3 x4 (ix3 b s ch) : EReal) = past x0 x1 x2 x3 b (s + 0) ch * at2 x4 0 ch := by
  rw [← past_apply x0 x1 x2 x3 b ⟨s + 0, by omega⟩ ch, show at2 x4 0 ch = (x4 (ix2 (0 : Fin 31) ch) : EReal) from at2_eq x4 (0 : Fin 31) ch]
  unfold val_main_v32 val_main_v27
  generalize val_main_v26 (F := Ideal) x0 x1 x2 x3 = Z
  pointwise [val_main_v31, val_main_v30, val_main_v29, val_main_v28]

theorem tap1 (b : Fin 32) (s : Fin 2048) (ch : Fin 1024) :
    (val_main_v40 (F := Ideal) x0 x1 x2 x3 x4 (ix3 b s ch) : EReal) = past x0 x1 x2 x3 b (s + 1) ch * at2 x4 1 ch := by
  rw [Nat.add_comm s.val 1, ← past_apply x0 x1 x2 x3 b ⟨1 + s, by omega⟩ ch, show at2 x4 1 ch = (x4 (ix2 (1 : Fin 31) ch) : EReal) from at2_eq x4 (1 : Fin 31) ch]
  unfold val_main_v40 val_main_v35
  generalize val_main_v26 (F := Ideal) x0 x1 x2 x3 = Z
  pointwise [val_main_v39, val_main_v38, val_main_v37, val_main_v36]

theorem tap2 (b : Fin 32) (s : Fin 2048) (ch : Fin 1024) :
    (val_main_v47 (F := Ideal) x0 x1 x2 x3 x4 (ix3 b s ch) : EReal) = past x0 x1 x2 x3 b (s + 2) ch * at2 x4 2 ch := by
  rw [Nat.add_comm s.val 2, ← past_apply x0 x1 x2 x3 b ⟨2 + s, by omega⟩ ch, show at2 x4 2 ch = (x4 (ix2 (2 : Fin 31) ch) : EReal) from at2_eq x4 (2 : Fin 31) ch]
  unfold val_main_v47 val_main_v42
  generalize val_main_v26 (F := Ideal) x0 x1 x2 x3 = Z
  pointwise [val_main_v46, val_main_v45, val_main_v44, val_main_v43]

theorem tap3 (b : Fin 32) (s : Fin 2048) (ch : Fin 1024) :
    (val_main_v54 (F := Ideal) x0 x1 x2 x3 x4 (ix3 b s ch) : EReal) = past x0 x1 x2 x3 b (s + 3) ch * at2 x4 3 ch := by
  rw [Nat.add_comm s.val 3, ← past_apply x0 x1 x2 x3 b ⟨3 + s, by omega⟩ ch, show at2 x4 3 ch = (x4 (ix2 (3 : Fin 31) ch) : EReal) from at2_eq x4 (3 : Fin 31) ch]
  unfold val_main_v54 val_main_v49
  generalize val_main_v26 (F := Ideal) x0 x1 x2 x3 = Z
  pointwise [val_main_v53, val_main_v52, val_main_v51, val_main_v50]

theorem tap4 (b : Fin 32) (s : Fin 2048) (ch : Fin 1024) :
    (val_main_v61 (F := Ideal) x0 x1 x2 x3 x4 (ix3 b s ch) : EReal) = past x0 x1 x2 x3 b (s + 4) ch * at2 x4 4 ch := by
  rw [Nat.add_comm s.val 4, ← past_apply x0 x1 x2 x3 b ⟨4 + s, by omega⟩ ch, show at2 x4 4 ch = (x4 (ix2 (4 : Fin 31) ch) : EReal) from at2_eq x4 (4 : Fin 31) ch]
  unfold val_main_v61 val_main_v56
  generalize val_main_v26 (F := Ideal) x0 x1 x2 x3 = Z
  pointwise [val_main_v60, val_main_v59, val_main_v58, val_main_v57]

theorem tap5 (b : Fin 32) (s : Fin 2048) (ch : Fin 1024) :
    (val_main_v68 (F := Ideal) x0 x1 x2 x3 x4 (ix3 b s ch) : EReal) = past x0 x1 x2 x3 b (s + 5) ch * at2 x4 5 ch := by
  rw [Nat.add_comm s.val 5, ← past_apply x0 x1 x2 x3 b ⟨5 + s, by omega⟩ ch, show at2 x4 5 ch = (x4 (ix2 (5 : Fin 31) ch) : EReal) from at2_eq x4 (5 : Fin 31) ch]
  unfold val_main_v68 val_main_v63
  generalize val_main_v26 (F := Ideal) x0 x1 x2 x3 = Z
  pointwise [val_main_v67, val_main_v66, val_main_v65, val_main_v64]

theorem tap6 (b : Fin 32) (s : Fin 2048) (ch : Fin 1024) :
    (val_main_v75 (F := Ideal) x0 x1 x2 x3 x4 (ix3 b s ch) : EReal) = past x0 x1 x2 x3 b (s + 6) ch * at2 x4 6 ch := by
  rw [Nat.add_comm s.val 6, ← past_apply x0 x1 x2 x3 b ⟨6 + s, by omega⟩ ch, show at2 x4 6 ch = (x4 (ix2 (6 : Fin 31) ch) : EReal) from at2_eq x4 (6 : Fin 31) ch]
  unfold val_main_v75 val_main_v70
  generalize val_main_v26 (F := Ideal) x0 x1 x2 x3 = Z
  pointwise [val_main_v74, val_main_v73, val_main_v72, val_main_v71]

theorem tap7 (b : Fin 32) (s : Fin 2048) (ch : Fin 1024) :
    (val_main_v82 (F := Ideal) x0 x1 x2 x3 x4 (ix3 b s ch) : EReal) = past x0 x1 x2 x3 b (s + 7) ch * at2 x4 7 ch := by
  rw [Nat.add_comm s.val 7, ← past_apply x0 x1 x2 x3 b ⟨7 + s, by omega⟩ ch, show at2 x4 7 ch = (x4 (ix2 (7 : Fin 31) ch) : EReal) from at2_eq x4 (7 : Fin 31) ch]
  unfold val_main_v82 val_main_v77
  generalize val_main_v26 (F := Ideal) x0 x1 x2 x3 = Z
  pointwise [val_main_v81, val_main_v80, val_main_v79, val_main_v78]

theorem tap8 (b : Fin 32) (s : Fin 2048) (ch : Fin 1024) :
    (val_main_v89 (F := Ideal) x0 x1 x2 x3 x4 (ix3 b s ch) : EReal) = past x0 x1 x2 x3 b (s + 8) ch * at2 x4 8 ch := by
  rw [Nat.add_comm s.val 8, ← past_apply x0 x1 x2 x3 b ⟨8 + s, by omega⟩ ch, show at2 x4 8 ch = (x4 (ix2 (8 : Fin 31) ch) : EReal) from at2_eq x4 (8 : Fin 31) ch]
  unfold val_main_v89 val_main_v84
  generalize val_main_v26 (F := Ideal) x0 x1 x2 x3 = Z
  pointwise [val_main_v88, val_main_v87, val_main_v86, val_main_v85]

theorem tap9 (b : Fin 32) (s : Fin 2048) (ch : Fin 1024) :
    (val_main_v96 (F := Ideal) x0 x1 x2 x3 x4 (ix3 b s ch) : EReal) = past x0 x1 x2 x3 b (s + 9) ch * at2 x4 9 ch := by
  rw [Nat.add_comm s.val 9, ← past_apply x0 x1 x2 x3 b ⟨9 + s, by omega⟩ ch, show at2 x4 9 ch = (x4 (ix2 (9 : Fin 31) ch) : EReal) from at2_eq x4 (9 : Fin 31) ch]
  unfold val_main_v96 val_main_v91
  generalize val_main_v26 (F := Ideal) x0 x1 x2 x3 = Z
  pointwise [val_main_v95, val_main_v94, val_main_v93, val_main_v92]

theorem tap10 (b : Fin 32) (s : Fin 2048) (ch : Fin 1024) :
    (val_main_v103 (F := Ideal) x0 x1 x2 x3 x4 (ix3 b s ch) : EReal) = past x0 x1 x2 x3 b (s + 10) ch * at2 x4 10 ch := by
  rw [Nat.add_comm s.val 10, ← past_apply x0 x1 x2 x3 b ⟨10 + s, by omega⟩ ch, show at2 x4 10 ch = (x4 (ix2 (10 : Fin 31) ch) : EReal) from at2_eq x4 (10 : Fin 31) ch]
  unfold val_main_v103 val_main_v98
  generalize val_main_v26 (F := Ideal) x0 x1 x2 x3 = Z
  pointwise [val_main_v102, val_main_v101, val_main_v100, val_main_v99]

theorem tap11 (b : Fin 32) (s : Fin 2048) (ch : Fin 1024) :
    (val_main_v110 (F := Ideal) x0 x1 x2 x3 x4 (ix3 b s ch) : EReal) = past x0 x1 x2 x3 b (s + 11) ch * at2 x4 11 ch := by
  rw [Nat.add_comm s.val 11, ← past_apply x0 x1 x2 x3 b ⟨11 + s, by omega⟩ ch, show at2 x4 11 ch = (x4 (ix2 (11 : Fin 31) ch) : EReal) from at2_eq x4 (11 : Fin 31) ch]
  unfold val_main_v110 val_main_v105
  generalize val_main_v26 (F := Ideal) x0 x1 x2 x3 = Z
  pointwise [val_main_v109, val_main_v108, val_main_v107, val_main_v106]

theorem tap12 (b : Fin 32) (s : Fin 2048) (ch : Fin 1024) :
    (val_main_v117 (F := Ideal) x0 x1 x2 x3 x4 (ix3 b s ch) : EReal) = past x0 x1 x2 x3 b (s + 12) ch * at2 x4 12 ch := by
  rw [Nat.add_comm s.val 12, ← past_apply x0 x1 x2 x3 b ⟨12 + s, by omega⟩ ch, show at2 x4 12 ch = (x4 (ix2 (12 : Fin 31) ch) : EReal) from at2_eq x4 (12 : Fin 31) ch]
  unfold val_main_v117 val_main_v112
  generalize val_main_v26 (F := Ideal) x0 x1 x2 x3 = Z
  pointwise [val_main_v116, val_main_v115, val_main_v114, val_main_v113]

theorem tap13 (b : Fin 32) (s : Fin 2048) (ch : Fin 1024) :
    (val_main_v124 (F := Ideal) x0 x1 x2 x3 x4 (ix3 b s ch) : EReal) = past x0 x1 x2 x3 b (s + 13) ch * at2 x4 13 ch := by
  rw [Nat.add_comm s.val 13, ← past_apply x0 x1 x2 x3 b ⟨13 + s, by omega⟩ ch, show at2 x4 13 ch = (x4 (ix2 (13 : Fin 31) ch) : EReal) from at2_eq x4 (13 : Fin 31) ch]
  unfold val_main_v124 val_main_v119
  generalize val_main_v26 (F := Ideal) x0 x1 x2 x3 = Z
  pointwise [val_main_v123, val_main_v122, val_main_v121, val_main_v120]

theorem tap14 (b : Fin 32) (s : Fin 2048) (ch : Fin 1024) :
    (val_main_v131 (F := Ideal) x0 x1 x2 x3 x4 (ix3 b s ch) : EReal) = past x0 x1 x2 x3 b (s + 14) ch * at2 x4 14 ch := by
  rw [Nat.add_comm s.val 14, ← past_apply x0 x1 x2 x3 b ⟨14 + s, by omega⟩ ch, show at2 x4 14 ch = (x4 (ix2 (14 : Fin 31) ch) : EReal) from at2_eq x4 (14 : Fin 31) ch]
  unfold val_main_v131 val_main_v126
  generalize val_main_v26 (F := Ideal) x0 x1 x2 x3 = Z
  pointwise [val_main_v130, val_main_v129, val_main_v128, val_main_v127]

theorem tap15 (b : Fin 32) (s : Fin 2048) (ch : Fin 1024) :
    (val_main_v138 (F := Ideal) x0 x1 x2 x3 x4 (ix3 b s ch) : EReal) = past x0 x1 x2 x3 b (s + 15) ch * at2 x4 15 ch := by
  rw [Nat.add_comm s.val 15, ← past_apply x0 x1 x2 x3 b ⟨15 + s, by omega⟩ ch, show at2 x4 15 ch = (x4 (ix2 (15 : Fin 31) ch) : EReal) from at2_eq x4 (15 : Fin 31) ch]
  unfold val_main_v138 val_main_v133
  generalize val_main_v26 (F := Ideal) x0 x1 x2 x3 = Z
  pointwise [val_main_v137, val_main_v136, val_main_v135, val_main_v134]

theorem tap16 (b : Fin 32) (s : Fin 2048) (ch : Fin 1024) :
    (val_main_v145 (F := Ideal) x0 x1 x2 x3 x4 (ix3 b s ch) : EReal) = past x0 x1 x2 x3 b (s + 16) ch * at2 x4 16 ch := by
  rw [Nat.add_comm s.val 16, ← past_apply x0 x1 x2 x3 b ⟨16 + s, by omega⟩ ch, show at2 x4 16 ch = (x4 (ix2 (16 : Fin 31) ch) : EReal) from at2_eq x4 (16 : Fin 31) ch]
  unfold val_main_v145 val_main_v140
  generalize val_main_v26 (F := Ideal) x0 x1 x2 x3 = Z
  pointwise [val_main_v144, val_main_v143, val_main_v142, val_main_v141]

theorem tap17 (b : Fin 32) (s : Fin 2048) (ch : Fin 1024) :
    (val_main_v152 (F := Ideal) x0 x1 x2 x3 x4 (ix3 b s ch) : EReal) = past x0 x1 x2 x3 b (s + 17) ch * at2 x4 17 ch := by
  rw [Nat.add_comm s.val 17, ← past_apply x0 x1 x2 x3 b ⟨17 + s, by omega⟩ ch, show at2 x4 17 ch = (x4 (ix2 (17 : Fin 31) ch) : EReal) from at2_eq x4 (17 : Fin 31) ch]
  unfold val_main_v152 val_main_v147
  generalize val_main_v26 (F := Ideal) x0 x1 x2 x3 = Z
  pointwise [val_main_v151, val_main_v150, val_main_v149, val_main_v148]

theorem tap18 (b : Fin 32) (s : Fin 2048) (ch : Fin 1024) :
    (val_main_v159 (F := Ideal) x0 x1 x2 x3 x4 (ix3 b s ch) : EReal) = past x0 x1 x2 x3 b (s + 18) ch * at2 x4 18 ch := by
  rw [Nat.add_comm s.val 18, ← past_apply x0 x1 x2 x3 b ⟨18 + s, by omega⟩ ch, show at2 x4 18 ch = (x4 (ix2 (18 : Fin 31) ch) : EReal) from at2_eq x4 (18 : Fin 31) ch]
  unfold val_main_v159 val_main_v154
  generalize val_main_v26 (F := Ideal) x0 x1 x2 x3 = Z
  pointwise [val_main_v158, val_main_v157, val_main_v156, val_main_v155]

theorem tap19 (b : Fin 32) (s : Fin 2048) (ch : Fin 1024) :
    (val_main_v166 (F := Ideal) x0 x1 x2 x3 x4 (ix3 b s ch) : EReal) = past x0 x1 x2 x3 b (s + 19) ch * at2 x4 19 ch := by
  rw [Nat.add_comm s.val 19, ← past_apply x0 x1 x2 x3 b ⟨19 + s, by omega⟩ ch, show at2 x4 19 ch = (x4 (ix2 (19 : Fin 31) ch) : EReal) from at2_eq x4 (19 : Fin 31) ch]
  unfold val_main_v166 val_main_v161
  generalize val_main_v26 (F := Ideal) x0 x1 x2 x3 = Z
  pointwise [val_main_v165, val_main_v164, val_main_v163, val_main_v162]

theorem tap20 (b : Fin 32) (s : Fin 2048) (ch : Fin 1024) :
    (val_main_v173 (F := Ideal) x0 x1 x2 x3 x4 (ix3 b s ch) : EReal) = past x0 x1 x2 x3 b (s + 20) ch * at2 x4 20 ch := by
  rw [Nat.add_comm s.val 20, ← past_apply x0 x1 x2 x3 b ⟨20 + s, by omega⟩ ch, show at2 x4 20 ch = (x4 (ix2 (20 : Fin 31) ch) : EReal) from at2_eq x4 (20 : Fin 31) ch]
  unfold val_main_v173 val_main_v168
  generalize val_main_v26 (F := Ideal) x0 x1 x2 x3 = Z
  pointwise [val_main_v172, val_main_v171, val_main_v170, val_main_v169]

theorem tap21 (b : Fin 32) (s : Fin 2048) (ch : Fin 1024) :
    (val_main_v180 (F := Ideal) x0 x1 x2 x3 x4 (ix3 b s ch) : EReal) = past x0 x1 x2 x3 b (s + 21) ch * at2 x4 21 ch := by
  rw [Nat.add_comm s.val 21, ← past_apply x0 x1 x2 x3 b ⟨21 + s, by omega⟩ ch, show at2 x4 21 ch = (x4 (ix2 (21 : Fin 31) ch) : EReal) from at2_eq x4 (21 : Fin 31) ch]
  unfold val_main_v180 val_main_v175
  generalize val_main_v26 (F := Ideal) x0 x1 x2 x3 = Z
  pointwise [val_main_v179, val_main_v178, val_main_v177, val_main_v176]

theorem tap22 (b : Fin 32) (s : Fin 2048) (ch : Fin 1024) :
    (val_main_v187 (F := Ideal) x0 x1 x2 x3 x4 (ix3 b s ch) : EReal) = past x0 x1 x2 x3 b (s + 22) ch * at2 x4 22 ch := by
  rw [Nat.add_comm s.val 22, ← past_apply x0 x1 x2 x3 b ⟨22 + s, by omega⟩ ch, show at2 x4 22 ch = (x4 (ix2 (22 : Fin 31) ch) : EReal) from at2_eq x4 (22 : Fin 31) ch]
  unfold val_main_v187 val_main_v182
  generalize val_main_v26 (F := Ideal) x0 x1 x2 x3 = Z
  pointwise [val_main_v186, val_main_v185, val_main_v184, val_main_v183]

theorem tap23 (b : Fin 32) (s : Fin 2048) (ch : Fin 1024) :
    (val_main_v194 (F := Ideal) x0 x1 x2 x3 x4 (ix3 b s ch) : EReal) = past x0 x1 x2 x3 b (s + 23) ch * at2 x4 23 ch := by
  rw [Nat.add_comm s.val 23, ← past_apply x0 x1 x2 x3 b ⟨23 + s, by omega⟩ ch, show at2 x4 23 ch = (x4 (ix2 (23 : Fin 31) ch) : EReal) from at2_eq x4 (23 : Fin 31) ch]
  unfold val_main_v194 val_main_v189
  generalize val_main_v26 (F := Ideal) x0 x1 x2 x3 = Z
  pointwise [val_main_v193, val_main_v192, val_main_v191, val_main_v190]

theorem tap24 (b : Fin 32) (s : Fin 2048) (ch : Fin 1024) :
    (val_main_v201 (F := Ideal) x0 x1 x2 x3 x4 (ix3 b s ch) : EReal) = past x0 x1 x2 x3 b (s + 24) ch * at2 x4 24 ch := by
  rw [Nat.add_comm s.val 24, ← past_apply x0 x1 x2 x3 b ⟨24 + s, by omega⟩ ch, show at2 x4 24 ch = (x4 (ix2 (24 : Fin 31) ch) : EReal) from at2_eq x4 (24 : Fin 31) ch]
  unfold val_main_v201 val_main_v196
  generalize val_main_v26 (F := Ideal) x0 x1 x2 x3 = Z
  pointwise [val_main_v200, val_main_v199, val_main_v198, val_main_v197]

theorem tap25 (b : Fin 32) (s : Fin 2048) (ch : Fin 1024) :
    (val_main_v208 (F := Ideal) x0 x1 x2 x3 x4 (ix3 b s ch) : EReal) = past x0 x1 x2 x3 b (s + 25) ch * at2 x4 25 ch := by
  rw [Nat.add_comm s.val 25, ← past_apply x0 x1 x2 x3 b ⟨25 + s, by omega⟩ ch, show at2 x4 25 ch = (x4 (ix2 (25 : Fin 31) ch) : EReal) from at2_eq x4 (25 : Fin 31) ch]
  unfold val_main_v208 val_main_v203
  generalize val_main_v26 (F := Ideal) x0 x1 x2 x3 = Z
  pointwise [val_main_v207, val_main_v206, val_main_v205, val_main_v204]

theorem tap26 (b : Fin 32) (s : Fin 2048) (ch : Fin 1024) :
    (val_main_v215 (F := Ideal) x0 x1 x2 x3 x4 (ix3 b s ch) : EReal) = past x0 x1 x2 x3 b (s + 26) ch * at2 x4 26 ch := by
  rw [Nat.add_comm s.val 26, ← past_apply x0 x1 x2 x3 b ⟨26 + s, by omega⟩ ch, show at2 x4 26 ch = (x4 (ix2 (26 : Fin 31) ch) : EReal) from at2_eq x4 (26 : Fin 31) ch]
  unfold val_main_v215 val_main_v210
  generalize val_main_v26 (F := Ideal) x0 x1 x2 x3 = Z
  pointwise [val_main_v214, val_main_v213, val_main_v212, val_main_v211]

theorem tap27 (b : Fin 32) (s : Fin 2048) (ch : Fin 1024) :
    (val_main_v222 (F := Ideal) x0 x1 x2 x3 x4 (ix3 b s ch) : EReal) = past x0 x1 x2 x3 b (s + 27) ch * at2 x4 27 ch := by
  rw [Nat.add_comm s.val 27, ← past_apply x0 x1 x2 x3 b ⟨27 + s, by omega⟩ ch, show at2 x4 27 ch = (x4 (ix2 (27 : Fin 31) ch) : EReal) from at2_eq x4 (27 : Fin 31) ch]
  unfold val_main_v222 val_main_v217
  generalize val_main_v26 (F := Ideal) x0 x1 x2 x3 = Z
  pointwise [val_main_v221, val_main_v220, val_main_v219, val_main_v218]

theorem tap28 (b : Fin 32) (s : Fin 2048) (ch : Fin 1024) :
    (val_main_v229 (F := Ideal) x0 x1 x2 x3 x4 (ix3 b s ch) : EReal) = past x0 x1 x2 x3 b (s + 28) ch * at2 x4 28 ch := by
  rw [Nat.add_comm s.val 28, ← past_apply x0 x1 x2 x3 b ⟨28 + s, by omega⟩ ch, show at2 x4 28 ch = (x4 (ix2 (28 : Fin 31) ch) : EReal) from at2_eq x4 (28 : Fin 31) ch]
  unfold val_main_v229 val_main_v224
  generalize val_main_v26 (F := Ideal) x0 x1 x2 x3 = Z
  pointwise [val_main_v228, val_main_v227, val_main_v226, val_main_v225]

theorem tap29 (b : Fin 32) (s : Fin 2048) (ch : Fin 1024) :
    (val_main_v236 (F := Ideal) x0 x1 x2 x3 x4 (ix3 b s ch) : EReal) = past x0 x1 x2 x3 b (s + 29) ch * at2 x4 29 ch := by
  rw [Nat.add_comm s.val 29, ← past_apply x0 x1 x2 x3 b ⟨29 + s, by omega⟩ ch, show at2 x4 29 ch = (x4 (ix2 (29 : Fin 31) ch) : EReal) from at2_eq x4 (29 : Fin 31) ch]
  unfold val_main_v236 val_main_v231
  generalize val_main_v26 (F := Ideal) x0 x1 x2 x3 = Z
  pointwise [val_main_v235, val_main_v234, val_main_v233, val_main_v232]

theorem tap30 (b : Fin 32) (s : Fin 2048) (ch : Fin 1024) :
    (val_main_v243 (F := Ideal) x0 x1 x2 x3 x4 (ix3 b s ch) : EReal) = past x0 x1 x2 x3 b (s + 30) ch * at2 x4 30 ch := by
  rw [Nat.add_comm s.val 30, ← past_apply x0 x1 x2 x3 b ⟨30 + s, by omega⟩ ch, show at2 x4 30 ch = (x4 (ix2 (30 : Fin 31) ch) : EReal) from at2_eq x4 (30 : Fin 31) ch]
  unfold val_main_v243 val_main_v238
  generalize val_main_v26 (F := Ideal) x0 x1 x2 x3 = Z
  pointwise [val_main_v242, val_main_v241, val_main_v240, val_main_v239]

theorem conv_apply (b : Fin 32) (s : Fin 2048) (ch : Fin 1024) :
    (val_main_v247 (F := Ideal) x0 x1 x2 x3 x4 x5 (ix3 b s ch) : EReal) = conv x0 x1 x2 x3 x4 x5 b s ch := by
  unfold conv
  have z : (val_main_v33 (F := Ideal) (ix3 b s ch) : EReal) = 0 := by
    rw [← zero_eq]
    pointwise [val_main_v33, val_main_cst_4]
  have w : (val_main_v246 (F := Ideal) x5 (ix3 b s ch) : EReal) = x5 (ix1 ch) := by
    pointwise [val_main_v246, val_main_v245]
  simp only [Finset.sum_range_succ, Finset.sum_range_zero]
  rw [val_main_v247_apply, w]
  rw [val_main_v244_apply, val_main_v237_apply, val_main_v230_apply, val_main_v223_apply, val_main_v216_apply, val_main_v209_apply, val_main_v202_apply, val_main_v195_apply, val_main_v188_apply, val_main_v181_apply, val_main_v174_apply, val_main_v167_apply, val_main_v160_apply, val_main_v153_apply, val_main_v146_apply, val_main_v139_apply, val_main_v132_apply, val_main_v125_apply, val_main_v118_apply, val_main_v111_apply, val_main_v104_apply, val_main_v97_apply, val_main_v90_apply, val_main_v83_apply, val_main_v76_apply, val_main_v69_apply, val_main_v62_apply, val_main_v55_apply, val_main_v48_apply, val_main_v41_apply, val_main_v34_apply, z,
    tap0, tap1, tap2, tap3, tap4, tap5, tap6, tap7, tap8, tap9, tap10, tap11, tap12, tap13, tap14, tap15, tap16, tap17, tap18, tap19, tap20, tap21, tap22, tap23, tap24, tap25, tap26, tap27, tap28, tap29, tap30]
  rfl

theorem layer_apply (b : Fin 32) (s : Fin 2048) (ch : Fin 1024) :
    (val_main_v266 (F := Ideal) x0 x1 x2 x3 x4 x5 x6 x7 x8 (ix3 b s ch) : EReal) = layerAt x0 x1 x2 x3 x4 x5 x6 x7 x8 b s ch := by
  unfold layerAt result
  have e := conv_apply x0 x1 x2 x3 x4 x5 b s
  unfold val_main_v266 val_main_v265 val_main_v262 val_main_v261 val_main_call1_v5 val_main_call1_v3 val_main_call1_v1 val_main_call1_v0
  have a : ∀ ch : Fin 1024, (val_main_v260 (F := Ideal) x0 x1 x2 x3 x4 x5 x6 (ix3 b s ch) : EReal)
      = conv x0 x1 x2 x3 x4 x5 b s ch * norm (conv x0 x1 x2 x3 x4 x5 b s) * x6 (ix1 ch) := by
    intro ch
    unfold norm
    simp only [← e]
    unfold val_main_v260 val_main_v257 val_main_v256 val_main_v255 val_main_v254 val_main_v252 val_main_v250 val_main_v249 val_main_v248
    generalize val_main_v247 (F := Ideal) x0 x1 x2 x3 x4 x5 = Z
    pointwise [val_main_v259, val_main_v258, val_main_v253, val_main_cst_7, val_main_v251, val_main_cst_6, val_main_cst_5]
  generalize val_main_v260 (F := Ideal) x0 x1 x2 x3 x4 x5 x6 = Z at a
  unfold active Ideal.logistic
  rw [← Ideal.ofBits_one_f32]
  simp only [← a]
  rw [add_assoc]
  pointwise [val_main_v264, val_main_v263, val_main_call1_v4, val_main_call1_cst_0, val_main_call1_v2, val_main_call1_cst]

theorem ref_apply (R : Fin 65536) (C : Fin 1024) :
    (val_main_v267 (F := Ideal) x0 x1 x2 x3 x4 x5 x6 x7 x8 (ix2 R C) : EReal)
      = layerAt x0 x1 x2 x3 x4 x5 x6 x7 x8 ⟨R / 2048, by omega⟩ ⟨R % 2048, by omega⟩ C := by
  rw [← layer_apply]
  unfold val_main_v267
  generalize val_main_v266 (F := Ideal) x0 x1 x2 x3 x4 x5 x6 x7 x8 = Z
  pointwise []

theorem ref_eq : val_main_v267 (F := Ideal) x0 x1 x2 x3 x4 x5 x6 x7 x8 = layer x0 x1 x2 x3 x4 x5 x6 x7 x8 := by
  funext i
  have hi : i = (ix2 (i 0) (i 1) : (⟨2, ![65536, 1024]⟩ : Shape).Idx) :=
    funext fun a => by match a with | ⟨0, _⟩ => rfl | ⟨1, _⟩ => rfl
  exact (congrArg (val_main_v267 (F := Ideal) x0 x1 x2 x3 x4 x5 x6 x7 x8) hi).trans (ref_apply x0 x1 x2 x3 x4 x5 x6 x7 x8 (i 0) (i 1))

end Cert.Conf.Ref

end
-- ==== Proof.ConformerClaim.lean ====
/- Hand-written, untrusted: THE CLAIMS ABOUT THE CONFORMER. -/
module

public import proofs.«01_k».proof.Defs
public import proofs.«01_k».proof.Proof.Gen.Conformer.Frame
public import proofs.«01_k».proof.Proof.Gen.ConformerIdeal.Frame
public import proofs.«01_k».proof.Proof.Gen.ConformerIdeal.Value
public import proofs.«01_k».proof.Proof.Gen.ConformerReferenceIdeal.Run
public import proofs.«01_k».proof.Proof.ConfRef
public import Idealize.ShloMosaic.Adequacy
public import Idealize.ShloMosaic.Init

@[expose] public section

noncomputable section

namespace Cert.Conf

open Idealize.ShloMosaic Idealize.SL.Sem

theorem frame_reference : Cert.quiescent_ConformerReferenceIdeal := fun m ρ _ =>
  (θ_run Cert.ConformerReferenceIdeal.defs _ _).mono (fun r h => ⟨fun c => (h c).2, sem_eq_zero_of_no_sems (by decide) r.2⟩)
    (Cert.ConformerReferenceIdeal.Value.run (F := Ideal) m ρ)

theorem preserves : Cert.preserves_Conformer_ConformerIdeal := trivial

theorem layer_congr {a0 b0 a1 b1 a2 b2 a3 b3 a4 b4 a5 b5 a6 b6 a7 b7 a8 b8} (h0 : a0 = b0) (h1 : a1 = b1) (h2 : a2 = b2) (h3 : a3 = b3)
    (h4 : a4 = b4) (h5 : a5 = b5) (h6 : a6 = b6) (h7 : a7 = b7) (h8 : a8 = b8) :
    layer a0 a1 a2 a3 a4 a5 a6 a7 a8 = layer b0 b1 b2 b3 b4 b5 b6 b7 b8 := by
  subst h0 h1 h2 h3 h4 h5 h6 h7 h8
  rfl

theorem algebraic : Cert.algebraic_ConformerIdeal_ConformerReferenceIdeal := by
  intro m g m' g' _ hm
  refine ⟨fun c => (Cert.ConformerIdeal.Gen.dats m 0 c).arrAt 9 Cert.ConformerIdeal.cfg0.N, Cert.ConformerIdeal.Value.run_blocks m g,
    (θ_run Cert.ConformerReferenceIdeal.defs _ _).mono (fun r h c => ⟨(h c).1.trans ?_, (h c).2⟩)
      (Cert.ConformerReferenceIdeal.Value.run (F := Ideal) m' g')⟩
  obtain ⟨h0, h1, h2, h3, h4, h5, h6, h7, h8⟩ := hm c
  refine Eq.trans ?_ (array_eq m c).symm
  refine (Cert.ConformerReferenceIdeal.Read.val_main_v267_eq _).trans ((Ref.ref_eq _ _ _ _ _ _ _ _ _).trans ?_)
  unfold argOf0 argOf1 argOf2 argOf3 argOf4 argOf5 argOf6 argOf7 argOf8
  exact layer_congr h0 h1 h2 h3 h4 h5 h6 h7 h8

end Cert.Conf

end
-- ==== Proof.MixOutBlock.lean ====
/- Hand-written, untrusted: WHAT ONE GRID POINT OF THE MIXER'S OUTPUT COMPUTES. It fills a buffer with the gated rows, a block of 128 rows
   by 128 channels at a time (`piece`, `gate_eq`), and adds to the residual the product of the gated row with the upper half of the output
   matrix and of the attention's row with the lower half (`out_eq`). -/
module

public import proofs.«01_k».proof.Proof.Gen.MixerOutIdeal.Frame
public import Idealize.ShloMosaic.Lib.Pipeline.ReadBack
public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.Tactic

@[expose] public section

set_option maxRecDepth 16384

noncomputable section

namespace Cert.MixOut

open Idealize.ShloMosaic Cert.MixerOutIdeal Cert.MixerOutIdeal.Gen Idealize.ShloMosaic.TcCoe Idealize.SL.Sem

theorem hz : (![0, 0] : Fin 2 → Nat) = fun _ => 0 := funext fun a => by fin_cases a <;> rfl

theorem zero_eq : (Ideal.ofBits .bf16 0x0000#16 : EReal) = 0 := by
  simp [Ideal.ofBits, Ideal.ieee]

/-- The two halves of a sum over 256. -/
theorem sum_halves (f : Fin 256 → EReal) : ∑ k, f k = (∑ j : Fin 128, f ⟨j, by omega⟩) + ∑ j : Fin 128, f ⟨128 + j, by omega⟩ :=
  Fin.sum_univ_add (a := 128) (b := 128) f

theorem left_bit : ∀ l : Fin 128, IntOp.cmpi .slt (BitVec.ofNat 32 l.val) 64#32 = if l.val < 64 then 1#1 else 0#1 := by
  decide +kernel

/-- One block: each lane takes the half of the paired weights that its head is. -/
theorem pay4_apply (v : Vec Ideal S128x128 .bf16) (w : Vec Ideal S1x128x256 .bf16) (b : Vec Ideal S128x128 .f32) (u : Vec Ideal S128x128 .bf16)
    (r l : Fin 128) :
    (k0_pay4 v w b u (ix2 r l) : EReal)
      = u (ix2 r l) * ((∑ j : Fin 128, w (ix3 (0 : Fin 1) r ⟨128 * (l.val / 64) + j, by omega⟩) * v (ix2 j l)) + b (ix2 r l)) := by
  unfold k0_pay4
  generalize hZ : concatenate S256x128 0 _ _ = Z
  have e0 : ∀ j : Fin 128, (Z (ix2 ⟨j, by omega⟩ l) : EReal) = if l.val < 64 then v (ix2 j l) else 0 := by
    intro j
    rw [← hZ]
    pointwise [k0_pay3]
    rw [left_bit]
    split <;> rfl
  have e1 : ∀ j : Fin 128, (Z (ix2 ⟨128 + j, by omega⟩ l) : EReal) = if l.val < 64 then 0 else v (ix2 j l) := by
    intro j
    rw [← hZ]
    pointwise [k0_pay3]
    rw [left_bit]
    split <;> rfl
  pointwise []
  refine congrArg (fun z => u (ix2 r l) * (z + b (ix2 r l))) ((sum_halves _).trans ?_)
  simp only [e0, e1]
  by_cases h : l.val < 64
  · simp only [if_pos h, mul_zero, Finset.sum_const_zero, add_zero]
    refine Finset.sum_congr rfl fun j _ => ?_
    congr 3
    apply Fin.ext
    show j.val = 128 * (l.val / 64) + j.val
    omega
  · simp only [if_neg h, mul_zero, Finset.sum_const_zero, zero_add]
    refine Finset.sum_congr rfl fun j _ => ?_
    congr 3
    apply Fin.ext
    show 128 + j.val = 128 * (l.val / 64) + j.val
    omega

/-- A gated row at one channel. -/
def gate (x0 x1 : Vec Ideal S512x512 .bf16) (x4 : Vec Ideal S4x128x256 .bf16) (x5 : Vec Ideal S128x512 .f32) (R C : Fin 512) : EReal :=
  x0 (ix2 R C) * ((∑ j : Fin 128, x4 (ix3 ⟨C.val / 128, by omega⟩ ⟨R.val % 128, by omega⟩ ⟨128 * (C.val % 128 / 64) + j, by omega⟩)
      * x1 (ix2 ⟨128 * (R.val / 128) + j, by omega⟩ C)) + x5 (ix2 ⟨R.val % 128, by omega⟩ C))

section
variable (c : Dev nD) (i : grid0.Coords) (arg1 : Memref sig .tc .vmem S512x512 .bf16) (h1 : arg1.IsWhole) (arg2 : Memref sig .tc .vmem S512x512 .bf16) (h2 : arg2.IsWhole)
  (arg3 : Memref sig .tc .vmem S512x512 .bf16) (h3 : arg3.IsWhole) (arg4 : Memref sig .tc .vmem S512x1024 .f32) (h4 : arg4.IsWhole)
  (arg5 : Memref sig .tc .vmem S4x128x256 .bf16) (h5 : arg5.IsWhole) (arg6 : Memref sig .tc .vmem S128x512 .f32) (h6 : arg6.IsWhole)
  (arg7 : Memref sig .tc .vmem S512x1024 .bf16) (h7 : arg7.IsWhole) (arg8 : Memref sig .tc .vmem S512x1024 .bf16) (h8 : arg8.IsWhole)
  (arg9 : Memref sig .tc .vmem S512x1024 .f32) (h9 : arg9.IsWhole) (arg10 : Memref sig .tc .vmem S512x512 .bf16) (h10 : arg10.IsWhole)
  (x0 x1 x2 : Vec Ideal S512x512 .bf16) (x3 : Vec Ideal S512x1024 .f32) (x4 : Vec Ideal S4x128x256 .bf16) (x5 : Vec Ideal S128x512 .f32)
  (x6 x7 : Vec Ideal S512x1024 .bf16)

/-- The block of 128 rows from `128 * q` and 128 channels from `128 * p` that is stored is the block of the gated rows. -/
theorem piece (q p : ℕ) (o l : ℕ) (ho : o = 128 * q) (hl : l = 128 * p) (ha : ∀ a, (![o, l] : Fin 2 → ℕ) a + S128x128.size a ≤ S512x512.size a)
    (hw : ∀ a, (![p, 0, 0] : Fin 3 → ℕ) a + S1x128x256.size a ≤ S4x128x256.size a) (hb : ∀ a, (![0, l] : Fin 2 → ℕ) a + S128x128.size a ≤ S128x512.size a)
    (x : S128x128.Idx) :
    (k0_pay4 (View.readAt (Elt Ideal) arg2.view (Rect.unit (s := S512x512) ![o, l] S128x128.size ha).toLoadRect (h2.unread x1))
        (View.readAt (Elt Ideal) arg5.view (Rect.unit (s := S4x128x256) ![p, 0, 0] S1x128x256.size hw).toLoadRect (h5.unread x4))
        (View.readAt (Elt Ideal) arg6.view (Rect.unit (s := S128x512) ![0, l] S128x128.size hb).toLoadRect (h6.unread x5))
        (View.readAt (Elt Ideal) arg1.view (Rect.unit (s := S512x512) ![o, l] S128x128.size ha).toLoadRect (h1.unread x0)) x : EReal)
      = (fun y : S512x512.Idx => gate x0 x1 x4 x5 (y 0) (y 1)) ((Rect.unit (s := S512x512) ![o, l] S128x128.size ha).emb x) := by
  obtain ⟨r, k, rfl⟩ : ∃ r k : Fin 128, x = ix2 r k := ⟨x 0, x 1, eq_ix2 x⟩
  subst ho hl
  have hq : q < 4 := by have := ha 0; simp at this; omega
  have hp : p < 4 := by have := hw 0; simp at this; omega
  refine (pay4_apply _ _ _ _ r k).trans ?_
  simp only [View.readAt_eq_ld, h1.read_unread, h2.read_unread, h5.read_unread, h6.read_unread]
  unfold gate
  have e0 : ∀ (X : Vec Ideal S512x512 .bf16) (r k : Fin 128) (R C : Fin 512), R.val = 128 * q + r.val → C.val = 128 * p + k.val →
      View.ld X (Rect.unit (s := S512x512) ![128 * q, 128 * p] S128x128.size ha) (ix2 r k) = X (ix2 R C) := by
    intro X r k R C hR hC
    show X _ = X _
    congr 1
    funext a
    apply Fin.ext
    match a with
    | ⟨0, _⟩ => show 128 * q + 1 * r.val = R.val; omega
    | ⟨1, _⟩ => show 128 * p + 1 * k.val = C.val; omega
  have e1 : ∀ (r : Fin 128) (j : Fin 256) (A : Fin 4) (B : Fin 128) (D : Fin 256), A.val = p → B.val = r.val → D.val = j.val →
      View.ld x4 (Rect.unit (s := S4x128x256) ![p, 0, 0] S1x128x256.size hw) (ix3 (0 : Fin 1) r j) = x4 (ix3 A B D) := by
    intro r j A B D hA hB hD
    show x4 _ = x4 _
    congr 1
    funext a
    apply Fin.ext
    match a with
    | ⟨0, _⟩ => show p + 1 * 0 = A.val; omega
    | ⟨1, _⟩ => show 0 + 1 * r.val = B.val; omega
    | ⟨2, _⟩ => show 0 + 1 * j.val = D.val; omega
  have e2 : ∀ (r k : Fin 128) (B : Fin 128) (C : Fin 512), B.val = r.val → C.val = 128 * p + k.val →
      View.ld x5 (Rect.unit (s := S128x512) ![0, 128 * p] S128x128.size hb) (ix2 r k) = x5 (ix2 B C) := by
    intro r k B C hB hC
    show x5 _ = x5 _
    congr 1
    funext a
    apply Fin.ext
    match a with
    | ⟨0, _⟩ => show 0 + 1 * r.val = B.val; omega
    | ⟨1, _⟩ => show 128 * p + 1 * k.val = C.val; omega
  have f0 : ((Rect.unit (s := S512x512) ![128 * q, 128 * p] S128x128.size ha).emb (ix2 r k) : S512x512.Idx)
      = ix2 (⟨128 * q + r.val, by omega⟩ : Fin 512) (⟨128 * p + k.val, by omega⟩ : Fin 512) := by
    funext a
    apply Fin.ext
    match a with
    | ⟨0, _⟩ => show 128 * q + 1 * r.val = 128 * q + r.val; omega
    | ⟨1, _⟩ => show 128 * p + 1 * k.val = 128 * p + k.val; omega
  rw [f0]
  show _ = gate x0 x1 x4 x5 (⟨128 * q + r.val, by omega⟩ : Fin 512) (⟨128 * p + k.val, by omega⟩ : Fin 512)
  unfold gate
  refine congrArg₂ (fun a b : EReal => a * b) (e0 x0 r k _ _ rfl rfl) (congrArg₂ (fun a b : EReal => a + b)
    (Finset.sum_congr rfl fun j _ => congrArg₂ (fun a b : EReal => a * b) (e1 r _ _ _ _ ?_ ?_ ?_) (e0 x1 j k _ _ ?_ ?_)) (e2 r k _ _ ?_ ?_))
  · show (128 * p + k.val) / 128 = p; omega
  · show (128 * q + r.val) % 128 = r.val; omega
  · show 128 * ((128 * p + k.val) % 128 / 64) + j.val = 128 * (k.val / 64) + j.val; omega
  · show 128 * ((128 * q + r.val) / 128) + j.val = 128 * q + j.val; omega
  · show 128 * p + k.val = 128 * p + k.val; rfl
  · show (128 * q + r.val) % 128 = r.val; omega
  · rfl

/-- Every block that the body stores is a block of the gated rows. -/
theorem pieces_gate : View.PiecesOf (fun y : S512x512.Idx => gate x0 x1 x4 x5 (y 0) (y 1))
    (kernelRun0_A.sl.HS0_16 (F := Ideal) c arg1 h1 arg2 h2 arg5 h5 arg6 h6 x0 x1 x4 x5) := by
  unfold kernelRun0_A.sl.HS0_16
  refine ⟨fun x => piece arg1 h1 arg2 h2 arg5 h5 arg6 h6 x0 x1 x4 x5 3 3 384 384 rfl rfl _ _ _ x,
    fun x => piece arg1 h1 arg2 h2 arg5 h5 arg6 h6 x0 x1 x4 x5 3 2 384 256 rfl rfl _ _ _ x,
    fun x => piece arg1 h1 arg2 h2 arg5 h5 arg6 h6 x0 x1 x4 x5 3 1 384 128 rfl rfl _ _ _ x,
    fun x => piece arg1 h1 arg2 h2 arg5 h5 arg6 h6 x0 x1 x4 x5 3 0 384 0 rfl rfl _ _ _ x,
    fun x => piece arg1 h1 arg2 h2 arg5 h5 arg6 h6 x0 x1 x4 x5 2 3 256 384 rfl rfl _ _ _ x,
    fun x => piece arg1 h1 arg2 h2 arg5 h5 arg6 h6 x0 x1 x4 x5 2 2 256 256 rfl rfl _ _ _ x,
    fun x => piece arg1 h1 arg2 h2 arg5 h5 arg6 h6 x0 x1 x4 x5 2 1 256 128 rfl rfl _ _ _ x,
    fun x => piece arg1 h1 arg2 h2 arg5 h5 arg6 h6 x0 x1 x4 x5 2 0 256 0 rfl rfl _ _ _ x,
    fun x => piece arg1 h1 arg2 h2 arg5 h5 arg6 h6 x0 x1 x4 x5 1 3 128 384 rfl rfl _ _ _ x,
    fun x => piece arg1 h1 arg2 h2 arg5 h5 arg6 h6 x0 x1 x4 x5 1 2 128 256 rfl rfl _ _ _ x,
    fun x => piece arg1 h1 arg2 h2 arg5 h5 arg6 h6 x0 x1 x4 x5 1 1 128 128 rfl rfl _ _ _ x,
    fun x => piece arg1 h1 arg2 h2 arg5 h5 arg6 h6 x0 x1 x4 x5 1 0 128 0 rfl rfl _ _ _ x,
    fun x => piece arg1 h1 arg2 h2 arg5 h5 arg6 h6 x0 x1 x4 x5 0 3 0 384 rfl rfl _ _ _ x,
    fun x => piece arg1 h1 arg2 h2 arg5 h5 arg6 h6 x0 x1 x4 x5 0 2 0 256 rfl rfl _ _ _ x,
    fun x => piece arg1 h1 arg2 h2 arg5 h5 arg6 h6 x0 x1 x4 x5 0 1 0 128 rfl rfl _ _ _ x,
    fun x => piece arg1 h1 arg2 h2 arg5 h5 arg6 h6 x0 x1 x4 x5 0 0 0 0 rfl rfl _ _ _ x, trivial⟩

/-- The gated rows as the body reads them back. -/
theorem v325_eq : kernelRun0_A.sl.v325 (F := Ideal) c arg1 h1 arg2 h2 arg5 h5 arg6 h6 arg10 x0 x1 x4 x5
    = fun y : S512x512.Idx => gate x0 x1 x4 x5 (y 0) (y 1) := by
  unfold kernelRun0_A.sl.v325
  rw [View.readCov_eq_canon_ld _ _ _ (View.cover_of_tiledL (kernelRun0_A.sl.HS0_16 (F := Ideal) c arg1 h1 arg2 h2 arg5 h5 arg6 h6 x0 x1 x4 x5)
    (s := S512x512) (Val := Elt Ideal) S128x128.size (by sl_kernel_rfl))]
  refine (View.ld_unit_zero (S := S512x512) hz _ _).trans ?_
  funext y
  exact View.canon_apply_of_pieces (fun y : S512x512.Idx => gate x0 x1 x4 x5 (y 0) (y 1)) _
    (pieces_gate c arg1 h1 arg2 h2 arg5 h5 arg6 h6 x0 x1 x4 x5).mem _ (View.cover_of_tiledL (kernelRun0_A.sl.HS0_16 (F := Ideal) c arg1 h1 arg2 h2 arg5 h5 arg6 h6 x0 x1 x4 x5)
    (s := S512x512) (Val := Elt Ideal) S128x128.size (by sl_kernel_rfl) y)

/-- The block that one grid point leaves, entry by entry. -/
theorem out_eq (r : Fin 512) (k : Fin 1024) :
    (out0_A_8 (F := Ideal) c i arg1 h1 arg2 h2 arg3 h3 arg4 h4 arg5 h5 arg6 h6 arg7 h7 arg8 h8 arg9 h9 arg10 h10 x0 x1 x2 x3 x4 x5 x6 x7 (ix2 r k) : EReal)
      = x3 (ix2 r k) + ((∑ j : Fin 512, gate x0 x1 x4 x5 r j * x6 (ix2 j k)) + ∑ j : Fin 512, x2 (ix2 r j) * x7 (ix2 j k)) := by
  unfold out0_A_8
  rw [View.read_writes_eq_canon _ _ _ (cover0_A_8 c i arg1 h1 arg2 h2 arg3 h3 arg4 h4 arg5 h5 arg6 h6 arg7 h7 arg8 h8 arg9 h9 arg10 h10 x0 x1 x2 x3 x4 x5 x6 x7)]
  unfold kernelRun0_A
  dsimp only
  rw [View.canon_unit_zero hz]
  simp only [View.readAt_eq_ld, h3.read_unread, h4.read_unread, h7.read_unread, h8.read_unread]
  rw [View.ld_unit_zero hz, View.ld_unit_zero hz, View.ld_unit_zero hz, View.ld_unit_zero hz, v325_eq]
  pointwise [k0_pay2]
  exact add_assoc _ _ _

end

end Cert.MixOut

end
-- ==== Proof.MixOutArray.lean ====
/- Hand-written, untrusted: THE MIXER'S OUTPUT ARRAY. Grid point `t` takes rows `512 * (t % 4)` on of sequence `t / 4`; its windows are read as
   the arguments (`block0` … `block7`), what it writes is the layer at its rows (`point_eq`), and the array is the layer's (`array_eq`). -/
module

public import proofs.«01_k».proof.Proof.MixOutBlock
public import proofs.«01_k».proof.Proof.Gen.MixerOutIdeal.Value
public import proofs.«01_k».proof.Proof.Gen.MixerOutReferenceIdeal.Read

@[expose] public section

set_option maxRecDepth 16384

noncomputable section

namespace Cert.MixOut

open Idealize.ShloMosaic Cert.MixerOutIdeal Cert.MixerOutIdeal.Gen Idealize.ShloMosaic.TcCoe Idealize.SL.Sem

/-! ## The layer -/

section
variable (a0 a1 : Vec Ideal S32x2048x8x64 .f32) (a2 : Vec Ideal S32x2048x512 .f32) (a3 : Vec Ideal S32x2048x1024 .f32)
  (a4 : Vec Ideal S8x128x128 .f32) (a5 : Vec Ideal S8x128 .f32) (a6 : Vec Ideal S1024x1024 .f32)

/-- The weights with zeros above the diagonal. -/
def lower : Vec Ideal S8x128x128 .f32 := Cert.MixerOutReferenceIdeal.Read.val_main_v3 (F := Ideal) a4

/-- A channel of the gated row: the row of `u` times the mixture of its chunk's rows of `v`. -/
def gateAt (b : Fin 32) (s : Fin 2048) (C : Fin 512) : EReal :=
  a0 (ix4 b s ⟨C.val / 64, by omega⟩ ⟨C.val % 64, by omega⟩)
    * ((∑ j : Fin 128, lower a4 (ix3 ⟨C.val / 64, by omega⟩ ⟨s.val % 128, by omega⟩ j)
        * a1 (ix4 b ⟨128 * (s.val / 128) + j, by omega⟩ ⟨C.val / 64, by omega⟩ ⟨C.val % 64, by omega⟩))
      + a5 (ix2 ⟨C.val / 64, by omega⟩ ⟨s.val % 128, by omega⟩))

/-- The layer, at row `s` of sequence `b`. -/
def layerAt (b : Fin 32) (s : Fin 2048) (k : Fin 1024) : EReal :=
  a3 (ix3 b s k) + ((∑ C : Fin 512, gateAt a0 a1 a4 a5 b s C * a6 (ix2 ⟨C.val, by omega⟩ k))
    + ∑ C : Fin 512, a2 (ix3 b s C) * a6 (ix2 ⟨512 + C.val, by omega⟩ k))

/-- The layer's array: the sequences' rows one after another. -/
def layer : Vec Ideal S65536x1024 .f32 := fun i =>
  layerAt a0 a1 a2 a3 a4 a5 a6 ⟨(i 0).val / 2048, by have h : (i 0).val < 65536 := (i 0).isLt; omega⟩ ⟨(i 0).val % 2048, by omega⟩ (i 1)

end

variable (m : (ℓ : Loc nD τ sig) → Buf (Elt Ideal) ℓ) (c : Dev nD)

/-! ## The inputs' blocks -/

/-- Argument 0. -/
abbrev argOf0 : Vec Ideal S32x2048x8x64 .f32 := m ((c : Thread nD τ).loc main_arg0)
/-- Argument 1. -/
abbrev argOf1 : Vec Ideal S32x2048x8x64 .f32 := m ((c : Thread nD τ).loc main_arg1)
/-- Argument 2. -/
abbrev argOf2 : Vec Ideal S32x2048x512 .f32 := m ((c : Thread nD τ).loc main_arg2)
/-- Argument 3. -/
abbrev argOf3 : Vec Ideal S32x2048x1024 .f32 := m ((c : Thread nD τ).loc main_arg3)
/-- Argument 4. -/
abbrev argOf4 : Vec Ideal S8x128x128 .f32 := m ((c : Thread nD τ).loc main_arg4)
/-- Argument 5. -/
abbrev argOf5 : Vec Ideal S8x128 .f32 := m ((c : Thread nD τ).loc main_arg5)
/-- Argument 6. -/
abbrev argOf6 : Vec Ideal S1024x1024 .f32 := m ((c : Thread nD τ).loc main_arg6)

theorem V_0 : V m c main_v1 = truncf (F := Ideal) .bf16 (shapeCast S65536x512 (argOf0 m c) shapeCasts_S32x2048x8x64_S65536x512) bitsLt_bf16_f32 := by
  unfold V
  simp only [hostOps0, hostOps0_1, hostOps0_2, hostOps0_3, hostOps0_4, List.flatten_cons, List.flatten_nil, List.append_nil,
    List.cons_append, List.nil_append]
  after_results
  rfl

theorem V_1 : V m c main_v3 = truncf (F := Ideal) .bf16 (shapeCast S65536x512 (argOf1 m c) shapeCasts_S32x2048x8x64_S65536x512) bitsLt_bf16_f32 := by
  unfold V
  simp only [hostOps0, hostOps0_1, hostOps0_2, hostOps0_3, hostOps0_4, List.flatten_cons, List.flatten_nil, List.append_nil,
    List.cons_append, List.nil_append]
  after_results
  rfl

theorem V_2 : V m c main_v5 = truncf (F := Ideal) .bf16 (shapeCast S65536x512 (argOf2 m c) shapeCasts_S32x2048x512_S65536x512) bitsLt_bf16_f32 := by
  unfold V
  simp only [hostOps0, hostOps0_1, hostOps0_2, hostOps0_3, hostOps0_4, List.flatten_cons, List.flatten_nil, List.append_nil,
    List.cons_append, List.nil_append]
  after_results
  rfl

theorem V_3 : V m c main_v6 = shapeCast S65536x1024 (argOf3 m c) shapeCasts_S32x2048x1024_S65536x1024 := by
  unfold V
  simp only [hostOps0, hostOps0_1, hostOps0_2, hostOps0_3, hostOps0_4, List.flatten_cons, List.flatten_nil, List.append_nil,
    List.cons_append, List.nil_append]
  after_results
  rfl

theorem V_4 : V m c main_v14 = truncf (F := Ideal) .bf16 (shapeCast S4x128x256 (transpose S4x128x2x128 [0, 2, 1, 3] (shapeCast S4x2x128x128 (lower (argOf4 m c)) shapeCasts_S8x128x128_S4x2x128x128) transposes_S4x2x128x128_S4x128x2x128_0_2_1_3) shapeCasts_S4x128x2x128_S4x128x256) bitsLt_bf16_f32 := by
  unfold V
  simp only [hostOps0, hostOps0_1, hostOps0_2, hostOps0_3, hostOps0_4, List.flatten_cons, List.flatten_nil, List.append_nil,
    List.cons_append, List.nil_append]
  after_results
  rfl

theorem V_5 : V m c main_v17 = shapeCast S128x512 (broadcastInDim S128x8x64 ![0, 1] bcast_S128x8_S128x8x64_0_1 (transpose S128x8 [1, 0] (argOf5 m c) transposes_S8x128_S128x8_1_0)) shapeCasts_S128x8x64_S128x512 := by
  unfold V
  simp only [hostOps0, hostOps0_1, hostOps0_2, hostOps0_3, hostOps0_4, List.flatten_cons, List.flatten_nil, List.append_nil,
    List.cons_append, List.nil_append]
  after_results
  rfl

theorem V_6 : V m c main_v19 = truncf (F := Ideal) .bf16 (extractStridedSlice S512x1024 ![0, 0] (argOf6 m c) slices_S1024x1024_S512x1024_0_0) bitsLt_bf16_f32 := by
  unfold V
  simp only [hostOps0, hostOps0_1, hostOps0_2, hostOps0_3, hostOps0_4, List.flatten_cons, List.flatten_nil, List.append_nil,
    List.cons_append, List.nil_append]
  after_results

theorem V_7 : V m c main_v21 = truncf (F := Ideal) .bf16 (extractStridedSlice S512x1024 ![512, 0] (argOf6 m c) slices_S1024x1024_S512x1024_512_0) bitsLt_bf16_f32 := by
  unfold V
  simp only [hostOps0, hostOps0_1, hostOps0_2, hostOps0_3, hostOps0_4, List.flatten_cons, List.flatten_nil, List.append_nil,
    List.cons_append, List.nil_append]
  after_results

theorem index0 : ∀ t : Fin cfg0.N, win0_0.index t 0 = t.val ∧ win0_0.index t 1 = 0 := by
  decide +kernel

theorem index1 : ∀ t : Fin cfg0.N, win0_1.index t 0 = t.val ∧ win0_1.index t 1 = 0 := by
  decide +kernel

theorem index2 : ∀ t : Fin cfg0.N, win0_2.index t 0 = t.val ∧ win0_2.index t 1 = 0 := by
  decide +kernel

theorem index3 : ∀ t : Fin cfg0.N, win0_3.index t 0 = t.val ∧ win0_3.index t 1 = 0 := by
  decide +kernel

theorem index4 : ∀ t : Fin cfg0.N, win0_4.index t 0 = 0 ∧ win0_4.index t 1 = 0 ∧ win0_4.index t 2 = 0 := by
  decide +kernel

theorem index5 : ∀ t : Fin cfg0.N, win0_5.index t 0 = 0 ∧ win0_5.index t 1 = 0 := by
  decide +kernel

theorem index6 : ∀ t : Fin cfg0.N, win0_6.index t 0 = 0 ∧ win0_6.index t 1 = 0 := by
  decide +kernel

theorem index7 : ∀ t : Fin cfg0.N, win0_7.index t 0 = 0 ∧ win0_7.index t 1 = 0 := by
  decide +kernel

theorem index8 : ∀ t : Fin cfg0.N, win0_8.index t 0 = t.val ∧ win0_8.index t 1 = 0 := by
  decide +kernel

/-- The sequence and the row of it that a point's row `r` is. -/
abbrev seqOf (t : Fin cfg0.N) : Fin 32 := ⟨t.val / 4, by have h : t.val < 128 := t.isLt; omega⟩
abbrev posOf (t : Fin cfg0.N) (r : Fin 512) : Fin 2048 := ⟨512 * (t.val % 4) + r, by omega⟩

theorem block0 (t : Fin cfg0.N) (r C : Fin 512) :
    ((iblk m c 0 t : Vec Ideal S512x512 .bf16) (ix2 r C) : EReal) = argOf0 m c (ix4 (seqOf t) (posOf t r) ⟨C.val / 64, by omega⟩ ⟨C.val % 64, by omega⟩) := by
  have ht : t.val < 128 := t.isLt
  have e : (truncf (F := Ideal) .bf16 (shapeCast S65536x512 (argOf0 m c) shapeCasts_S32x2048x8x64_S65536x512) bitsLt_bf16_f32 (ix2 ⟨512 * t.val + r, by omega⟩ C : S65536x512.Idx) : EReal)
      = argOf0 m c (ix4 (seqOf t) (posOf t r) ⟨C.val / 64, by omega⟩ ⟨C.val % 64, by omega⟩) := by
    generalize argOf0 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
    | ⟨2, _⟩ => rfl
    | ⟨3, _⟩ => rfl
  rw [← e]
  unfold iblk
  rw [View.read_apply, ← V_0]
  show V m c main_v1 _ = _
  congr 1
  funext a
  apply Fin.ext
  match a with
  | ⟨0, _⟩ => show win0_0.index t 0 * 512 + 1 * r.val = _; rw [(index0 t).1]; simp; omega
  | ⟨1, _⟩ => show win0_0.index t 1 * 512 + 1 * C.val = _; rw [(index0 t).2]; simp

theorem block1 (t : Fin cfg0.N) (r C : Fin 512) :
    ((iblk m c 1 t : Vec Ideal S512x512 .bf16) (ix2 r C) : EReal) = argOf1 m c (ix4 (seqOf t) (posOf t r) ⟨C.val / 64, by omega⟩ ⟨C.val % 64, by omega⟩) := by
  have ht : t.val < 128 := t.isLt
  have e : (truncf (F := Ideal) .bf16 (shapeCast S65536x512 (argOf1 m c) shapeCasts_S32x2048x8x64_S65536x512) bitsLt_bf16_f32 (ix2 ⟨512 * t.val + r, by omega⟩ C : S65536x512.Idx) : EReal)
      = argOf1 m c (ix4 (seqOf t) (posOf t r) ⟨C.val / 64, by omega⟩ ⟨C.val % 64, by omega⟩) := by
    generalize argOf1 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
    | ⟨2, _⟩ => rfl
    | ⟨3, _⟩ => rfl
  rw [← e]
  unfold iblk
  rw [View.read_apply, ← V_1]
  show V m c main_v3 _ = _
  congr 1
  funext a
  apply Fin.ext
  match a with
  | ⟨0, _⟩ => show win0_1.index t 0 * 512 + 1 * r.val = _; rw [(index1 t).1]; simp; omega
  | ⟨1, _⟩ => show win0_1.index t 1 * 512 + 1 * C.val = _; rw [(index1 t).2]; simp

theorem block2 (t : Fin cfg0.N) (r C : Fin 512) :
    ((iblk m c 2 t : Vec Ideal S512x512 .bf16) (ix2 r C) : EReal) = argOf2 m c (ix3 (seqOf t) (posOf t r) C) := by
  have ht : t.val < 128 := t.isLt
  have e : (truncf (F := Ideal) .bf16 (shapeCast S65536x512 (argOf2 m c) shapeCasts_S32x2048x512_S65536x512) bitsLt_bf16_f32 (ix2 ⟨512 * t.val + r, by omega⟩ C : S65536x512.Idx) : EReal)
      = argOf2 m c (ix3 (seqOf t) (posOf t r) C) := by
    generalize argOf2 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
    | ⟨2, _⟩ => rfl
  rw [← e]
  unfold iblk
  rw [View.read_apply, ← V_2]
  show V m c main_v5 _ = _
  congr 1
  funext a
  apply Fin.ext
  match a with
  | ⟨0, _⟩ => show win0_2.index t 0 * 512 + 1 * r.val = _; rw [(index2 t).1]; simp; omega
  | ⟨1, _⟩ => show win0_2.index t 1 * 512 + 1 * C.val = _; rw [(index2 t).2]; simp

theorem block3 (t : Fin cfg0.N) (r : Fin 512) (k : Fin 1024) :
    ((iblk m c 3 t : Vec Ideal S512x1024 .f32) (ix2 r k) : EReal) = argOf3 m c (ix3 (seqOf t) (posOf t r) k) := by
  have ht : t.val < 128 := t.isLt
  have e : (shapeCast S65536x1024 (argOf3 m c) shapeCasts_S32x2048x1024_S65536x1024 (ix2 ⟨512 * t.val + r, by omega⟩ k : S65536x1024.Idx) : EReal)
      = argOf3 m c (ix3 (seqOf t) (posOf t r) k) := by
    generalize argOf3 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
    | ⟨2, _⟩ => rfl
  rw [← e]
  unfold iblk
  rw [View.read_apply, ← V_3]
  show V m c main_v6 _ = _
  congr 1
  funext a
  apply Fin.ext
  match a with
  | ⟨0, _⟩ => show win0_3.index t 0 * 512 + 1 * r.val = _; rw [(index3 t).1]; simp; omega
  | ⟨1, _⟩ => show win0_3.index t 1 * 1024 + 1 * k.val = _; rw [(index3 t).2]; simp

theorem block4 (t : Fin cfg0.N) (p : Fin 4) (r : Fin 128) (q : Fin 256) :
    ((iblk m c 4 t : Vec Ideal S4x128x256 .bf16) (ix3 p r q) : EReal) = lower (argOf4 m c) (ix3 ⟨2 * p.val + q.val / 128, by omega⟩ r ⟨q.val % 128, by omega⟩) := by
  have e : (truncf (F := Ideal) .bf16 (shapeCast S4x128x256 (transpose S4x128x2x128 [0, 2, 1, 3] (shapeCast S4x2x128x128 (lower (argOf4 m c)) shapeCasts_S8x128x128_S4x2x128x128) transposes_S4x2x128x128_S4x128x2x128_0_2_1_3) shapeCasts_S4x128x2x128_S4x128x256) bitsLt_bf16_f32
      (ix3 p r q : S4x128x256.Idx) : EReal) = lower (argOf4 m c) (ix3 ⟨2 * p.val + q.val / 128, by omega⟩ r ⟨q.val % 128, by omega⟩) := by
    generalize lower (argOf4 m c) = X
    pointwise []
    refine congrArg X ?_
    funext a
    apply Fin.ext
    match a with
    | ⟨0, _⟩ => show p.val * 2 + q.val / 128 = 2 * p.val + q.val / 128; omega
    | ⟨1, _⟩ => rfl
    | ⟨2, _⟩ => rfl
  rw [← e]
  unfold iblk
  rw [View.read_apply, ← V_4]
  show V m c main_v14 _ = _
  congr 1
  funext a
  apply Fin.ext
  match a with
  | ⟨0, _⟩ => show win0_4.index t 0 * 4 + 1 * p.val = _; rw [(index4 t).1]; simp
  | ⟨1, _⟩ => show win0_4.index t 1 * 128 + 1 * r.val = _; rw [(index4 t).2.1]; simp
  | ⟨2, _⟩ => show win0_4.index t 2 * 256 + 1 * q.val = _; rw [(index4 t).2.2]; simp

theorem block5 (t : Fin cfg0.N) (r : Fin 128) (C : Fin 512) :
    ((iblk m c 5 t : Vec Ideal S128x512 .f32) (ix2 r C) : EReal) = argOf5 m c (ix2 ⟨C.val / 64, by omega⟩ r) := by
  have e : (shapeCast S128x512 (broadcastInDim S128x8x64 ![0, 1] bcast_S128x8_S128x8x64_0_1 (transpose S128x8 [1, 0] (argOf5 m c) transposes_S8x128_S128x8_1_0)) shapeCasts_S128x8x64_S128x512
      (ix2 r C : S128x512.Idx) : EReal) = argOf5 m c (ix2 ⟨C.val / 64, by omega⟩ r) := by
    generalize argOf5 m c = X
    pointwise []
  rw [← e]
  unfold iblk
  rw [View.read_apply, ← V_5]
  show V m c main_v17 _ = _
  congr 1
  funext a
  apply Fin.ext
  match a with
  | ⟨0, _⟩ => show win0_5.index t 0 * 128 + 1 * r.val = _; rw [(index5 t).1]; simp
  | ⟨1, _⟩ => show win0_5.index t 1 * 512 + 1 * C.val = _; rw [(index5 t).2]; simp

theorem block6 (t : Fin cfg0.N) (j : Fin 512) (i : Fin 1024) :
    ((iblk m c 6 t : Vec Ideal S512x1024 .bf16) (ix2 j i) : EReal) = argOf6 m c (ix2 ⟨j.val, by omega⟩ i) := by
  have e : (truncf (F := Ideal) .bf16 (extractStridedSlice S512x1024 ![0, 0] (argOf6 m c) slices_S1024x1024_S512x1024_0_0) bitsLt_bf16_f32 (ix2 j i : S512x1024.Idx) : EReal) = argOf6 m c (ix2 ⟨j.val, by omega⟩ i) := by
    generalize argOf6 m c = X
    pointwise []
  rw [← e]
  unfold iblk
  rw [View.read_apply, ← V_6]
  show V m c main_v19 _ = _
  congr 1
  funext a
  apply Fin.ext
  match a with
  | ⟨0, _⟩ => show win0_6.index t 0 * 512 + 1 * j.val = _; rw [(index6 t).1]; simp
  | ⟨1, _⟩ => show win0_6.index t 1 * 1024 + 1 * i.val = _; rw [(index6 t).2]; simp

theorem block7 (t : Fin cfg0.N) (j : Fin 512) (i : Fin 1024) :
    ((iblk m c 7 t : Vec Ideal S512x1024 .bf16) (ix2 j i) : EReal) = argOf6 m c (ix2 ⟨512 + j.val, by omega⟩ i) := by
  have e : (truncf (F := Ideal) .bf16 (extractStridedSlice S512x1024 ![512, 0] (argOf6 m c) slices_S1024x1024_S512x1024_512_0) bitsLt_bf16_f32 (ix2 j i : S512x1024.Idx) : EReal) = argOf6 m c (ix2 ⟨512 + j.val, by omega⟩ i) := by
    generalize argOf6 m c = X
    pointwise []
  rw [← e]
  unfold iblk
  rw [View.read_apply, ← V_7]
  show V m c main_v21 _ = _
  congr 1
  funext a
  apply Fin.ext
  match a with
  | ⟨0, _⟩ => show win0_7.index t 0 * 512 + 1 * j.val = _; rw [(index7 t).1]; simp
  | ⟨1, _⟩ => show win0_7.index t 1 * 1024 + 1 * i.val = _; rw [(index7 t).2]; simp

/-! ## The array -/

/-- A point's gated row is the layer's. -/
theorem gate_row (t : Fin cfg0.N) (r C : Fin 512) :
    gate (iblk m c 0 t) (iblk m c 1 t) (iblk m c 4 t) (iblk m c 5 t) r C
      = gateAt (argOf0 m c) (argOf1 m c) (argOf4 m c) (argOf5 m c) (seqOf t) (posOf t r) C := by
  unfold gate gateAt
  refine congrArg₂ (fun a b : EReal => a * b) (block0 m c t r C) (congrArg₂ (fun a b : EReal => a + b)
    (Finset.sum_congr rfl fun j _ => congrArg₂ (fun a b : EReal => a * b) ((block4 m c t _ _ _).trans ?_) ((block1 m c t _ _).trans ?_)) ((block5 m c t _ _).trans ?_))
  · refine congrArg (lower (argOf4 m c)) ?_
    funext a
    apply Fin.ext
    match a with
    | ⟨0, _⟩ => show 2 * (C.val / 128) + (128 * (C.val % 128 / 64) + j.val) / 128 = C.val / 64; omega
    | ⟨1, _⟩ => show r.val % 128 = (512 * (t.val % 4) + r.val) % 128; omega
    | ⟨2, _⟩ => show (128 * (C.val % 128 / 64) + j.val) % 128 = j.val; omega
  · refine congrArg (argOf1 m c) ?_
    funext a
    apply Fin.ext
    match a with
    | ⟨0, _⟩ => rfl
    | ⟨1, _⟩ => show 512 * (t.val % 4) + (128 * (r.val / 128) + j.val) = 128 * ((512 * (t.val % 4) + r.val) / 128) + j.val; omega
    | ⟨2, _⟩ => rfl
    | ⟨3, _⟩ => rfl
  · refine congrArg (argOf5 m c) ?_
    funext a
    apply Fin.ext
    match a with
    | ⟨0, _⟩ => rfl
    | ⟨1, _⟩ => show r.val % 128 = (512 * (t.val % 4) + r.val) % 128; omega

/-- What a point writes: the layer at its rows. -/
theorem point_eq (t : Fin cfg0.N) (r : Fin 512) (k : Fin 1024) :
    ((outsAt0 m c t) (ix2 r k : S512x1024.Idx) : EReal) = layerAt (argOf0 m c) (argOf1 m c) (argOf2 m c) (argOf3 m c) (argOf4 m c) (argOf5 m c) (argOf6 m c) (seqOf t) (posOf t r) k := by
  unfold outsAt0
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) r k).trans ?_
  simp only [gate_row, block2, block3, block6, block7]
  rfl

/-- The point that writes an element of the result. -/
def pointOf (i : S65536x1024.Idx) : Fin cfg0.N :=
  ⟨(i 0).val / 512, by
    have h0 : (i 0).val < 65536 := (i 0).isLt
    show _ < 128
    omega⟩

/-- The result array is the layer's. -/
theorem array_eq : (dats m 0 c).arrAt 8 cfg0.N = layer (argOf0 m c) (argOf1 m c) (argOf2 m c) (argOf3 m c) (argOf4 m c) (argOf5 m c) (argOf6 m c) := by
  refine (dats m 0 c).arrAt_eq_of_cover 8 (layer (argOf0 m c) (argOf1 m c) (argOf2 m c) (argOf3 m c) (argOf4 m c) (argOf5 m c) (argOf6 m c)) (fun t _ => ?_) fun i => ⟨pointOf i, flush0_8 _, ?_⟩
  · rw [Value.flushed8]
    funext j
    rw [View.read_apply]
    show (outsAt0 m c t) j = layer (argOf0 m c) (argOf1 m c) (argOf2 m c) (argOf3 m c) (argOf4 m c) (argOf5 m c) (argOf6 m c) _
    have hj : (show S512x1024.Idx from j) = (ix2 (show Fin 512 from j 0) (show Fin 1024 from j 1) : S512x1024.Idx) :=
      funext fun a => by match a with | ⟨0, _⟩ => rfl | ⟨1, _⟩ => rfl
    refine (congrArg _ hj).trans ((point_eq m c t (j 0) (j 1)).trans ?_)
    have h0 : (j 0).val < 512 := (j 0).isLt
    have e0 : (((cfg0.win 8).blk t).view.emb j 0).val = 512 * t.val + (j 0).val := by
      show win0_8.index t 0 * 512 + 1 * (j 0).val = _
      rw [(index8 t).1]
      omega
    have e1 : (((cfg0.win 8).blk t).view.emb j 1).val = (j 1).val := by
      show win0_8.index t 1 * 1024 + 1 * (j 1).val = _
      rw [(index8 t).2]
      omega
    unfold layer
    congr 1
    · apply Fin.ext
      show t.val / 4 = (((cfg0.win 8).blk t).view.emb j 0).val / 2048
      omega
    · apply Fin.ext
      show 512 * (t.val % 4) + (j 0).val = (((cfg0.win 8).blk t).view.emb j 0).val % 2048
      omega
    · apply Fin.ext
      exact e1.symm
  · show i ∈ ((View.whole main_v22).slice (win0_8.rect (pointOf i))).set
    rw [View.set_slice_whole, Rect.mem_set_unit]
    intro a
    have h0 : (i 0 : Nat) < 65536 := (i 0).isLt
    have h1 : (i 1 : Nat) < 1024 := (i 1).isLt
    obtain ⟨e0, e1⟩ := index8 (pointOf i)
    have hp : (pointOf i).val = (i 0).val / 512 := rfl
    match a with
    | ⟨0, _⟩ =>
      show win0_8.index (pointOf i) 0 * 512 ≤ (i 0 : Nat) ∧ (i 0 : Nat) < win0_8.index (pointOf i) 0 * 512 + 512
      omega
    | ⟨1, _⟩ =>
      show win0_8.index (pointOf i) 1 * 1024 ≤ (i 1 : Nat) ∧ (i 1 : Nat) < win0_8.index (pointOf i) 1 * 1024 + 1024
      omega

end Cert.MixOut

end
-- ==== Proof.MixOutRef.lean ====
/- Hand-written, untrusted: THE MIXER'S OUTPUT REFERENCE READ AT AN INDEX. The gated row (`gate_apply`) and the layer (`ref_eq`). -/
module

public import proofs.«01_k».proof.Proof.MixOutArray
public import Idealize.ShloMosaic.Lib.Pointwise
public import Idealize.ShloMosaic.Lib.IdealHost

@[expose] public section

set_option maxRecDepth 16384

noncomputable section

namespace Cert.MixOut.Ref

open Idealize.ShloMosaic Cert.MixerOutReferenceIdeal Cert.MixerOutReferenceIdeal.Gen Cert.MixerOutReferenceIdeal.Read Cert.MixOut

variable (x0 x1 : (⟨S32x2048x8x64, .f32⟩ : BufTy).Contents (Elt Ideal)) (x2 : (⟨S32x2048x512, .f32⟩ : BufTy).Contents (Elt Ideal))
  (x3 : (⟨S32x2048x1024, .f32⟩ : BufTy).Contents (Elt Ideal)) (x4 : (⟨S8x128x128, .f32⟩ : BufTy).Contents (Elt Ideal))
  (x5 : (⟨S8x128, .f32⟩ : BufTy).Contents (Elt Ideal)) (x6 : (⟨S1024x1024, .f32⟩ : BufTy).Contents (Elt Ideal))

theorem gate_apply (b : Fin 32) (s : Fin 2048) (C : Fin 512) :
    (val_main_v13 (F := Ideal) x0 x1 x4 x5 (ix3 b s C) : EReal) = gateAt x0 x1 x4 x5 b s C := by
  unfold gateAt lower
  unfold val_main_v13 val_main_v12 val_main_v11 val_main_v10 val_main_v6 val_main_v5
  generalize val_main_v3 (F := Ideal) x4 = W
  pointwise [val_main_v4, val_main_v7, val_main_v8, val_main_v9]
  refine congrArg (fun z => x0 (ix4 b s ⟨C.val / 64, by omega⟩ ⟨C.val % 64, by omega⟩) * (z + x5 (ix2 ⟨C.val / 64, by omega⟩ ⟨s.val % 128, by omega⟩))) ?_
  refine Finset.sum_congr rfl fun j _ => (mul_comm _ _).trans ?_
  refine congrArg (fun z => W (ix3 ⟨C.val / 64, by omega⟩ ⟨s.val % 128, by omega⟩ j) * x1 (ix4 b z ⟨C.val / 64, by omega⟩ ⟨C.val % 64, by omega⟩)) (Fin.ext ?_)
  show s.val / 128 * 128 + j.val = 128 * (s.val / 128) + j.val
  omega

theorem ref_eq : val_main_v17 (F := Ideal) x0 x1 x2 x3 x4 x5 x6 = layer x0 x1 x2 x3 x4 x5 x6 := by
  funext i
  obtain ⟨R, k, rfl⟩ : ∃ (R : Fin 65536) (k : Fin 1024), i = ix2 R k := ⟨i 0, i 1, eq_ix2 i⟩
  show _ = layerAt x0 x1 x2 x3 x4 x5 x6 ⟨R.val / 2048, by omega⟩ ⟨R.val % 2048, by omega⟩ k
  unfold layerAt
  unfold val_main_v17 val_main_v16 val_main_v15 val_main_v14
  have e := gate_apply x0 x1 x4 x5
  generalize val_main_v13 (F := Ideal) x0 x1 x4 x5 = Z at e
  pointwise []
  simp only [e]

end Cert.MixOut.Ref

end
-- ==== Proof.MixOutClaim.lean ====
/- Hand-written, untrusted: THE CLAIMS ABOUT THE MIXER'S OUTPUT. -/
module

public import proofs.«01_k».proof.Defs
public import proofs.«01_k».proof.Proof.Gen.MixerOut.Frame
public import proofs.«01_k».proof.Proof.Gen.MixerOutIdeal.Frame
public import proofs.«01_k».proof.Proof.Gen.MixerOutIdeal.Value
public import proofs.«01_k».proof.Proof.Gen.MixerOutReferenceIdeal.Run
public import proofs.«01_k».proof.Proof.MixOutRef
public import Idealize.ShloMosaic.Adequacy
public import Idealize.ShloMosaic.Init

@[expose] public section

noncomputable section

namespace Cert.MixOut

open Idealize.ShloMosaic Idealize.SL.Sem

theorem frame_reference : Cert.quiescent_MixerOutReferenceIdeal := fun m ρ _ =>
  (θ_run Cert.MixerOutReferenceIdeal.defs _ _).mono (fun r h => ⟨fun c => (h c).2, sem_eq_zero_of_no_sems (by decide) r.2⟩)
    (Cert.MixerOutReferenceIdeal.Value.run (F := Ideal) m ρ)

theorem preserves : Cert.preserves_MixerOut_MixerOutIdeal := trivial

theorem layer_congr {a0 b0 a1 b1 a2 b2 a3 b3 a4 b4 a5 b5 a6 b6} (h0 : a0 = b0) (h1 : a1 = b1) (h2 : a2 = b2) (h3 : a3 = b3)
    (h4 : a4 = b4) (h5 : a5 = b5) (h6 : a6 = b6) :
    layer a0 a1 a2 a3 a4 a5 a6 = layer b0 b1 b2 b3 b4 b5 b6 := by
  subst h0 h1 h2 h3 h4 h5 h6
  rfl

theorem algebraic : Cert.algebraic_MixerOutIdeal_MixerOutReferenceIdeal := by
  intro m g m' g' _ hm
  refine ⟨fun c => (Cert.MixerOutIdeal.Gen.dats m 0 c).arrAt 8 Cert.MixerOutIdeal.cfg0.N, Cert.MixerOutIdeal.Value.run_blocks m g,
    (θ_run Cert.MixerOutReferenceIdeal.defs _ _).mono (fun r h c => ⟨(h c).1.trans ?_, (h c).2⟩)
      (Cert.MixerOutReferenceIdeal.Value.run (F := Ideal) m' g')⟩
  obtain ⟨h0, h1, h2, h3, h4, h5, h6⟩ := hm c
  refine Eq.trans ?_ (array_eq m c).symm
  refine (Cert.MixerOutReferenceIdeal.Read.val_main_v17_eq _ _ _ _ _ _ _).trans ((Ref.ref_eq _ _ _ _ _ _ _).trans ?_)
  unfold argOf0 argOf1 argOf2 argOf3 argOf4 argOf5 argOf6
  exact layer_congr h0 h1 h2 h3 h4 h5 h6

end Cert.MixOut

end
-- ==== Proof.MixInTables.lean ====
/- Hand-written, untrusted: THE CONSTANT TABLES THAT THE HOST BUILDS FOR THE MIXER'S INPUT, entry by entry: which lanes share a head
   (`segTable_apply`), where the shared rotary lanes go (`placeTable_apply`), the rotation of a head's rotary lanes (`rotTable_apply`), and
   the frequencies by lane (`freqTable_apply`). -/
module

public import proofs.«01_k».proof.Proof.Gen.MixerInIdeal.Frame
public import Idealize.ShloMosaic.Lib.Pointwise
public import Idealize.ShloMosaic.Lib.IdealHost
public import Idealize.ShloMosaic.Lib.Routing.OpsSet
public import Idealize.ShloMosaic.Lib.Routing.OpsPair

@[expose] public section

set_option maxRecDepth 16384

noncomputable section

namespace Cert.MixIn

open Idealize.ShloMosaic Cert.MixerInIdeal Cert.MixerInIdeal.Gen Idealize.ShloMosaic.TcCoe Idealize.SL.Sem

theorem zero_f32 : (Ideal.ofBits .f32 0x00000000#32 : EReal) = 0 := by simp [Ideal.ofBits, Ideal.ieee]

theorem one_f32 : (Ideal.ofBits .f32 0x3F800000#32 : EReal) = 1 := Ideal.ofBits_one_f32

theorem neg_one_f32 : (Ideal.ofBits .f32 0xBF800000#32 : EReal) = -1 := by
  have : (Ideal.ofBits .f32 0xBF800000#32 : EReal) = ((-1 : ℝ) : EReal) := by
    simp [Ideal.ofBits, Ideal.ieee]
    rw [← EReal.coe_mul]
    norm_num
  rw [this]; rfl

/-! ## Indices -/

/-- `c` plus the position, wrapped as an index into 128 entries. -/
def from16 (c : BitVec 32) : IVec S16 32 :=
  select (cmpi .slt (addi (broadcastInDim S16 ![] bcast_S_S16 (constantI S_ 32 c)) (iotaInDim S16 32 0)) (broadcastInDim S16 ![] bcast_S_S16 (constantI S_ 32 0#32)))
    (addi (addi (broadcastInDim S16 ![] bcast_S_S16 (constantI S_ 32 c)) (iotaInDim S16 32 0)) (broadcastInDim S16 ![] bcast_S_S16 (constantI S_ 32 128#32)))
    (addi (broadcastInDim S16 ![] bcast_S_S16 (constantI S_ 32 c)) (iotaInDim S16 32 0))

theorem from16_apply (c : BitVec 32) (n : Fin 16) : from16 c (ix1 n) = if (c + BitVec.ofNat 32 n.val).slt 0#32 then (c + BitVec.ofNat 32 n.val) + 128#32 else c + BitVec.ofNat 32 n.val := by
  unfold from16
  pointwise []
  show (if IntOp.cmpi .slt (c + BitVec.ofNat 32 n.val) 0#32 = 1#1 then _ else _) = _
  congr 1
  simp [IntOp.cmpi]
  generalize (c + BitVec.ofNat 32 n.val).slt 0#32 = b
  cases b <;> decide

/-- Two columns of indices side by side. -/
def pair16 (a b : IVec S16 32) : IVec S16x2 32 :=
  concatenate S16x2 1 [⟨S16x1, broadcastInDim S16x1 ![0] bcast_S16_S16x1_0 a⟩, ⟨S16x1, broadcastInDim S16x1 ![0] bcast_S16_S16x1_0 b⟩] concatenates_S16x1_S16x1_S16x2_d1

theorem pair16_zero (a b : IVec S16 32) (n : Fin 16) : pair16 a b (ix2 n (0 : Fin 2)) = a (ix1 n) := by
  unfold pair16
  pointwise []

theorem pair16_one (a b : IVec S16 32) (n : Fin 16) : pair16 a b (ix2 n (1 : Fin 2)) = b (ix1 n) := by
  unfold pair16
  pointwise []

theorem lands128 (idx : IVec S16x2 32) (n : Fin 16) (A B : Fin 128) :
    scatter_S128x128_S16x2_S16_n_01_01_1.resultIdx? (ix1 n) idx = some (ix2 A B)
      ↔ (idx (ix2 n (0 : Fin 2))).toInt = A.val ∧ (idx (ix2 n (1 : Fin 2))).toInt = B.val := by
  refine (Routing.resultIdx?_ix2 (R := 128) (C := 128) scatter_S128x128_S16x2_S16_n_01_01_1 (ix1 n) idx A B).trans ?_
  have w : ∀ a, scatter_S128x128_S16x2_S16_n_01_01_1.window (ix1 n) a = 0 := fun a => by
    match a with
    | ⟨0, _⟩ => rfl
    | ⟨1, _⟩ => rfl
  have s0 : scatter_S128x128_S16x2_S16_n_01_01_1.start (ix1 n) idx 0 = (idx (ix2 n (0 : Fin 2))).toInt := by
    unfold ScatterDims.start
    rw [dif_pos (by decide)]
    congr 2
    funext a
    match a with
    | ⟨0, _⟩ => rfl
    | ⟨1, _⟩ => rfl
  have s1 : scatter_S128x128_S16x2_S16_n_01_01_1.start (ix1 n) idx 1 = (idx (ix2 n (1 : Fin 2))).toInt := by
    unfold ScatterDims.start
    rw [dif_pos (by decide)]
    congr 2
    funext a
    match a with
    | ⟨0, _⟩ => rfl
    | ⟨1, _⟩ => rfl
  rw [w, w, s0, s1]
  simp

theorem lands1 (idx : IVec S16x2 32) (n : Fin 16) (A : Fin 1) (B : Fin 128) :
    scatter_S1x128_S16x2_S16_n_01_01_1.resultIdx? (ix1 n) idx = some (ix2 A B)
      ↔ (idx (ix2 n (0 : Fin 2))).toInt = A.val ∧ (idx (ix2 n (1 : Fin 2))).toInt = B.val := by
  refine (Routing.resultIdx?_ix2 (R := 1) (C := 128) scatter_S1x128_S16x2_S16_n_01_01_1 (ix1 n) idx A B).trans ?_
  have w : ∀ a, scatter_S1x128_S16x2_S16_n_01_01_1.window (ix1 n) a = 0 := fun a => by
    match a with
    | ⟨0, _⟩ => rfl
    | ⟨1, _⟩ => rfl
  have s0 : scatter_S1x128_S16x2_S16_n_01_01_1.start (ix1 n) idx 0 = (idx (ix2 n (0 : Fin 2))).toInt := by
    unfold ScatterDims.start
    rw [dif_pos (by decide)]
    congr 2
    funext a
    match a with
    | ⟨0, _⟩ => rfl
    | ⟨1, _⟩ => rfl
  have s1 : scatter_S1x128_S16x2_S16_n_01_01_1.start (ix1 n) idx 1 = (idx (ix2 n (1 : Fin 2))).toInt := by
    unfold ScatterDims.start
    rw [dif_pos (by decide)]
    congr 2
    funext a
    match a with
    | ⟨0, _⟩ => rfl
    | ⟨1, _⟩ => rfl
  rw [w, w, s0, s1]
  simp

theorem landsPlace (idx : IVec S32x2 32) (n : Fin 32) (h : Fin 8) (A : Fin 128) (H : Fin 8) (B : Fin 128) :
    scatter_S128x8x128_S32x2_S32x8_1_02_02_1.resultIdx? (ix2 n h) idx = some (ix3 A H B)
      ↔ (idx (ix2 n (0 : Fin 2))).toInt = A.val ∧ h = H ∧ (idx (ix2 n (1 : Fin 2))).toInt = B.val := by
  rw [Routing.resultIdx?_eq_some]
  have w0 : scatter_S128x8x128_S32x2_S32x8_1_02_02_1.window (ix2 n h) 0 = 0 := rfl
  have w1 : scatter_S128x8x128_S32x2_S32x8_1_02_02_1.window (ix2 n h) 1 = h.val := rfl
  have w2 : scatter_S128x8x128_S32x2_S32x8_1_02_02_1.window (ix2 n h) 2 = 0 := rfl
  have s0 : scatter_S128x8x128_S32x2_S32x8_1_02_02_1.start (ix2 n h) idx 0 = (idx (ix2 n (0 : Fin 2))).toInt := by
    unfold ScatterDims.start
    rw [dif_pos (by decide)]
    congr 2
    funext a
    match a with
    | ⟨0, _⟩ => rfl
    | ⟨1, _⟩ => rfl
  have s1 : scatter_S128x8x128_S32x2_S32x8_1_02_02_1.start (ix2 n h) idx 1 = 0 := by
    unfold ScatterDims.start
    rw [dif_neg (by decide)]
  have s2 : scatter_S128x8x128_S32x2_S32x8_1_02_02_1.start (ix2 n h) idx 2 = (idx (ix2 n (1 : Fin 2))).toInt := by
    unfold ScatterDims.start
    rw [dif_pos (by decide)]
    congr 2
    funext a
    match a with
    | ⟨0, _⟩ => rfl
    | ⟨1, _⟩ => rfl
  constructor
  · intro q
    have q0 := q 0
    have q1 := q 1
    have q2 := q 2
    rw [w0, s0] at q0
    rw [w1, s1] at q1
    rw [w2, s2] at q2
    refine ⟨?_, Fin.ext ?_, ?_⟩
    · have : ((ix3 A H B : S128x8x128.Idx) 0).val = A.val := rfl
      omega
    · have : ((ix3 A H B : S128x8x128.Idx) 1).val = H.val := rfl
      omega
    · have : ((ix3 A H B : S128x8x128.Idx) 2).val = B.val := rfl
      omega
  · rintro ⟨q0, rfl, q2⟩ a
    match a with
    | ⟨0, _⟩ => exact (congrArg₂ (fun a b : Int => a + b) s0 (congrArg Nat.cast w0)).trans (by simpa using q0)
    | ⟨1, _⟩ => exact (congrArg₂ (fun a b : Int => a + b) s1 (congrArg Nat.cast w1)).trans (by simp)
    | ⟨2, _⟩ => exact (congrArg₂ (fun a b : Int => a + b) s2 (congrArg Nat.cast w2)).trans (by simpa using q2)

theorem from16_64 (n : Fin 16) : (from16 64#32 (ix1 n)).toInt = 64 + n.val := by
  rw [from16_apply]
  revert n
  decide

theorem from16_80 (n : Fin 16) : (from16 80#32 (ix1 n)).toInt = 80 + n.val := by
  rw [from16_apply]
  revert n
  decide

/-! ## The rotation of a head's rotary lanes -/

/-- A plain vector of one number. -/
def all16 (b : BitVec 32) : FVec Ideal S16 .f32 := broadcastInDim S16 ![] bcast_S_S16 (constant (F := Ideal) S_ .f32 b)

theorem all16_apply (b : BitVec 32) (n : Fin 16) : (all16 b (ix1 n) : EReal) = Ideal.ofBits .f32 b := by
  unfold all16
  pointwise []

/-- The table before its upper half is written. -/
def rotHalf : FVec Ideal S128x128 .f32 :=
  Host.scatter scatter_S128x128_S16x2_S16_n_01_01_1 (fun _ b => b) (broadcastInDim S128x128 ![] bcast_S_S128x128 (constant (F := Ideal) S_ .f32 0x00000000#32))
    (pair16 (from16 80#32) (from16 64#32)) (all16 0xBF800000#32)

/-- The table. -/
def rotTable : FVec Ideal S128x128 .f32 :=
  Host.scatter scatter_S128x128_S16x2_S16_n_01_01_1 (fun _ b => b) rotHalf (pair16 (from16 64#32) (from16 80#32)) (all16 0x3F800000#32)

theorem eq_ix1 (k : S16.Idx) : ∃ n : Fin 16, k = ix1 n := ⟨k 0, funext fun a => by match a with | ⟨0, _⟩ => rfl⟩

theorem rotHalf_apply (j l : Fin 128) : (rotHalf (ix2 j l) : EReal) = if 64 ≤ l.val ∧ l.val < 80 ∧ j.val = l.val + 16 then -1 else 0 := by
  unfold rotHalf
  split
  · next h =>
    refine Routing.scatter_set_hit _ _ _ _ _ _ (fun k _ => ?_) (ix1 (⟨l.val - 64, by omega⟩ : Fin 16)) ?_
    · obtain ⟨n, rfl⟩ := eq_ix1 k
      exact (all16_apply _ _).trans neg_one_f32
    · refine (lands128 _ _ j l).2 ?_
      rw [pair16_zero, pair16_one, from16_80, from16_64]
      constructor
      · show (80 : Int) + ((l.val - 64 : Nat) : Int) = j.val
        omega
      · show (64 : Int) + ((l.val - 64 : Nat) : Int) = l.val
        omega
  · next h =>
    refine (Routing.scatter_set_miss _ _ _ _ _ fun k hk => ?_).trans ?_
    · obtain ⟨n, rfl⟩ := eq_ix1 k
      have := (lands128 _ _ j l).1 hk
      rw [pair16_zero, pair16_one, from16_80, from16_64] at this
      omega
    · pointwise []

theorem rotTable_apply (j l : Fin 128) : (rotTable (ix2 j l) : EReal)
    = if 64 ≤ j.val ∧ j.val < 80 ∧ l.val = j.val + 16 then 1 else if 64 ≤ l.val ∧ l.val < 80 ∧ j.val = l.val + 16 then -1 else 0 := by
  unfold rotTable
  split
  · next h =>
    refine Routing.scatter_set_hit _ _ _ _ _ _ (fun k _ => ?_) (ix1 (⟨j.val - 64, by omega⟩ : Fin 16)) ?_
    · obtain ⟨n, rfl⟩ := eq_ix1 k
      exact (all16_apply _ _).trans one_f32
    · refine (lands128 _ _ j l).2 ?_
      rw [pair16_zero, pair16_one, from16_80, from16_64]
      constructor
      · show (64 : Int) + ((j.val - 64 : Nat) : Int) = j.val
        omega
      · show (80 : Int) + ((j.val - 64 : Nat) : Int) = l.val
        omega
  · next h =>
    refine (Routing.scatter_set_miss _ _ _ _ _ fun k hk => ?_).trans (rotHalf_apply j l)
    obtain ⟨n, rfl⟩ := eq_ix1 k
    have := (lands128 _ _ j l).1 hk
    rw [pair16_zero, pair16_one, from16_80, from16_64] at this
    omega

/-! ## The frequencies by lane -/

/-- A frequency. -/
def freq : FVec Ideal S16 .f32 :=
  Host.powf (broadcastInDim S16 ![] bcast_S_S16 (constant (F := Ideal) S_ .f32 0x461C4000#32))
    (Host.divf (Host.negf (sitofp .f32 (iotaInDim S16 32 0))) (broadcastInDim S16 ![] bcast_S_S16 (constant (F := Ideal) S_ .f32 0x41800000#32)))

/-- The row of zeros of indices. -/
def zeros16 : IVec S16 32 := id (broadcastInDim S16 ![] bcast_S_S16 (constantI S_ 32 0#32))

theorem zeros16_apply (n : Fin 16) : (zeros16 (ix1 n)).toInt = 0 := by
  unfold zeros16
  rw [id]
  pointwise []
  rfl

/-- The frequencies in the first of the two runs of rotary lanes. -/
def freqHalf : FVec Ideal S1x128 .f32 :=
  Host.scatter scatter_S1x128_S16x2_S16_n_01_01_1 (fun _ b => b) (broadcastInDim S1x128 ![] bcast_S_S1x128 (constant (F := Ideal) S_ .f32 0x00000000#32))
    (pair16 zeros16 (from16 64#32)) freq

/-- The frequencies in both. -/
def freqTable : FVec Ideal S1x128 .f32 :=
  Host.scatter scatter_S1x128_S16x2_S16_n_01_01_1 (fun _ b => b) freqHalf (pair16 zeros16 (from16 80#32)) freq

theorem freqHalf_apply (l : Fin 128) : (freqHalf (ix2 (0 : Fin 1) l) : EReal)
    = if h : 64 ≤ l.val ∧ l.val < 80 then freq (ix1 ⟨l.val - 64, by omega⟩) else 0 := by
  unfold freqHalf
  split
  · next h =>
    refine Routing.scatter_set_hit _ _ _ _ _ _ (fun k hk => ?_) (ix1 (⟨l.val - 64, by omega⟩ : Fin 16)) ?_
    · obtain ⟨n, rfl⟩ := eq_ix1 k
      have := (lands1 _ _ 0 l).1 hk
      rw [pair16_one, from16_64] at this
      congr 2
      apply Fin.ext
      show n.val = l.val - 64
      omega
    · refine (lands1 _ _ 0 l).2 ?_
      rw [pair16_zero, pair16_one, zeros16_apply, from16_64]
      constructor
      · rfl
      · show (64 : Int) + ((l.val - 64 : Nat) : Int) = l.val
        omega
  · next h =>
    refine (Routing.scatter_set_miss _ _ _ _ _ fun k hk => ?_).trans ?_
    · obtain ⟨n, rfl⟩ := eq_ix1 k
      have := (lands1 _ _ 0 l).1 hk
      rw [pair16_one, from16_64] at this
      omega
    · pointwise []

theorem freqTable_apply (l : Fin 128) : (freqTable (ix2 (0 : Fin 1) l) : EReal)
    = if h : 64 ≤ l.val ∧ l.val < 96 then freq (ix1 ⟨l.val % 16, by omega⟩) else 0 := by
  unfold freqTable
  by_cases h8 : 80 ≤ l.val ∧ l.val < 96
  · rw [dif_pos (by omega)]
    refine Routing.scatter_set_hit _ _ _ _ _ _ (fun k hk => ?_) (ix1 (⟨l.val - 80, by omega⟩ : Fin 16)) ?_
    · obtain ⟨n, rfl⟩ := eq_ix1 k
      have := (lands1 _ _ 0 l).1 hk
      rw [pair16_one, from16_80] at this
      congr 2
      apply Fin.ext
      show n.val = l.val % 16
      omega
    · refine (lands1 _ _ 0 l).2 ?_
      rw [pair16_zero, pair16_one, zeros16_apply, from16_80]
      constructor
      · rfl
      · show (80 : Int) + ((l.val - 80 : Nat) : Int) = l.val
        omega
  · refine (Routing.scatter_set_miss _ _ _ _ _ fun k hk => ?_).trans ((freqHalf_apply l).trans ?_)
    · obtain ⟨n, rfl⟩ := eq_ix1 k
      have := (lands1 _ _ 0 l).1 hk
      rw [pair16_one, from16_80] at this
      omega
    · by_cases h6 : 64 ≤ l.val ∧ l.val < 80
      · rw [dif_pos h6, dif_pos (by omega)]
        congr 2
        apply Fin.ext
        show l.val - 64 = l.val % 16
        omega
      · rw [dif_neg h6, dif_neg (by omega)]

/-! ## Where the shared rotary lanes go -/

/-- `c` plus the position, wrapped as an index into 128 entries. -/
def wrap32 (x : IVec S32 32) : IVec S32 32 :=
  select (cmpi .slt x (broadcastInDim S32 ![] bcast_S_S32 (constantI S_ 32 0#32)))
    (addi x (broadcastInDim S32 ![] bcast_S_S32 (constantI S_ 32 128#32))) x

def from32 : IVec S32x2 32 :=
  concatenate S32x2 1 [⟨S32x1, broadcastInDim S32x1 ![0] bcast_S32_S32x1_0 (wrap32 (iotaInDim S32 32 0))⟩,
    ⟨S32x1, broadcastInDim S32x1 ![0] bcast_S32_S32x1_0 (wrap32 (addi (broadcastInDim S32 ![] bcast_S_S32 (constantI S_ 32 64#32)) (iotaInDim S32 32 0)))⟩]
    concatenates_S32x1_S32x1_S32x2_d1

theorem wrap32_apply (x : IVec S32 32) (n : Fin 32) : wrap32 x (ix1 n) = Scalar.select (IntOp.cmpi .slt (x (ix1 n)) 0#32) (IntOp.addi (x (ix1 n)) 128#32) (x (ix1 n)) := by
  unfold wrap32
  pointwise []

theorem from32_zero (n : Fin 32) : (from32 (ix2 n (0 : Fin 2))).toInt = n.val := by
  unfold from32
  pointwise [wrap32]
  revert n
  decide

theorem from32_one (n : Fin 32) : (from32 (ix2 n (1 : Fin 2))).toInt = 64 + n.val := by
  unfold from32
  pointwise [wrap32]
  revert n
  decide

def placeTable : FVec Ideal S128x8x128 .f32 :=
  Host.scatter scatter_S128x8x128_S32x2_S32x8_1_02_02_1 (fun _ b => b) (broadcastInDim S128x8x128 ![] bcast_S_S128x8x128 (constant (F := Ideal) S_ .f32 0x00000000#32))
    from32 (broadcastInDim S32x8 ![] bcast_S_S32x8 (constant (F := Ideal) S_ .f32 0x3F800000#32))

theorem placeTable_apply (j : Fin 128) (h : Fin 8) (l : Fin 128) : (placeTable (ix3 j h l) : EReal) = if j.val < 32 ∧ l.val = 64 + j.val then 1 else 0 := by
  unfold placeTable
  split
  · next q =>
    refine Routing.scatter_set_hit _ _ _ _ _ _ (fun k _ => ?_) (ix2 (⟨j.val, by omega⟩ : Fin 32) h) ?_
    · obtain ⟨n, b, rfl⟩ : ∃ (n : Fin 32) (b : Fin 8), k = ix2 n b := ⟨k 0, k 1, eq_ix2 k⟩
      refine Eq.trans ?_ one_f32
      pointwise []
    · refine (landsPlace _ _ _ j h l).2 ?_
      rw [from32_zero, from32_one]
      refine ⟨rfl, rfl, ?_⟩
      show (64 : Int) + (j.val : Int) = l.val
      omega
  · next q =>
    refine (Routing.scatter_set_miss _ _ _ _ _ fun k hk => ?_).trans ?_
    · obtain ⟨n, b, rfl⟩ : ∃ (n : Fin 32) (b : Fin 8), k = ix2 n b := ⟨k 0, k 1, eq_ix2 k⟩
      have := (landsPlace _ _ _ j h l).1 hk
      rw [from32_zero, from32_one] at this
      omega
    · pointwise []

/-! ## Which lanes share a head -/

/-- A lane's head, down the rows … -/
def headCol : IVec S128x1 32 :=
  let x : IVec S128x1 32 := broadcastInDim S128x1 ![0] bcast_S128_S128x1_0 (iotaInDim S128 32 0)
  let d : IVec S_ 32 := id (constantI S_ 32 64#32)
  select (andi (cmpi .ne (signi x) (broadcastInDim S128x1 ![] bcast_S_S128x1 (signi d)))
      (cmpi .ne (Host.remsi x (broadcastInDim S128x1 ![] bcast_S_S128x1 d)) (broadcastInDim S128x1 ![] bcast_S_S128x1 (constantI S_ 32 0#32))))
    (subi (Host.divsi x (broadcastInDim S128x1 ![] bcast_S_S128x1 d)) (broadcastInDim S128x1 ![] bcast_S_S128x1 (constantI S_ 32 1#32)))
    (Host.divsi x (broadcastInDim S128x1 ![] bcast_S_S128x1 d))

/-- … and along them. -/
def headRow : IVec S1x128 32 :=
  let x : IVec S1x128 32 := broadcastInDim S1x128 ![1] bcast_S128_S1x128_1 (iotaInDim S128 32 0)
  let d : IVec S_ 32 := id (constantI S_ 32 64#32)
  select (andi (cmpi .ne (signi x) (broadcastInDim S1x128 ![] bcast_S_S1x128 (signi d)))
      (cmpi .ne (Host.remsi x (broadcastInDim S1x128 ![] bcast_S_S1x128 d)) (broadcastInDim S1x128 ![] bcast_S_S1x128 (constantI S_ 32 0#32))))
    (subi (Host.divsi x (broadcastInDim S1x128 ![] bcast_S_S1x128 d)) (broadcastInDim S1x128 ![] bcast_S_S1x128 (constantI S_ 32 1#32)))
    (Host.divsi x (broadcastInDim S1x128 ![] bcast_S_S1x128 d))

theorem headCol_apply (j : Fin 128) : headCol (ix2 j (0 : Fin 1)) = BitVec.ofNat 32 (j.val / 64) := by
  unfold headCol
  dsimp only [id]
  pointwise []
  revert j
  decide +kernel

theorem headRow_apply (j : Fin 128) : headRow (ix2 (0 : Fin 1) j) = BitVec.ofNat 32 (j.val / 64) := by
  unfold headRow
  dsimp only [id]
  pointwise []
  revert j
  decide +kernel

/-- Which lanes share a head. -/
def segTable : FVec Ideal S128x128 .bf16 :=
  truncf .bf16 (uitofp (F := Ideal) .f32 (cmpi .eq (broadcastInDim S128x128 ![0, 1] bcast_S128x1_S128x128_0_1 headCol) (broadcastInDim S128x128 ![0, 1] bcast_S1x128_S128x128_0_1 headRow))) bitsLt_bf16_f32

theorem segTable_apply (j l : Fin 128) : (segTable (ix2 j l) : EReal) = if j.val / 64 = l.val / 64 then 1 else 0 := by
  unfold segTable
  pointwise []
  rw [headCol_apply, headRow_apply]
  by_cases h : j.val / 64 = l.val / 64
  · rw [if_pos h, h]
    simp [IntOp.cmpi]
    show (((1#1 : BitVec 1).toNat : ℝ) : EReal) = 1
    norm_num
  · rw [if_neg h]
    have : (BitVec.ofNat 32 (j.val / 64) == BitVec.ofNat 32 (l.val / 64)) = false := by
      rw [beq_eq_false_iff_ne]
      intro e
      have := congrArg BitVec.toNat e
      simp only [BitVec.toNat_ofNat] at this
      omega
    simp [IntOp.cmpi, this]
    show (((0#1 : BitVec 1).toNat : ℝ) : EReal) = 0
    norm_num

end Cert.MixIn

end
-- ==== Proof.MixInHost.lean ====
/- Hand-written, untrusted: WHAT THE HOST HANDS THE MIXER'S INPUT KERNEL: the arguments reshaped and padded with zeros, and the constant
   tables. -/
module

public import proofs.«01_k».proof.Proof.MixInTables
public import proofs.«01_k».proof.Proof.Gen.MixerInIdeal.Value

@[expose] public section

set_option maxRecDepth 16384

noncomputable section

namespace Cert.MixIn

open Idealize.ShloMosaic Cert.MixerInIdeal Cert.MixerInIdeal.Gen Idealize.ShloMosaic.TcCoe Idealize.SL.Sem

variable (m : (ℓ : Loc nD τ sig) → Buf (Elt Ideal) ℓ) (c : Dev nD)

/-- Argument 0. -/
abbrev argOf0 : Vec Ideal S32x2048x1024 .f32 := m ((c : Thread nD τ).loc main_arg0)
/-- Argument 1. -/
abbrev argOf1 : Vec Ideal S32x2048 .i32 := m ((c : Thread nD τ).loc main_arg1)
/-- Argument 2. -/
abbrev argOf2 : Vec Ideal S1024 .f32 := m ((c : Thread nD τ).loc main_arg2)
/-- Argument 3. -/
abbrev argOf3 : Vec Ideal S1024x1696 .f32 := m ((c : Thread nD τ).loc main_arg3)
/-- Argument 4. -/
abbrev argOf4 : Vec Ideal S8x64 .f32 := m ((c : Thread nD τ).loc main_arg4)
/-- Argument 5. -/
abbrev argOf5 : Vec Ideal S384 .f32 := m ((c : Thread nD τ).loc main_arg5)
/-- Argument 6. -/
abbrev argOf6 : Vec Ideal S384x768 .f32 := m ((c : Thread nD τ).loc main_arg6)
/-- Argument 7. -/
abbrev argOf7 : Vec Ideal S256 .f32 := m ((c : Thread nD τ).loc main_arg7)
/-- Argument 8. -/
abbrev argOf8 : Vec Ideal S256x1024 .f32 := m ((c : Thread nD τ).loc main_arg8)
/-- Argument 9. -/
abbrev argOf9 : Vec Ideal S96 .f32 := m ((c : Thread nD τ).loc main_arg9)
/-- Argument 10. -/
abbrev argOf10 : Vec Ideal S96 .f32 := m ((c : Thread nD τ).loc main_arg10)

theorem V_0 : V m c main_v0 = shapeCast S65536x1024 (argOf0 m c) shapeCasts_S32x2048x1024_S65536x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_1 : V m c main_v1 = shapeCast S65536x1 (argOf1 m c) shapeCasts_S32x2048_S65536x1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_2 : V m c main_v128 = shapeCast S1x1024 (argOf2 m c) shapeCasts_S1024_S1x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_3 : V m c main_v3 = truncf (F := Ideal) .bf16 (pad S1024x1792 ![0, 0] ![0, 96] ![0, 0] (argOf3 m c) (sitofp (F := Ideal) .f32 (constantI S_ 32 0#32)) pads_S1024x1696_S1024x1792_000_0960 h_S_) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_4 : V m c main_v13 = segTable := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_5 : V m c main_v16 = shapeCast S1x512 (argOf4 m c) shapeCasts_S8x64_S1x512 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_6 : V m c main_v129 = shapeCast S1x384 (argOf5 m c) shapeCasts_S384_S1x384 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_7 : V m c main_v20 = truncf (F := Ideal) .bf16 (shapeCast S384x1024 (pad S384x8x128 ![0, 0, 0] ![0, 0, 32] ![0, 0, 0] (shapeCast S384x8x96 (argOf6 m c) shapeCasts_S384x768_S384x8x96) (sitofp (F := Ideal) .f32 (constantI S_ 32 0#32)) pads_S384x8x96_S384x8x128_000_000_0320 h_S_) shapeCasts_S384x8x128_S384x1024) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_8 : V m c main_v130 = shapeCast S1x256 (argOf7 m c) shapeCasts_S256_S1x256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_9 : V m c main_v25 = truncf (F := Ideal) .bf16 (shapeCast S256x1024 (pad S256x8x128 ![0, 0, 0] ![0, 0, 64] ![0, 0, 0] (extractStridedSlice S256x8x64 ![0, 0, 0] (shapeCast S256x8x128 (argOf8 m c) shapeCasts_S256x1024_S256x8x128) slices_S256x8x128_S256x8x64_0_0_0) (sitofp (F := Ideal) .f32 (constantI S_ 32 0#32)) pads_S256x8x64_S256x8x128_000_000_0640 h_S_) shapeCasts_S256x8x128_S256x1024) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_10 : V m c main_v28 = truncf (F := Ideal) .bf16 (shapeCast S256x512 (extractStridedSlice S256x8x64 ![0, 0, 64] (shapeCast S256x8x128 (argOf8 m c) shapeCasts_S256x1024_S256x8x128) slices_S256x8x128_S256x8x64_0_0_64) shapeCasts_S256x8x64_S256x512) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_11 : V m c main_v49 = truncf (F := Ideal) .bf16 (shapeCast S128x1024 placeTable shapeCasts_S128x8x128_S128x1024) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_12 : V m c main_v90 = truncf (F := Ideal) .bf16 (rotTable) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_13 : V m c main_v15 = truncf (F := Ideal) .bf16 (broadcastInDim S128x128 ![] bcast_S_S128x128 (constant (F := Ideal) S_ .f32 0x3F800000#32)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_14 : V m c main_v125 = shapeCast S1x128 (pad S128 ![0] ![32] ![0] (argOf9 m c) (sitofp (F := Ideal) .f32 (constantI S_ 32 0#32)) pads_S96_S128_0320 h_S_) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_15 : V m c main_v127 = shapeCast S1x128 (pad S128 ![0] ![32] ![0] (argOf10 m c) (sitofp (F := Ideal) .f32 (constantI S_ 32 0#32)) pads_S96_S128_0320 h_S_) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

theorem V_16 : V m c main_v123 = freqTable := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_results
  all_goals rfl

end Cert.MixIn

end
-- ==== Proof.MixInBlock.lean ====
/- Hand-written, untrusted: WHAT ONE GRID POINT OF THE MIXER'S INPUT COMPUTES, entry by entry. The normalised row is multiplied by the
   input matrix (`z_apply`); its first columns pass through the gelu (`ug_apply`), its next through the gelu and a mean square over lanes
   (`segment`), and the two latent parts give the heads of queries and keys (`head`) and the values (`values_apply`). -/
module

public import proofs.«01_k».proof.Proof.Gen.MixerInIdeal.Frame
public import Idealize.ShloMosaic.Lib.Pipeline.ReadBack
public import Idealize.ShloMosaic.Lib.Pipeline.Value
public import Idealize.ShloMosaic.Lib.Pipeline.ValueKit
public import Idealize.ShloMosaic.Lib.Pointwise
public import Idealize.ShloMosaic.Lib.IdealHost
public import Idealize.ShloMosaic.Lib.Tactic

@[expose] public section

set_option maxRecDepth 16384

noncomputable section

namespace Cert.MixIn

open Idealize.ShloMosaic Cert.MixerInIdeal Cert.MixerInIdeal.Gen Idealize.ShloMosaic.TcCoe Idealize.SL.Sem

theorem hz : (![0, 0] : Fin 2 → Nat) = fun _ => 0 := funext fun a => by fin_cases a <;> rfl

/-- A row, normalised by its mean square over `n` entries and multiplied by a gain. -/
def normed {k : Nat} (n : EReal) (x g : Fin k → EReal) (i : Fin k) : EReal :=
  x i * Ideal.rsqrt (Ideal.div (∑ j, x j * x j) n + Ideal.ofBits .f32 0x358637BD#32) * g i

/-- The kernel's gelu of one number. -/
def gelu (v : EReal) : EReal :=
  v * (Ideal.ofBits .f32 0x3F000000#32 + Ideal.ofBits .f32 0x3F000000#32
    * Ideal.tanh (v * (Ideal.ofBits .f32 0x3F4C422A#32 + ((80338380498831 / 2251799813685248 : ℝ) : EReal) * (v * v))))

/-- 128 lanes, normalised by the sum of squares that a 0/1 matrix picks for each lane, the sum being taken in two parts. -/
def segment (inv : EReal) (y gain : Fin 128 → EReal) (seg : Fin 128 → Fin 128 → EReal) (l : Fin 128) : EReal :=
  y l * Ideal.rsqrt (((∑ k, y k * y k * seg k l) + ∑ k, (y k * y k - y k * y k) * seg k l) * inv + Ideal.ofBits .f32 0x358637BD#32) * gain l

/-- One head: normalised lanes, and the rotation as a product with a matrix. -/
def head (scale : EReal) (y gain : Fin 128 → EReal) (ones rot : Fin 128 → Fin 128 → EReal) (cos sin : Fin 128 → EReal) (l : Fin 128) : EReal :=
  (segment ((1 / 96 : ℝ) : EReal) y gain ones l * cos l + (∑ j, segment ((1 / 96 : ℝ) : EReal) y gain ones j * rot j l) * sin l) * scale

theorem z_apply (x : Vec Ideal S512x1024 .f32) (g : Vec Ideal S1x1024 .f32) (w : Vec Ideal S1024x1792 .bf16) (r : Fin 512) (C : Fin 1792) :
    (k0_pay2 x g w (ix2 r C) : EReal)
      = ∑ k : Fin 1024, normed (Ideal.ofBits .f32 0x44800000#32) (fun k => x (ix2 r k)) (fun k => g (ix2 (0 : Fin 1) k)) k * w (ix2 k C) := by
  unfold normed
  pointwise [k0_pay2]

theorem ug_apply (x : Vec Ideal S512x1024 .f32) (g : Vec Ideal S1x1024 .f32) (w : Vec Ideal S1024x1792 .bf16) (r c : Fin 512) :
    (k0_pay7 x g w (ix2 r c) : EReal) = gelu (k0_pay2 x g w (ix2 r ⟨c, by omega⟩)) := by
  unfold k0_pay7 gelu
  generalize k0_pay2 x g w = Z
  pointwise []
  rfl

theorem gv_apply (x : Vec Ideal S512x1024 .f32) (g : Vec Ideal S1x1024 .f32) (w : Vec Ideal S1024x1792 .bf16) (r c : Fin 512) :
    (k0_pay10 (k0_pay3 x g w) (k0_pay8 x g w) (k0_pay9 (F := Ideal)) (ix2 r c) : EReal) = gelu (k0_pay2 x g w (ix2 r ⟨512 + c, by omega⟩)) := by
  unfold k0_pay10 k0_pay9 k0_pay8 k0_pay3 gelu
  generalize k0_pay2 x g w = Z
  pointwise []
  rfl

section Segments

variable (a b d : FVec Ideal S512x512 .f32) (seg : Vec Ideal S128x128 .bf16) (gain : Vec Ideal S1x128 .f32) (r : Fin 512) (l : Fin 128)

theorem seg0 : (k0_pay12 a b d seg gain (ix2 r l) : EReal)
    = segment (Ideal.ofBits .f32 0x3C800000#32) (fun k => k0_pay10 (F := Ideal) a b d (ix2 r ⟨k, by omega⟩)) (fun k => gain (ix2 (0 : Fin 1) k)) (fun k l => seg (ix2 k l)) l := by
  unfold k0_pay12 segment
  generalize k0_pay10 a b d = Z
  pointwise [k0_pay11]

theorem seg1 : (k0_pay16 (k0_pay13 a b d) (k0_pay14 a b d seg) (k0_pay15 (F := Ideal)) gain (ix2 r l) : EReal)
    = segment (Ideal.ofBits .f32 0x3C800000#32) (fun k => k0_pay10 (F := Ideal) a b d (ix2 r ⟨128 + k, by omega⟩)) (fun k => gain (ix2 (0 : Fin 1) k)) (fun k l => seg (ix2 k l)) l := by
  unfold k0_pay16 k0_pay15 k0_pay14 k0_pay13 segment
  generalize k0_pay10 a b d = Z
  pointwise [k0_pay11]

theorem seg2 (Z : Vec Ideal S512x512 .f32) : (k0_pay17 Z (k0_pay11 seg) gain (ix2 r l) : EReal)
    = segment (Ideal.ofBits .f32 0x3C800000#32) (fun k => Z (ix2 r ⟨256 + k, by omega⟩)) (fun k => gain (ix2 (0 : Fin 1) k)) (fun k l => seg (ix2 k l)) l := by
  unfold segment
  pointwise [k0_pay17, k0_pay11]

theorem seg3 (Z : Vec Ideal S512x512 .f32) : (k0_pay21 (k0_pay18 Z) (k0_pay19 Z (k0_pay11 seg)) (k0_pay20 (F := Ideal)) gain (ix2 r l) : EReal)
    = segment (Ideal.ofBits .f32 0x3C800000#32) (fun k => Z (ix2 r ⟨384 + k, by omega⟩)) (fun k => gain (ix2 (0 : Fin 1) k)) (fun k l => seg (ix2 k l)) l := by
  unfold segment
  pointwise [k0_pay21, k0_pay20, k0_pay19, k0_pay18, k0_pay11]

end Segments

section Heads

variable (C S : FVec Ideal S512x128 .f32) (R O : FVec Ideal S128x128 .bf16) (P : FVec Ideal S512x384 .bf16) (W : Vec Ideal S384x1024 .bf16)
  (Z : FVec Ideal S512x1024 .f32) (G : Vec Ideal S1x128 .f32) (r : Fin 512) (l : Fin 128)

/-- One head of a block, from the arrays it reads: the lanes from `o` on of `Z`. -/
abbrev headAt (scale : EReal) (o : Nat) (ho : o + 128 ≤ 1024) : EReal :=
  head scale (fun k => Z (ix2 r ⟨o + k, by omega⟩)) (fun k => G (ix2 (0 : Fin 1) k)) (fun k l => O (ix2 k l)) (fun k l => R (ix2 k l))
    (fun l => C (ix2 r l)) (fun l => S (ix2 r l)) l

theorem q0_apply : (k0_pay37 C S R O (k0_pay32 P W) (k0_pay33 G) (k0_pay35 P W) (k0_pay36 P W) (ix2 r l) : EReal) = headAt C S R O (k0_pay28 P W) G r l (Ideal.ofBits .f32 0x3DD105EC#32) 0 (by omega) := by
  unfold headAt head segment
  pointwise [k0_pay37, k0_pay32, k0_pay33, k0_pay34, k0_pay35, k0_pay36]
  all_goals rfl

theorem q1_apply : (k0_pay40 C S R O Z G (ix2 r l) : EReal) = headAt C S R O Z G r l (Ideal.ofBits .f32 0x3DD105EC#32) 128 (by omega) := by
  unfold headAt head segment
  pointwise [k0_pay40]
  all_goals rfl

theorem q2_apply : (k0_pay49 (k0_pay48 C S R O Z G) (ix2 r l) : EReal) = headAt C S R O Z G r l (Ideal.ofBits .f32 0x3DD105EC#32) 256 (by omega) := by
  unfold headAt head segment
  pointwise [k0_pay49, k0_pay48]
  all_goals rfl

theorem q3_apply : (k0_pay54 C S R (k0_pay51 Z) (k0_pay52 G) (k0_pay53 O Z) (Named.named κ "inv_qk_dim" 0x3C2AAAAB#32) (ix2 r l) : EReal) = headAt C S R O Z G r l (Ideal.ofBits .f32 0x3DD105EC#32) 384 (by omega) := by
  unfold headAt head segment
  pointwise [k0_pay54, k0_pay51, k0_pay52, k0_pay53]
  all_goals rfl

theorem q4_apply : (k0_pay56 C S R O Z G (ix2 r l) : EReal) = headAt C S R O Z G r l (Ideal.ofBits .f32 0x3DD105EC#32) 512 (by omega) := by
  unfold headAt head segment
  pointwise [k0_pay56]
  all_goals rfl

theorem q5_apply : (k0_pay61 C S R O Z G (ix2 r l) : EReal) = headAt C S R O Z G r l (Ideal.ofBits .f32 0x3DD105EC#32) 640 (by omega) := by
  unfold headAt head segment
  pointwise [k0_pay61]
  all_goals rfl

theorem q6_apply : (k0_pay67 C S R (k0_pay64 Z) (k0_pay65 G) (k0_pay66 O Z) (ix2 r l) : EReal) = headAt C S R O Z G r l (Ideal.ofBits .f32 0x3DD105EC#32) 768 (by omega) := by
  unfold headAt head segment
  pointwise [k0_pay67, k0_pay64, k0_pay65, k0_pay66]
  all_goals rfl

theorem q7_apply : (k0_pay70 C S R O (k0_pay69 Z) G (ix2 r l) : EReal) = headAt C S R O Z G r l (Ideal.ofBits .f32 0x3DD105EC#32) 896 (by omega) := by
  unfold headAt head segment
  pointwise [k0_pay70, k0_pay69]
  all_goals rfl

theorem k0_apply : (k0_pay39 (k0_pay38 C S R O Z G) (ix2 r l) : EReal) = headAt C S R O Z G r l (Ideal.ofBits .f32 0x3F800000#32) 0 (by omega) := by
  unfold headAt head segment
  pointwise [k0_pay39, k0_pay38]
  all_goals rfl

theorem k1_apply : (k0_pay47 C S R O (k0_pay41 Z) (k0_pay42 G) (k0_pay45 Z) (k0_pay46 O Z) (constant S512x128 .f32 0x00000000#32) (ix2 r l) : EReal) = headAt C S R O Z G r l (Ideal.ofBits .f32 0x3F800000#32) 128 (by omega) := by
  unfold headAt head segment
  pointwise [k0_pay47, k0_pay41, k0_pay42, k0_pay43, k0_pay44, k0_pay45, k0_pay46]
  all_goals rfl

theorem k2_apply : (k0_pay50 C S R O Z G (ix2 r l) : EReal) = headAt C S R O Z G r l (Ideal.ofBits .f32 0x3F800000#32) 256 (by omega) := by
  unfold headAt head segment
  pointwise [k0_pay50]
  all_goals rfl

theorem k3_apply : (k0_pay55 C S R O Z G (ix2 r l) : EReal) = headAt C S R O Z G r l (Ideal.ofBits .f32 0x3F800000#32) 384 (by omega) := by
  unfold headAt head segment
  pointwise [k0_pay55]
  all_goals rfl

theorem k4_apply : (k0_pay60 C S R (k0_pay57 Z) (k0_pay58 G) (k0_pay59 O Z) (Scalar.ofBits .f32 0x358637BD#32) (ix2 r l) : EReal) = headAt C S R O Z G r l (Ideal.ofBits .f32 0x3F800000#32) 512 (by omega) := by
  unfold headAt head segment
  pointwise [k0_pay60, k0_pay57, k0_pay58, k0_pay59]
  all_goals rfl

theorem k5_apply : (k0_pay63 C S R O (k0_pay62 Z) G (ix2 r l) : EReal) = headAt C S R O Z G r l (Ideal.ofBits .f32 0x3F800000#32) 640 (by omega) := by
  unfold headAt head segment
  pointwise [k0_pay63, k0_pay62]
  all_goals rfl

theorem k6_apply : (k0_pay68 C S R O Z G (ix2 r l) : EReal) = headAt C S R O Z G r l (Ideal.ofBits .f32 0x3F800000#32) 768 (by omega) := by
  unfold headAt head segment
  pointwise [k0_pay68]
  all_goals rfl

theorem k7_apply : (k0_pay1 C S R (k0_pay71 O Z G) (ix2 r l) : EReal) = headAt C S R O Z G r l (Ideal.ofBits .f32 0x3F800000#32) 896 (by omega) := by
  unfold headAt head segment
  pointwise [k0_pay1, k0_pay71]
  all_goals rfl

end Heads

theorem cos_apply (p : Vec Ideal S512x1 .i32) (f : Vec Ideal S1x128 .f32) (r : Fin 512) (l : Fin 128) :
    (k0_pay23 p f (ix2 r l) : EReal) = Ideal.cos (FloatOps.sitofp (F := Ideal) .f32 (p (ix2 r (0 : Fin 1))) * f (ix2 (0 : Fin 1) l)) := by
  pointwise [k0_pay23, k0_pay22]

theorem sin_apply (p : Vec Ideal S512x1 .i32) (f : Vec Ideal S1x128 .f32) (r : Fin 512) (l : Fin 128) :
    (k0_pay24 p f (ix2 r l) : EReal) = Ideal.sin (FloatOps.sitofp (F := Ideal) .f32 (p (ix2 r (0 : Fin 1))) * f (ix2 (0 : Fin 1) l)) := by
  pointwise [k0_pay24, k0_pay22]

theorem qraw_apply (x : Vec Ideal S512x1024 .f32) (g : Vec Ideal S1x1024 .f32) (w : Vec Ideal S1024x1792 .bf16) (q : Vec Ideal S1x384 .f32)
    (u : Vec Ideal S384x1024 .bf16) (r : Fin 512) (C : Fin 1024) :
    (k0_pay28 (k0_pay27 (k0_pay4 x g w) q) u (ix2 r C) : EReal)
      = ∑ k : Fin 384, normed (Ideal.ofBits .f32 0x43C00000#32) (fun k => k0_pay2 (F := Ideal) x g w (ix2 r ⟨1024 + k, by omega⟩)) (fun k => q (ix2 (0 : Fin 1) k)) k
          * u (ix2 k C) := by
  unfold normed k0_pay4
  generalize k0_pay2 x g w = Z
  pointwise [k0_pay28, k0_pay27]

theorem kraw_apply (x : Vec Ideal S512x1024 .f32) (g : Vec Ideal S1x1024 .f32) (w : Vec Ideal S1024x1792 .bf16) (q : Vec Ideal S1x256 .f32)
    (u : Vec Ideal S256x1024 .bf16) (e : Vec Ideal S128x1024 .bf16) (r : Fin 512) (C : Fin 1024) :
    (k0_pay30 (k0_pay5 x g w) (k0_pay6 x g w) q u e (ix2 r C) : EReal)
      = (∑ k : Fin 256, normed (Ideal.ofBits .f32 0x43800000#32) (fun k => k0_pay2 (F := Ideal) x g w (ix2 r ⟨1408 + k, by omega⟩)) (fun k => q (ix2 (0 : Fin 1) k)) k
          * u (ix2 k C))
        + ∑ j : Fin 128, k0_pay2 (F := Ideal) x g w (ix2 r ⟨1664 + j, by omega⟩) * e (ix2 j C) := by
  unfold normed k0_pay5 k0_pay6
  generalize k0_pay2 x g w = Z
  pointwise [k0_pay30, k0_pay29]

theorem values_apply (x : Vec Ideal S512x1024 .f32) (g : Vec Ideal S1x1024 .f32) (w : Vec Ideal S1024x1792 .bf16) (q : Vec Ideal S1x256 .f32)
    (u : Vec Ideal S256x512 .bf16) (r c : Fin 512) :
    (k0_pay31 (k0_pay5 x g w) q u (ix2 r c) : EReal)
      = ∑ k : Fin 256, normed (Ideal.ofBits .f32 0x43800000#32) (fun k => k0_pay2 (F := Ideal) x g w (ix2 r ⟨1408 + k, by omega⟩)) (fun k => q (ix2 (0 : Fin 1) k)) k
          * u (ix2 k c) := by
  unfold normed k0_pay5
  generalize k0_pay2 x g w = Z
  pointwise [k0_pay31, k0_pay29]

theorem rot_eq (R : Vec Ideal S128x128 .bf16) : k0_pay25 (F := Ideal) R = R := by
  funext y
  obtain ⟨r, l, rfl⟩ : ∃ r l : Fin 128, y = ix2 r l := ⟨y 0, y 1, eq_ix2 y⟩
  pointwise [k0_pay25]

theorem ones_eq (R : Vec Ideal S128x128 .bf16) : k0_pay26 (F := Ideal) R = R := by
  funext y
  obtain ⟨r, l, rfl⟩ : ∃ r l : Fin 128, y = ix2 r l := ⟨y 0, y 1, eq_ix2 y⟩
  pointwise [k0_pay26]

/-- The lanes of a block's raw heads, before the normalisation: the queries' … -/
def qraw (x : Vec Ideal S512x1024 .f32) (g : Vec Ideal S1x1024 .f32) (w : Vec Ideal S1024x1792 .bf16) (q : Vec Ideal S1x384 .f32)
    (u : Vec Ideal S384x1024 .bf16) : FVec Ideal S512x1024 .f32 :=
  k0_pay28 (k0_pay27 (k0_pay4 x g w) q) u

/-- … and the keys'. -/
def kraw (x : Vec Ideal S512x1024 .f32) (g : Vec Ideal S1x1024 .f32) (w : Vec Ideal S1024x1792 .bf16) (q : Vec Ideal S1x256 .f32)
    (u : Vec Ideal S256x1024 .bf16) (e : Vec Ideal S128x1024 .bf16) : FVec Ideal S512x1024 .f32 :=
  k0_pay30 (k0_pay5 x g w) (k0_pay6 x g w) q u e

section Blocks

variable (x0 : Vec Ideal S512x1024 .f32) (x1 : Vec Ideal S512x1 .i32) (x2 : Vec Ideal S1x1024 .f32) (x3 : Vec Ideal S1024x1792 .bf16)
  (x4 : Vec Ideal S128x128 .bf16) (x5 : Vec Ideal S1x512 .f32) (x6 : Vec Ideal S1x384 .f32) (x7 : Vec Ideal S384x1024 .bf16)
  (x8 : Vec Ideal S1x256 .f32) (x9 : Vec Ideal S256x1024 .bf16) (x10 : Vec Ideal S256x512 .bf16) (x11 : Vec Ideal S128x1024 .bf16)
  (x12 x13 : Vec Ideal S128x128 .bf16) (x14 x15 x16 : Vec Ideal S1x128 .f32) (r : Fin 512)

theorem out17_eq (c : Fin 512) :
    (out0_17 x0 x1 x2 x3 x4 x5 x6 x7 x8 x9 x10 x11 x12 x13 x14 x15 x16 (ix2 r c) : EReal)
      = gelu (k0_pay2 x0 x2 x3 (ix2 r ⟨c, by omega⟩)) := by
  unfold out0_17
  rw [View.canon_unit_zero hz, View.ld_unit_zero hz, View.ld_unit_zero hz, View.ld_unit_zero hz]
  exact ug_apply x0 x2 x3 r c

theorem out21_eq (c : Fin 512) :
    (out0_21 x0 x1 x2 x3 x4 x5 x6 x7 x8 x9 x10 x11 x12 x13 x14 x15 x16 (ix2 r c) : EReal)
      = ∑ k : Fin 256, normed (Ideal.ofBits .f32 0x43800000#32) (fun k => k0_pay2 (F := Ideal) x0 x2 x3 (ix2 r ⟨1408 + k, by omega⟩)) (fun k => x8 (ix2 (0 : Fin 1) k)) k
          * x10 (ix2 k c) := by
  unfold out0_21 k0_pay73
  rw [View.canon_unit_zero hz, View.ld_unit_zero hz, View.ld_unit_zero hz, View.ld_unit_zero hz, View.ld_unit_zero hz, View.ld_unit_zero hz]
  exact values_apply x0 x2 x3 x8 x10 r c

/-- What the block of normalised gate rows holds. -/
def vnAt (c : Fin 512) : EReal :=
  segment (Ideal.ofBits .f32 0x3C800000#32) (fun k => gelu (k0_pay2 (F := Ideal) x0 x2 x3 (ix2 r ⟨512 + (128 * (c.val / 128) + k), by omega⟩)))
    (fun k => x5 (ix2 (0 : Fin 1) ⟨128 * (c.val / 128) + k, by omega⟩)) (fun k l => x4 (ix2 k l)) ⟨c.val % 128, Nat.mod_lt _ (by omega)⟩

/-- What the blocks of the queries' and of the keys' heads hold. -/
def headOf (scale : EReal) (Z : FVec Ideal S512x1024 .f32) (G : Vec Ideal S1x128 .f32) (c : Fin 1024) : EReal :=
  headAt (k0_pay23 x1 x16) (k0_pay24 x1 x16) x12 x13 Z G r ⟨c.val % 128, Nat.mod_lt _ (by omega)⟩ scale (128 * (c.val / 128)) (by omega)

theorem headOf_piece (scale : EReal) (Z : FVec Ideal S512x1024 .f32) (G : Vec Ideal S1x128 .f32) (h o : Nat) (ho : o = 128 * h)
    (ha : ∀ a, (![0, o] : Fin 2 → Nat) a + S512x128.size a ≤ S512x1024.size a) (hh : o + 128 ≤ 1024) (P : FVec Ideal S512x128 .bf16)
    (hP : ∀ (r : Fin 512) (l : Fin 128), (P (ix2 r l) : EReal) = headAt (k0_pay23 x1 x16) (k0_pay24 x1 x16) x12 x13 Z G r l scale o hh)
    (x : S512x128.Idx) :
    P x = (fun y : S512x1024.Idx => headOf x1 x12 x13 x16 (y 0) scale Z G (y 1)) ((Rect.unit (s := S512x1024) ![0, o] S512x128.size ha).emb x) := by
  obtain ⟨r, l, rfl⟩ : ∃ (r : Fin 512) (l : Fin 128), x = ix2 r l := ⟨x 0, x 1, eq_ix2 x⟩
  have f0 : ((Rect.unit (s := S512x1024) ![0, o] S512x128.size ha).emb (ix2 r l) : S512x1024.Idx) = ix2 r (⟨o + l.val, by omega⟩ : Fin 1024) := by
    funext a
    apply Fin.ext
    match a with
    | ⟨0, _⟩ => show 0 + 1 * r.val = r.val; omega
    | ⟨1, _⟩ => show o + 1 * l.val = o + l.val; omega
  rw [f0, hP]
  show _ = headOf x1 x12 x13 x16 r scale Z G (⟨o + l.val, by omega⟩ : Fin 1024)
  unfold headOf
  have e1 : 128 * ((o + l.val) / 128) = o := by omega
  have e2 : (⟨(o + l.val) % 128, Nat.mod_lt _ (by omega)⟩ : Fin 128) = l := Fin.ext (by show (o + l.val) % 128 = l.val; omega)
  dsimp only
  rw [e2]
  congr 1
  omega

theorem vnAt_piece (h o : Nat) (ho : o = 128 * h)
    (ha : ∀ a, (![0, o] : Fin 2 → Nat) a + S512x128.size a ≤ S512x512.size a)
    (hb : ∀ a, (![0, o] : Fin 2 → Nat) a + S1x128.size a ≤ S1x512.size a) (hh : o + 128 ≤ 512) (P : FVec Ideal S512x128 .bf16)
    (hP : ∀ (r : Fin 512) (l : Fin 128), (P (ix2 r l) : EReal) = segment (Ideal.ofBits .f32 0x3C800000#32)
      (fun k => gelu (k0_pay2 (F := Ideal) x0 x2 x3 (ix2 r ⟨512 + (o + k), by omega⟩)))
      (fun k => View.ld x5 (Rect.unit (s := S1x512) ![0, o] S1x128.size hb) (ix2 (0 : Fin 1) k)) (fun k l => x4 (ix2 k l)) l)
    (x : S512x128.Idx) :
    P x = (fun y : S512x512.Idx => vnAt x0 x2 x3 x4 x5 (y 0) (y 1)) ((Rect.unit (s := S512x512) ![0, o] S512x128.size ha).emb x) := by
  obtain ⟨r, l, rfl⟩ : ∃ (r : Fin 512) (l : Fin 128), x = ix2 r l := ⟨x 0, x 1, eq_ix2 x⟩
  have f0 : ((Rect.unit (s := S512x512) ![0, o] S512x128.size ha).emb (ix2 r l) : S512x512.Idx) = ix2 r (⟨o + l.val, by omega⟩ : Fin 512) := by
    funext a
    apply Fin.ext
    match a with
    | ⟨0, _⟩ => show 0 + 1 * r.val = r.val; omega
    | ⟨1, _⟩ => show o + 1 * l.val = o + l.val; omega
  have f1 : ∀ k : Fin 128, View.ld x5 (Rect.unit (s := S1x512) ![0, o] S1x128.size hb) (ix2 (0 : Fin 1) k) = x5 (ix2 (0 : Fin 1) ⟨o + k, by omega⟩) := by
    intro k
    show x5 _ = x5 _
    congr 1
    funext a
    apply Fin.ext
    match a with
    | ⟨0, _⟩ => show 0 + 1 * 0 = 0; omega
    | ⟨1, _⟩ => show o + 1 * k.val = o + k.val; omega
  rw [f0, hP]
  show _ = vnAt x0 x2 x3 x4 x5 r (⟨o + l.val, by omega⟩ : Fin 512)
  unfold vnAt
  have e1 : 128 * ((o + l.val) / 128) = o := by omega
  have e2 : (⟨(o + l.val) % 128, Nat.mod_lt _ (by omega)⟩ : Fin 128) = l := Fin.ext (by show (o + l.val) % 128 = l.val; omega)
  dsimp only
  rw [e2]
  simp only [f1]
  congr 1
  · funext k
    congr 4
    omega
  · funext k
    congr 3
    omega

theorem out18_eq (c : Fin 512) :
    (out0_18 x0 x1 x2 x3 x4 x5 x6 x7 x8 x9 x10 x11 x12 x13 x14 x15 x16 (ix2 r c) : EReal) = vnAt x0 x2 x3 x4 x5 r c := by
  unfold_out out0_18
  simp only [View.ld_unit_zero (S := S512x1024) hz, View.ld_unit_zero (S := S1x1024) hz, View.ld_unit_zero (S := S1024x1792) hz, View.ld_unit_zero (S := S128x128) hz]
  refine View.canon_apply_of_pieces (Val := Elt Ideal) (fun y => vnAt x0 x2 x3 x4 x5 (y 0) (y 1) : Vec Ideal S512x512 .bf16) _ ?_ _ (cover0_18 _ _ _ _ _)
  refine View.PiecesOf.mem (s := S512x512) (e := .bf16) (Val := Elt Ideal) (G := (fun y => vnAt x0 x2 x3 x4 x5 (y 0) (y 1) : Vec Ideal S512x512 .bf16)) ⟨fun x => ?_, fun x => ?_, fun x => ?_, fun x => ?_, trivial⟩
  · refine vnAt_piece x0 x2 x3 x4 x5 3 384 rfl inb_S512x512_S512x128_0_384 inb_S1x512_S1x128_0_384 (by omega) _ (fun r l => ?_) x
    refine (seg3 _ _ r l _).trans ?_
    simp only [gv_apply]
  · refine vnAt_piece x0 x2 x3 x4 x5 2 256 rfl inb_S512x512_S512x128_0_256 inb_S1x512_S1x128_0_256 (by omega) _ (fun r l => ?_) x
    refine (seg2 _ _ r l _).trans ?_
    simp only [gv_apply]
  · refine vnAt_piece x0 x2 x3 x4 x5 1 128 rfl inb_S512x512_S512x128_0_128 inb_S1x512_S1x128_0_128 (by omega) _ (fun r l => ?_) x
    refine (seg1 _ _ _ _ _ r l).trans ?_
    simp only [gv_apply]
  · refine vnAt_piece x0 x2 x3 x4 x5 0 0 rfl inb_S512x512_S512x128_0_0 inb_S1x512_S1x128_0_0 (by omega) _ (fun r l => ?_) x
    refine (seg0 _ _ _ _ _ r l).trans ?_
    simp only [gv_apply, Nat.zero_add]

theorem out19_eq (c : Fin 1024) :
    (out0_19 x0 x1 x2 x3 x4 x5 x6 x7 x8 x9 x10 x11 x12 x13 x14 x15 x16 (ix2 r c) : EReal) = headOf x1 x12 x13 x16 r (Ideal.ofBits .f32 0x3DD105EC#32) (qraw x0 x2 x3 x6 x7) x14 c := by
  unfold_out out0_19
  simp only [View.ld_unit_zero (S := S512x1024) hz, View.ld_unit_zero (S := S512x1) hz, View.ld_unit_zero (S := S1x1024) hz,
    View.ld_unit_zero (S := S1024x1792) hz, View.ld_unit_zero (S := S128x128) hz, View.ld_unit_zero (S := S1x128) hz,
    View.ld_unit_zero (S := S1x384) hz, View.ld_unit_zero (S := S384x1024) hz, View.ld_unit_zero (S := S1x256) hz,
    View.ld_unit_zero (S := S256x1024) hz, View.ld_unit_zero (S := S128x1024) hz]
  refine View.canon_apply_of_pieces (Val := Elt Ideal) (fun y => headOf x1 x12 x13 x16 (y 0) (Ideal.ofBits .f32 0x3DD105EC#32) (qraw x0 x2 x3 x6 x7) x14 (y 1) : Vec Ideal S512x1024 .bf16) _ ?_ _
    (cover0_19 _ _ _ _ _ _ _ _ _)
  refine View.PiecesOf.mem (s := S512x1024) (e := .bf16) (Val := Elt Ideal) (G := (fun y => headOf x1 x12 x13 x16 (y 0) (Ideal.ofBits .f32 0x3DD105EC#32) (qraw x0 x2 x3 x6 x7) x14 (y 1) : Vec Ideal S512x1024 .bf16))
    ⟨fun x => ?_, fun x => ?_, fun x => ?_, fun x => ?_, fun x => ?_, fun x => ?_, fun x => ?_, fun x => ?_, trivial⟩
  · exact headOf_piece x1 x12 x13 x16 _ (qraw x0 x2 x3 x6 x7) x14 7 896 rfl inb_S512x1024_S512x128_0_896 (by omega) _ (fun r l => (q7_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 6 768 rfl inb_S512x1024_S512x128_0_768 (by omega) _ (fun r l => (q6_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 5 640 rfl inb_S512x1024_S512x128_0_640 (by omega) _ (fun r l => (q5_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 4 512 rfl inb_S512x1024_S512x128_0_512 (by omega) _ (fun r l => (q4_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 3 384 rfl inb_S512x1024_S512x128_0_384 (by omega) _ (fun r l => (q3_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 2 256 rfl inb_S512x1024_S512x128_0_256 (by omega) _ (fun r l => (q2_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 1 128 rfl inb_S512x1024_S512x128_0_128 (by omega) _ (fun r l => (q1_apply (k0_pay23 x1 x16) (k0_pay24 x1 x16) (k0_pay25 x12) (k0_pay26 x13) (qraw x0 x2 x3 x6 x7) x14 r l).trans (by rw [rot_eq, ones_eq])) x
  · exact headOf_piece x1 x12 x13 x16 _ (qraw x0 x2 x3 x6 x7) x14 0 0 rfl inb_S512x1024_S512x128_0_0 (by omega) _ (fun r l => (q0_apply (k0_pay23 x1 x16) (k0_pay24 x1 x16) (k0_pay25 x12) (k0_pay26 x13) (k0_pay27 (k0_pay4 x0 x2 x3) x6) x7 x14 r l).trans (by rw [rot_eq, ones_eq]; rfl)) x

theorem out20_eq (c : Fin 1024) :
    (out0_20 x0 x1 x2 x3 x4 x5 x6 x7 x8 x9 x10 x11 x12 x13 x14 x15 x16 (ix2 r c) : EReal) = headOf x1 x12 x13 x16 r (Ideal.ofBits .f32 0x3F800000#32) (kraw x0 x2 x3 x8 x9 x11) x15 c := by
  unfold_out out0_20
  simp only [View.ld_unit_zero (S := S512x1024) hz, View.ld_unit_zero (S := S512x1) hz, View.ld_unit_zero (S := S1x1024) hz,
    View.ld_unit_zero (S := S1024x1792) hz, View.ld_unit_zero (S := S128x128) hz, View.ld_unit_zero (S := S1x128) hz,
    View.ld_unit_zero (S := S1x384) hz, View.ld_unit_zero (S := S384x1024) hz, View.ld_unit_zero (S := S1x256) hz,
    View.ld_unit_zero (S := S256x1024) hz, View.ld_unit_zero (S := S128x1024) hz]
  refine View.canon_apply_of_pieces (Val := Elt Ideal) (fun y => headOf x1 x12 x13 x16 (y 0) (Ideal.ofBits .f32 0x3F800000#32) (kraw x0 x2 x3 x8 x9 x11) x15 (y 1) : Vec Ideal S512x1024 .bf16) _ ?_ _
    (cover0_20 _ _ _ _ _ _ _ _ _)
  refine View.PiecesOf.mem (s := S512x1024) (e := .bf16) (Val := Elt Ideal) (G := (fun y => headOf x1 x12 x13 x16 (y 0) (Ideal.ofBits .f32 0x3F800000#32) (kraw x0 x2 x3 x8 x9 x11) x15 (y 1) : Vec Ideal S512x1024 .bf16))
    ⟨fun x => ?_, fun x => ?_, fun x => ?_, fun x => ?_, fun x => ?_, fun x => ?_, fun x => ?_, fun x => ?_, trivial⟩
  · exact headOf_piece x1 x12 x13 x16 _ (kraw x0 x2 x3 x8 x9 x11) x15 7 896 rfl inb_S512x1024_S512x128_0_896 (by omega) _ (fun r l => (k7_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 6 768 rfl inb_S512x1024_S512x128_0_768 (by omega) _ (fun r l => (k6_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 5 640 rfl inb_S512x1024_S512x128_0_640 (by omega) _ (fun r l => (k5_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 4 512 rfl inb_S512x1024_S512x128_0_512 (by omega) _ (fun r l => (k4_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 3 384 rfl inb_S512x1024_S512x128_0_384 (by omega) _ (fun r l => (k3_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 2 256 rfl inb_S512x1024_S512x128_0_256 (by omega) _ (fun r l => (k2_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 1 128 rfl inb_S512x1024_S512x128_0_128 (by omega) _ (fun r l => (k1_apply (k0_pay23 x1 x16) (k0_pay24 x1 x16) (k0_pay25 x12) (k0_pay26 x13) (kraw x0 x2 x3 x8 x9 x11) x15 r l).trans (by rw [rot_eq, ones_eq])) x
  · exact headOf_piece x1 x12 x13 x16 _ (kraw x0 x2 x3 x8 x9 x11) x15 0 0 rfl inb_S512x1024_S512x128_0_0 (by omega) _ (fun r l => (k0_apply (k0_pay23 x1 x16) (k0_pay24 x1 x16) (k0_pay25 x12) (k0_pay26 x13) (kraw x0 x2 x3 x8 x9 x11) x15 r l).trans (by rw [rot_eq, ones_eq])) x

end Blocks

end Cert.MixIn

end
-- ==== Proof.MixInMath.lean ====
/- Hand-written, untrusted: THE MATHEMATICS OF THE MIXER'S INPUT ON FINITE NUMBERS. The kernel's gelu is the reference's (`gelu_eq`), its
   mean squares over 128 lanes are means over a head's lanes (`segment_pair`, `segment_ones`), and its product with the rotation matrix is
   the rotary embedding (`head_eq`). -/
module

public import proofs.«01_k».proof.Proof.MixInBlock
public import proofs.«01_k».proof.Proof.MixInTables
public import proofs.«01_k».proof.Proof.Equation

@[expose] public section

set_option maxRecDepth 16384

noncomputable section

namespace Cert.MixIn

open Idealize.ShloMosaic Cert.MixerInIdeal Cert.MixerInIdeal.Gen Idealize.ShloMosaic.TcCoe Idealize.SL.Sem
open Cert.Attention (IsReal)

/-! ## Finite numbers -/

theorem real_add {x y : EReal} : IsReal x → IsReal y → IsReal (x + y)
  | ⟨a, ha⟩, ⟨b, hb⟩ => ⟨a + b, by rw [EReal.coe_add, ha, hb]⟩

theorem real_sub_self {x : EReal} : IsReal x → x - x = 0
  | ⟨a, ha⟩ => by rw [← ha, ← EReal.coe_sub, sub_self, EReal.coe_zero]

theorem real_tanh {x : EReal} : IsReal x → IsReal (Ideal.tanh x)
  | ⟨a, ha⟩ => ⟨Real.tanh a, by rw [← ha]; rfl⟩

theorem real_half : IsReal (Ideal.ofBits .f32 0x3F000000#32) := ⟨_, by simp [Ideal.ofBits, Ideal.ieee]; rfl⟩
theorem real_gelu : IsReal (Ideal.ofBits .f32 0x3F4C422A#32) := ⟨_, by simp [Ideal.ofBits, Ideal.ieee]; rfl⟩

theorem eps_pos : ∃ e : ℝ, 0 < e ∧ (e : EReal) = Ideal.ofBits .f32 0x358637BD#32 := by
  refine ⟨_, ?_, by simp [Ideal.ofBits, Ideal.ieee]; rfl⟩
  positivity

theorem f32_64 : Ideal.ofBits .f32 0x42800000#32 = ((64 : ℝ) : EReal) := by
  simp [Ideal.ofBits, Ideal.ieee]; rw [← EReal.coe_mul]; norm_num
theorem f32_96 : Ideal.ofBits .f32 0x42C00000#32 = ((96 : ℝ) : EReal) := by
  simp [Ideal.ofBits, Ideal.ieee]; rw [← EReal.coe_mul]; norm_num
theorem f32_256 : Ideal.ofBits .f32 0x43800000#32 = ((256 : ℝ) : EReal) := by
  simp [Ideal.ofBits, Ideal.ieee]; rw [← EReal.coe_mul]; norm_num
theorem f32_384 : Ideal.ofBits .f32 0x43C00000#32 = ((384 : ℝ) : EReal) := by
  simp [Ideal.ofBits, Ideal.ieee]; rw [← EReal.coe_mul]; norm_num
theorem f32_1024 : Ideal.ofBits .f32 0x44800000#32 = ((1024 : ℝ) : EReal) := by
  simp [Ideal.ofBits, Ideal.ieee]; rw [← EReal.coe_mul]; norm_num
theorem f32_64th : Ideal.ofBits .f32 0x3C800000#32 = ((1 / 64 : ℝ) : EReal) := by
  simp [Ideal.ofBits, Ideal.ieee]; rw [← EReal.coe_mul]; norm_num

theorem div_coe (x : EReal) (n : ℝ) (hn : n ≠ 0) : Ideal.div x (n : EReal) = x * ((1 / n : ℝ) : EReal) := by
  unfold Ideal.div
  rw [if_neg (by simpa using hn), one_div, EReal.coe_inv]

theorem mul_self_nonneg_ereal (y : EReal) : 0 ≤ y * y := by
  rcases le_total 0 y with h | h
  · exact mul_nonneg h h
  · rw [← neg_mul_neg]
    exact mul_nonneg (EReal.neg_nonneg.mpr h) (EReal.neg_nonneg.mpr h)

theorem mul_self_top {y : EReal} (h : ¬ IsReal y) : y * y = ⊤ := by
  induction y using EReal.rec with
  | bot => rfl
  | top => rfl
  | coe a => exact absurd ⟨a, rfl⟩ h

/-- A normalised row is finite for finite gains, whatever the row: with an infinite entry the mean of the squares is infinite, and every
entry is multiplied by 0. -/
theorem normed_real {k : Nat} (n : EReal) (N : ℝ) (hN : 0 < N) (hn : n = (N : EReal)) (x g : Fin k → EReal)
    (hg : ∀ i, IsReal (g i)) (i : Fin k) : IsReal (normed n x g i) := by
  subst hn
  unfold normed
  obtain ⟨e, he, ee⟩ := eps_pos
  by_cases hx : ∀ i, IsReal (x i)
  swap
  · obtain ⟨j, hj⟩ := not_forall.mp hx
    have ht : ∑ j, x j * x j = ⊤ := top_le_iff.mp ((mul_self_top hj).ge.trans
      (Finset.single_le_sum (f := fun j => x j * x j) (fun j _ => mul_self_nonneg_ereal (x j)) (Finset.mem_univ j)))
    have hr : Ideal.rsqrt (⊤ : EReal) = 0 := rfl
    rw [ht, ← ee, div_coe _ _ hN.ne', EReal.top_mul_coe_of_pos (by positivity), EReal.top_add_coe, hr, mul_zero, zero_mul]
    exact ⟨0, rfl⟩
  have hs : ∃ s : ℝ, 0 ≤ s ∧ (s : EReal) = ∑ j, x j * x j :=
    Finset.sum_induction (fun j => x j * x j) (fun y => ∃ s : ℝ, 0 ≤ s ∧ (s : EReal) = y)
      (fun _ _ ⟨a, ha, ea⟩ ⟨b, hb, eb⟩ => ⟨a + b, add_nonneg ha hb, by rw [EReal.coe_add, ea, eb]⟩) ⟨0, le_refl _, rfl⟩
      fun j _ => (hx j).elim fun a ha => ⟨a * a, mul_self_nonneg a, by rw [EReal.coe_mul, ha]⟩
  obtain ⟨s, hs, es⟩ := hs
  rw [← es, ← ee, div_coe _ _ hN.ne', ← EReal.coe_mul, ← EReal.coe_add]
  have hp : 0 < s * (1 / N) + e := by positivity
  refine ((hx i).mul ⟨(Real.sqrt (s * (1 / N) + e))⁻¹, ?_⟩).mul (hg i)
  show _ = (if s * (1 / N) + e < 0 then (⊥ : EReal) else if s * (1 / N) + e = 0 then ⊤ else (((Real.sqrt (s * (1 / N) + e))⁻¹ : ℝ) : EReal))
  rw [if_neg (not_lt.mpr hp.le), if_neg hp.ne']

/-! ## The gelu -/

/-- The gelu as the reference writes it. -/
def geluRef (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * v * v)))))

theorem gelu_eq (v : EReal) (hv : IsReal v) : gelu v = geluRef v := by
  obtain ⟨r, rfl⟩ := hv
  unfold gelu geluRef
  have e1 : Ideal.ofBits .f32 0x3F000000#32 = ((1 / 2 : ℝ) : EReal) := by
    simp [Ideal.ofBits, Ideal.ieee]; rw [← EReal.coe_mul]; norm_num
  have e2 : Ideal.ofBits .f32 0x3F800000#32 = ((1 : ℝ) : EReal) := by rw [Ideal.ofBits_one_f32]; rfl
  have e3 : Ideal.ofBits .f32 0x3F4C422A#32 = ((6693141 / 8388608 : ℝ) : EReal) := by
    simp [Ideal.ofBits, Ideal.ieee]; rw [← EReal.coe_mul]; norm_num
  have e4 : Ideal.ofBits .f32 0x3D372713#32 = ((12003091 / 268435456 : ℝ) : EReal) := by
    simp [Ideal.ofBits, Ideal.ieee]; rw [← EReal.coe_mul]; norm_num
  rw [e1, e2, e3, e4]
  simp only [← EReal.coe_mul, ← EReal.coe_add]
  have ht : ∀ a : ℝ, Ideal.tanh (a : EReal) = ((Real.tanh a : ℝ) : EReal) := fun _ => rfl
  rw [ht, ht]
  simp only [← EReal.coe_mul, ← EReal.coe_add]
  have e : r * (6693141 / 8388608 + 80338380498831 / 2251799813685248 * (r * r))
      = 6693141 / 8388608 * (r + 12003091 / 268435456 * (r * r * r)) := by ring
  rw [e]
  congr 1
  ring

theorem gelu_real (v : EReal) (hv : IsReal v) : IsReal (gelu v) := by
  unfold gelu
  exact hv.mul (real_add real_half (real_half.mul (real_tanh (hv.mul (real_add real_gelu (IsReal.mul ⟨_, rfl⟩ (hv.mul hv)))))))

/-! ## The mean squares -/

theorem segment_real (inv : EReal) (y gain : Fin 128 → EReal) (seg : Fin 128 → Fin 128 → EReal) (l : Fin 128) (hy : ∀ k, IsReal (y k)) :
    segment inv y gain seg l = y l * Ideal.rsqrt ((∑ k, y k * y k * seg k l) * inv + Ideal.ofBits .f32 0x358637BD#32) * gain l := by
  unfold segment
  rw [Finset.sum_eq_zero (f := fun k => (y k * y k - y k * y k) * seg k l) fun k _ => by
    show (y k * y k - y k * y k) * seg k l = 0
    rw [real_sub_self ((hy k).mul (hy k)), zero_mul], add_zero]

/-- Lanes that share a lane's half are that half's 64 lanes. -/
theorem sum_half (f : Fin 128 → EReal) (l : Fin 128) :
    ∑ k, f k * (if k.val / 64 = l.val / 64 then 1 else 0) = ∑ k : Fin 64, f ⟨64 * (l.val / 64) + k, by omega⟩ := by
  refine (Fin.sum_univ_add (a := 64) (b := 64) fun k : Fin 128 => f k * (if k.val / 64 = l.val / 64 then (1 : EReal) else 0)).trans ?_
  by_cases hl : l.val < 64
  · rw [Finset.sum_eq_zero (f := fun i : Fin 64 => f (Fin.natAdd 64 i) * (if (Fin.natAdd 64 i).val / 64 = l.val / 64 then (1 : EReal) else 0))
      fun i _ => by
        show f (Fin.natAdd 64 i) * (if (64 + i.val) / 64 = l.val / 64 then (1 : EReal) else 0) = 0
        rw [if_neg (by omega), mul_zero], add_zero]
    refine Finset.sum_congr rfl fun i _ => ?_
    show f (Fin.castAdd 64 i) * (if i.val / 64 = l.val / 64 then (1 : EReal) else 0) = _
    rw [if_pos (by omega), mul_one]
    refine congrArg f (Fin.ext ?_)
    show i.val = 64 * (l.val / 64) + i.val
    omega
  · rw [Finset.sum_eq_zero (f := fun i : Fin 64 => f (Fin.castAdd 64 i) * (if (Fin.castAdd 64 i).val / 64 = l.val / 64 then (1 : EReal) else 0))
      fun i _ => by
        show f (Fin.castAdd 64 i) * (if i.val / 64 = l.val / 64 then (1 : EReal) else 0) = 0
        rw [if_neg (by omega), mul_zero], zero_add]
    refine Finset.sum_congr rfl fun i _ => ?_
    show f (Fin.natAdd 64 i) * (if (64 + i.val) / 64 = l.val / 64 then (1 : EReal) else 0) = _
    rw [if_pos (by omega), mul_one]
    refine congrArg f (Fin.ext ?_)
    show 64 + i.val = 64 * (l.val / 64) + i.val
    omega

/-- The mean over a lane's half of the lanes. -/
theorem segment_pair (y gain : Fin 128 → EReal) (seg : Fin 128 → Fin 128 → EReal) (l : Fin 128) (hy : ∀ k, IsReal (y k))
    (hs : ∀ k, seg k l = if k.val / 64 = l.val / 64 then 1 else 0) :
    segment (Ideal.ofBits .f32 0x3C800000#32) y gain seg l
      = normed (Ideal.ofBits .f32 0x42800000#32) (fun k : Fin 64 => y ⟨64 * (l.val / 64) + k, by omega⟩)
          (fun k => gain ⟨64 * (l.val / 64) + k, by omega⟩) ⟨l.val % 64, by omega⟩ := by
  have hl : (⟨64 * (l.val / 64) + l.val % 64, by omega⟩ : Fin 128) = l := Fin.ext (by show 64 * (l.val / 64) + l.val % 64 = l.val; omega)
  rw [segment_real _ _ _ _ _ hy]
  simp only [hs, normed, hl]
  rw [sum_half (fun k => y k * y k) l, f32_64, f32_64th, div_coe _ _ (by norm_num)]

/-- 96 lanes followed by zeros. -/
def padTo (y : Fin 96 → EReal) (k : Fin 128) : EReal := if h : k.val < 96 then y ⟨k.val, h⟩ else 0

theorem segment_ones (y g : Fin 96 → EReal) (ones : Fin 128 → Fin 128 → EReal) (l : Fin 128) (hy : ∀ k, IsReal (y k))
    (ho : ∀ k, ones k l = 1) :
    segment ((1 / 96 : ℝ) : EReal) (padTo y) (padTo g) ones l = padTo (normed (Ideal.ofBits .f32 0x42C00000#32) y g) l := by
  rw [segment_real _ _ _ _ _ fun k => by
    unfold padTo
    split
    · exact hy _
    · exact ⟨0, rfl⟩]
  by_cases hl : l.val < 96
  · have e : (∑ k, padTo y k * padTo y k * ones k l) = ∑ k, y k * y k :=
      Cert.Attention.sum_padded _ _ (fun d hd => by unfold padTo; rw [dif_neg (by omega), zero_mul, zero_mul])
        fun d => by rw [ho, mul_one]; unfold padTo; rw [dif_pos d.isLt]
    rw [e]
    unfold padTo normed
    rw [dif_pos hl, dif_pos hl, dif_pos hl, f32_96, div_coe _ _ (by norm_num)]
  · unfold padTo
    rw [dif_neg hl, dif_neg hl, dif_neg hl, zero_mul, zero_mul]

/-! ## The rotary embedding -/

/-- The last 32 of 96 lanes turned by the angles. -/
def rope (y : Fin 96 → EReal) (cs sn : Fin 16 → EReal) (d : Fin 96) : EReal :=
  if h : d.val < 64 then y d
  else if h' : d.val < 80 then y d * cs ⟨d.val - 64, by omega⟩ - y ⟨d.val + 16, by omega⟩ * sn ⟨d.val - 64, by omega⟩
  else y ⟨d.val - 16, by omega⟩ * sn ⟨d.val - 80, by omega⟩ + y d * cs ⟨d.val - 80, by omega⟩

theorem rot_sum (S : Fin 128 → EReal) (l : Fin 128) :
    ∑ j, S j * rotTable (ix2 j l) = if h : 64 ≤ l.val ∧ l.val < 80 then -S ⟨l.val + 16, by omega⟩
      else if h : 80 ≤ l.val ∧ l.val < 96 then S ⟨l.val - 16, by omega⟩ else 0 := by
  simp only [rotTable_apply]
  split
  · rename_i h
    rw [Finset.sum_eq_single (⟨l.val + 16, by omega⟩ : Fin 128)]
    · rw [if_neg (show ¬(64 ≤ l.val + 16 ∧ l.val + 16 < 80 ∧ l.val = l.val + 16 + 16) by omega), if_pos (show 64 ≤ l.val ∧ l.val < 80 ∧ l.val + 16 = l.val + 16 by omega), mul_neg, mul_one]
    · intro j _ hj
      have hj' : j.val ≠ l.val + 16 := fun h => hj (Fin.ext h)
      rw [if_neg (by omega), if_neg (by omega), mul_zero]
    · exact fun h => absurd (Finset.mem_univ _) h
  · rename_i h
    split
    · rename_i h'
      rw [Finset.sum_eq_single (⟨l.val - 16, by omega⟩ : Fin 128)]
      · rw [if_pos (by simp only []; omega), mul_one]
      · intro j _ hj
        have hj' : j.val ≠ l.val - 16 := fun h => hj (Fin.ext h)
        rw [if_neg (by omega), if_neg (by omega), mul_zero]
      · exact fun h => absurd (Finset.mem_univ _) h
    · rename_i h'
      exact Finset.sum_eq_zero fun j _ => by rw [if_neg (by omega), if_neg (by omega), mul_zero]

/-- The angle of a position at a frequency. -/
abbrev angle (p : EReal) (i : Fin 16) : EReal := p * freq (ix1 i)

theorem cos_zero : Ideal.cos 0 = 1 := by
  show ((Real.cos 0 : ℝ) : EReal) = 1
  rw [Real.cos_zero]; rfl

theorem sin_zero : Ideal.sin 0 = 0 := by
  show ((Real.sin 0 : ℝ) : EReal) = 0
  rw [Real.sin_zero]; rfl

/-- A head of the kernel is the reference's, padded with zeros and scaled. -/
theorem head_eq (scale p : EReal) (y g : Fin 96 → EReal) (ones rot : Fin 128 → Fin 128 → EReal) (cs sn : Fin 128 → EReal) (l : Fin 128)
    (hy : ∀ k, IsReal (y k)) (ho : ∀ k l, ones k l = 1) (hr : ∀ j l, rot j l = rotTable (ix2 j l))
    (hc : cs l = Ideal.cos (p * freqTable (ix2 (0 : Fin 1) l))) (hs : sn l = Ideal.sin (p * freqTable (ix2 (0 : Fin 1) l))) :
    head scale (padTo y) (padTo g) ones rot cs sn l
      = padTo (rope (normed (Ideal.ofBits .f32 0x42C00000#32) y g) (fun i => Ideal.cos (angle p i)) (fun i => Ideal.sin (angle p i))) l * scale := by
  unfold head
  simp only [segment_ones y g ones _ hy fun k => ho k _, hr]
  generalize normed (Ideal.ofBits .f32 0x42C00000#32) y g = Y
  congr 1
  rw [rot_sum, hc, hs, freqTable_apply]
  by_cases h1 : l.val < 64
  · rw [dif_neg (by omega), dif_neg (by omega), dif_neg (by omega), mul_zero, cos_zero, sin_zero, mul_one, mul_zero, add_zero]
    unfold padTo rope
    rw [dif_pos (by omega), dif_pos (by omega), dif_pos (by simpa using h1)]
  by_cases h2 : l.val < 80
  · rw [dif_pos (by omega), dif_pos (by omega)]
    unfold padTo rope
    rw [dif_pos (by omega), dif_pos (by simp only []; omega), dif_pos (by omega), dif_neg (by simp only []; omega), dif_pos (by simp only []; omega),
      EReal.neg_mul, sub_eq_add_neg]
    have e : (⟨l.val % 16, by omega⟩ : Fin 16) = ⟨l.val - 64, by omega⟩ := Fin.ext (by show l.val % 16 = l.val - 64; omega)
    rw [e]
  by_cases h3 : l.val < 96
  · rw [dif_neg (show ¬(64 ≤ l.val ∧ l.val < 80) by omega), dif_pos (show 80 ≤ l.val ∧ l.val < 96 by omega), dif_pos (show 64 ≤ l.val ∧ l.val < 96 by omega)]
    unfold padTo rope
    rw [dif_pos (by omega), dif_pos (by simp only []; omega), dif_pos (by omega), dif_neg (by simp only []; omega), dif_neg (by simp only []; omega),
      add_comm]
    have e : (⟨l.val % 16, by omega⟩ : Fin 16) = ⟨l.val - 80, by omega⟩ := Fin.ext (by show l.val % 16 = l.val - 80; omega)
    rw [e]
  · rw [dif_neg (by omega), dif_neg (by omega), dif_neg (by omega)]
    unfold padTo
    rw [dif_neg h3, dif_neg h3, zero_mul, zero_mul, add_zero]

end Cert.MixIn

end
-- ==== Proof.MixInLayer.lean ====
/- Hand-written, untrusted: THE MIXER'S INPUT LAYER, entry by entry: the normalised row through the input matrix, the gelus, the normalised
   latents through their matrices, and the heads of queries and keys normalised, turned by their positions and padded with zeros. -/
module

public import proofs.«01_k».proof.Proof.MixInMath

@[expose] public section

set_option maxRecDepth 16384

noncomputable section

namespace Cert.MixIn

open Idealize.ShloMosaic Cert.MixerInIdeal Cert.MixerInIdeal.Gen Idealize.ShloMosaic.TcCoe Idealize.SL.Sem
open Cert.Attention (IsReal)

variable (a0 : Vec Ideal S32x2048x1024 .f32) (a1 : Vec Ideal S32x2048 .i32) (a2 : Vec Ideal S1024 .f32) (a3 : Vec Ideal S1024x1696 .f32)
  (a4 : Vec Ideal S8x64 .f32) (a5 : Vec Ideal S384 .f32) (a6 : Vec Ideal S384x768 .f32) (a7 : Vec Ideal S256 .f32)
  (a8 : Vec Ideal S256x1024 .f32) (a9 a10 : Vec Ideal S96 .f32)

/-- A column of the normalised row times the input matrix. -/
def zAt (b : Fin 32) (s : Fin 2048) (C : Fin 1696) : EReal :=
  ∑ k : Fin 1024, normed (Ideal.ofBits .f32 0x44800000#32) (fun k : Fin 1024 => a0 (ix3 b s k)) (fun k => a2 (ix1 k)) k * a3 (ix2 k C)

/-- The normalised latent of the keys and values. -/
def kvAt (b : Fin 32) (s : Fin 2048) (k : Fin 256) : EReal :=
  normed (Ideal.ofBits .f32 0x43800000#32) (fun k : Fin 256 => zAt a0 a2 a3 b s ⟨1408 + k.val, by omega⟩) (fun k => a7 (ix1 k)) k

/-- A lane of a query before its normalisation. -/
def qAt (b : Fin 32) (s : Fin 2048) (h : Fin 8) (d : Fin 96) : EReal :=
  ∑ k : Fin 384, normed (Ideal.ofBits .f32 0x43C00000#32) (fun k : Fin 384 => zAt a0 a2 a3 b s ⟨1024 + k.val, by omega⟩) (fun k => a5 (ix1 k)) k
    * a6 (ix2 k ⟨96 * h.val + d.val, by omega⟩)

/-- A lane of a key before its normalisation: 64 lanes of the latent's, 32 lanes that all heads share. -/
def kAt (b : Fin 32) (s : Fin 2048) (h : Fin 8) (d : Fin 96) : EReal :=
  if hd : d.val < 64 then ∑ k : Fin 256, kvAt a0 a2 a3 a7 b s k * a8 (ix2 k ⟨128 * h.val + d.val, by omega⟩)
  else zAt a0 a2 a3 b s ⟨1664 + (d.val - 64), by omega⟩

/-- A head normalised and turned by its position. -/
def turned (b : Fin 32) (s : Fin 2048) (y g : Fin 96 → EReal) : Fin 96 → EReal :=
  rope (normed (Ideal.ofBits .f32 0x42C00000#32) y g) (fun i => Ideal.cos (angle (FloatOps.sitofp (F := Ideal) .f32 (a1 (ix2 b s))) i))
    (fun i => Ideal.sin (angle (FloatOps.sitofp (F := Ideal) .f32 (a1 (ix2 b s))) i))

def layer0 (b : Fin 32) (s : Fin 2048) (c : Fin 512) : EReal := geluRef (zAt a0 a2 a3 b s ⟨c.val, by omega⟩)

def layer1 (b : Fin 32) (s : Fin 2048) (c : Fin 512) : EReal :=
  normed (Ideal.ofBits .f32 0x42800000#32) (fun k : Fin 64 => geluRef (zAt a0 a2 a3 b s ⟨512 + (64 * (c.val / 64) + k.val), by omega⟩))
    (fun k => a4 (ix2 ⟨c.val / 64, by omega⟩ k)) ⟨c.val % 64, by omega⟩

def layer2 (b : Fin 32) (s : Fin 2048) (c : Fin 1024) : EReal :=
  padTo (turned a1 b s (qAt a0 a2 a3 a5 a6 b s ⟨c.val / 128, by omega⟩) (fun d => a9 (ix1 d))) ⟨c.val % 128, by omega⟩
    * Ideal.ofBits .f32 0x3DD105EC#32

def layer3 (b : Fin 32) (s : Fin 2048) (c : Fin 1024) : EReal :=
  padTo (turned a1 b s (kAt a0 a2 a3 a7 a8 b s ⟨c.val / 128, by omega⟩) (fun d => a10 (ix1 d))) ⟨c.val % 128, by omega⟩

def layer4 (b : Fin 32) (s : Fin 2048) (c : Fin 512) : EReal :=
  ∑ k : Fin 256, kvAt a0 a2 a3 a7 b s k * a8 (ix2 k ⟨128 * (c.val / 64) + (64 + c.val % 64), by omega⟩)

/-- The array of a layer's rows: the sequences one after another. -/
def rows512 (f : Fin 32 → Fin 2048 → Fin 512 → EReal) : Vec Ideal S65536x512 .bf16 := fun i =>
  f ⟨(i 0).val / 2048, by have h : (i 0).val < 65536 := (i 0).isLt; omega⟩ ⟨(i 0).val % 2048, by omega⟩ (i 1)
def rows1024 (f : Fin 32 → Fin 2048 → Fin 1024 → EReal) : Vec Ideal S65536x1024 .bf16 := fun i =>
  f ⟨(i 0).val / 2048, by have h : (i 0).val < 65536 := (i 0).isLt; omega⟩ ⟨(i 0).val % 2048, by omega⟩ (i 1)

/-! ## Finite entries -/

section
variable (h2 : ∀ i, IsReal (a2 i)) (h3 : ∀ i, IsReal (a3 i)) (h5 : ∀ i, IsReal (a5 i)) (h6 : ∀ i, IsReal (a6 i))
  (h7 : ∀ i, IsReal (a7 i)) (h8 : ∀ i, IsReal (a8 i))

include h2 h3 in
theorem zAt_real (b : Fin 32) (s : Fin 2048) (C : Fin 1696) : IsReal (zAt a0 a2 a3 b s C) :=
  IsReal.sum _ _ fun k => (normed_real _ 1024 (by norm_num) f32_1024 _ _ (fun _ => h2 _) k).mul (h3 _)

include h7 in
theorem kvAt_real (b : Fin 32) (s : Fin 2048) (k : Fin 256) : IsReal (kvAt a0 a2 a3 a7 b s k) :=
  normed_real _ 256 (by norm_num) f32_256 _ _ (fun _ => h7 _) k

include h5 h6 in
theorem qAt_real (b : Fin 32) (s : Fin 2048) (h : Fin 8) (d : Fin 96) : IsReal (qAt a0 a2 a3 a5 a6 b s h d) :=
  IsReal.sum _ _ fun k => (normed_real _ 384 (by norm_num) f32_384 _ _ (fun _ => h5 _) k).mul (h6 _)

include h2 h3 h7 h8 in
theorem kAt_real (b : Fin 32) (s : Fin 2048) (h : Fin 8) (d : Fin 96) : IsReal (kAt a0 a2 a3 a7 a8 b s h d) := by
  unfold kAt
  split
  · exact IsReal.sum _ _ fun k => (kvAt_real a0 a2 a3 a7 h7 b s k).mul (h8 _)
  · exact zAt_real a0 a2 a3 h2 h3 _ _ _

end

end Cert.MixIn

end
-- ==== Proof.MixInArray.lean ====
/- Hand-written, untrusted: THE BLOCKS OF THE MIXER'S INPUT KERNEL. Grid point `t` takes rows `512 * (t % 4)` on of sequence `t / 4`; its
   windows are read as the arguments and the tables (`block0` … `block16`). -/
module

public import proofs.«01_k».proof.Proof.MixInHost
public import proofs.«01_k».proof.Proof.MixInLayer

@[expose] public section

set_option maxRecDepth 16384

noncomputable section

namespace Cert.MixIn

open Idealize.ShloMosaic Cert.MixerInIdeal Cert.MixerInIdeal.Gen Idealize.ShloMosaic.TcCoe Idealize.SL.Sem

variable (m : (ℓ : Loc nD τ sig) → Buf (Elt Ideal) ℓ) (c : Dev nD)

theorem index0 : ∀ t : Fin cfg0.N, win0_0.index t 0 = t.val ∧ win0_0.index t 1 = 0 := by
  decide +kernel

theorem index1 : ∀ t : Fin cfg0.N, win0_1.index t 0 = t.val ∧ win0_1.index t 1 = 0 := by
  decide +kernel

theorem index2 : ∀ t : Fin cfg0.N, win0_2.index t 0 = 0 ∧ win0_2.index t 1 = 0 := by
  decide +kernel

theorem index3 : ∀ t : Fin cfg0.N, win0_3.index t 0 = 0 ∧ win0_3.index t 1 = 0 := by
  decide +kernel

theorem index4 : ∀ t : Fin cfg0.N, win0_4.index t 0 = 0 ∧ win0_4.index t 1 = 0 := by
  decide +kernel

theorem index5 : ∀ t : Fin cfg0.N, win0_5.index t 0 = 0 ∧ win0_5.index t 1 = 0 := by
  decide +kernel

theorem index6 : ∀ t : Fin cfg0.N, win0_6.index t 0 = 0 ∧ win0_6.index t 1 = 0 := by
  decide +kernel

theorem index7 : ∀ t : Fin cfg0.N, win0_7.index t 0 = 0 ∧ win0_7.index t 1 = 0 := by
  decide +kernel

theorem index8 : ∀ t : Fin cfg0.N, win0_8.index t 0 = 0 ∧ win0_8.index t 1 = 0 := by
  decide +kernel

theorem index9 : ∀ t : Fin cfg0.N, win0_9.index t 0 = 0 ∧ win0_9.index t 1 = 0 := by
  decide +kernel

theorem index10 : ∀ t : Fin cfg0.N, win0_10.index t 0 = 0 ∧ win0_10.index t 1 = 0 := by
  decide +kernel

theorem index11 : ∀ t : Fin cfg0.N, win0_11.index t 0 = 0 ∧ win0_11.index t 1 = 0 := by
  decide +kernel

theorem index12 : ∀ t : Fin cfg0.N, win0_12.index t 0 = 0 ∧ win0_12.index t 1 = 0 := by
  decide +kernel

theorem index13 : ∀ t : Fin cfg0.N, win0_13.index t 0 = 0 ∧ win0_13.index t 1 = 0 := by
  decide +kernel

theorem index14 : ∀ t : Fin cfg0.N, win0_14.index t 0 = 0 ∧ win0_14.index t 1 = 0 := by
  decide +kernel

theorem index15 : ∀ t : Fin cfg0.N, win0_15.index t 0 = 0 ∧ win0_15.index t 1 = 0 := by
  decide +kernel

theorem index16 : ∀ t : Fin cfg0.N, win0_16.index t 0 = 0 ∧ win0_16.index t 1 = 0 := by
  decide +kernel

theorem index17 : ∀ t : Fin cfg0.N, win0_17.index t 0 = t.val ∧ win0_17.index t 1 = 0 := by
  decide +kernel

theorem index18 : ∀ t : Fin cfg0.N, win0_18.index t 0 = t.val ∧ win0_18.index t 1 = 0 := by
  decide +kernel

theorem index19 : ∀ t : Fin cfg0.N, win0_19.index t 0 = t.val ∧ win0_19.index t 1 = 0 := by
  decide +kernel

theorem index20 : ∀ t : Fin cfg0.N, win0_20.index t 0 = t.val ∧ win0_20.index t 1 = 0 := by
  decide +kernel

theorem index21 : ∀ t : Fin cfg0.N, win0_21.index t 0 = t.val ∧ win0_21.index t 1 = 0 := by
  decide +kernel

abbrev seqOf (t : Fin cfg0.N) : Fin 32 := ⟨t.val / 4, by have h : t.val < 128 := t.isLt; omega⟩
abbrev posOf (t : Fin cfg0.N) (r : Fin 512) : Fin 2048 := ⟨512 * (t.val % 4) + r, by omega⟩

theorem zero_int : (FloatOps.sitofp (F := Ideal) .f32 0#32 : EReal) = 0 := by
  show ((((0#32).toInt : ℤ) : ℝ) : EReal) = 0
  simp

/-! ## What the host hands over, entry by entry -/

theorem win_apply (X : Vec Ideal S1024x1696 .f32) (k : Fin 1024) (C : Fin 1792) :
    (truncf (F := Ideal) .bf16 (pad S1024x1792 ![0, 0] ![0, 96] ![0, 0] X (sitofp (F := Ideal) .f32 (constantI S_ 32 0#32)) pads_S1024x1696_S1024x1792_000_0960 h_S_) bitsLt_bf16_f32 (ix2 k C : S1024x1792.Idx) : EReal)
      = if h : C.val < 1696 then X (ix2 k ⟨C.val, h⟩) else 0 := by
  have e : (truncf (F := Ideal) .bf16 (pad S1024x1792 ![0, 0] ![0, 96] ![0, 0] X (sitofp (F := Ideal) .f32 (constantI S_ 32 0#32)) pads_S1024x1696_S1024x1792_000_0960 h_S_) bitsLt_bf16_f32 (ix2 k C : S1024x1792.Idx) : EReal)
      = if h : k.val < 1024 ∧ C.val < 1696 then X (ix2 ⟨k.val, h.1⟩ ⟨C.val, h.2⟩) else FloatOps.sitofp (F := Ideal) .f32 0#32 := by
    pointwise []
  rw [e]
  by_cases h : C.val < 1696
  · rw [dif_pos ⟨k.isLt, h⟩, dif_pos h]
  · rw [dif_neg (fun g => h g.2), dif_neg h, zero_int]

theorem wuq_apply (X : Vec Ideal S384x768 .f32) (k : Fin 384) (C : Fin 1024) :
    (truncf (F := Ideal) .bf16 (shapeCast S384x1024 (pad S384x8x128 ![0, 0, 0] ![0, 0, 32] ![0, 0, 0] (shapeCast S384x8x96 X shapeCasts_S384x768_S384x8x96) (sitofp (F := Ideal) .f32 (constantI S_ 32 0#32)) pads_S384x8x96_S384x8x128_000_000_0320 h_S_) shapeCasts_S384x8x128_S384x1024) bitsLt_bf16_f32 (ix2 k C : S384x1024.Idx) : EReal)
      = if h : C.val % 128 < 96 then X (ix2 k ⟨96 * (C.val / 128) + C.val % 128, by omega⟩) else 0 := by
  pointwise []
  rw [zero_int]
  by_cases h : C.val % 128 < 96
  · rw [dif_pos ⟨by omega, h⟩, dif_pos h]
    refine congrArg X ?_
    funext a
    apply Fin.ext
    match a with
    | ⟨0, _⟩ => rfl
    | ⟨1, _⟩ => show C.val / 128 * 96 + C.val % 128 = 96 * (C.val / 128) + C.val % 128; omega
  · rw [dif_neg (fun g => h g.2), dif_neg h]

theorem wuk_apply (X : Vec Ideal S256x1024 .f32) (k : Fin 256) (C : Fin 1024) :
    (truncf (F := Ideal) .bf16 (shapeCast S256x1024 (pad S256x8x128 ![0, 0, 0] ![0, 0, 64] ![0, 0, 0] (extractStridedSlice S256x8x64 ![0, 0, 0] (shapeCast S256x8x128 X shapeCasts_S256x1024_S256x8x128) slices_S256x8x128_S256x8x64_0_0_0) (sitofp (F := Ideal) .f32 (constantI S_ 32 0#32)) pads_S256x8x64_S256x8x128_000_000_0640 h_S_) shapeCasts_S256x8x128_S256x1024) bitsLt_bf16_f32 (ix2 k C : S256x1024.Idx) : EReal)
      = if h : C.val % 128 < 64 then X (ix2 k C) else 0 := by
  pointwise []
  rw [zero_int]
  by_cases h : C.val % 128 < 64
  · rw [dif_pos ⟨by omega, h⟩, dif_pos h]
  · rw [dif_neg (fun g => h g.2), dif_neg h]

theorem wuv_apply (X : Vec Ideal S256x1024 .f32) (k : Fin 256) (C : Fin 512) :
    (truncf (F := Ideal) .bf16 (shapeCast S256x512 (extractStridedSlice S256x8x64 ![0, 0, 64] (shapeCast S256x8x128 X shapeCasts_S256x1024_S256x8x128) slices_S256x8x128_S256x8x64_0_0_64) shapeCasts_S256x8x64_S256x512) bitsLt_bf16_f32 (ix2 k C : S256x512.Idx) : EReal)
      = X (ix2 k ⟨128 * (C.val / 64) + (64 + C.val % 64), by omega⟩) := by
  pointwise []
  refine congrArg X ?_
  funext a
  apply Fin.ext
  match a with
  | ⟨0, _⟩ => rfl
  | ⟨1, _⟩ => show C.val / 64 * 128 + (64 + C.val % 64) = 128 * (C.val / 64) + (64 + C.val % 64); omega

theorem place_apply (k : Fin 128) (C : Fin 1024) :
    (truncf (F := Ideal) .bf16 (shapeCast S128x1024 placeTable shapeCasts_S128x8x128_S128x1024) bitsLt_bf16_f32 (ix2 k C : S128x1024.Idx) : EReal)
      = if k.val < 32 ∧ C.val % 128 = 64 + k.val then 1 else 0 := by
  have h := placeTable_apply
  generalize placeTable = X at h ⊢
  pointwise []
  rw [h]

theorem gain_apply (X : Vec Ideal S96 .f32) (l : Fin 128) :
    (shapeCast S1x128 (pad S128 ![0] ![32] ![0] X (sitofp (F := Ideal) .f32 (constantI S_ 32 0#32)) pads_S96_S128_0320 h_S_) shapeCasts_S128_S1x128 (ix2 (0 : Fin 1) l : S1x128.Idx) : EReal) = padTo (fun d => X (ix1 d)) l := by
  unfold padTo
  pointwise []
  rw [zero_int]

theorem ones_apply (k l : Fin 128) : (truncf (F := Ideal) .bf16 (broadcastInDim S128x128 ![] bcast_S_S128x128 (constant (F := Ideal) S_ .f32 0x3F800000#32)) bitsLt_bf16_f32 (ix2 k l : S128x128.Idx) : EReal) = 1 := by
  exact one_f32

theorem rot_apply (k l : Fin 128) :
    (truncf (F := Ideal) .bf16 (rotTable) bitsLt_bf16_f32 (ix2 k l : S128x128.Idx) : EReal) = rotTable (ix2 k l) := by
  rfl

/-! ## The blocks -/

theorem block0 (t : Fin cfg0.N) (r : Fin 512) (k : Fin 1024) :
    ((iblk m c 0 t : Vec Ideal S512x1024 .f32) (ix2 r k) : EReal) = (argOf0 m c (ix3 (seqOf t) (posOf t r) k) : EReal) := by
  have ht : t.val < 128 := t.isLt
  have e : (shapeCast S65536x1024 (argOf0 m c) shapeCasts_S32x2048x1024_S65536x1024 (ix2 ⟨512 * t.val + r.val, by omega⟩ k : S65536x1024.Idx) : EReal) = argOf0 m c (ix3 (seqOf t) (posOf t r) k) := by
    generalize argOf0 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
    | ⟨2, _⟩ => rfl
  rw [← e]
  unfold iblk
  rw [View.read_apply, ← V_0]
  show V m c main_v0 _ = _
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; try omega

theorem block1 (t : Fin cfg0.N) (r : Fin 512) :
    ((iblk m c 1 t : Vec Ideal S512x1 .i32) (ix2 r (0 : Fin 1)) : BitVec 32) = (argOf1 m c (ix2 (seqOf t) (posOf t r)) : BitVec 32) := by
  have ht : t.val < 128 := t.isLt
  have e : (shapeCast S65536x1 (argOf1 m c) shapeCasts_S32x2048_S65536x1 (ix2 ⟨512 * t.val + r.val, by omega⟩ (0 : Fin 1) : S65536x1.Idx) : BitVec 32) = argOf1 m c (ix2 (seqOf t) (posOf t r)) := by
    generalize argOf1 m c = X
    pointwise []
    refine congrArg X ?_
    funext a
    apply Fin.ext
    match a with
    | ⟨0, _⟩ => show (512 * t.val + r.val) / 2048 = t.val / 4; omega
    | ⟨1, _⟩ => show (512 * t.val + r.val) % 2048 = 512 * (t.val % 4) + r.val; omega
  rw [← e]
  unfold iblk
  rw [View.read_apply, ← V_1]
  show V m c main_v1 _ = _
  congr 1
  funext a
  apply Fin.ext
  match a with
  | ⟨0, _⟩ => show win0_1.index t 0 * 512 + 1 * r.val = 512 * t.val + r.val; rw [(index1 t).1]; omega
  | ⟨1, _⟩ => show win0_1.index t 1 * 1 + 1 * 0 = 0; rw [(index1 t).2]; try omega

theorem block2 (t : Fin cfg0.N) (k : Fin 1024) :
    ((iblk m c 2 t : Vec Ideal S1x1024 .f32) (ix2 (0 : Fin 1) k) : EReal) = (argOf2 m c (ix1 k) : EReal) := by
  have e : (shapeCast S1x1024 (argOf2 m c) shapeCasts_S1024_S1x1024 (ix2 (0 : Fin 1) k : S1x1024.Idx) : EReal) = (argOf2 m c (ix1 k) : EReal) := by
    generalize argOf2 m c = X
    pointwise []
  rw [← e]
  unfold iblk
  rw [View.read_apply, ← V_2]
  show V m c main_v128 _ = _
  congr 1
  funext a
  apply Fin.ext
  match a with
  | ⟨0, _⟩ => show win0_2.index t 0 * 1 + 1 * 0 = 0; rw [(index2 t).1]; try omega
  | ⟨1, _⟩ => show win0_2.index t 1 * 1024 + 1 * k.val = k.val; rw [(index2 t).2]; try omega

theorem block3 (t : Fin cfg0.N) (k : Fin 1024) (C : Fin 1792) :
    ((iblk m c 3 t : Vec Ideal S1024x1792 .bf16) (ix2 k C) : EReal) = (if h : C.val < 1696 then argOf3 m c (ix2 k ⟨C.val, h⟩) else 0 : EReal) := by
  have e : (truncf (F := Ideal) .bf16 (pad S1024x1792 ![0, 0] ![0, 96] ![0, 0] (argOf3 m c) (sitofp (F := Ideal) .f32 (constantI S_ 32 0#32)) pads_S1024x1696_S1024x1792_000_0960 h_S_) bitsLt_bf16_f32 (ix2 k C : S1024x1792.Idx) : EReal) = (if h : C.val < 1696 then argOf3 m c (ix2 k ⟨C.val, h⟩) else 0 : EReal) := win_apply _ k C
  rw [← e]
  unfold iblk
  rw [View.read_apply, ← V_3]
  show V m c main_v3 _ = _
  congr 1
  funext a
  apply Fin.ext
  match a with
  | ⟨0, _⟩ => show win0_3.index t 0 * 1024 + 1 * k.val = k.val; rw [(index3 t).1]; try omega
  | ⟨1, _⟩ => show win0_3.index t 1 * 1792 + 1 * C.val = C.val; rw [(index3 t).2]; try omega

theorem block4 (t : Fin cfg0.N) (k l : Fin 128) :
    ((iblk m c 4 t : Vec Ideal S128x128 .bf16) (ix2 k l) : EReal) = (if k.val / 64 = l.val / 64 then 1 else 0 : EReal) := by
  have e : (segTable (ix2 k l : S128x128.Idx) : EReal) = (if k.val / 64 = l.val / 64 then 1 else 0 : EReal) := segTable_apply k l
  rw [← e]
  unfold iblk
  rw [View.read_apply, ← V_4]
  show V m c main_v13 _ = _
  congr 1
  funext a
  apply Fin.ext
  match a with
  | ⟨0, _⟩ => show win0_4.index t 0 * 128 + 1 * k.val = k.val; rw [(index4 t).1]; try omega
  | ⟨1, _⟩ => show win0_4.index t 1 * 128 + 1 * l.val = l.val; rw [(index4 t).2]; try omega

theorem block5 (t : Fin cfg0.N) (C : Fin 512) :
    ((iblk m c 5 t : Vec Ideal S1x512 .f32) (ix2 (0 : Fin 1) C) : EReal) = (argOf4 m c (ix2 ⟨C.val / 64, by omega⟩ ⟨C.val % 64, by omega⟩) : EReal) := by
  have e : (shapeCast S1x512 (argOf4 m c) shapeCasts_S8x64_S1x512 (ix2 (0 : Fin 1) C : S1x512.Idx) : EReal) = (argOf4 m c (ix2 ⟨C.val / 64, by omega⟩ ⟨C.val % 64, by omega⟩) : EReal) := by
    generalize argOf4 m c = X
    pointwise []
  rw [← e]
  unfold iblk
  rw [View.read_apply, ← V_5]
  show V m c main_v16 _ = _
  congr 1
  funext a
  apply Fin.ext
  match a with
  | ⟨0, _⟩ => show win0_5.index t 0 * 1 + 1 * 0 = 0; rw [(index5 t).1]; try omega
  | ⟨1, _⟩ => show win0_5.index t 1 * 512 + 1 * C.val = C.val; rw [(index5 t).2]; try omega

theorem block6 (t : Fin cfg0.N) (k : Fin 384) :
    ((iblk m c 6 t : Vec Ideal S1x384 .f32) (ix2 (0 : Fin 1) k) : EReal) = (argOf5 m c (ix1 k) : EReal) := by
  have e : (shapeCast S1x384 (argOf5 m c) shapeCasts_S384_S1x384 (ix2 (0 : Fin 1) k : S1x384.Idx) : EReal) = (argOf5 m c (ix1 k) : EReal) := by
    generalize argOf5 m c = X
    pointwise []
  rw [← e]
  unfold iblk
  rw [View.read_apply, ← V_6]
  show V m c main_v129 _ = _
  congr 1
  funext a
  apply Fin.ext
  match a with
  | ⟨0, _⟩ => show win0_6.index t 0 * 1 + 1 * 0 = 0; rw [(index6 t).1]; try omega
  | ⟨1, _⟩ => show win0_6.index t 1 * 384 + 1 * k.val = k.val; rw [(index6 t).2]; try omega

theorem block7 (t : Fin cfg0.N) (k : Fin 384) (C : Fin 1024) :
    ((iblk m c 7 t : Vec Ideal S384x1024 .bf16) (ix2 k C) : EReal) = (if h : C.val % 128 < 96 then argOf6 m c (ix2 k ⟨96 * (C.val / 128) + C.val % 128, by omega⟩) else 0 : EReal) := by
  have e : (truncf (F := Ideal) .bf16 (shapeCast S384x1024 (pad S384x8x128 ![0, 0, 0] ![0, 0, 32] ![0, 0, 0] (shapeCast S384x8x96 (argOf6 m c) shapeCasts_S384x768_S384x8x96) (sitofp (F := Ideal) .f32 (constantI S_ 32 0#32)) pads_S384x8x96_S384x8x128_000_000_0320 h_S_) shapeCasts_S384x8x128_S384x1024) bitsLt_bf16_f32 (ix2 k C : S384x1024.Idx) : EReal) = (if h : C.val % 128 < 96 then argOf6 m c (ix2 k ⟨96 * (C.val / 128) + C.val % 128, by omega⟩) else 0 : EReal) := wuq_apply _ k C
  rw [← e]
  unfold iblk
  rw [View.read_apply, ← V_7]
  show V m c main_v20 _ = _
  congr 1
  funext a
  apply Fin.ext
  match a with
  | ⟨0, _⟩ => show win0_7.index t 0 * 384 + 1 * k.val = k.val; rw [(index7 t).1]; try omega
  | ⟨1, _⟩ => show win0_7.index t 1 * 1024 + 1 * C.val = C.val; rw [(index7 t).2]; try omega

theorem block8 (t : Fin cfg0.N) (k : Fin 256) :
    ((iblk m c 8 t : Vec Ideal S1x256 .f32) (ix2 (0 : Fin 1) k) : EReal) = (argOf7 m c (ix1 k) : EReal) := by
  have e : (shapeCast S1x256 (argOf7 m c) shapeCasts_S256_S1x256 (ix2 (0 : Fin 1) k : S1x256.Idx) : EReal) = (argOf7 m c (ix1 k) : EReal) := by
    generalize argOf7 m c = X
    pointwise []
  rw [← e]
  unfold iblk
  rw [View.read_apply, ← V_8]
  show V m c main_v130 _ = _
  congr 1
  funext a
  apply Fin.ext
  match a with
  | ⟨0, _⟩ => show win0_8.index t 0 * 1 + 1 * 0 = 0; rw [(index8 t).1]; try omega
  | ⟨1, _⟩ => show win0_8.index t 1 * 256 + 1 * k.val = k.val; rw [(index8 t).2]; try omega

theorem block9 (t : Fin cfg0.N) (k : Fin 256) (C : Fin 1024) :
    ((iblk m c 9 t : Vec Ideal S256x1024 .bf16) (ix2 k C) : EReal) = (if h : C.val % 128 < 64 then argOf8 m c (ix2 k C) else 0 : EReal) := by
  have e : (truncf (F := Ideal) .bf16 (shapeCast S256x1024 (pad S256x8x128 ![0, 0, 0] ![0, 0, 64] ![0, 0, 0] (extractStridedSlice S256x8x64 ![0, 0, 0] (shapeCast S256x8x128 (argOf8 m c) shapeCasts_S256x1024_S256x8x128) slices_S256x8x128_S256x8x64_0_0_0) (sitofp (F := Ideal) .f32 (constantI S_ 32 0#32)) pads_S256x8x64_S256x8x128_000_000_0640 h_S_) shapeCasts_S256x8x128_S256x1024) bitsLt_bf16_f32 (ix2 k C : S256x1024.Idx) : EReal) = (if h : C.val % 128 < 64 then argOf8 m c (ix2 k C) else 0 : EReal) := wuk_apply _ k C
  rw [← e]
  unfold iblk
  rw [View.read_apply, ← V_9]
  show V m c main_v25 _ = _
  congr 1
  funext a
  apply Fin.ext
  match a with
  | ⟨0, _⟩ => show win0_9.index t 0 * 256 + 1 * k.val = k.val; rw [(index9 t).1]; try omega
  | ⟨1, _⟩ => show win0_9.index t 1 * 1024 + 1 * C.val = C.val; rw [(index9 t).2]; try omega

theorem block10 (t : Fin cfg0.N) (k : Fin 256) (C : Fin 512) :
    ((iblk m c 10 t : Vec Ideal S256x512 .bf16) (ix2 k C) : EReal) = (argOf8 m c (ix2 k ⟨128 * (C.val / 64) + (64 + C.val % 64), by omega⟩) : EReal) := by
  have e : (truncf (F := Ideal) .bf16 (shapeCast S256x512 (extractStridedSlice S256x8x64 ![0, 0, 64] (shapeCast S256x8x128 (argOf8 m c) shapeCasts_S256x1024_S256x8x128) slices_S256x8x128_S256x8x64_0_0_64) shapeCasts_S256x8x64_S256x512) bitsLt_bf16_f32 (ix2 k C : S256x512.Idx) : EReal) = (argOf8 m c (ix2 k ⟨128 * (C.val / 64) + (64 + C.val % 64), by omega⟩) : EReal) := wuv_apply _ k C
  rw [← e]
  unfold iblk
  rw [View.read_apply, ← V_10]
  show V m c main_v28 _ = _
  congr 1
  funext a
  apply Fin.ext
  match a with
  | ⟨0, _⟩ => show win0_10.index t 0 * 256 + 1 * k.val = k.val; rw [(index10 t).1]; try omega
  | ⟨1, _⟩ => show win0_10.index t 1 * 512 + 1 * C.val = C.val; rw [(index10 t).2]; try omega

theorem block11 (t : Fin cfg0.N) (k : Fin 128) (C : Fin 1024) :
    ((iblk m c 11 t : Vec Ideal S128x1024 .bf16) (ix2 k C) : EReal) = (if k.val < 32 ∧ C.val % 128 = 64 + k.val then 1 else 0 : EReal) := by
  have e : (truncf (F := Ideal) .bf16 (shapeCast S128x1024 placeTable shapeCasts_S128x8x128_S128x1024) bitsLt_bf16_f32 (ix2 k C : S128x1024.Idx) : EReal) = (if k.val < 32 ∧ C.val % 128 = 64 + k.val then 1 else 0 : EReal) := place_apply k C
  rw [← e]
  unfold iblk
  rw [View.read_apply, ← V_11]
  show V m c main_v49 _ = _
  congr 1
  funext a
  apply Fin.ext
  match a with
  | ⟨0, _⟩ => show win0_11.index t 0 * 128 + 1 * k.val = k.val; rw [(index11 t).1]; try omega
  | ⟨1, _⟩ => show win0_11.index t 1 * 1024 + 1 * C.val = C.val; rw [(index11 t).2]; try omega

theorem block12 (t : Fin cfg0.N) (k l : Fin 128) :
    ((iblk m c 12 t : Vec Ideal S128x128 .bf16) (ix2 k l) : EReal) = (rotTable (ix2 k l) : EReal) := by
  have e : (truncf (F := Ideal) .bf16 (rotTable) bitsLt_bf16_f32 (ix2 k l : S128x128.Idx) : EReal) = (rotTable (ix2 k l) : EReal) := rot_apply k l
  rw [← e]
  unfold iblk
  rw [View.read_apply, ← V_12]
  show V m c main_v90 _ = _
  congr 1
  funext a
  apply Fin.ext
  match a with
  | ⟨0, _⟩ => show win0_12.index t 0 * 128 + 1 * k.val = k.val; rw [(index12 t).1]; try omega
  | ⟨1, _⟩ => show win0_12.index t 1 * 128 + 1 * l.val = l.val; rw [(index12 t).2]; try omega

theorem block13 (t : Fin cfg0.N) (k l : Fin 128) :
    ((iblk m c 13 t : Vec Ideal S128x128 .bf16) (ix2 k l) : EReal) = (1 : EReal) := by
  have e : (truncf (F := Ideal) .bf16 (broadcastInDim S128x128 ![] bcast_S_S128x128 (constant (F := Ideal) S_ .f32 0x3F800000#32)) bitsLt_bf16_f32 (ix2 k l : S128x128.Idx) : EReal) = (1 : EReal) := ones_apply k l
  rw [← e]
  unfold iblk
  rw [View.read_apply, ← V_13]
  show V m c main_v15 _ = _
  congr 1
  funext a
  apply Fin.ext
  match a with
  | ⟨0, _⟩ => show win0_13.index t 0 * 128 + 1 * k.val = k.val; rw [(index13 t).1]; try omega
  | ⟨1, _⟩ => show win0_13.index t 1 * 128 + 1 * l.val = l.val; rw [(index13 t).2]; try omega

theorem block14 (t : Fin cfg0.N) (l : Fin 128) :
    ((iblk m c 14 t : Vec Ideal S1x128 .f32) (ix2 (0 : Fin 1) l) : EReal) = (padTo (fun d => argOf9 m c (ix1 d)) l : EReal) := by
  have e : (shapeCast S1x128 (pad S128 ![0] ![32] ![0] (argOf9 m c) (sitofp (F := Ideal) .f32 (constantI S_ 32 0#32)) pads_S96_S128_0320 h_S_) shapeCasts_S128_S1x128 (ix2 (0 : Fin 1) l : S1x128.Idx) : EReal) = (padTo (fun d => argOf9 m c (ix1 d)) l : EReal) := gain_apply _ l
  rw [← e]
  unfold iblk
  rw [View.read_apply, ← V_14]
  show V m c main_v125 _ = _
  congr 1
  funext a
  apply Fin.ext
  match a with
  | ⟨0, _⟩ => show win0_14.index t 0 * 1 + 1 * 0 = 0; rw [(index14 t).1]; try omega
  | ⟨1, _⟩ => show win0_14.index t 1 * 128 + 1 * l.val = l.val; rw [(index14 t).2]; try omega

theorem block15 (t : Fin cfg0.N) (l : Fin 128) :
    ((iblk m c 15 t : Vec Ideal S1x128 .f32) (ix2 (0 : Fin 1) l) : EReal) = (padTo (fun d => argOf10 m c (ix1 d)) l : EReal) := by
  have e : (shapeCast S1x128 (pad S128 ![0] ![32] ![0] (argOf10 m c) (sitofp (F := Ideal) .f32 (constantI S_ 32 0#32)) pads_S96_S128_0320 h_S_) shapeCasts_S128_S1x128 (ix2 (0 : Fin 1) l : S1x128.Idx) : EReal) = (padTo (fun d => argOf10 m c (ix1 d)) l : EReal) := gain_apply _ l
  rw [← e]
  unfold iblk
  rw [View.read_apply, ← V_15]
  show V m c main_v127 _ = _
  congr 1
  funext a
  apply Fin.ext
  match a with
  | ⟨0, _⟩ => show win0_15.index t 0 * 1 + 1 * 0 = 0; rw [(index15 t).1]; try omega
  | ⟨1, _⟩ => show win0_15.index t 1 * 128 + 1 * l.val = l.val; rw [(index15 t).2]; try omega

theorem block16 (t : Fin cfg0.N) (l : Fin 128) :
    ((iblk m c 16 t : Vec Ideal S1x128 .f32) (ix2 (0 : Fin 1) l) : EReal) = (freqTable (ix2 (0 : Fin 1) l) : EReal) := by
  have e : (freqTable (ix2 (0 : Fin 1) l : S1x128.Idx) : EReal) = (freqTable (ix2 (0 : Fin 1) l) : EReal) := rfl
  rw [← e]
  unfold iblk
  rw [View.read_apply, ← V_16]
  show V m c main_v123 _ = _
  congr 1
  funext a
  apply Fin.ext
  match a with
  | ⟨0, _⟩ => show win0_16.index t 0 * 1 + 1 * 0 = 0; rw [(index16 t).1]; try omega
  | ⟨1, _⟩ => show win0_16.index t 1 * 128 + 1 * l.val = l.val; rw [(index16 t).2]; try omega

end Cert.MixIn

end
-- ==== Proof.MixInResult.lean ====
/- Hand-written, untrusted: THE RESULTS OF THE MIXER'S INPUT KERNEL. What a grid point writes is the layer at its rows (`point17` … `point21`),
   so the five arrays are the layer's (`array17` … `array21`). -/
module

public import proofs.«01_k».proof.Proof.MixInArray

@[expose] public section

set_option maxRecDepth 16384

noncomputable section

namespace Cert.MixIn

open Idealize.ShloMosaic Cert.MixerInIdeal Cert.MixerInIdeal.Gen Idealize.ShloMosaic.TcCoe Idealize.SL.Sem
open Cert.Attention (IsReal)

variable (m : (ℓ : Loc nD τ sig) → Buf (Elt Ideal) ℓ) (c : Dev nD)

/-- A column of a block's row times the padded input matrix. -/
theorem zrow (t : Fin cfg0.N) (r : Fin 512) (C : Fin 1792) (h : C.val < 1696) :
    (k0_pay2 (F := Ideal) (iblk m c 0 t) (iblk m c 2 t) (iblk m c 3 t) (ix2 r C) : EReal) = zAt (argOf0 m c) (argOf2 m c) (argOf3 m c) (seqOf t) (posOf t r) ⟨C.val, h⟩ := by
  refine (z_apply _ _ _ r C).trans ?_
  unfold zAt
  refine Finset.sum_congr rfl fun k _ => ?_
  have e0 : (fun k : Fin 1024 => ((iblk m c 0 t : Vec Ideal S512x1024 .f32) (ix2 r k) : EReal)) = fun k => argOf0 m c (ix3 (seqOf t) (posOf t r) k) :=
    funext fun k => block0 m c t r k
  have e2 : (fun k : Fin 1024 => ((iblk m c 2 t : Vec Ideal S1x1024 .f32) (ix2 (0 : Fin 1) k) : EReal)) = fun k => argOf2 m c (ix1 k) :=
    funext fun k => block2 m c t k
  exact congrArg₂ (fun a b : EReal => a * b)
    (congrArg₂ (fun a b : Fin 1024 → EReal => normed (Ideal.ofBits .f32 0x44800000#32) a b k) e0 e2)
    ((block3 m c t k C).trans (dif_pos h))

/-- The normalised latent of a block's row. -/
theorem kvrow (t : Fin cfg0.N) (r : Fin 512) (k : Fin 256) :
    normed (Ideal.ofBits .f32 0x43800000#32) (fun k : Fin 256 => k0_pay2 (F := Ideal) (iblk m c 0 t) (iblk m c 2 t) (iblk m c 3 t) (ix2 r ⟨1408 + k, by omega⟩))
      (fun k => (iblk m c 8 t : Vec Ideal S1x256 .f32) (ix2 (0 : Fin 1) k)) k = kvAt (argOf0 m c) (argOf2 m c) (argOf3 m c) (argOf7 m c) (seqOf t) (posOf t r) k := by
  unfold kvAt
  exact congrArg₂ (fun a b : Fin 256 → EReal => normed (Ideal.ofBits .f32 0x43800000#32) a b k)
    (funext fun k => zrow m c t r _ _) (funext fun k => block8 m c t k)

/-- The lanes of a block's raw queries. -/
theorem qrow (t : Fin cfg0.N) (r : Fin 512) (h : Fin 8) (l : Fin 128) :
    (qraw (iblk m c 0 t) (iblk m c 2 t) (iblk m c 3 t) (iblk m c 6 t) (iblk m c 7 t) (ix2 r ⟨128 * h.val + l.val, by omega⟩) : EReal)
      = padTo (qAt (argOf0 m c) (argOf2 m c) (argOf3 m c) (argOf5 m c) (argOf6 m c) (seqOf t) (posOf t r) h) l := by
  refine (qraw_apply _ _ _ _ _ r _).trans ?_
  unfold padTo qAt
  by_cases hl : l.val < 96
  · rw [dif_pos hl]
    refine Finset.sum_congr rfl fun k _ => congrArg₂ (fun a b : EReal => a * b)
      (congrArg₂ (fun a b : Fin 384 → EReal => normed (Ideal.ofBits .f32 0x43C00000#32) a b k)
        (funext fun k => zrow m c t r _ (by show 1024 + k.val < 1696; omega)) (funext fun k => block6 m c t k)) ?_
    refine ((block7 m c t k _).trans (dif_pos (by show (128 * h.val + l.val) % 128 < 96; omega))).trans ?_
    refine congrArg (fun z : Fin 768 => argOf6 m c (ix2 k z)) (Fin.ext ?_)
    show 96 * ((128 * h.val + l.val) / 128) + (128 * h.val + l.val) % 128 = 96 * h.val + l.val
    omega
  · rw [dif_neg hl]
    refine Finset.sum_eq_zero fun k _ => ?_
    refine (congrArg (fun b : EReal => _ * b) ((block7 m c t k _).trans (dif_neg (by show ¬(128 * h.val + l.val) % 128 < 96; omega)))).trans (mul_zero _)

/-- A sum that picks one lane. -/
theorem place_sum (z e : Fin 128 → EReal) (l : Fin 128) (he : ∀ j, e j = if j.val < 32 ∧ l.val = 64 + j.val then 1 else 0) :
    ∑ j, z j * e j = if hl : 64 ≤ l.val ∧ l.val < 96 then z ⟨l.val - 64, by omega⟩ else 0 := by
  simp only [he]
  by_cases hl : 64 ≤ l.val ∧ l.val < 96
  · rw [dif_pos hl, Finset.sum_eq_single (⟨l.val - 64, by omega⟩ : Fin 128)]
    · rw [if_pos (by show l.val - 64 < 32 ∧ l.val = 64 + (l.val - 64); omega), mul_one]
    · intro j _ hj
      have hj' : j.val ≠ l.val - 64 := fun h => hj (Fin.ext h)
      rw [if_neg (by omega), mul_zero]
    · exact fun h => absurd (Finset.mem_univ _) h
  · rw [dif_neg hl]
    exact Finset.sum_eq_zero fun j _ => by rw [if_neg (by omega), mul_zero]

/-- A sum of which the second factors vanish from lane 64 on. -/
theorem nope_sum {K : Nat} (p w a e : Fin K → EReal) (l : Fin 128) (hp : ∀ k, p k = a k) (he : ∀ k, e k = if l.val < 64 then w k else 0) :
    ∑ k, p k * e k = if l.val < 64 then ∑ k, a k * w k else 0 := by
  simp only [hp, he]
  by_cases hl : l.val < 64
  · simp only [if_pos hl]
  · simp only [if_neg hl, mul_zero, Finset.sum_const_zero]

/-- The lanes of a block's raw keys. -/
theorem krow (t : Fin cfg0.N) (r : Fin 512) (h : Fin 8) (l : Fin 128) :
    (kraw (iblk m c 0 t) (iblk m c 2 t) (iblk m c 3 t) (iblk m c 8 t) (iblk m c 9 t) (iblk m c 11 t) (ix2 r ⟨128 * h.val + l.val, by omega⟩) : EReal)
      = padTo (kAt (argOf0 m c) (argOf2 m c) (argOf3 m c) (argOf7 m c) (argOf8 m c) (seqOf t) (posOf t r) h) l := by
  refine (kraw_apply _ _ _ _ _ _ r _).trans ?_
  have e1 : ∀ k : Fin 256, ((iblk m c 9 t : Vec Ideal S256x1024 .bf16) (ix2 k ⟨128 * h.val + l.val, by omega⟩) : EReal)
      = if l.val < 64 then argOf8 m c (ix2 k ⟨128 * h.val + l.val, by omega⟩) else 0 := fun k => by
    refine (block9 m c t k _).trans ?_
    by_cases hl : l.val < 64
    · rw [dif_pos (by show (128 * h.val + l.val) % 128 < 64; omega), if_pos hl]
    · rw [dif_neg (by show ¬(128 * h.val + l.val) % 128 < 64; omega), if_neg hl]
  have e2 : ∀ j : Fin 128, ((iblk m c 11 t : Vec Ideal S128x1024 .bf16) (ix2 j ⟨128 * h.val + l.val, by omega⟩) : EReal)
      = (if j.val < 32 ∧ l.val = 64 + j.val then 1 else 0 : EReal) := fun j => by
    refine (block11 m c t j _).trans ?_
    have e : (128 * h.val + l.val) % 128 = l.val := by omega
    show (if j.val < 32 ∧ (128 * h.val + l.val) % 128 = 64 + j.val then (1 : EReal) else 0) = _
    rw [e]
  have s1 : (∑ k : Fin 256, normed (Ideal.ofBits .f32 0x43800000#32) (fun k : Fin 256 => k0_pay2 (F := Ideal) (iblk m c 0 t) (iblk m c 2 t) (iblk m c 3 t) (ix2 r ⟨1408 + k, by omega⟩))
      (fun k => (iblk m c 8 t : Vec Ideal S1x256 .f32) (ix2 (0 : Fin 1) k)) k * ((iblk m c 9 t : Vec Ideal S256x1024 .bf16) (ix2 k ⟨128 * h.val + l.val, by omega⟩) : EReal))
      = if l.val < 64 then ∑ k : Fin 256, kvAt (argOf0 m c) (argOf2 m c) (argOf3 m c) (argOf7 m c) (seqOf t) (posOf t r) k * argOf8 m c (ix2 k ⟨128 * h.val + l.val, by omega⟩) else 0 := by
    exact nope_sum _ _ _ _ l (kvrow m c t r) e1
  have s2 : (∑ j : Fin 128, k0_pay2 (F := Ideal) (iblk m c 0 t) (iblk m c 2 t) (iblk m c 3 t) (ix2 r ⟨1664 + j, by omega⟩) * ((iblk m c 11 t : Vec Ideal S128x1024 .bf16) (ix2 j ⟨128 * h.val + l.val, by omega⟩) : EReal))
      = if hl : 64 ≤ l.val ∧ l.val < 96 then zAt (argOf0 m c) (argOf2 m c) (argOf3 m c) (seqOf t) (posOf t r) ⟨1664 + (l.val - 64), by omega⟩ else 0 := by
    refine (place_sum _ _ l e2).trans ?_
    by_cases hl : 64 ≤ l.val ∧ l.val < 96
    · rw [dif_pos hl, dif_pos hl]
      exact zrow m c t r _ (by show 1664 + (l.val - 64) < 1696; omega)
    · rw [dif_neg hl, dif_neg hl]
  refine (congrArg₂ (fun a b : EReal => a + b) s1 s2).trans ?_
  unfold padTo kAt
  by_cases h1 : l.val < 64
  · rw [if_pos h1, dif_neg (by omega), add_zero, dif_pos (by omega), dif_pos h1]
  by_cases h2 : l.val < 96
  · rw [if_neg h1, dif_pos ⟨by omega, h2⟩, zero_add, dif_pos h2, dif_neg h1]
  · rw [if_neg h1, dif_neg (by omega), add_zero, dif_neg h2]

/-- The angles of a block's row. -/
theorem cosrow (t : Fin cfg0.N) (r : Fin 512) (l : Fin 128) : (k0_pay23 (F := Ideal) (iblk m c 1 t) (iblk m c 16 t) (ix2 r l) : EReal)
    = Ideal.cos (FloatOps.sitofp (F := Ideal) .f32 (argOf1 m c (ix2 (seqOf t) (posOf t r))) * freqTable (ix2 (0 : Fin 1) l)) :=
  (cos_apply _ _ r l).trans (congrArg Ideal.cos (congrArg₂ (fun (a : BitVec 32) (b : EReal) => FloatOps.sitofp (F := Ideal) .f32 a * b)
    (block1 m c t r) (block16 m c t l)))

theorem sinrow (t : Fin cfg0.N) (r : Fin 512) (l : Fin 128) : (k0_pay24 (F := Ideal) (iblk m c 1 t) (iblk m c 16 t) (ix2 r l) : EReal)
    = Ideal.sin (FloatOps.sitofp (F := Ideal) .f32 (argOf1 m c (ix2 (seqOf t) (posOf t r))) * freqTable (ix2 (0 : Fin 1) l)) :=
  (sin_apply _ _ r l).trans (congrArg Ideal.sin (congrArg₂ (fun (a : BitVec 32) (b : EReal) => FloatOps.sitofp (F := Ideal) .f32 a * b)
    (block1 m c t r) (block16 m c t l)))

/-- A head of a block's row, from its raw lanes and its gain. -/
theorem headrow (t : Fin cfg0.N) (r : Fin 512) (scale : EReal) (Y : FVec Ideal S512x1024 .f32) (G : Vec Ideal S1x128 .f32) (y : Fin 8 → Fin 96 → EReal)
    (g : Fin 96 → EReal) (hY : ∀ h l, (Y (ix2 r ⟨128 * h.val + l.val, by omega⟩) : EReal) = padTo (y h) l)
    (hG : ∀ l, (G (ix2 (0 : Fin 1) l) : EReal) = padTo g l) (hy : ∀ h d, IsReal (y h d)) (k : Fin 1024) :
    headOf (iblk m c 1 t) (iblk m c 12 t) (iblk m c 13 t) (iblk m c 16 t) r scale Y G k
      = padTo (turned (argOf1 m c) (seqOf t) (posOf t r) (y ⟨k.val / 128, by omega⟩) g) ⟨k.val % 128, by omega⟩ * scale := by
  unfold headOf headAt turned
  have e1 : (fun l : Fin 128 => (Y (ix2 r ⟨128 * (k.val / 128) + l.val, by omega⟩) : EReal)) = padTo (y ⟨k.val / 128, by omega⟩) :=
    funext fun l => hY ⟨k.val / 128, by omega⟩ l
  have e2 : (fun l : Fin 128 => (G (ix2 (0 : Fin 1) l) : EReal)) = padTo g := funext hG
  rw [e1, e2]
  exact head_eq scale _ _ g _ _ _ _ _ (hy _) (fun k l => block13 m c t k l) (fun j l => block12 m c t j l) (cosrow m c t r _) (sinrow m c t r _)

/-! ## What a point writes -/

section
variable (h2 : ∀ i, IsReal (argOf2 m c i)) (h3 : ∀ i, IsReal (argOf3 m c i)) (h5 : ∀ i, IsReal (argOf5 m c i))
  (h6 : ∀ i, IsReal (argOf6 m c i)) (h7 : ∀ i, IsReal (argOf7 m c i)) (h8 : ∀ i, IsReal (argOf8 m c i))

include h2 h3 in
theorem point17 (t : Fin cfg0.N) (r k : Fin 512) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal) = layer0 (argOf0 m c) (argOf2 m c) (argOf3 m c) (seqOf t) (posOf t r) k := by
  refine (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r k).trans ?_
  unfold layer0
  exact (congrArg gelu (zrow m c t r _ (by show k.val < 1696; omega))).trans (gelu_eq _ (zAt_real _ _ _ h2 h3 _ _ _))

include h2 h3 in
theorem point18 (t : Fin cfg0.N) (r k : Fin 512) :
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal) = layer1 (argOf0 m c) (argOf2 m c) (argOf3 m c) (argOf4 m c) (seqOf t) (posOf t r) k := by
  refine (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r k).trans ?_
  unfold vnAt layer1
  have ez : (fun l : Fin 128 => gelu (k0_pay2 (F := Ideal) (iblk m c 0 t) (iblk m c 2 t) (iblk m c 3 t) (ix2 r ⟨512 + (128 * (k.val / 128) + l.val), by omega⟩)))
      = fun l => geluRef (zAt (argOf0 m c) (argOf2 m c) (argOf3 m c) (seqOf t) (posOf t r) ⟨512 + (128 * (k.val / 128) + l.val), by omega⟩) :=
    funext fun l => (congrArg gelu (zrow m c t r _ (by show 512 + (128 * (k.val / 128) + l.val) < 1696; omega))).trans (gelu_eq _ (zAt_real _ _ _ h2 h3 _ _ _))
  have eg : (fun l : Fin 128 => ((iblk m c 5 t : Vec Ideal S1x512 .f32) (ix2 (0 : Fin 1) ⟨128 * (k.val / 128) + l.val, by omega⟩) : EReal))
      = fun l => argOf4 m c (ix2 ⟨(128 * (k.val / 128) + l.val) / 64, by omega⟩ ⟨(128 * (k.val / 128) + l.val) % 64, by omega⟩) :=
    funext fun l => block5 m c t _
  rw [ez, eg]
  refine (segment_pair _ _ _ _ (fun l => ?_) (fun j => block4 m c t j _)).trans ?_
  · rw [← gelu_eq _ (zAt_real _ _ _ h2 h3 _ _ _)]
    exact gelu_real _ (zAt_real _ _ _ h2 h3 _ _ _)
  · have ei : (⟨k.val % 128 % 64, by omega⟩ : Fin 64) = ⟨k.val % 64, by omega⟩ := Fin.ext (by show k.val % 128 % 64 = k.val % 64; omega)
    have e1 : ∀ j : Fin 64, 512 + (128 * (k.val / 128) + (64 * (k.val % 128 / 64) + j.val)) = 512 + (64 * (k.val / 64) + j.val) := fun j => by omega
    have e2 : ∀ j : Fin 64, (128 * (k.val / 128) + (64 * (k.val % 128 / 64) + j.val)) / 64 = k.val / 64 := fun j => by omega
    have e3 : ∀ j : Fin 64, (128 * (k.val / 128) + (64 * (k.val % 128 / 64) + j.val)) % 64 = j.val := fun j => by omega
    simp only [ei, e1, e2, e3]

include h5 h6 in
theorem point19 (t : Fin cfg0.N) (r : Fin 512) (k : Fin 1024) :
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal) = layer2 (argOf0 m c) (argOf1 m c) (argOf2 m c) (argOf3 m c) (argOf5 m c) (argOf6 m c) (argOf9 m c) (seqOf t) (posOf t r) k := by
  refine (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r k).trans ?_
  unfold layer2
  exact headrow m c t r _ _ _ _ _ (qrow m c t r) (block14 m c t) (fun h d => qAt_real _ _ _ _ _ h5 h6 _ _ h d) k

include h2 h3 h7 h8 in
theorem point20 (t : Fin cfg0.N) (r : Fin 512) (k : Fin 1024) :
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal) = layer3 (argOf0 m c) (argOf1 m c) (argOf2 m c) (argOf3 m c) (argOf7 m c) (argOf8 m c) (argOf10 m c) (seqOf t) (posOf t r) k := by
  refine (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r k).trans ?_
  unfold layer3
  refine (headrow m c t r _ _ _ _ _ (krow m c t r) (block15 m c t) (fun h d => kAt_real _ _ _ _ _ h2 h3 h7 h8 _ _ h d) k).trans ?_
  rw [Ideal.ofBits_one_f32, mul_one]

theorem point21 (t : Fin cfg0.N) (r k : Fin 512) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal) = layer4 (argOf0 m c) (argOf2 m c) (argOf3 m c) (argOf7 m c) (argOf8 m c) (seqOf t) (posOf t r) k := by
  refine (out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r k).trans ?_
  unfold layer4
  exact Finset.sum_congr rfl fun j _ => congrArg₂ (fun a b : EReal => a * b) (kvrow m c t r j) (block10 m c t j k)

/-! ## The arrays -/

/-- The point that writes a row. -/
def pointOf (i : Fin 65536) : Fin cfg0.N := ⟨i.val / 512, by show _ < 128; omega⟩

include h2 h3 in
theorem array17 : (dats m 0 c).arrAt 17 cfg0.N = rows512 (layer0 (argOf0 m c) (argOf2 m c) (argOf3 m c)) := by
  refine (dats m 0 c).arrAt_eq_of_cover 17 (rows512 (layer0 (argOf0 m c) (argOf2 m c) (argOf3 m c))) (fun t _ => ?_) fun i => ⟨pointOf (i 0), flush0_17 _, ?_⟩
  · rw [Value.flushed17]
    funext j
    rw [View.read_apply]
    show (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j = rows512 (layer0 (argOf0 m c) (argOf2 m c) (argOf3 m c)) _
    have hj : (show S512x512.Idx from j) = (ix2 (show Fin 512 from j 0) (show Fin 512 from j 1) : S512x512.Idx) :=
      funext fun a => by match a with | ⟨0, _⟩ => rfl | ⟨1, _⟩ => rfl
    refine (congrArg _ hj).trans ((point17 m c h2 h3 t (j 0) (j 1)).trans ?_)
    have h0 : (j 0).val < 512 := (j 0).isLt
    have e0 : (((cfg0.win 17).blk t).view.emb j 0).val = 512 * t.val + (j 0).val := by
      show win0_17.index t 0 * 512 + 1 * (j 0).val = _
      rw [(index17 t).1]
      omega
    have e1 : (((cfg0.win 17).blk t).view.emb j 1).val = (j 1).val := by
      show win0_17.index t 1 * 512 + 1 * (j 1).val = _
      rw [(index17 t).2]
      omega
    unfold rows512
    congr 1
    · apply Fin.ext
      show t.val / 4 = (((cfg0.win 17).blk t).view.emb j 0).val / 2048
      omega
    · apply Fin.ext
      show 512 * (t.val % 4) + (j 0).val = (((cfg0.win 17).blk t).view.emb j 0).val % 2048
      omega
    · apply Fin.ext
      exact e1.symm
  · show i ∈ ((View.whole main_v131_0).slice (win0_17.rect (pointOf (i 0)))).set
    rw [View.set_slice_whole, Rect.mem_set_unit]
    intro a
    have h0 : (i 0 : Nat) < 65536 := (i 0).isLt
    have h1 : (i 1 : Nat) < 512 := (i 1).isLt
    obtain ⟨e0, e1⟩ := index17 (pointOf (i 0))
    have hp : (pointOf (i 0)).val = (i 0).val / 512 := rfl
    match a with
    | ⟨0, _⟩ =>
      show win0_17.index (pointOf (i 0)) 0 * 512 ≤ (i 0 : Nat) ∧ (i 0 : Nat) < win0_17.index (pointOf (i 0)) 0 * 512 + 512
      omega
    | ⟨1, _⟩ =>
      show win0_17.index (pointOf (i 0)) 1 * 512 ≤ (i 1 : Nat) ∧ (i 1 : Nat) < win0_17.index (pointOf (i 0)) 1 * 512 + 512
      omega

include h2 h3 in
theorem array18 : (dats m 0 c).arrAt 18 cfg0.N = rows512 (layer1 (argOf0 m c) (argOf2 m c) (argOf3 m c) (argOf4 m c)) := by
  refine (dats m 0 c).arrAt_eq_of_cover 18 (rows512 (layer1 (argOf0 m c) (argOf2 m c) (argOf3 m c) (argOf4 m c))) (fun t _ => ?_) fun i => ⟨pointOf (i 0), flush0_18 _, ?_⟩
  · rw [Value.flushed18]
    funext j
    rw [View.read_apply]
    show (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j = rows512 (layer1 (argOf0 m c) (argOf2 m c) (argOf3 m c) (argOf4 m c)) _
    have hj : (show S512x512.Idx from j) = (ix2 (show Fin 512 from j 0) (show Fin 512 from j 1) : S512x512.Idx) :=
      funext fun a => by match a with | ⟨0, _⟩ => rfl | ⟨1, _⟩ => rfl
    refine (congrArg _ hj).trans ((point18 m c h2 h3 t (j 0) (j 1)).trans ?_)
    have h0 : (j 0).val < 512 := (j 0).isLt
    have e0 : (((cfg0.win 18).blk t).view.emb j 0).val = 512 * t.val + (j 0).val := by
      show win0_18.index t 0 * 512 + 1 * (j 0).val = _
      rw [(index18 t).1]
      omega
    have e1 : (((cfg0.win 18).blk t).view.emb j 1).val = (j 1).val := by
      show win0_18.index t 1 * 512 + 1 * (j 1).val = _
      rw [(index18 t).2]
      omega
    unfold rows512
    congr 1
    · apply Fin.ext
      show t.val / 4 = (((cfg0.win 18).blk t).view.emb j 0).val / 2048
      omega
    · apply Fin.ext
      show 512 * (t.val % 4) + (j 0).val = (((cfg0.win 18).blk t).view.emb j 0).val % 2048
      omega
    · apply Fin.ext
      exact e1.symm
  · show i ∈ ((View.whole main_v131_1).slice (win0_18.rect (pointOf (i 0)))).set
    rw [View.set_slice_whole, Rect.mem_set_unit]
    intro a
    have h0 : (i 0 : Nat) < 65536 := (i 0).isLt
    have h1 : (i 1 : Nat) < 512 := (i 1).isLt
    obtain ⟨e0, e1⟩ := index18 (pointOf (i 0))
    have hp : (pointOf (i 0)).val = (i 0).val / 512 := rfl
    match a with
    | ⟨0, _⟩ =>
      show win0_18.index (pointOf (i 0)) 0 * 512 ≤ (i 0 : Nat) ∧ (i 0 : Nat) < win0_18.index (pointOf (i 0)) 0 * 512 + 512
      omega
    | ⟨1, _⟩ =>
      show win0_18.index (pointOf (i 0)) 1 * 512 ≤ (i 1 : Nat) ∧ (i 1 : Nat) < win0_18.index (pointOf (i 0)) 1 * 512 + 512
      omega

include h5 h6 in
theorem array19 : (dats m 0 c).arrAt 19 cfg0.N = rows1024 (layer2 (argOf0 m c) (argOf1 m c) (argOf2 m c) (argOf3 m c) (argOf5 m c) (argOf6 m c) (argOf9 m c)) := by
  refine (dats m 0 c).arrAt_eq_of_cover 19 (rows1024 (layer2 (argOf0 m c) (argOf1 m c) (argOf2 m c) (argOf3 m c) (argOf5 m c) (argOf6 m c) (argOf9 m c))) (fun t _ => ?_) fun i => ⟨pointOf (i 0), flush0_19 _, ?_⟩
  · rw [Value.flushed19]
    funext j
    rw [View.read_apply]
    show (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j = rows1024 (layer2 (argOf0 m c) (argOf1 m c) (argOf2 m c) (argOf3 m c) (argOf5 m c) (argOf6 m c) (argOf9 m c)) _
    have hj : (show S512x1024.Idx from j) = (ix2 (show Fin 512 from j 0) (show Fin 1024 from j 1) : S512x1024.Idx) :=
      funext fun a => by match a with | ⟨0, _⟩ => rfl | ⟨1, _⟩ => rfl
    refine (congrArg _ hj).trans ((point19 m c h5 h6 t (j 0) (j 1)).trans ?_)
    have h0 : (j 0).val < 512 := (j 0).isLt
    have e0 : (((cfg0.win 19).blk t).view.emb j 0).val = 512 * t.val + (j 0).val := by
      show win0_19.index t 0 * 512 + 1 * (j 0).val = _
      rw [(index19 t).1]
      omega
    have e1 : (((cfg0.win 19).blk t).view.emb j 1).val = (j 1).val := by
      show win0_19.index t 1 * 1024 + 1 * (j 1).val = _
      rw [(index19 t).2]
      omega
    unfold rows1024
    congr 1
    · apply Fin.ext
      show t.val / 4 = (((cfg0.win 19).blk t).view.emb j 0).val / 2048
      omega
    · apply Fin.ext
      show 512 * (t.val % 4) + (j 0).val = (((cfg0.win 19).blk t).view.emb j 0).val % 2048
      omega
    · apply Fin.ext
      exact e1.symm
  · show i ∈ ((View.whole main_v131_2).slice (win0_19.rect (pointOf (i 0)))).set
    rw [View.set_slice_whole, Rect.mem_set_unit]
    intro a
    have h0 : (i 0 : Nat) < 65536 := (i 0).isLt
    have h1 : (i 1 : Nat) < 1024 := (i 1).isLt
    obtain ⟨e0, e1⟩ := index19 (pointOf (i 0))
    have hp : (pointOf (i 0)).val = (i 0).val / 512 := rfl
    match a with
    | ⟨0, _⟩ =>
      show win0_19.index (pointOf (i 0)) 0 * 512 ≤ (i 0 : Nat) ∧ (i 0 : Nat) < win0_19.index (pointOf (i 0)) 0 * 512 + 512
      omega
    | ⟨1, _⟩ =>
      show win0_19.index (pointOf (i 0)) 1 * 1024 ≤ (i 1 : Nat) ∧ (i 1 : Nat) < win0_19.index (pointOf (i 0)) 1 * 1024 + 1024
      omega

include h2 h3 h7 h8 in
theorem array20 : (dats m 0 c).arrAt 20 cfg0.N = rows1024 (layer3 (argOf0 m c) (argOf1 m c) (argOf2 m c) (argOf3 m c) (argOf7 m c) (argOf8 m c) (argOf10 m c)) := by
  refine (dats m 0 c).arrAt_eq_of_cover 20 (rows1024 (layer3 (argOf0 m c) (argOf1 m c) (argOf2 m c) (argOf3 m c) (argOf7 m c) (argOf8 m c) (argOf10 m c))) (fun t _ => ?_) fun i => ⟨pointOf (i 0), flush0_20 _, ?_⟩
  · rw [Value.flushed20]
    funext j
    rw [View.read_apply]
    show (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j = rows1024 (layer3 (argOf0 m c) (argOf1 m c) (argOf2 m c) (argOf3 m c) (argOf7 m c) (argOf8 m c) (argOf10 m c)) _
    have hj : (show S512x1024.Idx from j) = (ix2 (show Fin 512 from j 0) (show Fin 1024 from j 1) : S512x1024.Idx) :=
      funext fun a => by match a with | ⟨0, _⟩ => rfl | ⟨1, _⟩ => rfl
    refine (congrArg _ hj).trans ((point20 m c h2 h3 h7 h8 t (j 0) (j 1)).trans ?_)
    have h0 : (j 0).val < 512 := (j 0).isLt
    have e0 : (((cfg0.win 20).blk t).view.emb j 0).val = 512 * t.val + (j 0).val := by
      show win0_20.index t 0 * 512 + 1 * (j 0).val = _
      rw [(index20 t).1]
      omega
    have e1 : (((cfg0.win 20).blk t).view.emb j 1).val = (j 1).val := by
      show win0_20.index t 1 * 1024 + 1 * (j 1).val = _
      rw [(index20 t).2]
      omega
    unfold rows1024
    congr 1
    · apply Fin.ext
      show t.val / 4 = (((cfg0.win 20).blk t).view.emb j 0).val / 2048
      omega
    · apply Fin.ext
      show 512 * (t.val % 4) + (j 0).val = (((cfg0.win 20).blk t).view.emb j 0).val % 2048
      omega
    · apply Fin.ext
      exact e1.symm
  · show i ∈ ((View.whole main_v131_3).slice (win0_20.rect (pointOf (i 0)))).set
    rw [View.set_slice_whole, Rect.mem_set_unit]
    intro a
    have h0 : (i 0 : Nat) < 65536 := (i 0).isLt
    have h1 : (i 1 : Nat) < 1024 := (i 1).isLt
    obtain ⟨e0, e1⟩ := index20 (pointOf (i 0))
    have hp : (pointOf (i 0)).val = (i 0).val / 512 := rfl
    match a with
    | ⟨0, _⟩ =>
      show win0_20.index (pointOf (i 0)) 0 * 512 ≤ (i 0 : Nat) ∧ (i 0 : Nat) < win0_20.index (pointOf (i 0)) 0 * 512 + 512
      omega
    | ⟨1, _⟩ =>
      show win0_20.index (pointOf (i 0)) 1 * 1024 ≤ (i 1 : Nat) ∧ (i 1 : Nat) < win0_20.index (pointOf (i 0)) 1 * 1024 + 1024
      omega

theorem array21 : (dats m 0 c).arrAt 21 cfg0.N = rows512 (layer4 (argOf0 m c) (argOf2 m c) (argOf3 m c) (argOf7 m c) (argOf8 m c)) := by
  refine (dats m 0 c).arrAt_eq_of_cover 21 (rows512 (layer4 (argOf0 m c) (argOf2 m c) (argOf3 m c) (argOf7 m c) (argOf8 m c))) (fun t _ => ?_) fun i => ⟨pointOf (i 0), flush0_21 _, ?_⟩
  · rw [Value.flushed21]
    funext j
    rw [View.read_apply]
    show (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) j = rows512 (layer4 (argOf0 m c) (argOf2 m c) (argOf3 m c) (argOf7 m c) (argOf8 m c)) _
    have hj : (show S512x512.Idx from j) = (ix2 (show Fin 512 from j 0) (show Fin 512 from j 1) : S512x512.Idx) :=
      funext fun a => by match a with | ⟨0, _⟩ => rfl | ⟨1, _⟩ => rfl
    refine (congrArg _ hj).trans ((point21 m c  t (j 0) (j 1)).trans ?_)
    have h0 : (j 0).val < 512 := (j 0).isLt
    have e0 : (((cfg0.win 21).blk t).view.emb j 0).val = 512 * t.val + (j 0).val := by
      show win0_21.index t 0 * 512 + 1 * (j 0).val = _
      rw [(index21 t).1]
      omega
    have e1 : (((cfg0.win 21).blk t).view.emb j 1).val = (j 1).val := by
      show win0_21.index t 1 * 512 + 1 * (j 1).val = _
      rw [(index21 t).2]
      omega
    unfold rows512
    congr 1
    · apply Fin.ext
      show t.val / 4 = (((cfg0.win 21).blk t).view.emb j 0).val / 2048
      omega
    · apply Fin.ext
      show 512 * (t.val % 4) + (j 0).val = (((cfg0.win 21).blk t).view.emb j 0).val % 2048
      omega
    · apply Fin.ext
      exact e1.symm
  · show i ∈ ((View.whole main_v131_4).slice (win0_21.rect (pointOf (i 0)))).set
    rw [View.set_slice_whole, Rect.mem_set_unit]
    intro a
    have h0 : (i 0 : Nat) < 65536 := (i 0).isLt
    have h1 : (i 1 : Nat) < 512 := (i 1).isLt
    obtain ⟨e0, e1⟩ := index21 (pointOf (i 0))
    have hp : (pointOf (i 0)).val = (i 0).val / 512 := rfl
    match a with
    | ⟨0, _⟩ =>
      show win0_21.index (pointOf (i 0)) 0 * 512 ≤ (i 0 : Nat) ∧ (i 0 : Nat) < win0_21.index (pointOf (i 0)) 0 * 512 + 512
      omega
    | ⟨1, _⟩ =>
      show win0_21.index (pointOf (i 0)) 1 * 512 ≤ (i 1 : Nat) ∧ (i 1 : Nat) < win0_21.index (pointOf (i 0)) 1 * 512 + 512
      omega

end

end Cert.MixIn

end
-- ==== Proof.MixInRef.lean ====
/- Hand-written, untrusted: THE MIXER'S INPUT REFERENCE READ AT AN INDEX: its five results are the layer's rows (`ref0` … `ref4`). -/
module

public import proofs.«01_k».proof.Proof.MixInLayer
public import proofs.«01_k».proof.Proof.Gen.MixerInReferenceIdeal.Read
public import Idealize.ShloMosaic.Lib.Pointwise
public import Idealize.ShloMosaic.Lib.IdealHost

@[expose] public section

set_option maxRecDepth 16384

noncomputable section

namespace Cert.MixIn.Ref

open Idealize.ShloMosaic Cert.MixerInReferenceIdeal Cert.MixerInReferenceIdeal.Gen Cert.MixerInReferenceIdeal.Read Cert.MixIn

variable (x0 : (⟨S32x2048x1024, .f32⟩ : BufTy).Contents (Elt Ideal)) (x1 : (⟨S32x2048, .i32⟩ : BufTy).Contents (Elt Ideal))
  (x2 : (⟨S1024, .f32⟩ : BufTy).Contents (Elt Ideal)) (x3 : (⟨S1024x1696, .f32⟩ : BufTy).Contents (Elt Ideal))
  (x4 : (⟨S8x64, .f32⟩ : BufTy).Contents (Elt Ideal)) (x5 : (⟨S384, .f32⟩ : BufTy).Contents (Elt Ideal))
  (x6 : (⟨S384x768, .f32⟩ : BufTy).Contents (Elt Ideal)) (x7 : (⟨S256, .f32⟩ : BufTy).Contents (Elt Ideal))
  (x8 : (⟨S256x1024, .f32⟩ : BufTy).Contents (Elt Ideal)) (x9 x10 : (⟨S96, .f32⟩ : BufTy).Contents (Elt Ideal))

theorem z_ref (b : Fin 32) (s : Fin 2048) (C : Fin 1696) :
    (val_main_v13 (F := Ideal) x0 x2 x3 (ix3 b s C) : EReal) = zAt x0 x2 x3 b s C := by
  unfold zAt normed
  pointwise [val_main_cst, val_main_cst_0, val_main_cst_1, val_main_v0, val_main_v1, val_main_v2, val_main_v3, val_main_v4, val_main_v5, val_main_v6, val_main_v7, val_main_v8, val_main_v9, val_main_v10, val_main_v11, val_main_v12, val_main_v13]

theorem q_ref (b : Fin 32) (s : Fin 2048) (h : Fin 8) (d : Fin 96) :
    (val_main_v60 (F := Ideal) x0 x2 x3 x5 x6 (ix4 b s h d) : EReal) = qAt x0 x2 x3 x5 x6 b s h d := by
  unfold qAt normed
  simp only [← z_ref]
  unfold val_main_v60 val_main_v59 val_main_v58 val_main_v57 val_main_v56 val_main_v55 val_main_v54 val_main_v53 val_main_v52 val_main_v51 val_main_v50 val_main_v49 val_main_v48 val_main_v47 val_main_v46 val_main_v16
  generalize val_main_v13 (F := Ideal) x0 x2 x3 = Z
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  have e : ∀ x : Fin 384, (ix2 x ⟨h.val * 96 + d.val, by omega⟩ : S384x768.Idx) = ix2 x ⟨96 * h.val + d.val, by omega⟩ := fun x =>
    congrArg (fun z : Fin 768 => (ix2 x z : S384x768.Idx)) (Fin.ext (by show h.val * 96 + d.val = 96 * h.val + d.val; omega))
  simp only [e]

theorem kv_ref (b : Fin 32) (s : Fin 2048) (k : Fin 256) :
    (val_main_v73 (F := Ideal) x0 x2 x3 x7 (ix3 b s k) : EReal) = kvAt x0 x2 x3 x7 b s k := by
  unfold kvAt normed
  simp only [← z_ref]
  unfold val_main_v73 val_main_v72 val_main_v71 val_main_v70 val_main_v69 val_main_v68 val_main_v67 val_main_v66 val_main_v65 val_main_v64 val_main_v63 val_main_v62 val_main_v61 val_main_v17
  generalize val_main_v13 (F := Ideal) x0 x2 x3 = Z
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]

theorem k_ref (b : Fin 32) (s : Fin 2048) (h : Fin 8) (d : Fin 96) :
    (val_main_v79 (F := Ideal) x0 x2 x3 x7 x8 (ix4 b s h d) : EReal) = kAt x0 x2 x3 x7 x8 b s h d := by
  unfold kAt
  simp only [← z_ref, ← kv_ref]
  unfold val_main_v79 val_main_v78 val_main_v77 val_main_v76 val_main_v75 val_main_v74 val_main_v18
  generalize val_main_v13 (F := Ideal) x0 x2 x3 = Z
  generalize val_main_v73 (F := Ideal) x0 x2 x3 x7 = K
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  have e : ∀ (hd : d.val < 64) (x : Fin 256), (ix2 x ⟨h.val * 128 + d.val, by omega⟩ : S256x1024.Idx) = ix2 x ⟨128 * h.val + d.val, by omega⟩ := fun hd x =>
    congrArg (fun z : Fin 1024 => (ix2 x z : S256x1024.Idx)) (Fin.ext (by show h.val * 128 + d.val = 128 * h.val + d.val; omega))
  by_cases hd : d.val < 64
  · rw [dif_pos hd, dif_pos hd]
    exact Finset.sum_congr rfl fun x _ => congrArg (fun z => K (ix3 b s x) * x8 z) (e hd x)
  · rw [dif_neg hd, dif_neg hd]

theorem turnq_ref (b : Fin 32) (s : Fin 2048) (h : Fin 8) (d : Fin 96) :
    (val_main_v137 (F := Ideal) x0 x1 x2 x3 x5 x6 x9 (ix4 b s h d) : EReal)
      = turned x1 b s (qAt x0 x2 x3 x5 x6 b s h) (fun d => x9 (ix1 d)) d := by
  have e : ∀ d, (val_main_v92 (F := Ideal) x0 x2 x3 x5 x6 x9 (ix4 b s h d) : EReal)
      = normed (Ideal.ofBits .f32 0x42C00000#32) (qAt x0 x2 x3 x5 x6 b s h) (fun d => x9 (ix1 d)) d := fun d => by
    unfold normed
    simp only [← q_ref]
    unfold val_main_v92 val_main_v91 val_main_v90 val_main_v89 val_main_v88 val_main_v87 val_main_v86 val_main_v85 val_main_v84 val_main_v83 val_main_v82 val_main_v81 val_main_v80
    generalize val_main_v60 (F := Ideal) x0 x2 x3 x5 x6 = Z
    pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  unfold turned rope angle
  simp only [← e]
  unfold val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v107 val_main_v106
  have ef : val_main_v113 (F := Ideal) = freq := rfl
  rw [ef]
  generalize val_main_v92 (F := Ideal) x0 x2 x3 x5 x6 x9 = Y
  generalize freq = f
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  by_cases h1 : d.val < 64
  · rw [dif_pos h1, dif_pos h1]
  by_cases h2 : d.val < 80
  · rw [dif_neg h1, dif_neg h1, dif_pos (show d.val - 64 < 16 by omega), dif_pos h2]
    have e1 : (⟨64 + (d.val - 64), by omega⟩ : Fin 96) = d := Fin.ext (by show 64 + (d.val - 64) = d.val; omega)
    have e2 : (⟨64 + (16 + (d.val - 64)), by omega⟩ : Fin 96) = ⟨d.val + 16, by omega⟩ := Fin.ext (by show 64 + (16 + (d.val - 64)) = d.val + 16; omega)
    rw [e1, e2]
  · rw [dif_neg h1, dif_neg h1, dif_neg (show ¬d.val - 64 < 16 by omega), dif_neg h2]
    have e1 : (⟨64 + (d.val - 64 - 16), by omega⟩ : Fin 96) = ⟨d.val - 16, by omega⟩ := Fin.ext (by show 64 + (d.val - 64 - 16) = d.val - 16; omega)
    have e2 : (⟨64 + (16 + (d.val - 64 - 16)), by omega⟩ : Fin 96) = d := Fin.ext (by show 64 + (16 + (d.val - 64 - 16)) = d.val; omega)
    have e3 : (⟨d.val - 64 - 16, by omega⟩ : Fin 16) = ⟨d.val - 80, by omega⟩ := Fin.ext (by show d.val - 64 - 16 = d.val - 80; omega)
    rw [e1, e2, e3]

theorem ref0 : val_main_v184 (F := Ideal) x0 x2 x3 = rows512 (layer0 x0 x2 x3) := by
  funext i
  obtain ⟨R, k, rfl⟩ : ∃ (R : Fin 65536) (k : Fin 512), i = ix2 R k := ⟨i 0, i 1, eq_ix2 i⟩
  show _ = layer0 x0 x2 x3 ⟨R.val / 2048, by omega⟩ ⟨R.val % 2048, by omega⟩ k
  unfold layer0 geluRef
  simp only [← z_ref]
  unfold val_main_v184 val_main_v183 val_main_v182 val_main_v181 val_main_v180 val_main_v179 val_main_v178 val_main_v177 val_main_v176 val_main_v175 val_main_v174 val_main_v173 val_main_v172 val_main_v171 val_main_v170 val_main_v14
  generalize val_main_v13 (F := Ideal) x0 x2 x3 = Z
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]

theorem ref1 : val_main_v186 (F := Ideal) x0 x2 x3 x4 = rows512 (layer1 x0 x2 x3 x4) := by
  funext i
  obtain ⟨R, k, rfl⟩ : ∃ (R : Fin 65536) (k : Fin 512), i = ix2 R k := ⟨i 0, i 1, eq_ix2 i⟩
  show _ = layer1 x0 x2 x3 x4 ⟨R.val / 2048, by omega⟩ ⟨R.val % 2048, by omega⟩ k
  have e : ∀ b s c, (val_main_v31 (F := Ideal) x0 x2 x3 (ix3 b s c) : EReal) = geluRef (zAt x0 x2 x3 b s ⟨512 + c.val, by omega⟩) := fun b s c => by
    unfold geluRef
    simp only [← z_ref]
    unfold val_main_v31 val_main_v30 val_main_v29 val_main_v28 val_main_v27 val_main_v26 val_main_v25 val_main_v24 val_main_v23 val_main_v22 val_main_v21 val_main_v20 val_main_v19 val_main_v15
    generalize val_main_v13 (F := Ideal) x0 x2 x3 = Z
    pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  unfold layer1 normed
  unfold val_main_v186 val_main_v185 val_main_v45 val_main_v44 val_main_v43 val_main_v42 val_main_v41 val_main_v40 val_main_v39 val_main_v38 val_main_v37 val_main_v36 val_main_v35 val_main_v34 val_main_v33 val_main_v32
  generalize val_main_v31 (F := Ideal) x0 x2 x3 = Z at e
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  have e1 : ∀ (b : Fin 32) (s : Fin 2048) (x : Fin 64), (Z (ix3 b s ⟨k.val / 64 * 64 + x.val, by omega⟩) : EReal)
      = geluRef (zAt x0 x2 x3 b s ⟨512 + (64 * (k.val / 64) + x.val), by omega⟩) := fun b s x =>
    (e b s _).trans (congrArg (fun z => geluRef (zAt x0 x2 x3 b s z)) (Fin.ext (by
      show 512 + (k.val / 64 * 64 + x.val) = 512 + (64 * (k.val / 64) + x.val); omega)))
  have e2 : ∀ (b : Fin 32) (s : Fin 2048), (Z (ix3 b s k) : EReal)
      = geluRef (zAt x0 x2 x3 b s ⟨512 + (64 * (k.val / 64) + k.val % 64), by omega⟩) := fun b s =>
    (e b s _).trans (congrArg (fun z => geluRef (zAt x0 x2 x3 b s z)) (Fin.ext (by
      show 512 + k.val = 512 + (64 * (k.val / 64) + k.val % 64); omega)))
  simp only [e1, e2]

theorem ref4 : val_main_v197 (F := Ideal) x0 x2 x3 x7 x8 = rows512 (layer4 x0 x2 x3 x7 x8) := by
  funext i
  obtain ⟨R, k, rfl⟩ : ∃ (R : Fin 65536) (k : Fin 512), i = ix2 R k := ⟨i 0, i 1, eq_ix2 i⟩
  show _ = layer4 x0 x2 x3 x7 x8 ⟨R.val / 2048, by omega⟩ ⟨R.val % 2048, by omega⟩ k
  unfold layer4
  simp only [← kv_ref]
  unfold val_main_v197 val_main_v196 val_main_v195 val_main_v75 val_main_v74
  generalize val_main_v73 (F := Ideal) x0 x2 x3 x7 = K
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  refine Finset.sum_congr rfl fun x _ => congrArg (fun z => K (ix3 ⟨R.val / 2048, by omega⟩ ⟨R.val % 2048, by omega⟩ x) * x8 (ix2 x z)) (Fin.ext ?_)
  show k.val / 64 * 128 + (64 + k.val % 64) = 128 * (k.val / 64) + (64 + k.val % 64)
  omega

theorem ref2 : val_main_v191 (F := Ideal) x0 x1 x2 x3 x5 x6 x9 = rows1024 (layer2 x0 x1 x2 x3 x5 x6 x9) := by
  funext i
  obtain ⟨R, k, rfl⟩ : ∃ (R : Fin 65536) (k : Fin 1024), i = ix2 R k := ⟨i 0, i 1, eq_ix2 i⟩
  show _ = layer2 x0 x1 x2 x3 x5 x6 x9 ⟨R.val / 2048, by omega⟩ ⟨R.val % 2048, by omega⟩ k
  unfold layer2 padTo
  simp only [← turnq_ref]
  unfold val_main_v191 val_main_v190 val_main_v189 val_main_v188 val_main_v187
  generalize val_main_v137 (F := Ideal) x0 x1 x2 x3 x5 x6 x9 = Y
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30, val_main_call0_v0]
  by_cases h : k.val % 128 < 96
  · rw [dif_pos ⟨by omega, by omega, by omega, h⟩, dif_pos h]
  · rw [dif_neg (fun g => h g.2.2.2), dif_neg h, zero_mul]
    show ((((0#32).toInt : ℤ) : ℝ) : EReal) = 0
    simp

theorem turnk_ref (b : Fin 32) (s : Fin 2048) (h : Fin 8) (d : Fin 96) :
    (val_main_v169 (F := Ideal) x0 x1 x2 x3 x7 x8 x10 (ix4 b s h d) : EReal)
      = turned x1 b s (kAt x0 x2 x3 x7 x8 b s h) (fun d => x10 (ix1 d)) d := by
  have e : ∀ d, (val_main_v105 (F := Ideal) x0 x2 x3 x7 x8 x10 (ix4 b s h d) : EReal)
      = normed (Ideal.ofBits .f32 0x42C00000#32) (kAt x0 x2 x3 x7 x8 b s h) (fun d => x10 (ix1 d)) d := fun d => by
    unfold normed
    simp only [← k_ref]
    unfold val_main_v105 val_main_v104 val_main_v103 val_main_v102 val_main_v101 val_main_v100 val_main_v99 val_main_v98 val_main_v97 val_main_v96 val_main_v95 val_main_v94 val_main_v93
    generalize val_main_v79 (F := Ideal) x0 x2 x3 x7 x8 = Z
    pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  unfold turned rope angle
  simp only [← e]
  unfold val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v139 val_main_v138
  have ef : val_main_v145 (F := Ideal) = freq := rfl
  rw [ef]
  generalize val_main_v105 (F := Ideal) x0 x2 x3 x7 x8 x10 = Y
  generalize freq = f
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30]
  by_cases h1 : d.val < 64
  · rw [dif_pos h1, dif_pos h1]
  by_cases h2 : d.val < 80
  · rw [dif_neg h1, dif_neg h1, dif_pos (show d.val - 64 < 16 by omega), dif_pos h2]
    have e1 : (⟨64 + (d.val - 64), by omega⟩ : Fin 96) = d := Fin.ext (by show 64 + (d.val - 64) = d.val; omega)
    have e2 : (⟨64 + (16 + (d.val - 64)), by omega⟩ : Fin 96) = ⟨d.val + 16, by omega⟩ := Fin.ext (by show 64 + (16 + (d.val - 64)) = d.val + 16; omega)
    rw [e1, e2]
  · rw [dif_neg h1, dif_neg h1, dif_neg (show ¬d.val - 64 < 16 by omega), dif_neg h2]
    have e1 : (⟨64 + (d.val - 64 - 16), by omega⟩ : Fin 96) = ⟨d.val - 16, by omega⟩ := Fin.ext (by show 64 + (d.val - 64 - 16) = d.val - 16; omega)
    have e2 : (⟨64 + (16 + (d.val - 64 - 16)), by omega⟩ : Fin 96) = d := Fin.ext (by show 64 + (16 + (d.val - 64 - 16)) = d.val; omega)
    have e3 : (⟨d.val - 64 - 16, by omega⟩ : Fin 16) = ⟨d.val - 80, by omega⟩ := Fin.ext (by show d.val - 64 - 16 = d.val - 80; omega)
    rw [e1, e2, e3]

theorem ref3 : val_main_v194 (F := Ideal) x0 x1 x2 x3 x7 x8 x10 = rows1024 (layer3 x0 x1 x2 x3 x7 x8 x10) := by
  funext i
  obtain ⟨R, k, rfl⟩ : ∃ (R : Fin 65536) (k : Fin 1024), i = ix2 R k := ⟨i 0, i 1, eq_ix2 i⟩
  show _ = layer3 x0 x1 x2 x3 x7 x8 x10 ⟨R.val / 2048, by omega⟩ ⟨R.val % 2048, by omega⟩ k
  unfold layer3 padTo
  simp only [← turnk_ref]
  unfold val_main_v194 val_main_v193 val_main_v192
  generalize val_main_v169 (F := Ideal) x0 x1 x2 x3 x7 x8 x10 = Y
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_c, val_main_c_30, val_main_call1_v0]
  by_cases h : k.val % 128 < 96
  · rw [dif_pos ⟨by omega, by omega, by omega, h⟩, dif_pos h]
  · rw [dif_neg (fun g => h g.2.2.2), dif_neg h]
    show ((((0#32).toInt : ℤ) : ℝ) : EReal) = 0
    simp

end Cert.MixIn.Ref

end
-- ==== Proof.MixInClaim.lean ====
/- Hand-written, untrusted: THE CLAIMS ABOUT THE MIXER'S INPUT. -/
module

public import proofs.«01_k».proof.Defs
public import proofs.«01_k».proof.Proof.Gen.MixerIn.Frame
public import proofs.«01_k».proof.Proof.Gen.Pre_finite4
public import proofs.«01_k».proof.Proof.Gen.MixerInIdeal.Frame
public import proofs.«01_k».proof.Proof.Gen.MixerInIdeal.Value
public import proofs.«01_k».proof.Proof.Gen.MixerInReferenceIdeal.Run
public import proofs.«01_k».proof.Proof.AttentionClaim
public import proofs.«01_k».proof.Proof.MixInResult
public import proofs.«01_k».proof.Proof.MixInRef
public import Idealize.ShloMosaic.Lib.ReduceAll
public import Idealize.ShloMosaic.Adequacy
public import Idealize.ShloMosaic.Init

@[expose] public section

set_option maxRecDepth 16384

noncomputable section

namespace Cert.MixIn

open Idealize.ShloMosaic Idealize.SL.Sem
open Cert.Attention (IsReal)

theorem frame_reference : Cert.quiescent_MixerInReferenceIdeal := fun m ρ _ =>
  (θ_run Cert.MixerInReferenceIdeal.defs _ _).mono (fun r h => ⟨fun c => (h c).2.2.2.2.2, sem_eq_zero_of_no_sems (by decide) r.2⟩)
    (Cert.MixerInReferenceIdeal.Value.run (F := Ideal) m ρ)

theorem preserves : Cert.preserves_MixerIn_MixerInIdeal :=
  ⟨IdealRules.named_const.statement Cert.MixerInIdeal.κ "gelu_cubic" .f32 0x3D122279#32 _ rfl,
    IdealRules.named_const.statement Cert.MixerInIdeal.κ "inv_qk_dim" .f32 0x3C2AAAAB#32 _ rfl⟩

/-! ## The precondition -/

theorem below (x : EReal) (hx : (FloatOps.cmpf (F := Ideal) (φ := .f32) .olt (max x (-x)) (Ideal.ofBits .f32 0x7F800000#32) : BitVec 1) = 1#1) :
    IsReal x := by
  rw [show Ideal.ofBits .f32 0x7F800000#32 = (⊤ : EReal) by simp [Ideal.ofBits, Ideal.ieee]] at hx
  refine Cert.Attention.real_of_abs_lt (lt_of_not_ge fun hn => ?_)
  have : BitVec.ofBool (decide (max x (-x) < ⊤)) = 1#1 := hx
  rw [decide_eq_false (not_lt.mpr hn)] at this
  exact absurd this (by decide)

theorem both : ∀ a b : BitVec 1, IntOp.andi a b = 1#1 → a = 1#1 ∧ b = 1#1 := by decide

instance : Subsingleton Cert.Pre_finite4.S_.Idx := ⟨fun a b => funext fun i => i.elim0⟩

/-- What the precondition says: the entries of six arguments are finite numbers. -/
theorem real_of_finite (a0 : FVec Ideal Cert.Pre_finite4.S32x2048x1024 .f32) (a1 : IVec Cert.Pre_finite4.S32x2048 32)
    (a2 : FVec Ideal Cert.Pre_finite4.S1024 .f32) (a3 : FVec Ideal Cert.Pre_finite4.S1024x1696 .f32) (a4 : FVec Ideal Cert.Pre_finite4.S8x64 .f32)
    (a5 : FVec Ideal Cert.Pre_finite4.S384 .f32) (a6 : FVec Ideal Cert.Pre_finite4.S384x768 .f32) (a7 : FVec Ideal Cert.Pre_finite4.S256 .f32)
    (a8 : FVec Ideal Cert.Pre_finite4.S256x1024 .f32) (a9 a10 : FVec Ideal Cert.Pre_finite4.S96 .f32)
    (h : Cert.Pre_finite4.fn (F := Ideal) a0 a1 a2 a3 a4 a5 a6 a7 a8 a9 a10 = fun _ => 1#1) :
    (∀ i, IsReal (a2 i)) ∧ (∀ i, IsReal (a3 i)) ∧ (∀ i, IsReal (a5 i)) ∧ (∀ i, IsReal (a6 i)) ∧ (∀ i, IsReal (a7 i))
      ∧ ∀ i, IsReal (a8 i) := by
  have e := congrFun h (fun a => a.elim0)
  obtain ⟨e, h8⟩ := both _ _ e
  obtain ⟨e, h7⟩ := both _ _ e
  obtain ⟨e, h6⟩ := both _ _ e
  obtain ⟨e, h5⟩ := both _ _ e
  obtain ⟨h2, h3⟩ := both _ _ e
  exact ⟨fun i => below _ (Host.reduce_andi_all _ _ _ _ _ h2 i),
    fun i => below _ (Host.reduce_andi_all _ _ _ _ _ h3 i), fun i => below _ (Host.reduce_andi_all _ _ _ _ _ h5 i),
    fun i => below _ (Host.reduce_andi_all _ _ _ _ _ h6 i), fun i => below _ (Host.reduce_andi_all _ _ _ _ _ h7 i),
    fun i => below _ (Host.reduce_andi_all _ _ _ _ _ h8 i)⟩

/-! ## The results -/

theorem layer0_congr {a0 b0 a2 b2 a3 b3} (h0 : a0 = b0) (h2 : a2 = b2) (h3 : a3 = b3) :
    rows512 (layer0 a0 a2 a3) = rows512 (layer0 b0 b2 b3) := by
  subst h0 h2 h3
  rfl

theorem layer1_congr {a0 b0 a2 b2 a3 b3 a4 b4} (h0 : a0 = b0) (h2 : a2 = b2) (h3 : a3 = b3) (h4 : a4 = b4) :
    rows512 (layer1 a0 a2 a3 a4) = rows512 (layer1 b0 b2 b3 b4) := by
  subst h0 h2 h3 h4
  rfl

theorem layer2_congr {a0 b0 a1 b1 a2 b2 a3 b3 a5 b5 a6 b6 a9 b9} (h0 : a0 = b0) (h1 : a1 = b1) (h2 : a2 = b2) (h3 : a3 = b3) (h5 : a5 = b5) (h6 : a6 = b6) (h9 : a9 = b9) :
    rows1024 (layer2 a0 a1 a2 a3 a5 a6 a9) = rows1024 (layer2 b0 b1 b2 b3 b5 b6 b9) := by
  subst h0 h1 h2 h3 h5 h6 h9
  rfl

theorem layer3_congr {a0 b0 a1 b1 a2 b2 a3 b3 a7 b7 a8 b8 a10 b10} (h0 : a0 = b0) (h1 : a1 = b1) (h2 : a2 = b2) (h3 : a3 = b3) (h7 : a7 = b7) (h8 : a8 = b8) (h10 : a10 = b10) :
    rows1024 (layer3 a0 a1 a2 a3 a7 a8 a10) = rows1024 (layer3 b0 b1 b2 b3 b7 b8 b10) := by
  subst h0 h1 h2 h3 h7 h8 h10
  rfl

theorem layer4_congr {a0 b0 a2 b2 a3 b3 a7 b7 a8 b8} (h0 : a0 = b0) (h2 : a2 = b2) (h3 : a3 = b3) (h7 : a7 = b7) (h8 : a8 = b8) :
    rows512 (layer4 a0 a2 a3 a7 a8) = rows512 (layer4 b0 b2 b3 b7 b8) := by
  subst h0 h2 h3 h7 h8
  rfl

theorem algebraic : Cert.algebraic_MixerInIdeal_MixerInReferenceIdeal_pre_finite4 := by
  intro m g m' g' hpre hm
  refine ⟨fun c => (Cert.MixerInIdeal.Gen.dats m 0 c).arrAt 17 Cert.MixerInIdeal.cfg0.N, fun c => (Cert.MixerInIdeal.Gen.dats m 0 c).arrAt 18 Cert.MixerInIdeal.cfg0.N,
    fun c => (Cert.MixerInIdeal.Gen.dats m 0 c).arrAt 19 Cert.MixerInIdeal.cfg0.N, fun c => (Cert.MixerInIdeal.Gen.dats m 0 c).arrAt 20 Cert.MixerInIdeal.cfg0.N,
    fun c => (Cert.MixerInIdeal.Gen.dats m 0 c).arrAt 21 Cert.MixerInIdeal.cfg0.N, Cert.MixerInIdeal.Value.run_blocks m g,
    (θ_run Cert.MixerInReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩)
      (Cert.MixerInReferenceIdeal.Value.run (F := Ideal) m' g')⟩
  all_goals
    obtain ⟨e0, e1, e2, e3, e4, e5, e6, e7, e8, e9, e10⟩ := hm c
    obtain ⟨h2, h3, h5, h6, h7, h8⟩ := real_of_finite _ _ _ _ _ _ _ _ _ _ _ (hpre c)
  · refine Eq.trans ?_ (array17 m c h2 h3).symm
    refine (Cert.MixerInReferenceIdeal.Read.val_main_v184_eq _).trans ((Ref.ref0 _ _ _).trans ?_)
    exact layer0_congr e0 e2 e3
  · refine Eq.trans ?_ (array18 m c h2 h3).symm
    refine (Cert.MixerInReferenceIdeal.Read.val_main_v186_eq _).trans ((Ref.ref1 _ _ _ _).trans ?_)
    exact layer1_congr e0 e2 e3 e4
  · refine Eq.trans ?_ (array19 m c h5 h6).symm
    refine (Cert.MixerInReferenceIdeal.Read.val_main_v191_eq _).trans ((Ref.ref2 _ _ _ _ _ _ _).trans ?_)
    exact layer2_congr e0 e1 e2 e3 e5 e6 e9
  · refine Eq.trans ?_ (array20 m c h2 h3 h7 h8).symm
    refine (Cert.MixerInReferenceIdeal.Read.val_main_v194_eq _).trans ((Ref.ref3 _ _ _ _ _ _ _).trans ?_)
    exact layer3_congr e0 e1 e2 e3 e7 e8 e10
  · refine Eq.trans ?_ (array21 m c).symm
    refine (Cert.MixerInReferenceIdeal.Read.val_main_v197_eq _).trans ((Ref.ref4 _ _ _ _ _).trans ?_)
    exact layer4_congr e0 e2 e3 e7 e8

end Cert.MixIn

end
-- ==== Proof.lean ====
module

public import proofs.«01_k».proof.Defs
public import proofs.«01_k».proof.Proof.AttentionClaim
public import proofs.«01_k».proof.Proof.ConformerClaim
public import proofs.«01_k».proof.Proof.MixOutClaim
public import proofs.«01_k».proof.Proof.MixInClaim

@[expose] public section

noncomputable section

namespace Cert.Proof

theorem claim : Cert.Claim :=
  ⟨Cert.Kernel.Gen.facts, Cert.KernelIdeal.Gen.facts, Cert.ReferenceIdeal.Gen.facts, Cert.Conformer.Gen.facts,
    Cert.ConformerIdeal.Gen.facts, Cert.ConformerReferenceIdeal.Gen.facts,
    Cert.MixerOut.Gen.facts, Cert.MixerOutIdeal.Gen.facts, Cert.MixerOutReferenceIdeal.Gen.facts,
    Cert.MixerIn.Gen.facts, Cert.MixerInIdeal.Gen.facts, Cert.MixerInReferenceIdeal.Gen.facts, Cert.Pre_finite.Gen.facts, Cert.Pre_finite4.Gen.facts,
    fun m ρ _ => Cert.Kernel.Gen.frame m ρ, fun m ρ _ => Cert.KernelIdeal.Gen.frame m ρ, fun m ρ _ => Cert.KernelIdeal.Gen.frame m ρ,
    Cert.Attention.frame_reference, fun m ρ _ => Cert.Attention.frame_reference m ρ trivial,
    fun m ρ _ => Cert.Conformer.Gen.frame m ρ, fun m ρ _ => Cert.ConformerIdeal.Gen.frame m ρ, Cert.Conf.frame_reference,
    fun m ρ _ => Cert.MixerOut.Gen.frame m ρ, fun m ρ _ => Cert.MixerOutIdeal.Gen.frame m ρ, Cert.MixOut.frame_reference,
    fun m ρ _ => Cert.MixerIn.Gen.frame m ρ, fun m ρ _ => Cert.MixerInIdeal.Gen.frame m ρ, fun m ρ _ => Cert.MixerInIdeal.Gen.frame m ρ,
    Cert.MixIn.frame_reference, fun m ρ _ => Cert.MixIn.frame_reference m ρ trivial,
    Cert.Attention.preserves, Cert.Attention.algebraic, Cert.Conf.preserves, Cert.Conf.algebraic,
    Cert.MixOut.preserves, Cert.MixOut.algebraic, Cert.MixIn.preserves, Cert.MixIn.algebraic⟩

end Cert.Proof

end
